-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Kernel31Ideal_finite31 [hPre_finite31 : Cert.Pre_finite31.Facts] (m : (ℓ : Loc Cert.Kernel31Ideal.nD Cert.Kernel31Ideal.τ Cert.Kernel31Ideal.sig) → Buf (Elt Ideal) ℓ) : Prop :=
  ∀ c : Dev Cert.Kernel31Ideal.nD,
    (Cert.Pre_finite31.fn (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2)) (m ((c.tc : Thread Cert.Kernel31Ideal.nD Cert.Kernel31Ideal.τ).loc Cert.Kernel31Ideal.main_arg3))).1 = (fun _ => 1#1)
    ∧ (Cert.Pre_finite31.fn (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2)) (m ((c.tc : Thread Cert.Kernel31Ideal.nD Cert.Kernel31Ideal.τ).loc Cert.Kernel31Ideal.main_arg3))).2.1 = (fun _ => 1#1)
    ∧ (Cert.Pre_finite31.fn (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2)) (m ((c.tc : Thread Cert.Kernel31Ideal.nD Cert.Kernel31Ideal.τ).loc Cert.Kernel31Ideal.main_arg3))).2.2.1 = (fun _ => 1#1)
    ∧ (Cert.Pre_finite31.fn (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2)) (m ((c.tc : Thread Cert.Kernel31Ideal.nD Cert.Kernel31Ideal.τ).loc Cert.Kernel31Ideal.main_arg3))).2.2.2 = (fun _ => 1#1)

def Pre_Reference31Ideal (m : (ℓ : Loc Cert.Reference31Ideal.nD Cert.Reference31Ideal.τ Cert.Reference31Ideal.sig) → Buf (Elt Ideal) ℓ) : Prop :=
  True

def Pre_Reference31Ideal_finite31 [hPre_finite31 : Cert.Pre_finite31.Facts] (m : (ℓ : Loc Cert.Reference31Ideal.nD Cert.Reference31Ideal.τ Cert.Reference31Ideal.sig) → Buf (Elt Ideal) ℓ) : Prop :=
  ∀ c : Dev Cert.Reference31Ideal.nD,
    (Cert.Pre_finite31.fn (F := Ideal) (m ((c.tc : Thread Cert.Reference31Ideal.nD Cert.Reference31Ideal.τ).loc Cert.Reference31Ideal.main_arg0)) (m ((c.tc : Thread Cert.Reference31Ideal.nD Cert.Reference31Ideal.τ).loc Cert.Reference31Ideal.main_arg1)) (m ((c.tc : Thread Cert.Reference31Ideal.nD Cert.Reference31Ideal.τ).loc Cert.Reference31Ideal.main_arg2)) (m ((c.tc : Thread Cert.Reference31Ideal.nD Cert.Reference31Ideal.τ).loc Cert.Reference31Ideal.main_arg3))).1 = (fun _ => 1#1)
    ∧ (Cert.Pre_finite31.fn (F := Ideal) (m ((c.tc : Thread Cert.Reference31Ideal.nD Cert.Reference31Ideal.τ).loc Cert.Reference31Ideal.main_arg0)) (m ((c.tc : Thread Cert.Reference31Ideal.nD Cert.Reference31Ideal.τ).loc Cert.Reference31Ideal.main_arg1)) (m ((c.tc : Thread Cert.Reference31Ideal.nD Cert.Reference31Ideal.τ).loc Cert.Reference31Ideal.main_arg2)) (m ((c.tc : Thread Cert.Reference31Ideal.nD Cert.Reference31Ideal.τ).loc Cert.Reference31Ideal.main_arg3))).2.1 = (fun _ => 1#1)
    ∧ (Cert.Pre_finite31.fn (F := Ideal) (m ((c.tc : Thread Cert.Reference31Ideal.nD Cert.Reference31Ideal.τ).loc Cert.Reference31Ideal.main_arg0)) (m ((c.tc : Thread Cert.Reference31Ideal.nD Cert.Reference31Ideal.τ).loc Cert.Reference31Ideal.main_arg1)) (m ((c.tc : Thread Cert.Reference31Ideal.nD Cert.Reference31Ideal.τ).loc Cert.Reference31Ideal.main_arg2)) (m ((c.tc : Thread Cert.Reference31Ideal.nD Cert.Reference31Ideal.τ).loc Cert.Reference31Ideal.main_arg3))).2.2.1 = (fun _ => 1#1)
    ∧ (Cert.Pre_finite31.fn (F := Ideal) (m ((c.tc : Thread Cert.Reference31Ideal.nD Cert.Reference31Ideal.τ).loc Cert.Reference31Ideal.main_arg0)) (m ((c.tc : Thread Cert.Reference31Ideal.nD Cert.Reference31Ideal.τ).loc Cert.Reference31Ideal.main_arg1)) (m ((c.tc : Thread Cert.Reference31Ideal.nD Cert.Reference31Ideal.τ).loc Cert.Reference31Ideal.main_arg2)) (m ((c.tc : Thread Cert.Reference31Ideal.nD Cert.Reference31Ideal.τ).loc Cert.Reference31Ideal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Kernel31Ideal_pre_finite31 [hKernel31Ideal : Cert.Kernel31Ideal.Facts] [hPre_finite31 : Cert.Pre_finite31.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal_finite31 m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Reference31Ideal_pre_finite31 [hReference31Ideal : Cert.Reference31Ideal.Facts] [hPre_finite31 : Cert.Pre_finite31.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal_finite31 m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def preserves_Kernel_KernelIdeal : Prop :=
  IdealRules.named_const.Statement Cert.KernelIdeal.κ "mask" .f32 0xF149F2CA#32 ⊥

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v20_0)) (v1 : (c : Dev Cert.Kernel5Ideal.nD) → Buf (Elt Ideal) ((c.tc : Thread Cert.Kernel5Ideal.nD Cert.Kernel5Ideal.τ).loc Cert.Kernel5Ideal.main_v20_1)) (v2 : (c : Dev Cert.Kernel5Ideal.nD) → Buf (Elt Ideal) ((c.tc : Thread Cert.Kernel5Ideal.nD Cert.Kernel5Ideal.τ).loc Cert.Kernel5Ideal.main_v20_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v20_0) = v0 c
          ∧ r.2.mem ((c.tc : Thread Cert.Kernel5Ideal.nD Cert.Kernel5Ideal.τ).loc Cert.Kernel5Ideal.main_v20_1) = v1 c
          ∧ r.2.mem ((c.tc : Thread Cert.Kernel5Ideal.nD Cert.Kernel5Ideal.τ).loc Cert.Kernel5Ideal.main_v20_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v74) = v0 c
          ∧ r.2.mem ((c.tc : Thread Cert.Reference5Ideal.nD Cert.Reference5Ideal.τ).loc Cert.Reference5Ideal.main_v48) = v1 c
          ∧ r.2.mem ((c.tc : Thread Cert.Reference5Ideal.nD Cert.Reference5Ideal.τ).loc Cert.Reference5Ideal.main_v45) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_v13) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)) (v2 : (c : Dev Cert.Kernel7Ideal.nD) → Buf (Elt Ideal) ((c.tc : Thread Cert.Kernel7Ideal.nD Cert.Kernel7Ideal.τ).loc Cert.Kernel7Ideal.main_v2_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_v2_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v43) = v0 c
          ∧ r.2.mem ((c.tc : Thread Cert.Reference7Ideal.nD Cert.Reference7Ideal.τ).loc Cert.Reference7Ideal.main_v47) = v1 c
          ∧ r.2.mem ((c.tc : Thread Cert.Reference7Ideal.nD Cert.Reference7Ideal.τ).loc Cert.Reference7Ideal.main_v21) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v16) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v11) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_v24) = v1 c
          ∧ r.2.mem ((c.tc : Thread Cert.Reference15Ideal.nD Cert.Reference15Ideal.τ).loc Cert.Reference15Ideal.main_v5) = v2 c
          ∧ r.2.mem ((c.tc : Thread Cert.Reference15Ideal.nD Cert.Reference15Ideal.τ).loc Cert.Reference15Ideal.main_v11) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_v24) = v1 c
          ∧ r.2.mem ((c.tc : Thread Cert.Reference16Ideal.nD Cert.Reference16Ideal.τ).loc Cert.Reference16Ideal.main_v5) = v2 c
          ∧ r.2.mem ((c.tc : Thread Cert.Reference16Ideal.nD Cert.Reference16Ideal.τ).loc Cert.Reference16Ideal.main_v11) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_v24) = v1 c
          ∧ r.2.mem ((c.tc : Thread Cert.Reference17Ideal.nD Cert.Reference17Ideal.τ).loc Cert.Reference17Ideal.main_v5) = v2 c
          ∧ r.2.mem ((c.tc : Thread Cert.Reference17Ideal.nD Cert.Reference17Ideal.τ).loc Cert.Reference17Ideal.main_v11) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_v24) = v1 c
          ∧ r.2.mem ((c.tc : Thread Cert.Reference18Ideal.nD Cert.Reference18Ideal.τ).loc Cert.Reference18Ideal.main_v5) = v2 c
          ∧ r.2.mem ((c.tc : Thread Cert.Reference18Ideal.nD Cert.Reference18Ideal.τ).loc Cert.Reference18Ideal.main_v11) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_v24) = v1 c
          ∧ r.2.mem ((c.tc : Thread Cert.Reference19Ideal.nD Cert.Reference19Ideal.τ).loc Cert.Reference19Ideal.main_v5) = v2 c
          ∧ r.2.mem ((c.tc : Thread Cert.Reference19Ideal.nD Cert.Reference19Ideal.τ).loc Cert.Reference19Ideal.main_v11) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v5) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v5) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v5) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v2) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v3) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v24) = v0 c
          ∧ r.2.mem ((c.tc : Thread Cert.Reference28Ideal.nD Cert.Reference28Ideal.τ).loc Cert.Reference28Ideal.main_v42) = v1 c
          ∧ r.2.mem ((c.tc : Thread Cert.Reference28Ideal.nD Cert.Reference28Ideal.τ).loc Cert.Reference28Ideal.main_v38) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v8) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v16) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal_pre_finite31 [hKernel31Ideal : Cert.Kernel31Ideal.Facts] [hReference31Ideal : Cert.Reference31Ideal.Facts] [hPre_finite31 : Cert.Pre_finite31.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal_finite31 m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v18_0)) (v1 : (c : Dev Cert.Kernel31Ideal.nD) → Buf (Elt Ideal) ((c.tc : Thread Cert.Kernel31Ideal.nD Cert.Kernel31Ideal.τ).loc Cert.Kernel31Ideal.main_v18_1)) (v2 : (c : Dev Cert.Kernel31Ideal.nD) → Buf (Elt Ideal) ((c.tc : Thread Cert.Kernel31Ideal.nD Cert.Kernel31Ideal.τ).loc Cert.Kernel31Ideal.main_v18_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v18_0) = v0 c
          ∧ r.2.mem ((c.tc : Thread Cert.Kernel31Ideal.nD Cert.Kernel31Ideal.τ).loc Cert.Kernel31Ideal.main_v18_1) = v1 c
          ∧ r.2.mem ((c.tc : Thread Cert.Kernel31Ideal.nD Cert.Kernel31Ideal.τ).loc Cert.Kernel31Ideal.main_v18_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v61) = v0 c
          ∧ r.2.mem ((c.tc : Thread Cert.Reference31Ideal.nD Cert.Reference31Ideal.τ).loc Cert.Reference31Ideal.main_v35) = v1 c
          ∧ r.2.mem ((c.tc : Thread Cert.Reference31Ideal.nD Cert.Reference31Ideal.τ).loc Cert.Reference31Ideal.main_v32) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hPre_finite2 : Cert.Pre_finite2.Facts) (hPre_finite5 : Cert.Pre_finite5.Facts) (hPre_finite31 : Cert.Pre_finite31.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Kernel31Ideal_pre_finite31 (hKernel31Ideal := hKernel31Ideal) (hPre_finite31 := hPre_finite31)
    ∧ quiescent_Reference31Ideal (hReference31Ideal := hReference31Ideal)
    ∧ quiescent_Reference31Ideal_pre_finite31 (hReference31Ideal := hReference31Ideal) (hPre_finite31 := hPre_finite31)
    ∧ preserves_Kernel_KernelIdeal
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal_pre_finite31 (hKernel31Ideal := hKernel31Ideal) (hReference31Ideal := hReference31Ideal) (hPre_finite31 := hPre_finite31)
-- ==== Pre_finite2.lean ====
abbrev S4096x1024 : Shape := ⟨2, ![4096, 1024]⟩
abbrev S4x2816x1024 : Shape := ⟨3, ![4, 2816, 1024]⟩
abbrev S2x4096x2816 : Shape := ⟨3, ![2, 4096, 2816]⟩
abbrev S_ : Shape := ⟨0, ![]⟩

class Facts : Prop where
  bcast_S_S4096x1024 : S_.BroadcastsInDim S4096x1024 (![] : Fin 0 → Fin S4096x1024.rank)
  bcast_S_S4x2816x1024 : S_.BroadcastsInDim S4x2816x1024 (![] : Fin 0 → Fin S4x2816x1024.rank)
  bcast_S_S2x4096x2816 : S_.BroadcastsInDim S2x4096x2816 (![] : Fin 0 → Fin S2x4096x2816.rank)

variable [Facts]

def fn {F : FTy → Type} [FloatOps F] (main_arg0 : FVec F S4096x1024 .f32) (main_arg1 : FVec F S4x2816x1024 .f32) (main_arg2 : FVec F S2x4096x2816 .f32) : IVec S4096x1024 1 × IVec S4x2816x1024 1 × IVec S2x4096x2816 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4x2816x1024 .f32 := Host.absf main_arg1
  let main_cst_0 : FVec F S_ .f32 := constant S_ .f32 0x7F800000#32
  let main_v4 : FVec F S4x2816x1024 .f32 := broadcastInDim S4x2816x1024 ![] bcast_S_S4x2816x1024 main_cst_0
  let main_v5 : IVec S4x2816x1024 1 := cmpf .olt main_v3 main_v4
  let main_v6 : FVec F S2x4096x2816 .f32 := Host.absf main_arg2
  let main_cst_1 : FVec F S_ .f32 := constant S_ .f32 0x7F800000#32
  let main_v7 : FVec F S2x4096x2816 .f32 := broadcastInDim S2x4096x2816 ![] bcast_S_S2x4096x2816 main_cst_1
  let main_v8 : IVec S2x4096x2816 1 := cmpf .olt main_v6 main_v7
  (main_v2, main_v5, main_v8)
-- ==== Pre_finite31.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x1024 .f32) (main_arg1 : FVec F S4096x1024 .f32) (main_arg2 : FVec F S4096x1024 .f32) (main_arg3 : FVec F S1x1024 .f32) : IVec S4096x1024 1 × IVec S4096x1024 1 × IVec S4096x1024 1 × IVec S1x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  (main_v2, main_v5, main_v8, main_v11)
-- ==== Pre_finite5.lean ====
abbrev S2x4096x2816 : Shape := ⟨3, ![2, 4096, 2816]⟩
abbrev S4x4x1024x1408 : Shape := ⟨4, ![4, 4, 1024, 1408]⟩
abbrev S4096x1024 : Shape := ⟨2, ![4096, 1024]⟩
abbrev S1x1024 : Shape := ⟨2, ![1, 1024]⟩
abbrev S_ : Shape := ⟨0, ![]⟩

class Facts : Prop where
  bcast_S_S2x4096x2816 : S_.BroadcastsInDim S2x4096x2816 (![] : Fin 0 → Fin S2x4096x2816.rank)
  bcast_S_S4x4x1024x1408 : S_.BroadcastsInDim S4x4x1024x1408 (![] : Fin 0 → Fin S4x4x1024x1408.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S2x4096x2816 .f32) (main_arg1 : FVec F S4x4x1024x1408 .f32) (main_arg2 : FVec F S4096x1024 .f32) (main_arg3 : FVec F S4096x1024 .f32) (main_arg4 : FVec F S1x1024 .f32) : IVec S2x4096x2816 1 × IVec S4x4x1024x1408 1 × IVec S4096x1024 1 × IVec S4096x1024 1 × IVec S1x1024 1 :=
  let main_v0 : FVec F S2x4096x2816 .f32 := Host.absf main_arg0
  let main_cst : FVec F S_ .f32 := constant S_ .f32 0x7F800000#32
  let main_v1 : FVec F S2x4096x2816 .f32 := broadcastInDim S2x4096x2816 ![] bcast_S_S2x4096x2816 main_cst
  let main_v2 : IVec S2x4096x2816 1 := cmpf .olt main_v0 main_v1
  let main_v3 : FVec F S4x4x1024x1408 .f32 := Host.absf main_arg1
  let main_cst_0 : FVec F S_ .f32 := constant S_ .f32 0x7F800000#32
  let main_v4 : FVec F S4x4x1024x1408 .f32 := broadcastInDim S4x4x1024x1408 ![] bcast_S_S4x4x1024x1408 main_cst_0
  let main_v5 : IVec S4x4x1024x1408 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  (main_v2, main_v5, main_v8, main_v11, main_v14)
-- ==== Kernel.lean ====
abbrev S4096x3072 : Shape := ⟨2, ![4096, 3072]⟩
abbrev S4096x16 : Shape := ⟨2, ![4096, 16]⟩
abbrev S4096x1024 : Shape := ⟨2, ![4096, 1024]⟩
abbrev S4096x16x64 : Shape := ⟨3, ![4096, 16, 64]⟩
abbrev S16x4096x4096 : Shape := ⟨3, ![16, 4096, 4096]⟩
abbrev S_ : Shape := ⟨0, ![]⟩
abbrev S16x4096 : Shape := ⟨2, ![16, 4096]⟩
abbrev S16x4096x1 : Shape := ⟨3, ![16, 4096, 1]⟩
abbrev S16x1x4096 : Shape := ⟨3, ![16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x64x4096 : Shape := ⟨3, ![16, 64, 4096]⟩
abbrev S4x1024x1024 : Shape := ⟨3, ![4, 1024, 1024]⟩
abbrev S4x1024x3072 : Shape := ⟨3, ![4, 1024, 3072]⟩
abbrev S4x1024x8x2 : Shape := ⟨4, ![4, 1024, 8, 2]⟩
abbrev S8x4x1024x2 : Shape := ⟨4, ![8, 4, 1024, 2]⟩
abbrev S8x4x2x1024 : Shape := ⟨4, ![8, 4, 2, 1024]⟩
abbrev S4x1024x128 : Shape := ⟨3, ![4, 1024, 128]⟩
abbrev S1x1024x128 : Shape := ⟨3, ![1, 1024, 128]⟩
abbrev S1x4x1024x2 : Shape := ⟨4, ![1, 4, 1024, 2]⟩
abbrev S1x1x2x1024 : Shape := ⟨4, ![1, 1, 2, 1024]⟩
abbrev S4x1024x2 : Shape := ⟨3, ![4, 1024, 2]⟩
abbrev S1x128 : Shape := ⟨2, ![1, 128]⟩
abbrev S1024x128 : Shape := ⟨2, ![1024, 128]⟩
abbrev S1x1x1x1024 : Shape := ⟨4, ![1, 1, 1, 1024]⟩
abbrev S1x1024 : Shape := ⟨2, ![1, 1024]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S1x1x512x1 : Shape := ⟨4, ![1, 1, 512, 1]⟩
abbrev S1x512 : Shape := ⟨2, ![1, 512]⟩
abbrev S512x1024 : Shape := ⟨2, ![512, 1024]⟩
abbrev S1024 : Shape := ⟨1, ![1024]⟩
abbrev S1024x1 : Shape := ⟨2, ![1024, 1]⟩
abbrev S1024x1024 : Shape := ⟨2, ![1024, 1024]⟩
abbrev S1x1x1024x1 : Shape := ⟨4, ![1, 1, 1024, 1]⟩

abbrev nBuf : Space → Nat
  | .hbm => 64
  | .vmem => 27
  | .smem => 0
  | _ => 0

abbrev bufTy : (tb : Table) → Fin (tcTables nBuf tb) → BufTy
  | .hbm, ⟨0, _⟩ => ⟨S4096x3072, .f32⟩
  | .hbm, ⟨1, _⟩ => ⟨S4096x16, .f32⟩
  | .hbm, ⟨2, _⟩ => ⟨S4096x1024, .f32⟩
  | .hbm, ⟨3, _⟩ => ⟨S4096x1024, .f32⟩
  | .hbm, ⟨4, _⟩ => ⟨S4096x16x64, .f32⟩
  | .hbm, ⟨5, _⟩ => ⟨S4096x1024, .f32⟩
  | .hbm, ⟨6, _⟩ => ⟨S4096x16x64, .f32⟩
  | .hbm, ⟨7, _⟩ => ⟨S4096x1024, .f32⟩
  | .hbm, ⟨8, _⟩ => ⟨S4096x16x64, .f32⟩
  | .hbm, ⟨9, _⟩ => ⟨S16x4096x4096, .f32⟩
  | .hbm, ⟨10, _⟩ => ⟨S_, .f32⟩
  | .hbm, ⟨11, _⟩ => ⟨S16x4096x4096, .f32⟩
  | .hbm, ⟨12, _⟩ => ⟨S16x4096x4096, .f32⟩
  | .hbm, ⟨13, _⟩ => ⟨S16x4096, .f32⟩
  | .hbm, ⟨14, _⟩ => ⟨S16x4096x1, .f32⟩
  | .hbm, ⟨15, _⟩ => ⟨S16x4096, .f32⟩
  | .hbm, ⟨16, _⟩ => ⟨S16x1x4096, .f32⟩
  | .hbm, ⟨17, _⟩ => ⟨S16x4096x4096, .f32⟩
  | .hbm, ⟨18, _⟩ => ⟨S16x4096x4096, .f32⟩
  | .hbm, ⟨19, _⟩ => ⟨S16x4096x4096, .f32⟩
  | .hbm, ⟨20, _⟩ => ⟨S16x4096x4096, .f32⟩
  | .hbm, ⟨21, _⟩ => ⟨S4096, .i32⟩
  | .hbm, ⟨22, _⟩ => ⟨S1x4096, .i32⟩
  | .hbm, ⟨23, _⟩ => ⟨S4096x1, .i32⟩
  | .hbm, ⟨24, _⟩ => ⟨S4096x4096, .i32⟩
  | .hbm, ⟨25, _⟩ => ⟨S4096x4096, .i32⟩
  | .hbm, ⟨26, _⟩ => ⟨S4096x4096, .i1⟩
  | .hbm, ⟨27, _⟩ => ⟨S_, .f32⟩
  | .hbm, ⟨28, _⟩ => ⟨S_, .f32⟩
  | .hbm, ⟨29, _⟩ => ⟨S16x4096x4096, .i1⟩
  | .hbm, ⟨30, _⟩ => ⟨S16x4096x4096, .f32⟩
  | .hbm, ⟨31, _⟩ => ⟨S16x4096x4096, .f32⟩
  | .hbm, ⟨32, _⟩ => ⟨S_, .f32⟩
  | .hbm, ⟨33, _⟩ => ⟨S16x4096, .f32⟩
  | .hbm, ⟨34, _⟩ => ⟨S16x4096x1, .f32⟩
  | .hbm, ⟨35, _⟩ => ⟨S16x4096x4096, .f32⟩
  | .hbm, ⟨36, _⟩ => ⟨S16x4096x4096, .f32⟩
  | .hbm, ⟨37, _⟩ => ⟨S16x4096x4096, .f32⟩
  | .hbm, ⟨38, _⟩ => ⟨S_, .f32⟩
  | .hbm, ⟨39, _⟩ => ⟨S16x4096, .f32⟩
  | .hbm, ⟨40, _⟩ => ⟨S16x4096x1, .f32⟩
  | .hbm, ⟨41, _⟩ => ⟨S16x4096x4096, .f32⟩
  | .hbm, ⟨42, _⟩ => ⟨S16x4096x4096, .f32⟩
  | .hbm, ⟨43, _⟩ => ⟨S16x64x4096, .f32⟩
  | .hbm, ⟨44, _⟩ => ⟨S4096x16x64, .f32⟩
  | .hbm, ⟨45, _⟩ => ⟨S4x1024x1024, .f32⟩
  | .hbm, ⟨46, _⟩ => ⟨S16x4096x1, .f32⟩
  | .hbm, ⟨47, _⟩ => ⟨S16x4096x1, .f32⟩
  | .hbm, ⟨48, _⟩ => ⟨S16x4096, .f32⟩
  | .hbm, ⟨49, _⟩ => ⟨S4096x16, .f32⟩
  | .hbm, ⟨50, _⟩ => ⟨S4096x3072, .bf16⟩
  | .hbm, ⟨51, _⟩ => ⟨S4x1024x3072, .bf16⟩
  | .hbm, ⟨52, _⟩ => ⟨S4x1024x8x2, .f32⟩
  | .hbm, ⟨53, _⟩ => ⟨S8x4x1024x2, .f32⟩
  | .hbm, ⟨54, _⟩ => ⟨S4x1024x8x2, .f32⟩
  | .hbm, ⟨55, _⟩ => ⟨S8x4x2x1024, .f32⟩
  | .hbm, ⟨56, _⟩ => ⟨S4x1024x8x2, .f32⟩
  | .hbm, ⟨57, _⟩ => ⟨S8x4x1024x2, .f32⟩
  | .hbm, ⟨58, _⟩ => ⟨S4x1024x1024, .f32⟩
  | .hbm, ⟨59, _⟩ => ⟨S4x1024x1024, .bf16⟩
  | .hbm, ⟨60, _⟩ => ⟨S4x1024x1024, .bf16⟩
  | .hbm, ⟨61, _⟩ => ⟨S4x1024x1024, .bf16⟩
  | .hbm, ⟨62, _⟩ => ⟨S8x4x1024x2, .f32⟩
  | .hbm, ⟨63, _⟩ => ⟨S8x4x2x1024, .f32⟩
  | .local _ .vmem, ⟨0, _⟩ => ⟨S4x1024x128, .bf16⟩
  | .local _ .vmem, ⟨1, _⟩ => ⟨S4x1024x128, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x4x1024x2, .f32⟩
  | .local _ .vmem, ⟨7, _⟩ => ⟨S1x4x1024x2, .f32⟩
  | .local _ .vmem, ⟨8, _⟩ => ⟨S1x1x2x1024, .f32⟩
  | .local _ .vmem, ⟨9, _⟩ => ⟨S1x1x2x1024, .f32⟩
  | .local _ .vmem, ⟨10, _⟩ => ⟨S4x1024x128, .f32⟩
  | .local _ .vmem, ⟨11, _⟩ => ⟨S4x1024x128, .f32⟩
  | .local _ .vmem, ⟨12, _⟩ => ⟨S1x4x1024x2, .f32⟩
  | .local _ .vmem, ⟨13, _⟩ => ⟨S1x4x1024x2, .f32⟩
  | .local _ .vmem, ⟨14, _⟩ => ⟨S4x1024x128, .f32⟩
  | .local _ .vmem, ⟨15, _⟩ => ⟨S4x1024x128, .f32⟩
  | .local _ .vmem, ⟨16, _⟩ => ⟨S4x1024x128, .bf16⟩
  | .local _ .vmem, ⟨17, _⟩ => ⟨S4x1024x128, .bf16⟩
  | .local _ .vmem, ⟨18, _⟩ => ⟨S1x1024x128, .bf16⟩
  | .local _ .vmem, ⟨19, _⟩ => ⟨S1x1024x128, .bf16⟩
  | .local _ .vmem, ⟨20, _⟩ => ⟨S1x1024x128, .bf16⟩
  | .local _ .vmem, ⟨21, _⟩ => ⟨S1x1024x128, .bf16⟩
  | .local _ .vmem, ⟨22, _⟩ => ⟨S1x4x1024x2, .f32⟩
  | .local _ .vmem, ⟨23, _⟩ => ⟨S1x4x1024x2, .f32⟩
  | .local _ .vmem, ⟨24, _⟩ => ⟨S1x1x2x1024, .f32⟩
  | .local _ .vmem, ⟨25, _⟩ => ⟨S1x1x2x1024, .f32⟩
  | .local _ .vmem, ⟨26, _⟩ => ⟨S4x1024x128, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49_0 : Ref sig .tc := ⟨.hbm, 59, rfl⟩
abbrev main_v49_1 : Ref sig .tc := ⟨.hbm, 60, rfl⟩
abbrev main_v49_2 : Ref sig .tc := ⟨.hbm, 61, rfl⟩
abbrev main_v49_3 : Ref sig .tc := ⟨.hbm, 62, rfl⟩
abbrev main_v49_4 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 4], ![false, false]⟩

def k0_off1 (i : grid0.Coords) : Fin 3 → Nat :=
  let arg1 : BitVec 32 := BitVec.ofNat 32 (i 1).val
  let v15 : Index := Scalar.indexCast arg1
  let c0_12 : Index := 0#32
  let c0_13 : Index := 0#32
  ![v15.toNat, 0, 0]
def k0_off2 (i : grid0.Coords) : Fin 4 → Nat :=
  let c0_23 : Index := 0#32
  let arg1 : BitVec 32 := BitVec.ofNat 32 (i 1).val
  let v40 : Index := Scalar.indexCast arg1
  let c0_24 : Index := 0#32
  let c0_25 : Index := 0#32
  ![0, v40.toNat, 0, 0]
def k0_off3 (i : grid0.Coords) : Fin 3 → Nat :=
  let arg1 : BitVec 32 := BitVec.ofNat 32 (i 1).val
  let v107 : Index := Scalar.indexCast arg1
  let c512 : Index := 512#32
  let c0_52 : Index := 0#32
  ![v107.toNat, 512, 0]
def k0_off4 (i : grid0.Coords) : Fin 4 → Nat :=
  let c0_62 : Index := 0#32
  let arg1 : BitVec 32 := BitVec.ofNat 32 (i 1).val
  let v131 : Index := Scalar.indexCast arg1
  let c512_63 : Index := 512#32
  let c0_64 : Index := 0#32
  ![0, v131.toNat, 512, 0]
@[reducible] def k0_t1_loop (i : grid0.Coords) : Scf.Loop 32 :=
  let arg1 : BitVec 32 := BitVec.ofNat 32 (i 1).val
  let c1_i32 : BitVec 32 := 1#32
  let v189 : BitVec 32 := Scalar.addi arg1 c1_i32
  let c4_i32 : BitVec 32 := 4#32
  let v190 : BitVec 32 := Scalar.subi c4_i32 v189
  let c1_i32_87 : BitVec 32 := 1#32
  let v192 : BitVec 32 := Scalar.divsi v190 c1_i32_87
  let v193 : BitVec 32 := Scalar.muli v192 c1_i32_87
  let v194 : BitVec 32 := Scalar.addi v189 v193
  let c1_i32_88 : BitVec 32 := 1#32
  ⟨v189, v194, c1_i32_88⟩
def k0_off5 (i : grid0.Coords) (k0_t1 : Fin (k0_t1_loop i).trips) : Fin 3 → Nat :=
  let arg1 : BitVec 32 := BitVec.ofNat 32 (i 1).val
  let c1_i32 : BitVec 32 := 1#32
  let v189 : BitVec 32 := Scalar.addi arg1 c1_i32
  let c1_i32_88 : BitVec 32 := 1#32
  let arg16 : BitVec 32 := Scf.iv v189 c1_i32_88 k0_t1
  let v400 : Index := Scalar.indexCast arg16
  let c0_192 : Index := 0#32
  let c0_193 : Index := 0#32
  ![v400.toNat, 0, 0]
def k0_off6 (i : grid0.Coords) (k0_t1 : Fin (k0_t1_loop i).trips) : Fin 4 → Nat :=
  let c0_203 : Index := 0#32
  let arg1 : BitVec 32 := BitVec.ofNat 32 (i 1).val
  let c1_i32 : BitVec 32 := 1#32
  let v189 : BitVec 32 := Scalar.addi arg1 c1_i32
  let c1_i32_88 : BitVec 32 := 1#32
  let arg16 : BitVec 32 := Scf.iv v189 c1_i32_88 k0_t1
  let v424 : Index := Scalar.indexCast arg16
  let c0_204 : Index := 0#32
  let c0_205 : Index := 0#32
  ![0, v424.toNat, 0, 0]
@[reducible] def k0_t2_loop (i : grid0.Coords) : Scf.Loop 32 :=
  let arg1 : BitVec 32 := BitVec.ofNat 32 (i 1).val
  let c1_i32 : BitVec 32 := 1#32
  let v189 : BitVec 32 := Scalar.addi arg1 c1_i32
  let c4_i32 : BitVec 32 := 4#32
  let v190 : BitVec 32 := Scalar.subi c4_i32 v189
  let c1_i32_87 : BitVec 32 := 1#32
  let v192 : BitVec 32 := Scalar.divsi v190 c1_i32_87
  let v193 : BitVec 32 := Scalar.muli v192 c1_i32_87
  let v194 : BitVec 32 := Scalar.addi v189 v193
  let v191 : BitVec 32 := Scalar.addi v189 v190
  let c1_i32_89 : BitVec 32 := 1#32
  ⟨v194, v191, c1_i32_89⟩
def k0_off7 (i : grid0.Coords) (k0_t2 : Fin (k0_t2_loop i).trips) : Fin 3 → Nat :=
  let arg1 : BitVec 32 := BitVec.ofNat 32 (i 1).val
  let c1_i32 : BitVec 32 := 1#32
  let v189 : BitVec 32 := Scalar.addi arg1 c1_i32
  let c4_i32 : BitVec 32 := 4#32
  let v190 : BitVec 32 := Scalar.subi c4_i32 v189
  let c1_i32_87 : BitVec 32 := 1#32
  let v192 : BitVec 32 := Scalar.divsi v190 c1_i32_87
  let v193 : BitVec 32 := Scalar.muli v192 c1_i32_87
  let v194 : BitVec 32 := Scalar.addi v189 v193
  let c1_i32_89 : BitVec 32 := 1#32
  let arg16 : BitVec 32 := Scf.iv v194 c1_i32_89 k0_t2
  let v400 : Index := Scalar.indexCast arg16
  let c0_192 : Index := 0#32
  let c0_193 : Index := 0#32
  ![v400.toNat, 0, 0]
def k0_off8 (i : grid0.Coords) (k0_t2 : Fin (k0_t2_loop i).trips) : Fin 4 → Nat :=
  let c0_203 : Index := 0#32
  let arg1 : BitVec 32 := BitVec.ofNat 32 (i 1).val
  let c1_i32 : BitVec 32 := 1#32
  let v189 : BitVec 32 := Scalar.addi arg1 c1_i32
  let c4_i32 : BitVec 32 := 4#32
  let v190 : BitVec 32 := Scalar.subi c4_i32 v189
  let c1_i32_87 : BitVec 32 := 1#32
  let v192 : BitVec 32 := Scalar.divsi v190 c1_i32_87
  let v193 : BitVec 32 := Scalar.muli v192 c1_i32_87
  let v194 : BitVec 32 := Scalar.addi v189 v193
  let c1_i32_89 : BitVec 32 := 1#32
  let arg16 : BitVec 32 := Scf.iv v194 c1_i32_89 k0_t2
  let v424 : Index := Scalar.indexCast arg16
  let c0_204 : Index := 0#32
  let c0_205 : Index := 0#32
  ![0, v424.toNat, 0, 0]
def k0_off9 (i : grid0.Coords) : Fin 4 → Nat :=
  let c0_110 : Index := 0#32
  let arg1 : BitVec 32 := BitVec.ofNat 32 (i 1).val
  let v229 : Index := Scalar.indexCast arg1
  let c0_111 : Index := 0#32
  let c1_112 : Index := 1#32
  ![0, v229.toNat, 0, 1]
def k0_off10 (i : grid0.Coords) : Fin 4 → Nat :=
  let c0_150 : Index := 0#32
  let arg1 : BitVec 32 := BitVec.ofNat 32 (i 1).val
  let v320 : Index := Scalar.indexCast arg1
  let c512_151 : Index := 512#32
  let c1_152 : Index := 1#32
  ![0, v320.toNat, 512, 1]
@[reducible] def k0_t3_loop (i : grid0.Coords) : Scf.Loop 32 :=
  let arg1 : BitVec 32 := BitVec.ofNat 32 (i 1).val
  let c1_i32_176 : BitVec 32 := 1#32
  let v378 : BitVec 32 := Scalar.addi arg1 c1_i32_176
  let c4_i32_177 : BitVec 32 := 4#32
  let v379 : BitVec 32 := Scalar.subi c4_i32_177 v378
  let c1_i32_178 : BitVec 32 := 1#32
  let v381 : BitVec 32 := Scalar.divsi v379 c1_i32_178
  let v382 : BitVec 32 := Scalar.muli v381 c1_i32_178
  let v383 : BitVec 32 := Scalar.addi v378 v382
  let c1_i32_179 : BitVec 32 := 1#32
  ⟨v378, v383, c1_i32_179⟩
def k0_off11 (i : grid0.Coords) (k0_t3 : Fin (k0_t3_loop i).trips) : Fin 3 → Nat :=
  let arg1 : BitVec 32 := BitVec.ofNat 32 (i 1).val
  let c1_i32_176 : BitVec 32 := 1#32
  let v378 : BitVec 32 := Scalar.addi arg1 c1_i32_176
  let c1_i32_179 : BitVec 32 := 1#32
  let arg16 : BitVec 32 := Scf.iv v378 c1_i32_179 k0_t3
  let v400 : Index := Scalar.indexCast arg16
  let c0_192 : Index := 0#32
  let c0_193 : Index := 0#32
  ![v400.toNat, 0, 0]
def k0_off12 (i : grid0.Coords) (k0_t3 : Fin (k0_t3_loop i).trips) : Fin 4 → Nat :=
  let c0_203 : Index := 0#32
  let arg1 : BitVec 32 := BitVec.ofNat 32 (i 1).val
  let c1_i32_176 : BitVec 32 := 1#32
  let v378 : BitVec 32 := Scalar.addi arg1 c1_i32_176
  let c1_i32_179 : BitVec 32 := 1#32
  let arg16 : BitVec 32 := Scf.iv v378 c1_i32_179 k0_t3
  let v424 : Index := Scalar.indexCast arg16
  let c0_204 : Index := 0#32
  let c1_205 : Index := 1#32
  ![0, v424.toNat, 0, 1]
@[reducible] def k0_t4_loop (i : grid0.Coords) : Scf.Loop 32 :=
  let arg1 : BitVec 32 := BitVec.ofNat 32 (i 1).val
  let c1_i32_176 : BitVec 32 := 1#32
  let v378 : BitVec 32 := Scalar.addi arg1 c1_i32_176
  let c4_i32_177 : BitVec 32 := 4#32
  let v379 : BitVec 32 := Scalar.subi c4_i32_177 v378
  let c1_i32_178 : BitVec 32 := 1#32
  let v381 : BitVec 32 := Scalar.divsi v379 c1_i32_178
  let v382 : BitVec 32 := Scalar.muli v381 c1_i32_178
  let v383 : BitVec 32 := Scalar.addi v378 v382
  let v380 : BitVec 32 := Scalar.addi v378 v379
  let c1_i32_180 : BitVec 32 := 1#32
  ⟨v383, v380, c1_i32_180⟩
def k0_off13 (i : grid0.Coords) (k0_t4 : Fin (k0_t4_loop i).trips) : Fin 3 → Nat :=
  let arg1 : BitVec 32 := BitVec.ofNat 32 (i 1).val
  let c1_i32_176 : BitVec 32 := 1#32
  let v378 : BitVec 32 := Scalar.addi arg1 c1_i32_176
  let c4_i32_177 : BitVec 32 := 4#32
  let v379 : BitVec 32 := Scalar.subi c4_i32_177 v378
  let c1_i32_178 : BitVec 32 := 1#32
  let v381 : BitVec 32 := Scalar.divsi v379 c1_i32_178
  let v382 : BitVec 32 := Scalar.muli v381 c1_i32_178
  let v383 : BitVec 32 := Scalar.addi v378 v382
  let c1_i32_180 : BitVec 32 := 1#32
  let arg16 : BitVec 32 := Scf.iv v383 c1_i32_180 k0_t4
  let v400 : Index := Scalar.indexCast arg16
  let c0_192 : Index := 0#32
  let c0_193 : Index := 0#32
  ![v400.toNat, 0, 0]
def k0_off14 (i : grid0.Coords) (k0_t4 : Fin (k0_t4_loop i).trips) : Fin 4 → Nat :=
  let c0_203 : Index := 0#32
  let arg1 : BitVec 32 := BitVec.ofNat 32 (i 1).val
  let c1_i32_176 : BitVec 32 := 1#32
  let v378 : BitVec 32 := Scalar.addi arg1 c1_i32_176
  let c4_i32_177 : BitVec 32 := 4#32
  let v379 : BitVec 32 := Scalar.subi c4_i32_177 v378
  let c1_i32_178 : BitVec 32 := 1#32
  let v381 : BitVec 32 := Scalar.divsi v379 c1_i32_178
  let v382 : BitVec 32 := Scalar.muli v381 c1_i32_178
  let v383 : BitVec 32 := Scalar.addi v378 v382
  let c1_i32_180 : BitVec 32 := 1#32
  let arg16 : BitVec 32 := Scf.iv v383 c1_i32_180 k0_t4
  let v424 : Index := Scalar.indexCast arg16
  let c0_204 : Index := 0#32
  let c1_205 : Index := 1#32
  ![0, v424.toNat, 0, 1]
def k0_cond2 (i : grid0.Coords) : BitVec 1 :=
  let arg1 : BitVec 32 := BitVec.ofNat 32 (i 1).val
  let c3_i32 : BitVec 32 := 3#32
  let v397 : BitVec 1 := Scalar.cmpi .eq arg1 c3_i32
  let v398 : BitVec 32 := Scalar.extui v397
  let c0_i32_191 : BitVec 32 := 0#32
  let v399 : BitVec 1 := Scalar.cmpi .ne v398 c0_i32_191
  v399

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![arg1.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S4x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x1024x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4x1024x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x1024x2 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x2x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4096x3072 : Shape := ⟨2, ![4096, 3072]⟩
abbrev S4096x16 : Shape := ⟨2, ![4096, 16]⟩
abbrev S4096x1024 : Shape := ⟨2, ![4096, 1024]⟩
abbrev S4096x16x64 : Shape := ⟨3, ![4096, 16, 64]⟩
abbrev S16x4096x4096 : Shape := ⟨3, ![16, 4096, 4096]⟩
abbrev S_ : Shape := ⟨0, ![]⟩
abbrev S16x4096 : Shape := ⟨2, ![16, 4096]⟩
abbrev S16x4096x1 : Shape := ⟨3, ![16, 4096, 1]⟩
abbrev S16x1x4096 : Shape := ⟨3, ![16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x64x4096 : Shape := ⟨3, ![16, 64, 4096]⟩
abbrev S16x4096x64 : Shape := ⟨3, ![16, 4096, 64]⟩
abbrev S4x1024x1024 : Shape := ⟨3, ![4, 1024, 1024]⟩
abbrev S4x1024x8x2 : Shape := ⟨4, ![4, 1024, 8, 2]⟩
abbrev S8x4x1024x2 : Shape := ⟨4, ![8, 4, 1024, 2]⟩
abbrev S8x4x2x1024 : Shape := ⟨4, ![8, 4, 2, 1024]⟩

abbrev nBuf : Space → Nat
  | .hbm => 131
  | .vmem => 0
  | .smem => 0
  | _ => 0

abbrev hbmTy0_0 (i : Nat) : BufTy := match i % 128 with
  | 0 => ⟨S4096x3072, .f32⟩
  | 1 => ⟨S4096x16, .f32⟩
  | 2 => ⟨S4096x1024, .f32⟩
  | 3 => ⟨S4096x1024, .f32⟩
  | 4 => ⟨S4096x1024, .f32⟩
  | 5 => ⟨S4096x1024, .f32⟩
  | 6 => ⟨S4096x16x64, .f32⟩
  | 7 => ⟨S4096x16x64, .f32⟩
  | 8 => ⟨S4096x16x64, .f32⟩
  | 9 => ⟨S16x4096x4096, .f32⟩
  | 10 => ⟨S_, .f32⟩
  | 11 => ⟨S16x4096x4096, .f32⟩
  | 12 => ⟨S16x4096x4096, .f32⟩
  | 13 => ⟨S16x4096, .f32⟩
  | 14 => ⟨S16x4096x1, .f32⟩
  | 15 => ⟨S16x4096, .f32⟩
  | 16 => ⟨S16x1x4096, .f32⟩
  | 17 => ⟨S16x4096x4096, .f32⟩
  | 18 => ⟨S16x4096x4096, .f32⟩
  | 19 => ⟨S16x4096x4096, .f32⟩
  | 20 => ⟨S16x4096x4096, .f32⟩
  | 21 => ⟨S4096, .i32⟩
  | 22 => ⟨S1x4096, .i32⟩
  | 23 => ⟨S4096x1, .i32⟩
  | 24 => ⟨S4096x4096, .i32⟩
  | 25 => ⟨S4096x4096, .i32⟩
  | 26 => ⟨S4096x4096, .i1⟩
  | 27 => ⟨S_, .f32⟩
  | 28 => ⟨S_, .f32⟩
  | 29 => ⟨S16x4096x4096, .i1⟩
  | 30 => ⟨S16x4096x4096, .f32⟩
  | 31 => ⟨S16x4096x4096, .f32⟩
  | 32 => ⟨S_, .f32⟩
  | 33 => ⟨S16x4096x4096, .f32⟩
  | 34 => ⟨S_, .f32⟩
  | 35 => ⟨S16x4096, .f32⟩
  | 36 => ⟨S16x4096x1, .f32⟩
  | 37 => ⟨S16x4096x4096, .f32⟩
  | 38 => ⟨S16x4096x4096, .i1⟩
  | 39 => ⟨S16x4096x4096, .f32⟩
  | 40 => ⟨S_, .f32⟩
  | 41 => ⟨S16x4096, .f32⟩
  | 42 => ⟨S_, .f32⟩
  | 43 => ⟨S16x4096, .f32⟩
  | 44 => ⟨S16x4096, .f32⟩
  | 45 => ⟨S_, .f32⟩
  | 46 => ⟨S16x4096, .f32⟩
  | 47 => ⟨S16x4096, .i1⟩
  | 48 => ⟨S_, .f32⟩
  | 49 => ⟨S16x4096, .f32⟩
  | 50 => ⟨S16x4096, .i1⟩
  | 51 => ⟨S_, .f32⟩
  | 52 => ⟨S16x4096, .f32⟩
  | 53 => ⟨S_, .f32⟩
  | 54 => ⟨S16x4096, .f32⟩
  | 55 => ⟨S_, .f32⟩
  | 56 => ⟨S16x4096, .f32⟩
  | 57 => ⟨S16x4096, .f32⟩
  | 58 => ⟨S16x4096, .f32⟩
  | 59 => ⟨S16x4096x1, .f32⟩
  | 60 => ⟨S16x4096x4096, .f32⟩
  | 61 => ⟨S16x4096x4096, .f32⟩
  | 62 => ⟨S16x4096x4096, .f32⟩
  | 63 => ⟨S_, .f32⟩
  | 64 => ⟨S16x4096, .f32⟩
  | 65 => ⟨S16x4096x1, .f32⟩
  | 66 => ⟨S16x4096x4096, .f32⟩
  | 67 => ⟨S16x4096x4096, .f32⟩
  | 68 => ⟨S16x4096x1, .f32⟩
  | 69 => ⟨S_, .f32⟩
  | 70 => ⟨S16x4096x1, .f32⟩
  | 71 => ⟨S16x4096x1, .f32⟩
  | 72 => ⟨S16x64x4096, .f32⟩
  | 73 => ⟨S4096x16x64, .f32⟩
  | 74 => ⟨S4096x1024, .f32⟩
  | 75 => ⟨S4096x16x64, .f32⟩
  | 76 => ⟨S16x64x4096, .f32⟩
  | 77 => ⟨S16x4096x4096, .f32⟩
  | 78 => ⟨S16x64x4096, .f32⟩
  | 79 => ⟨S4096x16x64, .f32⟩
  | 80 => ⟨S16x4096x4096, .f32⟩
  | 81 => ⟨S16x4096x4096, .f32⟩
  | 82 => ⟨S16x4096x4096, .f32⟩
  | 83 => ⟨S_, .f32⟩
  | 84 => ⟨S16x4096, .f32⟩
  | 85 => ⟨S16x4096x1, .f32⟩
  | 86 => ⟨S16x4096x1, .f32⟩
  | 87 => ⟨S16x4096x4096, .f32⟩
  | 88 => ⟨S16x4096x4096, .f32⟩
  | 89 => ⟨S_, .f32⟩
  | 90 => ⟨S16x4096, .f32⟩
  | 91 => ⟨S16x4096x4096, .f32⟩
  | 92 => ⟨S16x4096x4096, .f32⟩
  | 93 => ⟨S16x4096x4096, .f32⟩
  | 94 => ⟨S_, .f32⟩
  | 95 => ⟨S16x4096x4096, .f32⟩
  | 96 => ⟨S16x4096x4096, .f32⟩
  | 97 => ⟨S_, .f32⟩
  | 98 => ⟨S16x4096, .f32⟩
  | 99 => ⟨S16x4096x1, .f32⟩
  | 100 => ⟨S16x4096x4096, .f32⟩
  | 101 => ⟨S_, .f32⟩
  | 102 => ⟨S16x4096, .f32⟩
  | 103 => ⟨S16x1x4096, .f32⟩
  | 104 => ⟨S_, .f32⟩
  | 105 => ⟨S16x4096, .f32⟩
  | 106 => ⟨S4096x16, .f32⟩
  | 107 => ⟨S_, .f32⟩
  | 108 => ⟨S16x4096, .f32⟩
  | 109 => ⟨S4096x16, .f32⟩
  | 110 => ⟨S_, .f32⟩
  | 111 => ⟨S16x4096x4096, .f32⟩
  | 112 => ⟨S16x4096x4096, .f32⟩
  | 113 => ⟨S16x4096x64, .f32⟩
  | 114 => ⟨S4096x16x64, .f32⟩
  | 115 => ⟨S16x4096x64, .f32⟩
  | 116 => ⟨S4096x16x64, .f32⟩
  | 117 => ⟨S4096x1024, .f32⟩
  | 118 => ⟨S4096x1024, .f32⟩
  | 119 => ⟨S4096x1024, .f32⟩
  | 120 => ⟨S4096x1024, .bf16⟩
  | 121 => ⟨S4x1024x1024, .bf16⟩
  | 122 => ⟨S4096x1024, .bf16⟩
  | 123 => ⟨S4x1024x1024, .bf16⟩
  | 124 => ⟨S4096x1024, .bf16⟩
  | 125 => ⟨S4x1024x1024, .bf16⟩
  | 126 => ⟨S4x1024x8x2, .f32⟩
  | 127 => ⟨S8x4x1024x2, .f32⟩
  | _ => ⟨S4096x3072, .f32⟩

abbrev hbmTy0_1 (i : Nat) : BufTy := match i % 128 with
  | 0 => ⟨S4x1024x8x2, .f32⟩
  | 1 => ⟨S8x4x2x1024, .f32⟩
  | 2 => ⟨S8x4x2x1024, .f32⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_call0_v0 : Ref sig .tc := ⟨.hbm, 28, rfl⟩
abbrev main_v23_1 : Ref sig .tc := ⟨.hbm, 29, rfl⟩
abbrev main_call0_v2 : Ref sig .tc := ⟨.hbm, 30, rfl⟩
abbrev main_v23_0 : Ref sig .tc := ⟨.hbm, 31, rfl⟩
abbrev main_call0_cst : Ref sig .tc := ⟨.hbm, 32, rfl⟩
abbrev main_v23_2 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_11 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_12 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_call1_cst : Ref sig .tc := ⟨.hbm, 94, rfl⟩
abbrev main_call1_v0 : Ref sig .tc := ⟨.hbm, 95, rfl⟩
abbrev main_v72 : Ref sig .tc := ⟨.hbm, 96, rfl⟩
abbrev main_cst_13 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_14 : Ref sig .tc := ⟨.hbm, 101, rfl⟩
abbrev main_v76 : Ref sig .tc := ⟨.hbm, 102, rfl⟩
abbrev main_v77 : Ref sig .tc := ⟨.hbm, 103, rfl⟩
abbrev main_cst_15 : Ref sig .tc := ⟨.hbm, 104, rfl⟩
abbrev main_v78 : Ref sig .tc := ⟨.hbm, 105, rfl⟩
abbrev main_v79 : Ref sig .tc := ⟨.hbm, 106, rfl⟩
abbrev main_cst_16 : Ref sig .tc := ⟨.hbm, 107, rfl⟩
abbrev main_v80 : Ref sig .tc := ⟨.hbm, 108, rfl⟩
abbrev main_v81 : Ref sig .tc := ⟨.hbm, 109, rfl⟩
abbrev main_cst_17 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩

abbrev nD : Nat := 1
abbrev τ : Topo := Topo.v7x

variable {F : FTy → Type} [FloatOps F]
-- ==== Kernel2.lean ====
abbrev S4096x1024 : Shape := ⟨2, ![4096, 1024]⟩
abbrev S4x2816x1024 : Shape := ⟨3, ![4, 2816, 1024]⟩
abbrev S2x4096x2816 : Shape := ⟨3, ![2, 4096, 2816]⟩
abbrev S_ : Shape := ⟨0, ![]⟩
abbrev S1x1024 : Shape := ⟨2, ![1, 1024]⟩
abbrev S512x1024 : Shape := ⟨2, ![512, 1024]⟩
abbrev S1x1408x1024 : Shape := ⟨3, ![1, 1408, 1024]⟩
abbrev S1x512x1408 : Shape := ⟨3, ![1, 512, 1408]⟩
abbrev S2x512x1408 : Shape := ⟨3, ![2, 512, 1408]⟩
abbrev S1408x1024 : Shape := ⟨2, ![1408, 1024]⟩
abbrev S512x1408 : Shape := ⟨2, ![512, 1408]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4x2816x1024, .f32⟩
  | .hbm, ⟨2, _⟩ => ⟨S2x4096x2816, .f32⟩
  | .hbm, ⟨3, _⟩ => ⟨S4x2816x1024, .bf16⟩
  | .hbm, ⟨4, _⟩ => ⟨S2x4096x2816, .bf16⟩
  | .hbm, ⟨5, _⟩ => ⟨S_, .f32⟩
  | .hbm, ⟨6, _⟩ => ⟨S1x1024, .f32⟩
  | .hbm, ⟨7, _⟩ => ⟨S2x4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1408x1024, .bf16⟩
  | .local _ .vmem, ⟨4, _⟩ => ⟨S1x1408x1024, .bf16⟩
  | .local _ .vmem, ⟨5, _⟩ => ⟨S1x512x1408, .bf16⟩
  | .local _ .vmem, ⟨6, _⟩ => ⟨S1x512x1408, .bf16⟩
  | .local _ .vmem, ⟨7, _⟩ => ⟨S1x512x1408, .bf16⟩
  | .local _ .vmem, ⟨8, _⟩ => ⟨S1x512x1408, .bf16⟩
  | .local _ .vmem, ⟨9, _⟩ => ⟨S2x512x1408, .bf16⟩
  | .local _ .vmem, ⟨10, _⟩ => ⟨S2x512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4096x1024 : Shape := ⟨2, ![4096, 1024]⟩
abbrev S4x2816x1024 : Shape := ⟨3, ![4, 2816, 1024]⟩
abbrev S2x4096x2816 : Shape := ⟨3, ![2, 4096, 2816]⟩
abbrev S1x4096x2816 : Shape := ⟨3, ![1, 4096, 2816]⟩
abbrev S4096x2816 : Shape := ⟨2, ![4096, 2816]⟩
abbrev S_ : Shape := ⟨0, ![]⟩
abbrev S1x2816x1024 : Shape := ⟨3, ![1, 2816, 1024]⟩
abbrev S2816x1024 : Shape := ⟨2, ![2816, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x2816x1024, .f32⟩
  | .hbm, ⟨2, _⟩ => ⟨S2x4096x2816, .f32⟩
  | .hbm, ⟨3, _⟩ => ⟨S1x4096x2816, .f32⟩
  | .hbm, ⟨4, _⟩ => ⟨S4096x2816, .f32⟩
  | .hbm, ⟨5, _⟩ => ⟨S1x4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S1x2816x1024, .f32⟩
  | .hbm, ⟨22, _⟩ => ⟨S2816x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S1x4096x2816, .f32⟩
  | .hbm, ⟨38, _⟩ => ⟨S1x4096x2816, .f32⟩
  | .hbm, ⟨39, _⟩ => ⟨S2x4096x2816, .f32⟩
  | .hbm, ⟨40, _⟩ => ⟨S2x4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v4_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v4_1 : Ref sig .tc := ⟨.hbm, 18, rfl⟩
abbrev main_v4_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S4x2816x1024 : Shape := ⟨3, ![4, 2816, 1024]⟩
abbrev S512x1408 : Shape := ⟨2, ![512, 1408]⟩
abbrev S512x1024 : Shape := ⟨2, ![512, 1024]⟩
abbrev S1x1408x1024 : Shape := ⟨3, ![1, 1408, 1024]⟩
abbrev S1408x1024 : Shape := ⟨2, ![1408, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4x2816x1024, .f32⟩
  | .hbm, ⟨3, _⟩ => ⟨S4096x2816, .bf16⟩
  | .hbm, ⟨4, _⟩ => ⟨S4x2816x1024, .bf16⟩
  | .hbm, ⟨5, _⟩ => ⟨S4x2816x1024, .bf16⟩
  | .local _ .vmem, ⟨0, _⟩ => ⟨S512x1408, .bf16⟩
  | .local _ .vmem, ⟨1, _⟩ => ⟨S512x1408, .bf16⟩
  | .local _ .vmem, ⟨2, _⟩ => ⟨S512x1024, .f32⟩
  | .local _ .vmem, ⟨3, _⟩ => ⟨S512x1024, .f32⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2816 : Shape := ⟨2, ![4096, 2816]⟩
abbrev S4096x1024 : Shape := ⟨2, ![4096, 1024]⟩
abbrev S4x2816x1024 : Shape := ⟨3, ![4, 2816, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩
abbrev S3x2816x1024 : Shape := ⟨3, ![3, 2816, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4x2816x1024, .f32⟩
  | .hbm, ⟨3, _⟩ => ⟨S_, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S1024x2816, .f32⟩
  | .hbm, ⟨13, _⟩ => ⟨S2816x1024, .f32⟩
  | .hbm, ⟨14, _⟩ => ⟨S1x2816x1024, .f32⟩
  | .hbm, ⟨15, _⟩ => ⟨S3x2816x1024, .f32⟩
  | .hbm, ⟨16, _⟩ => ⟨S4x2816x1024, .f32⟩
  | .hbm, ⟨17, _⟩ => ⟨S4x2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel4.lean ====
abbrev S4096x1024 : Shape := ⟨2, ![4096, 1024]⟩
abbrev S2x4096x2816 : Shape := ⟨3, ![2, 4096, 2816]⟩
abbrev S4x4x1024x1408 : Shape := ⟨4, ![4, 4, 1024, 1408]⟩
abbrev S512x1024 : Shape := ⟨2, ![512, 1024]⟩
abbrev S1x512x1408 : Shape := ⟨3, ![1, 512, 1408]⟩
abbrev S1x1x1024x1408 : Shape := ⟨4, ![1, 1, 1024, 1408]⟩
abbrev S1024x1408 : Shape := ⟨2, ![1024, 1408]⟩
abbrev S512x1408 : Shape := ⟨2, ![512, 1408]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S2x4096x2816, .f32⟩
  | .hbm, ⟨2, _⟩ => ⟨S4x4x1024x1408, .f32⟩
  | .hbm, ⟨3, _⟩ => ⟨S2x4096x2816, .bf16⟩
  | .hbm, ⟨4, _⟩ => ⟨S4x4x1024x1408, .bf16⟩
  | .hbm, ⟨5, _⟩ => ⟨S4x4x1024x1408, .bf16⟩
  | .local _ .vmem, ⟨0, _⟩ => ⟨S512x1024, .f32⟩
  | .local _ .vmem, ⟨1, _⟩ => ⟨S512x1024, .f32⟩
  | .local _ .vmem, ⟨2, _⟩ => ⟨S1x512x1408, .bf16⟩
  | .local _ .vmem, ⟨3, _⟩ => ⟨S1x512x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S4096x1024 : Shape := ⟨2, ![4096, 1024]⟩
abbrev S2x4096x2816 : Shape := ⟨3, ![2, 4096, 2816]⟩
abbrev S4x4x1024x1408 : Shape := ⟨4, ![4, 4, 1024, 1408]⟩
abbrev S_ : Shape := ⟨0, ![]⟩
abbrev S1024x5632 : Shape := ⟨2, ![1024, 5632]⟩
abbrev S4096x5632 : Shape := ⟨2, ![4096, 5632]⟩
abbrev S1x4096x2816 : Shape := ⟨3, ![1, 4096, 2816]⟩
abbrev S4096x2816 : Shape := ⟨2, ![4096, 2816]⟩
abbrev S5632x1024 : Shape := ⟨2, ![5632, 1024]⟩
abbrev S1024x4x1408 : Shape := ⟨3, ![1024, 4, 1408]⟩
abbrev S4x1024x1408 : Shape := ⟨3, ![4, 1024, 1408]⟩
abbrev S1x4x1024x1408 : Shape := ⟨4, ![1, 4, 1024, 1408]⟩
abbrev S3x4x1024x1408 : Shape := ⟨4, ![3, 4, 1024, 1408]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x4096x2816, .f32⟩
  | .hbm, ⟨2, _⟩ => ⟨S4x4x1024x1408, .f32⟩
  | .hbm, ⟨3, _⟩ => ⟨S_, .f32⟩
  | .hbm, ⟨4, _⟩ => ⟨S1024x5632, .f32⟩
  | .hbm, ⟨5, _⟩ => ⟨S4096x5632, .f32⟩
  | .hbm, ⟨6, _⟩ => ⟨S1x4096x2816, .f32⟩
  | .hbm, ⟨7, _⟩ => ⟨S4096x2816, .f32⟩
  | .hbm, ⟨8, _⟩ => ⟨S1x4096x2816, .f32⟩
  | .hbm, ⟨9, _⟩ => ⟨S4096x2816, .f32⟩
  | .hbm, ⟨10, _⟩ => ⟨S4096x5632, .f32⟩
  | .hbm, ⟨11, _⟩ => ⟨S5632x1024, .f32⟩
  | .hbm, ⟨12, _⟩ => ⟨S1024x5632, .f32⟩
  | .hbm, ⟨13, _⟩ => ⟨S1024x4x1408, .f32⟩
  | .hbm, ⟨14, _⟩ => ⟨S4x1024x1408, .f32⟩
  | .hbm, ⟨15, _⟩ => ⟨S1x4x1024x1408, .f32⟩
  | .hbm, ⟨16, _⟩ => ⟨S3x4x1024x1408, .f32⟩
  | .hbm, ⟨17, _⟩ => ⟨S4x4x1024x1408, .f32⟩
  | .hbm, ⟨18, _⟩ => ⟨S4x4x1024x1408, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel5.lean ====
abbrev S2x4096x2816 : Shape := ⟨3, ![2, 4096, 2816]⟩
abbrev S4x4x1024x1408 : Shape := ⟨4, ![4, 4, 1024, 1408]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1x512x1408 : Shape := ⟨3, ![1, 512, 1408]⟩
abbrev S1x1x1024x1408 : Shape := ⟨4, ![1, 1, 1024, 1408]⟩
abbrev S512x1024 : Shape := ⟨2, ![512, 1024]⟩
abbrev S512x1 : Shape := ⟨2, ![512, 1]⟩
abbrev S512x1408 : Shape := ⟨2, ![512, 1408]⟩
abbrev S1024x1408 : Shape := ⟨2, ![1024, 1408]⟩
abbrev S512 : Shape := ⟨1, ![512]⟩
abbrev S1024 : Shape := ⟨1, ![1024]⟩

abbrev nBuf : Space → Nat
  | .hbm => 33
  | .vmem => 16
  | .smem => 0
  | _ => 0

abbrev bufTy : (tb : Table) → Fin (tcTables nBuf tb) → BufTy
  | .hbm, ⟨0, _⟩ => ⟨S2x4096x2816, .f32⟩
  | .hbm, ⟨1, _⟩ => ⟨S4x4x1024x1408, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S2x4096x2816, .bf16⟩
  | .hbm, ⟨29, _⟩ => ⟨S4x4x1024x1408, .bf16⟩
  | .hbm, ⟨30, _⟩ => ⟨S4096x1024, .f32⟩
  | .hbm, ⟨31, _⟩ => ⟨S1x1024, .f32⟩
  | .hbm, ⟨32, _⟩ => ⟨S1x1024, .f32⟩
  | .local _ .vmem, ⟨0, _⟩ => ⟨S1x512x1408, .bf16⟩
  | .local _ .vmem, ⟨1, _⟩ => ⟨S1x512x1408, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1, .f32⟩
  | .local _ .vmem, ⟨9, _⟩ => ⟨S512x1, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | _, _ => ⟨S2x4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v20_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_9 : BitVec 32 := 0#32
  let v13 : BitVec 1 := Scalar.cmpi .ne v12 c0_i32_9
  v13

def k0_cond4 (i : grid0.Coords) : BitVec 1 :=
  let arg0 : BitVec 32 := BitVec.ofNat 32 (i 0).val
  let c0_i32_29 : BitVec 32 := 0#32
  let v48 : BitVec 1 := Scalar.cmpi .eq arg0 c0_i32_29
  let v49 : BitVec 32 := Scalar.extui v48
  let c0_i32_30 : BitVec 32 := 0#32
  let v50 : BitVec 1 := Scalar.cmpi .ne v49 c0_i32_30
  v50

def k0_cond5 (i : grid0.Coords) : BitVec 1 :=
  let arg0 : BitVec 32 := BitVec.ofNat 32 (i 0).val
  let c0_i32_31 : BitVec 32 := 0#32
  let v51 : BitVec 1 := Scalar.cmpi .sgt arg0 c0_i32_31
  let v52 : BitVec 32 := Scalar.extui v51
  let c0_i32_32 : BitVec 32 := 0#32
  let v53 : BitVec 1 := Scalar.cmpi .ne v52 c0_i32_32
  v53

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference5Ideal.lean ====
abbrev S2x4096x2816 : Shape := ⟨3, ![2, 4096, 2816]⟩
abbrev S4x4x1024x1408 : Shape := ⟨4, ![4, 4, 1024, 1408]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1x4x1024x1408 : Shape := ⟨4, ![1, 4, 1024, 1408]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S4096x5632 : Shape := ⟨2, ![4096, 5632]⟩
abbrev S1x4096x2816 : Shape := ⟨3, ![1, 4096, 2816]⟩
abbrev S4096x2816 : Shape := ⟨2, ![4096, 2816]⟩
abbrev S1024 : Shape := ⟨1, ![1024]⟩

abbrev nBuf : Space → Nat
  | .hbm => 99
  | .vmem => 0
  | .smem => 0
  | _ => 0

abbrev bufTy : (tb : Table) → Fin (tcTables nBuf tb) → BufTy
  | .hbm, ⟨0, _⟩ => ⟨S2x4096x2816, .f32⟩
  | .hbm, ⟨1, _⟩ => ⟨S4x4x1024x1408, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S1x4x1024x1408, .f32⟩
  | .hbm, ⟨45, _⟩ => ⟨S4x1024x1408, .f32⟩
  | .hbm, ⟨46, _⟩ => ⟨S1024x4x1408, .f32⟩
  | .hbm, ⟨47, _⟩ => ⟨S1024x5632, .f32⟩
  | .hbm, ⟨48, _⟩ => ⟨S4096x5632, .f32⟩
  | .hbm, ⟨49, _⟩ => ⟨S1x4096x2816, .f32⟩
  | .hbm, ⟨50, _⟩ => ⟨S4096x2816, .f32⟩
  | .hbm, ⟨51, _⟩ => ⟨S1x4096x2816, .f32⟩
  | .hbm, ⟨52, _⟩ => ⟨S4096x2816, .f32⟩
  | .hbm, ⟨53, _⟩ => ⟨S4096x5632, .f32⟩
  | .hbm, ⟨54, _⟩ => ⟨S4096x1024, .f32⟩
  | .hbm, ⟨55, _⟩ => ⟨S_, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S4096, .f32⟩
  | .hbm, ⟨71, _⟩ => ⟨S4096x1, .f32⟩
  | .hbm, ⟨72, _⟩ => ⟨S4096x1024, .f32⟩
  | .hbm, ⟨73, _⟩ => ⟨S4096x1024, .f32⟩
  | .hbm, ⟨74, _⟩ => ⟨S4096x1, .f32⟩
  | .hbm, ⟨75, _⟩ => ⟨S4096x1024, .f32⟩
  | .hbm, ⟨76, _⟩ => ⟨S_, .f32⟩
  | .hbm, ⟨77, _⟩ => ⟨S4096, .f32⟩
  | .hbm, ⟨78, _⟩ => ⟨S4096x1, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S_, .f32⟩
  | .hbm, ⟨83, _⟩ => ⟨S4096, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S4096, .f32⟩
  | .hbm, ⟨89, _⟩ => ⟨S4096x1, .f32⟩
  | .hbm, ⟨90, _⟩ => ⟨S4096x1024, .f32⟩
  | .hbm, ⟨91, _⟩ => ⟨S4096x1, .f32⟩
  | .hbm, ⟨92, _⟩ => ⟨S_, .f32⟩
  | .hbm, ⟨93, _⟩ => ⟨S4096x1, .f32⟩
  | .hbm, ⟨94, _⟩ => ⟨S4096x1, .f32⟩
  | .hbm, ⟨95, _⟩ => ⟨S_, .f32⟩
  | .hbm, ⟨96, _⟩ => ⟨S4096, .f32⟩
  | .hbm, ⟨97, _⟩ => ⟨S4096x1024, .f32⟩
  | .hbm, ⟨98, _⟩ => ⟨S4096x1024, .f32⟩
  | _, _ => ⟨S2x4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_10 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_11 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_12 : Ref sig .tc := ⟨.hbm, 76, rfl⟩
abbrev main_v58 : Ref sig .tc := ⟨.hbm, 77, rfl⟩
abbrev main_v59 : Ref sig .tc := ⟨.hbm, 78, rfl⟩
abbrev main_cst_13 : Ref sig .tc := ⟨.hbm, 79, rfl⟩
abbrev main_v60 : Ref sig .tc := ⟨.hbm, 80, rfl⟩
abbrev main_v61 : Ref sig .tc := ⟨.hbm, 81, rfl⟩
abbrev main_cst_14 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_15 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_16 : Ref sig .tc := ⟨.hbm, 92, rfl⟩
abbrev main_v70 : Ref sig .tc := ⟨.hbm, 93, rfl⟩
abbrev main_v71 : Ref sig .tc := ⟨.hbm, 94, rfl⟩
abbrev main_cst_17 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩

abbrev nD : Nat := 1
abbrev τ : Topo := Topo.v7x

variable {F : FTy → Type} [FloatOps F]
-- ==== Kernel6.lean ====
abbrev S4096x1024 : Shape := ⟨2, ![4096, 1024]⟩
abbrev S4x4x1024x1408 : Shape := ⟨4, ![4, 4, 1024, 1408]⟩
abbrev S2x4096x2816 : Shape := ⟨3, ![2, 4096, 2816]⟩
abbrev S4096x2816 : Shape := ⟨2, ![4096, 2816]⟩
abbrev S512x1024 : Shape := ⟨2, ![512, 1024]⟩
abbrev S1x1x1024x1408 : Shape := ⟨4, ![1, 1, 1024, 1408]⟩
abbrev S2x512x1408 : Shape := ⟨3, ![2, 512, 1408]⟩
abbrev S512x1408 : Shape := ⟨2, ![512, 1408]⟩
abbrev S1024x1408 : Shape := ⟨2, ![1024, 1408]⟩
abbrev S1x512x1408 : Shape := ⟨3, ![1, 512, 1408]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4x4x1024x1408, .f32⟩
  | .hbm, ⟨2, _⟩ => ⟨S4x4x1024x1408, .bf16⟩
  | .hbm, ⟨3, _⟩ => ⟨S2x4096x2816, .bf16⟩
  | .hbm, ⟨4, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S2x512x1408, .bf16⟩
  | .local _ .vmem, ⟨7, _⟩ => ⟨S2x512x1408, .bf16⟩
  | .local _ .vmem, ⟨8, _⟩ => ⟨S512x1408, .bf16⟩
  | .local _ .vmem, ⟨9, _⟩ => ⟨S512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S4096x1024 : Shape := ⟨2, ![4096, 1024]⟩
abbrev S4x4x1024x1408 : Shape := ⟨4, ![4, 4, 1024, 1408]⟩
abbrev S1x4x1024x1408 : Shape := ⟨4, ![1, 4, 1024, 1408]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x4x1024x1408, .f32⟩
  | .hbm, ⟨2, _⟩ => ⟨S1x4x1024x1408, .f32⟩
  | .hbm, ⟨3, _⟩ => ⟨S4x1024x1408, .f32⟩
  | .hbm, ⟨4, _⟩ => ⟨S1024x4x1408, .f32⟩
  | .hbm, ⟨5, _⟩ => ⟨S1024x5632, .f32⟩
  | .hbm, ⟨6, _⟩ => ⟨S4096x5632, .f32⟩
  | .hbm, ⟨7, _⟩ => ⟨S4096x2816, .f32⟩
  | .hbm, ⟨8, _⟩ => ⟨S4096x2816, .f32⟩
  | .hbm, ⟨9, _⟩ => ⟨S1x4096x2816, .f32⟩
  | .hbm, ⟨10, _⟩ => ⟨S1x4096x2816, .f32⟩
  | .hbm, ⟨11, _⟩ => ⟨S2x4096x2816, .f32⟩
  | .hbm, ⟨12, _⟩ => ⟨S2x4096x2816, .bf16⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Kernel7.lean ====
abbrev S4096x2816 : Shape := ⟨2, ![4096, 2816]⟩
abbrev S4x2816x1024 : Shape := ⟨3, ![4, 2816, 1024]⟩
abbrev S4096x1024 : Shape := ⟨2, ![4096, 1024]⟩
abbrev S1x1024 : Shape := ⟨2, ![1, 1024]⟩
abbrev S4096x1 : Shape := ⟨2, ![4096, 1]⟩
abbrev S512x2816 : Shape := ⟨2, ![512, 2816]⟩
abbrev S1x2816x1024 : Shape := ⟨3, ![1, 2816, 1024]⟩
abbrev S512x1024 : Shape := ⟨2, ![512, 1024]⟩
abbrev S512x1 : Shape := ⟨2, ![512, 1]⟩
abbrev S2816x1024 : Shape := ⟨2, ![2816, 1024]⟩
abbrev S512 : Shape := ⟨1, ![512]⟩

abbrev nBuf : Space → Nat
  | .hbm => 10
  | .vmem => 13
  | .smem => 0
  | _ => 0

abbrev bufTy : (tb : Table) → Fin (tcTables nBuf tb) → BufTy
  | .hbm, ⟨0, _⟩ => ⟨S4096x2816, .f32⟩
  | .hbm, ⟨1, _⟩ => ⟨S4x2816x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x2816, .bf16⟩
  | .hbm, ⟨6, _⟩ => ⟨S4x2816x1024, .bf16⟩
  | .hbm, ⟨7, _⟩ => ⟨S4096x1024, .f32⟩
  | .hbm, ⟨8, _⟩ => ⟨S4096x1024, .f32⟩
  | .hbm, ⟨9, _⟩ => ⟨S4096x1, .f32⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1, .f32⟩
  | .local _ .vmem, ⟨12, _⟩ => ⟨S512x1, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S4096x2816 : Shape := ⟨2, ![4096, 2816]⟩
abbrev S4x2816x1024 : Shape := ⟨3, ![4, 2816, 1024]⟩
abbrev S4096x1024 : Shape := ⟨2, ![4096, 1024]⟩
abbrev S1x1024 : Shape := ⟨2, ![1, 1024]⟩
abbrev S_ : Shape := ⟨0, ![]⟩
abbrev S1x2816x1024 : Shape := ⟨3, ![1, 2816, 1024]⟩
abbrev S2816x1024 : Shape := ⟨2, ![2816, 1024]⟩
abbrev S4096 : Shape := ⟨1, ![4096]⟩
abbrev S4096x1 : Shape := ⟨2, ![4096, 1]⟩

abbrev nBuf : Space → Nat
  | .hbm => 65
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4x2816x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S1x2816x1024, .f32⟩
  | .hbm, ⟨9, _⟩ => ⟨S2816x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]
-- ==== Kernel8.lean ====
abbrev S2x4096x2816 : Shape := ⟨3, ![2, 4096, 2816]⟩
abbrev S4x4x1024x1408 : Shape := ⟨4, ![4, 4, 1024, 1408]⟩
abbrev S4096x1024 : Shape := ⟨2, ![4096, 1024]⟩
abbrev S_ : Shape := ⟨0, ![]⟩
abbrev S1x1024 : Shape := ⟨2, ![1, 1024]⟩
abbrev S1x512x1408 : Shape := ⟨3, ![1, 512, 1408]⟩
abbrev S1x1x1024x1408 : Shape := ⟨4, ![1, 1, 1024, 1408]⟩
abbrev S512x1024 : Shape := ⟨2, ![512, 1024]⟩
abbrev S512x1408 : Shape := ⟨2, ![512, 1408]⟩
abbrev S1024x1408 : Shape := ⟨2, ![1024, 1408]⟩

abbrev nBuf : Space → Nat
  | .hbm => 8
  | .vmem => 10
  | .smem => 0
  | _ => 0

abbrev bufTy : (tb : Table) → Fin (tcTables nBuf tb) → BufTy
  | .hbm, ⟨0, _⟩ => ⟨S2x4096x2816, .f32⟩
  | .hbm, ⟨1, _⟩ => ⟨S4x4x1024x1408, .f32⟩
  | .hbm, ⟨2, _⟩ => ⟨S4096x1024, .f32⟩
  | .hbm, ⟨3, _⟩ => ⟨S2x4096x2816, .bf16⟩
  | .hbm, ⟨4, _⟩ => ⟨S4x4x1024x1408, .bf16⟩
  | .hbm, ⟨5, _⟩ => ⟨S_, .f32⟩
  | .hbm, ⟨6, _⟩ => ⟨S1x1024, .f32⟩
  | .hbm, ⟨7, _⟩ => ⟨S4096x1024, .f32⟩
  | .local _ .vmem, ⟨0, _⟩ => ⟨S1x512x1408, .bf16⟩
  | .local _ .vmem, ⟨1, _⟩ => ⟨S1x512x1408, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S2x4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_9 : BitVec 32 := 0#32
  let v13 : BitVec 1 := Scalar.cmpi .ne v12 c0_i32_9
  v13

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference8Ideal.lean ====
abbrev S2x4096x2816 : Shape := ⟨3, ![2, 4096, 2816]⟩
abbrev S4x4x1024x1408 : Shape := ⟨4, ![4, 4, 1024, 1408]⟩
abbrev S4096x1024 : Shape := ⟨2, ![4096, 1024]⟩
abbrev S_ : Shape := ⟨0, ![]⟩
abbrev S1x4x1024x1408 : Shape := ⟨4, ![1, 4, 1024, 1408]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S4096x5632 : Shape := ⟨2, ![4096, 5632]⟩
abbrev S1x4096x2816 : Shape := ⟨3, ![1, 4096, 2816]⟩
abbrev S4096x2816 : Shape := ⟨2, ![4096, 2816]⟩

abbrev nBuf : Space → Nat
  | .hbm => 23
  | .vmem => 0
  | .smem => 0
  | _ => 0

abbrev bufTy : (tb : Table) → Fin (tcTables nBuf tb) → BufTy
  | .hbm, ⟨0, _⟩ => ⟨S2x4096x2816, .f32⟩
  | .hbm, ⟨1, _⟩ => ⟨S4x4x1024x1408, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S1x4x1024x1408, .f32⟩
  | .hbm, ⟨9, _⟩ => ⟨S4x1024x1408, .f32⟩
  | .hbm, ⟨10, _⟩ => ⟨S1024x4x1408, .f32⟩
  | .hbm, ⟨11, _⟩ => ⟨S1024x5632, .f32⟩
  | .hbm, ⟨12, _⟩ => ⟨S4096x5632, .f32⟩
  | .hbm, ⟨13, _⟩ => ⟨S1x4096x2816, .f32⟩
  | .hbm, ⟨14, _⟩ => ⟨S4096x2816, .f32⟩
  | .hbm, ⟨15, _⟩ => ⟨S1x4096x2816, .f32⟩
  | .hbm, ⟨16, _⟩ => ⟨S4096x2816, .f32⟩
  | .hbm, ⟨17, _⟩ => ⟨S4096x5632, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | _, _ => ⟨S2x4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel9.lean ====
abbrev S4096x1024 : Shape := ⟨2, ![4096, 1024]⟩
abbrev S4096x3088 : Shape := ⟨2, ![4096, 3088]⟩
abbrev S_ : Shape := ⟨0, ![]⟩
abbrev S4096x112 : Shape := ⟨2, ![4096, 112]⟩
abbrev S4096x3200 : Shape := ⟨2, ![4096, 3200]⟩
abbrev S1024x3200 : Shape := ⟨2, ![1024, 3200]⟩
abbrev S512x1024 : Shape := ⟨2, ![512, 1024]⟩
abbrev S512x640 : Shape := ⟨2, ![512, 640]⟩
abbrev S1024x640 : Shape := ⟨2, ![1024, 640]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x3088, .f32⟩
  | .hbm, ⟨2, _⟩ => ⟨S4096x3088, .bf16⟩
  | .hbm, ⟨3, _⟩ => ⟨S_, .bf16⟩
  | .hbm, ⟨4, _⟩ => ⟨S4096x112, .bf16⟩
  | .hbm, ⟨5, _⟩ => ⟨S4096x3200, .bf16⟩
  | .hbm, ⟨6, _⟩ => ⟨S1024x3200, .f32⟩
  | .local _ .vmem, ⟨0, _⟩ => ⟨S512x1024, .f32⟩
  | .local _ .vmem, ⟨1, _⟩ => ⟨S512x1024, .f32⟩
  | .local _ .vmem, ⟨2, _⟩ => ⟨S512x640, .bf16⟩
  | .local _ .vmem, ⟨3, _⟩ => ⟨S512x640, .bf16⟩
  | .local _ .vmem, ⟨4, _⟩ => ⟨S1024x640, .f32⟩
  | .local _ .vmem, ⟨5, _⟩ => ⟨S1024x640, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 8], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S4096x3088 : Shape := ⟨2, ![4096, 3088]⟩
abbrev S_ : Shape := ⟨0, ![]⟩
abbrev S1024x3088 : Shape := ⟨2, ![1024, 3088]⟩
abbrev S3088x1024 : Shape := ⟨2, ![3088, 1024]⟩
abbrev S1024x112 : Shape := ⟨2, ![1024, 112]⟩
abbrev S1024x3200 : Shape := ⟨2, ![1024, 3200]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3088, .f32⟩
  | .hbm, ⟨2, _⟩ => ⟨S_, .f32⟩
  | .hbm, ⟨3, _⟩ => ⟨S1024x3088, .f32⟩
  | .hbm, ⟨4, _⟩ => ⟨S4096x3088, .f32⟩
  | .hbm, ⟨5, _⟩ => ⟨S3088x1024, .f32⟩
  | .hbm, ⟨6, _⟩ => ⟨S1024x3088, .f32⟩
  | .hbm, ⟨7, _⟩ => ⟨S_, .f32⟩
  | .hbm, ⟨8, _⟩ => ⟨S1024x112, .f32⟩
  | .hbm, ⟨9, _⟩ => ⟨S1024x3200, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel10.lean ====
abbrev S4096x1024 : Shape := ⟨2, ![4096, 1024]⟩
abbrev S1024x3088 : Shape := ⟨2, ![1024, 3088]⟩
abbrev S_ : Shape := ⟨0, ![]⟩
abbrev S1024x112 : Shape := ⟨2, ![1024, 112]⟩
abbrev S1024x3200 : Shape := ⟨2, ![1024, 3200]⟩
abbrev S1024x3072 : Shape := ⟨2, ![1024, 3072]⟩
abbrev S4096x3072 : Shape := ⟨2, ![4096, 3072]⟩
abbrev S512x1024 : Shape := ⟨2, ![512, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x3088, .f32⟩
  | .hbm, ⟨2, _⟩ => ⟨S1024x3088, .bf16⟩
  | .hbm, ⟨3, _⟩ => ⟨S_, .bf16⟩
  | .hbm, ⟨4, _⟩ => ⟨S1024x112, .bf16⟩
  | .hbm, ⟨5, _⟩ => ⟨S1024x3200, .bf16⟩
  | .hbm, ⟨6, _⟩ => ⟨S1024x3072, .bf16⟩
  | .hbm, ⟨7, _⟩ => ⟨S4096x3072, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4096x1024 : Shape := ⟨2, ![4096, 1024]⟩
abbrev S1024x3088 : Shape := ⟨2, ![1024, 3088]⟩
abbrev S4096x3088 : Shape := ⟨2, ![4096, 3088]⟩
abbrev S4096x3072 : Shape := ⟨2, ![4096, 3072]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3088, .f32⟩
  | .hbm, ⟨2, _⟩ => ⟨S4096x3088, .f32⟩
  | .hbm, ⟨3, _⟩ => ⟨S4096x3072, .f32⟩
  | .hbm, ⟨4, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S4096x1024 : Shape := ⟨2, ![4096, 1024]⟩
abbrev S2x4x1024x512 : Shape := ⟨4, ![2, 4, 1024, 512]⟩
abbrev S4096x2048 : Shape := ⟨2, ![4096, 2048]⟩
abbrev S512x1024 : Shape := ⟨2, ![512, 1024]⟩
abbrev S1x1x1024x512 : Shape := ⟨4, ![1, 1, 1024, 512]⟩
abbrev S512x512 : Shape := ⟨2, ![512, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2x4x1024x512, .f32⟩
  | .hbm, ⟨2, _⟩ => ⟨S4096x1024, .bf16⟩
  | .hbm, ⟨3, _⟩ => ⟨S2x4x1024x512, .bf16⟩
  | .hbm, ⟨4, _⟩ => ⟨S4096x2048, .f32⟩
  | .local _ .vmem, ⟨0, _⟩ => ⟨S512x1024, .bf16⟩
  | .local _ .vmem, ⟨1, _⟩ => ⟨S512x1024, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S512x512, .f32⟩
  | .local _ .vmem, ⟨5, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S4096x1024 : Shape := ⟨2, ![4096, 1024]⟩
abbrev S2x4x1024x512 : Shape := ⟨4, ![2, 4, 1024, 512]⟩
abbrev S1x4x1024x512 : Shape := ⟨4, ![1, 4, 1024, 512]⟩
abbrev S4x1024x512 : Shape := ⟨3, ![4, 1024, 512]⟩
abbrev S1024x4x512 : Shape := ⟨3, ![1024, 4, 512]⟩
abbrev S1024x2048 : Shape := ⟨2, ![1024, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x4x1024x512, .f32⟩
  | .hbm, ⟨2, _⟩ => ⟨S1x4x1024x512, .f32⟩
  | .hbm, ⟨3, _⟩ => ⟨S4x1024x512, .f32⟩
  | .hbm, ⟨4, _⟩ => ⟨S1024x4x512, .f32⟩
  | .hbm, ⟨5, _⟩ => ⟨S1024x2048, .f32⟩
  | .hbm, ⟨6, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel12.lean ====
abbrev S4096x2048 : Shape := ⟨2, ![4096, 2048]⟩
abbrev S2x4x1024x512 : Shape := ⟨4, ![2, 4, 1024, 512]⟩
abbrev S4096x1024 : Shape := ⟨2, ![4096, 1024]⟩
abbrev S512x512 : Shape := ⟨2, ![512, 512]⟩
abbrev S1x1x1024x512 : Shape := ⟨4, ![1, 1, 1024, 512]⟩
abbrev S512x1024 : Shape := ⟨2, ![512, 1024]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2x4x1024x512, .f32⟩
  | .hbm, ⟨2, _⟩ => ⟨S4096x2048, .bf16⟩
  | .hbm, ⟨3, _⟩ => ⟨S2x4x1024x512, .bf16⟩
  | .hbm, ⟨4, _⟩ => ⟨S4096x1024, .f32⟩
  | .local _ .vmem, ⟨0, _⟩ => ⟨S512x512, .bf16⟩
  | .local _ .vmem, ⟨1, _⟩ => ⟨S512x512, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S512x1024, .f32⟩
  | .local _ .vmem, ⟨5, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg1 : BitVec 32 := BitVec.ofNat 32 (i 1).val
  let c0_i32_6 : BitVec 32 := 0#32
  let v8 : BitVec 1 := Scalar.cmpi .sgt arg1 c0_i32_6
  let v9 : BitVec 32 := Scalar.extui v8
  let c0_i32_7 : BitVec 32 := 0#32
  let v10 : BitVec 1 := Scalar.cmpi .ne v9 c0_i32_7
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference12Ideal.lean ====
abbrev S4096x2048 : Shape := ⟨2, ![4096, 2048]⟩
abbrev S2x4x1024x512 : Shape := ⟨4, ![2, 4, 1024, 512]⟩
abbrev S_ : Shape := ⟨0, ![]⟩
abbrev S4096x1024 : Shape := ⟨2, ![4096, 1024]⟩
abbrev S1x4x1024x512 : Shape := ⟨4, ![1, 4, 1024, 512]⟩
abbrev S4x1024x512 : Shape := ⟨3, ![4, 1024, 512]⟩
abbrev S1024x4x512 : Shape := ⟨3, ![1024, 4, 512]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2x4x1024x512, .f32⟩
  | .hbm, ⟨2, _⟩ => ⟨S_, .f32⟩
  | .hbm, ⟨3, _⟩ => ⟨S4096x1024, .f32⟩
  | .hbm, ⟨4, _⟩ => ⟨S1x4x1024x512, .f32⟩
  | .hbm, ⟨5, _⟩ => ⟨S4x1024x512, .f32⟩
  | .hbm, ⟨6, _⟩ => ⟨S1024x4x512, .f32⟩
  | .hbm, ⟨7, _⟩ => ⟨S1024x2048, .f32⟩
  | .hbm, ⟨8, _⟩ => ⟨S4096x2048, .f32⟩
  | .hbm, ⟨9, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S4096x1024 : Shape := ⟨2, ![4096, 1024]⟩
abbrev S4096x2048 : Shape := ⟨2, ![4096, 2048]⟩
abbrev S2x4x1024x512 : Shape := ⟨4, ![2, 4, 1024, 512]⟩
abbrev S512x1024 : Shape := ⟨2, ![512, 1024]⟩
abbrev S512x512 : Shape := ⟨2, ![512, 512]⟩
abbrev S1x1x1024x512 : Shape := ⟨4, ![1, 1, 1024, 512]⟩
abbrev S1024x512 : Shape := ⟨2, ![1024, 512]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S2x4x1024x512, .f32⟩
  | .hbm, ⟨3, _⟩ => ⟨S4096x1024, .bf16⟩
  | .hbm, ⟨4, _⟩ => ⟨S4096x2048, .bf16⟩
  | .hbm, ⟨5, _⟩ => ⟨S2x4x1024x512, .bf16⟩
  | .hbm, ⟨6, _⟩ => ⟨S2x4x1024x512, .bf16⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1x1x1024x512, .bf16⟩
  | .local _ .vmem, ⟨5, _⟩ => ⟨S1x1x1024x512, .bf16⟩
  | .local _ .vmem, ⟨6, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference13Ideal.lean ====
abbrev S4096x1024 : Shape := ⟨2, ![4096, 1024]⟩
abbrev S4096x2048 : Shape := ⟨2, ![4096, 2048]⟩
abbrev S2x4x1024x512 : Shape := ⟨4, ![2, 4, 1024, 512]⟩
abbrev S_ : Shape := ⟨0, ![]⟩
abbrev S4x1024x512 : Shape := ⟨3, ![4, 1024, 512]⟩
abbrev S1024x4x512 : Shape := ⟨3, ![1024, 4, 512]⟩
abbrev S1024x2048 : Shape := ⟨2, ![1024, 2048]⟩
abbrev S2048x1024 : Shape := ⟨2, ![2048, 1024]⟩
abbrev S1x4x1024x512 : Shape := ⟨4, ![1, 4, 1024, 512]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S2x4x1024x512, .f32⟩
  | .hbm, ⟨3, _⟩ => ⟨S_, .f32⟩
  | .hbm, ⟨4, _⟩ => ⟨S4x1024x512, .f32⟩
  | .hbm, ⟨5, _⟩ => ⟨S1024x4x512, .f32⟩
  | .hbm, ⟨6, _⟩ => ⟨S1024x2048, .f32⟩
  | .hbm, ⟨7, _⟩ => ⟨S4096x2048, .f32⟩
  | .hbm, ⟨8, _⟩ => ⟨S2048x1024, .f32⟩
  | .hbm, ⟨9, _⟩ => ⟨S1024x2048, .f32⟩
  | .hbm, ⟨10, _⟩ => ⟨S1024x4x512, .f32⟩
  | .hbm, ⟨11, _⟩ => ⟨S4x1024x512, .f32⟩
  | .hbm, ⟨12, _⟩ => ⟨S1x4x1024x512, .f32⟩
  | .hbm, ⟨13, _⟩ => ⟨S1x4x1024x512, .f32⟩
  | .hbm, ⟨14, _⟩ => ⟨S2x4x1024x512, .f32⟩
  | .hbm, ⟨15, _⟩ => ⟨S2x4x1024x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel14.lean ====
abbrev S4096x1024 : Shape := ⟨2, ![4096, 1024]⟩
abbrev S2x1024x1024 : Shape := ⟨3, ![2, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S2x1024x1024, .f32⟩
  | .hbm, ⟨2, _⟩ => ⟨S2x1024x1024, .bf16⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference14Ideal.lean ====
abbrev S4096x1024 : Shape := ⟨2, ![4096, 1024]⟩
abbrev S2x1024x1024 : Shape := ⟨3, ![2, 1024, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1024x1024, .f32⟩
  | .hbm, ⟨2, _⟩ => ⟨S_, .f32⟩
  | .hbm, ⟨3, _⟩ => ⟨S4096x1024, .f32⟩
  | .hbm, ⟨4, _⟩ => ⟨S1x1024x1024, .f32⟩
  | .hbm, ⟨5, _⟩ => ⟨S1024x1024, .f32⟩
  | .hbm, ⟨6, _⟩ => ⟨S4096x1024, .f32⟩
  | .hbm, ⟨7, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S4x1024x1408 : Shape := ⟨3, ![4, 1024, 1408]⟩
abbrev S4x512x1408 : Shape := ⟨3, ![4, 512, 1408]⟩
abbrev S1x128x1408 : Shape := ⟨3, ![1, 128, 1408]⟩
abbrev S128x1408 : Shape := ⟨2, ![128, 1408]⟩

abbrev nBuf : Space → Nat
  | .hbm => 9
  | .vmem => 18
  | .smem => 0
  | _ => 0

abbrev bufTy : (tb : Table) → Fin (tcTables nBuf tb) → BufTy
  | .hbm, ⟨0, _⟩ => ⟨S4x1024x1408, .f32⟩
  | .hbm, ⟨1, _⟩ => ⟨S4x512x1408, .f32⟩
  | .hbm, ⟨2, _⟩ => ⟨S4x512x1408, .f32⟩
  | .hbm, ⟨3, _⟩ => ⟨S4x1024x1408, .f32⟩
  | .hbm, ⟨4, _⟩ => ⟨S4x1024x1408, .f32⟩
  | .hbm, ⟨5, _⟩ => ⟨S4x1024x1408, .f32⟩
  | .hbm, ⟨6, _⟩ => ⟨S4x1024x1408, .f32⟩
  | .hbm, ⟨7, _⟩ => ⟨S4x1024x1408, .f32⟩
  | .hbm, ⟨8, _⟩ => ⟨S4x1024x1408, .f32⟩
  | .local _ .vmem, ⟨0, _⟩ => ⟨S1x128x1408, .f32⟩
  | .local _ .vmem, ⟨1, _⟩ => ⟨S1x128x1408, .f32⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | .local _ .vmem, ⟨16, _⟩ => ⟨S1x128x1408, .f32⟩
  | .local _ .vmem, ⟨17, _⟩ => ⟨S1x128x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 32 := Scalar.select v0 arg2 c0_i32_0
  let c0_i32_1 : BitVec 32 := 0#32
  let c0_i32_2 : BitVec 32 := 0#32
  ![arg0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 32 := Scalar.select v0 c0_i32_0 arg2
  let c0_i32_1 : BitVec 32 := 0#32
  let c0_i32_2 : BitVec 32 := 0#32
  ![arg0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference15Ideal.lean ====
abbrev S4x1024x1408 : Shape := ⟨3, ![4, 1024, 1408]⟩
abbrev S4x512x1408 : Shape := ⟨3, ![4, 512, 1408]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x512x1408, .f32⟩
  | .hbm, ⟨2, _⟩ => ⟨S4x512x1408, .f32⟩
  | .hbm, ⟨3, _⟩ => ⟨S4x1024x1408, .f32⟩
  | .hbm, ⟨4, _⟩ => ⟨S4x1024x1408, .f32⟩
  | .hbm, ⟨5, _⟩ => ⟨S4x1024x1408, .f32⟩
  | .hbm, ⟨6, _⟩ => ⟨S_, .f32⟩
  | .hbm, ⟨7, _⟩ => ⟨S4x1024x1408, .f32⟩
  | .hbm, ⟨8, _⟩ => ⟨S4x1024x1408, .f32⟩
  | .hbm, ⟨9, _⟩ => ⟨S_, .f32⟩
  | .hbm, ⟨10, _⟩ => ⟨S4x1024x1408, .f32⟩
  | .hbm, ⟨11, _⟩ => ⟨S4x1024x1408, .f32⟩
  | .hbm, ⟨12, _⟩ => ⟨S4x1024x1408, .f32⟩
  | .hbm, ⟨13, _⟩ => ⟨S_, .f32⟩
  | .hbm, ⟨14, _⟩ => ⟨S4x1024x1408, .f32⟩
  | .hbm, ⟨15, _⟩ => ⟨S4x1024x1408, .f32⟩
  | .hbm, ⟨16, _⟩ => ⟨S4x1024x1408, .f32⟩
  | .hbm, ⟨17, _⟩ => ⟨S_, .f32⟩
  | .hbm, ⟨18, _⟩ => ⟨S4x1024x1408, .f32⟩
  | .hbm, ⟨19, _⟩ => ⟨S4x1024x1408, .f32⟩
  | .hbm, ⟨20, _⟩ => ⟨S4x1024x1408, .f32⟩
  | .hbm, ⟨21, _⟩ => ⟨S_, .f32⟩
  | .hbm, ⟨22, _⟩ => ⟨S4x1024x1408, .f32⟩
  | .hbm, ⟨23, _⟩ => ⟨S4x1024x1408, .f32⟩
  | .hbm, ⟨24, _⟩ => ⟨S_, .f32⟩
  | .hbm, ⟨25, _⟩ => ⟨S4x1024x1408, .f32⟩
  | .hbm, ⟨26, _⟩ => ⟨S4x1024x1408, .f32⟩
  | .hbm, ⟨27, _⟩ => ⟨S4x1024x1408, .f32⟩
  | .hbm, ⟨28, _⟩ => ⟨S_, .f32⟩
  | .hbm, ⟨29, _⟩ => ⟨S4x1024x1408, .f32⟩
  | .hbm, ⟨30, _⟩ => ⟨S4x1024x1408, .f32⟩
  | .hbm, ⟨31, _⟩ => ⟨S4x1024x1408, .f32⟩
  | .hbm, ⟨32, _⟩ => ⟨S_, .f32⟩
  | .hbm, ⟨33, _⟩ => ⟨S4x1024x1408, .f32⟩
  | .hbm, ⟨34, _⟩ => ⟨S4x1024x1408, .f32⟩
  | .hbm, ⟨35, _⟩ => ⟨S4x1024x1408, .f32⟩
  | .hbm, ⟨36, _⟩ => ⟨S_, .f32⟩
  | .hbm, ⟨37, _⟩ => ⟨S4x1024x1408, .f32⟩
  | .hbm, ⟨38, _⟩ => ⟨S4x1024x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel16.lean ====
abbrev S4x704x1024 : Shape := ⟨3, ![4, 704, 1024]⟩
abbrev S4x352x1024 : Shape := ⟨3, ![4, 352, 1024]⟩
abbrev S1x176x1024 : Shape := ⟨3, ![1, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4x704x1024, .f32⟩
  | .hbm, ⟨1, _⟩ => ⟨S4x352x1024, .f32⟩
  | .hbm, ⟨2, _⟩ => ⟨S4x352x1024, .f32⟩
  | .hbm, ⟨3, _⟩ => ⟨S4x704x1024, .f32⟩
  | .hbm, ⟨4, _⟩ => ⟨S4x704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S4x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 32 := Scalar.select v0 arg2 c0_i32_0
  let c0_i32_1 : BitVec 32 := 0#32
  let c0_i32_2 : BitVec 32 := 0#32
  ![arg0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 32 := Scalar.select v0 c0_i32_0 arg2
  let c0_i32_1 : BitVec 32 := 0#32
  let c0_i32_2 : BitVec 32 := 0#32
  ![arg0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference16Ideal.lean ====
abbrev S4x704x1024 : Shape := ⟨3, ![4, 704, 1024]⟩
abbrev S4x352x1024 : Shape := ⟨3, ![4, 352, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x352x1024, .f32⟩
  | .hbm, ⟨2, _⟩ => ⟨S4x352x1024, .f32⟩
  | .hbm, ⟨3, _⟩ => ⟨S4x704x1024, .f32⟩
  | .hbm, ⟨4, _⟩ => ⟨S4x704x1024, .f32⟩
  | .hbm, ⟨5, _⟩ => ⟨S4x704x1024, .f32⟩
  | .hbm, ⟨6, _⟩ => ⟨S_, .f32⟩
  | .hbm, ⟨7, _⟩ => ⟨S4x704x1024, .f32⟩
  | .hbm, ⟨8, _⟩ => ⟨S4x704x1024, .f32⟩
  | .hbm, ⟨9, _⟩ => ⟨S_, .f32⟩
  | .hbm, ⟨10, _⟩ => ⟨S4x704x1024, .f32⟩
  | .hbm, ⟨11, _⟩ => ⟨S4x704x1024, .f32⟩
  | .hbm, ⟨12, _⟩ => ⟨S4x704x1024, .f32⟩
  | .hbm, ⟨13, _⟩ => ⟨S_, .f32⟩
  | .hbm, ⟨14, _⟩ => ⟨S4x704x1024, .f32⟩
  | .hbm, ⟨15, _⟩ => ⟨S4x704x1024, .f32⟩
  | .hbm, ⟨16, _⟩ => ⟨S4x704x1024, .f32⟩
  | .hbm, ⟨17, _⟩ => ⟨S_, .f32⟩
  | .hbm, ⟨18, _⟩ => ⟨S4x704x1024, .f32⟩
  | .hbm, ⟨19, _⟩ => ⟨S4x704x1024, .f32⟩
  | .hbm, ⟨20, _⟩ => ⟨S4x704x1024, .f32⟩
  | .hbm, ⟨21, _⟩ => ⟨S_, .f32⟩
  | .hbm, ⟨22, _⟩ => ⟨S4x704x1024, .f32⟩
  | .hbm, ⟨23, _⟩ => ⟨S4x704x1024, .f32⟩
  | .hbm, ⟨24, _⟩ => ⟨S_, .f32⟩
  | .hbm, ⟨25, _⟩ => ⟨S4x704x1024, .f32⟩
  | .hbm, ⟨26, _⟩ => ⟨S4x704x1024, .f32⟩
  | .hbm, ⟨27, _⟩ => ⟨S4x704x1024, .f32⟩
  | .hbm, ⟨28, _⟩ => ⟨S_, .f32⟩
  | .hbm, ⟨29, _⟩ => ⟨S4x704x1024, .f32⟩
  | .hbm, ⟨30, _⟩ => ⟨S4x704x1024, .f32⟩
  | .hbm, ⟨31, _⟩ => ⟨S4x704x1024, .f32⟩
  | .hbm, ⟨32, _⟩ => ⟨S_, .f32⟩
  | .hbm, ⟨33, _⟩ => ⟨S4x704x1024, .f32⟩
  | .hbm, ⟨34, _⟩ => ⟨S4x704x1024, .f32⟩
  | .hbm, ⟨35, _⟩ => ⟨S4x704x1024, .f32⟩
  | .hbm, ⟨36, _⟩ => ⟨S_, .f32⟩
  | .hbm, ⟨37, _⟩ => ⟨S4x704x1024, .f32⟩
  | .hbm, ⟨38, _⟩ => ⟨S4x704x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel17.lean ====
abbrev S2x1024x772 : Shape := ⟨3, ![2, 1024, 772]⟩
abbrev S2x512x772 : Shape := ⟨3, ![2, 512, 772]⟩
abbrev S1x256x772 : Shape := ⟨3, ![1, 256, 772]⟩
abbrev S256x772 : Shape := ⟨2, ![256, 772]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x772, .f32⟩
  | .hbm, ⟨1, _⟩ => ⟨S2x512x772, .f32⟩
  | .hbm, ⟨2, _⟩ => ⟨S2x512x772, .f32⟩
  | .hbm, ⟨3, _⟩ => ⟨S2x1024x772, .f32⟩
  | .hbm, ⟨4, _⟩ => ⟨S2x1024x772, .f32⟩
  | .hbm, ⟨5, _⟩ => ⟨S2x1024x772, .f32⟩
  | .hbm, ⟨6, _⟩ => ⟨S2x1024x772, .f32⟩
  | .hbm, ⟨7, _⟩ => ⟨S2x1024x772, .f32⟩
  | .hbm, ⟨8, _⟩ => ⟨S2x1024x772, .f32⟩
  | .local _ .vmem, ⟨0, _⟩ => ⟨S1x256x772, .f32⟩
  | .local _ .vmem, ⟨1, _⟩ => ⟨S1x256x772, .f32⟩
  | .local _ .vmem, ⟨2, _⟩ => ⟨S1x256x772, .f32⟩
  | .local _ .vmem, ⟨3, _⟩ => ⟨S1x256x772, .f32⟩
  | .local _ .vmem, ⟨4, _⟩ => ⟨S1x256x772, .f32⟩
  | .local _ .vmem, ⟨5, _⟩ => ⟨S1x256x772, .f32⟩
  | .local _ .vmem, ⟨6, _⟩ => ⟨S1x256x772, .f32⟩
  | .local _ .vmem, ⟨7, _⟩ => ⟨S1x256x772, .f32⟩
  | .local _ .vmem, ⟨8, _⟩ => ⟨S1x256x772, .f32⟩
  | .local _ .vmem, ⟨9, _⟩ => ⟨S1x256x772, .f32⟩
  | .local _ .vmem, ⟨10, _⟩ => ⟨S1x256x772, .f32⟩
  | .local _ .vmem, ⟨11, _⟩ => ⟨S1x256x772, .f32⟩
  | .local _ .vmem, ⟨12, _⟩ => ⟨S1x256x772, .f32⟩
  | .local _ .vmem, ⟨13, _⟩ => ⟨S1x256x772, .f32⟩
  | .local _ .vmem, ⟨14, _⟩ => ⟨S1x256x772, .f32⟩
  | .local _ .vmem, ⟨15, _⟩ => ⟨S1x256x772, .f32⟩
  | .local _ .vmem, ⟨16, _⟩ => ⟨S1x256x772, .f32⟩
  | .local _ .vmem, ⟨17, _⟩ => ⟨S1x256x772, .f32⟩
  | _, _ => ⟨S2x1024x772, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 32 := Scalar.select v0 arg2 c0_i32_0
  let c0_i32_1 : BitVec 32 := 0#32
  let c0_i32_2 : BitVec 32 := 0#32
  ![arg0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 32 := Scalar.select v0 c0_i32_0 arg2
  let c0_i32_1 : BitVec 32 := 0#32
  let c0_i32_2 : BitVec 32 := 0#32
  ![arg0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x256x772 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x772 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x772 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x772 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x772 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x772 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x772 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x772 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x772 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference17Ideal.lean ====
abbrev S2x1024x772 : Shape := ⟨3, ![2, 1024, 772]⟩
abbrev S2x512x772 : Shape := ⟨3, ![2, 512, 772]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2x1024x772, .f32⟩
  | .hbm, ⟨1, _⟩ => ⟨S2x512x772, .f32⟩
  | .hbm, ⟨2, _⟩ => ⟨S2x512x772, .f32⟩
  | .hbm, ⟨3, _⟩ => ⟨S2x1024x772, .f32⟩
  | .hbm, ⟨4, _⟩ => ⟨S2x1024x772, .f32⟩
  | .hbm, ⟨5, _⟩ => ⟨S2x1024x772, .f32⟩
  | .hbm, ⟨6, _⟩ => ⟨S_, .f32⟩
  | .hbm, ⟨7, _⟩ => ⟨S2x1024x772, .f32⟩
  | .hbm, ⟨8, _⟩ => ⟨S2x1024x772, .f32⟩
  | .hbm, ⟨9, _⟩ => ⟨S_, .f32⟩
  | .hbm, ⟨10, _⟩ => ⟨S2x1024x772, .f32⟩
  | .hbm, ⟨11, _⟩ => ⟨S2x1024x772, .f32⟩
  | .hbm, ⟨12, _⟩ => ⟨S2x1024x772, .f32⟩
  | .hbm, ⟨13, _⟩ => ⟨S_, .f32⟩
  | .hbm, ⟨14, _⟩ => ⟨S2x1024x772, .f32⟩
  | .hbm, ⟨15, _⟩ => ⟨S2x1024x772, .f32⟩
  | .hbm, ⟨16, _⟩ => ⟨S2x1024x772, .f32⟩
  | .hbm, ⟨17, _⟩ => ⟨S_, .f32⟩
  | .hbm, ⟨18, _⟩ => ⟨S2x1024x772, .f32⟩
  | .hbm, ⟨19, _⟩ => ⟨S2x1024x772, .f32⟩
  | .hbm, ⟨20, _⟩ => ⟨S2x1024x772, .f32⟩
  | .hbm, ⟨21, _⟩ => ⟨S_, .f32⟩
  | .hbm, ⟨22, _⟩ => ⟨S2x1024x772, .f32⟩
  | .hbm, ⟨23, _⟩ => ⟨S2x1024x772, .f32⟩
  | .hbm, ⟨24, _⟩ => ⟨S_, .f32⟩
  | .hbm, ⟨25, _⟩ => ⟨S2x1024x772, .f32⟩
  | .hbm, ⟨26, _⟩ => ⟨S2x1024x772, .f32⟩
  | .hbm, ⟨27, _⟩ => ⟨S2x1024x772, .f32⟩
  | .hbm, ⟨28, _⟩ => ⟨S_, .f32⟩
  | .hbm, ⟨29, _⟩ => ⟨S2x1024x772, .f32⟩
  | .hbm, ⟨30, _⟩ => ⟨S2x1024x772, .f32⟩
  | .hbm, ⟨31, _⟩ => ⟨S2x1024x772, .f32⟩
  | .hbm, ⟨32, _⟩ => ⟨S_, .f32⟩
  | .hbm, ⟨33, _⟩ => ⟨S2x1024x772, .f32⟩
  | .hbm, ⟨34, _⟩ => ⟨S2x1024x772, .f32⟩
  | .hbm, ⟨35, _⟩ => ⟨S2x1024x772, .f32⟩
  | .hbm, ⟨36, _⟩ => ⟨S_, .f32⟩
  | .hbm, ⟨37, _⟩ => ⟨S2x1024x772, .f32⟩
  | .hbm, ⟨38, _⟩ => ⟨S2x1024x772, .f32⟩
  | _, _ => ⟨S2x1024x772, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel18.lean ====
abbrev S2x256x1024 : Shape := ⟨3, ![2, 256, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x256x1024, .f32⟩
  | .hbm, ⟨1, _⟩ => ⟨S2x128x1024, .f32⟩
  | .hbm, ⟨2, _⟩ => ⟨S2x128x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 32 := Scalar.select v0 arg2 c0_i32_0
  let c0_i32_1 : BitVec 32 := 0#32
  let c0_i32_2 : BitVec 32 := 0#32
  ![arg0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 32 := Scalar.select v0 c0_i32_0 arg2
  let c0_i32_1 : BitVec 32 := 0#32
  let c0_i32_2 : BitVec 32 := 0#32
  ![arg0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference18Ideal.lean ====
abbrev S2x256x1024 : Shape := ⟨3, ![2, 256, 1024]⟩
abbrev S2x128x1024 : Shape := ⟨3, ![2, 128, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x128x1024, .f32⟩
  | .hbm, ⟨2, _⟩ => ⟨S2x128x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S_, .f32⟩
  | .hbm, ⟨7, _⟩ => ⟨S2x256x1024, .f32⟩
  | .hbm, ⟨8, _⟩ => ⟨S2x256x1024, .f32⟩
  | .hbm, ⟨9, _⟩ => ⟨S_, .f32⟩
  | .hbm, ⟨10, _⟩ => ⟨S2x256x1024, .f32⟩
  | .hbm, ⟨11, _⟩ => ⟨S2x256x1024, .f32⟩
  | .hbm, ⟨12, _⟩ => ⟨S2x256x1024, .f32⟩
  | .hbm, ⟨13, _⟩ => ⟨S_, .f32⟩
  | .hbm, ⟨14, _⟩ => ⟨S2x256x1024, .f32⟩
  | .hbm, ⟨15, _⟩ => ⟨S2x256x1024, .f32⟩
  | .hbm, ⟨16, _⟩ => ⟨S2x256x1024, .f32⟩
  | .hbm, ⟨17, _⟩ => ⟨S_, .f32⟩
  | .hbm, ⟨18, _⟩ => ⟨S2x256x1024, .f32⟩
  | .hbm, ⟨19, _⟩ => ⟨S2x256x1024, .f32⟩
  | .hbm, ⟨20, _⟩ => ⟨S2x256x1024, .f32⟩
  | .hbm, ⟨21, _⟩ => ⟨S_, .f32⟩
  | .hbm, ⟨22, _⟩ => ⟨S2x256x1024, .f32⟩
  | .hbm, ⟨23, _⟩ => ⟨S2x256x1024, .f32⟩
  | .hbm, ⟨24, _⟩ => ⟨S_, .f32⟩
  | .hbm, ⟨25, _⟩ => ⟨S2x256x1024, .f32⟩
  | .hbm, ⟨26, _⟩ => ⟨S2x256x1024, .f32⟩
  | .hbm, ⟨27, _⟩ => ⟨S2x256x1024, .f32⟩
  | .hbm, ⟨28, _⟩ => ⟨S_, .f32⟩
  | .hbm, ⟨29, _⟩ => ⟨S2x256x1024, .f32⟩
  | .hbm, ⟨30, _⟩ => ⟨S2x256x1024, .f32⟩
  | .hbm, ⟨31, _⟩ => ⟨S2x256x1024, .f32⟩
  | .hbm, ⟨32, _⟩ => ⟨S_, .f32⟩
  | .hbm, ⟨33, _⟩ => ⟨S2x256x1024, .f32⟩
  | .hbm, ⟨34, _⟩ => ⟨S2x256x1024, .f32⟩
  | .hbm, ⟨35, _⟩ => ⟨S2x256x1024, .f32⟩
  | .hbm, ⟨36, _⟩ => ⟨S_, .f32⟩
  | .hbm, ⟨37, _⟩ => ⟨S2x256x1024, .f32⟩
  | .hbm, ⟨38, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel19.lean ====
abbrev S2x1024x512 : Shape := ⟨3, ![2, 1024, 512]⟩
abbrev S2x512x512 : Shape := ⟨3, ![2, 512, 512]⟩
abbrev S1x512x512 : Shape := ⟨3, ![1, 512, 512]⟩
abbrev S512x512 : Shape := ⟨2, ![512, 512]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x512, .f32⟩
  | .hbm, ⟨1, _⟩ => ⟨S2x512x512, .f32⟩
  | .hbm, ⟨2, _⟩ => ⟨S2x512x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 32 := Scalar.select v0 arg2 c0_i32_0
  let c0_i32_1 : BitVec 32 := 0#32
  let c0_i32_2 : BitVec 32 := 0#32
  ![arg0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 32 := Scalar.select v0 c0_i32_0 arg2
  let c0_i32_1 : BitVec 32 := 0#32
  let c0_i32_2 : BitVec 32 := 0#32
  ![arg0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference19Ideal.lean ====
abbrev S2x1024x512 : Shape := ⟨3, ![2, 1024, 512]⟩
abbrev S2x512x512 : Shape := ⟨3, ![2, 512, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S2x512x512, .f32⟩
  | .hbm, ⟨2, _⟩ => ⟨S2x512x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S_, .f32⟩
  | .hbm, ⟨7, _⟩ => ⟨S2x1024x512, .f32⟩
  | .hbm, ⟨8, _⟩ => ⟨S2x1024x512, .f32⟩
  | .hbm, ⟨9, _⟩ => ⟨S_, .f32⟩
  | .hbm, ⟨10, _⟩ => ⟨S2x1024x512, .f32⟩
  | .hbm, ⟨11, _⟩ => ⟨S2x1024x512, .f32⟩
  | .hbm, ⟨12, _⟩ => ⟨S2x1024x512, .f32⟩
  | .hbm, ⟨13, _⟩ => ⟨S_, .f32⟩
  | .hbm, ⟨14, _⟩ => ⟨S2x1024x512, .f32⟩
  | .hbm, ⟨15, _⟩ => ⟨S2x1024x512, .f32⟩
  | .hbm, ⟨16, _⟩ => ⟨S2x1024x512, .f32⟩
  | .hbm, ⟨17, _⟩ => ⟨S_, .f32⟩
  | .hbm, ⟨18, _⟩ => ⟨S2x1024x512, .f32⟩
  | .hbm, ⟨19, _⟩ => ⟨S2x1024x512, .f32⟩
  | .hbm, ⟨20, _⟩ => ⟨S2x1024x512, .f32⟩
  | .hbm, ⟨21, _⟩ => ⟨S_, .f32⟩
  | .hbm, ⟨22, _⟩ => ⟨S2x1024x512, .f32⟩
  | .hbm, ⟨23, _⟩ => ⟨S2x1024x512, .f32⟩
  | .hbm, ⟨24, _⟩ => ⟨S_, .f32⟩
  | .hbm, ⟨25, _⟩ => ⟨S2x1024x512, .f32⟩
  | .hbm, ⟨26, _⟩ => ⟨S2x1024x512, .f32⟩
  | .hbm, ⟨27, _⟩ => ⟨S2x1024x512, .f32⟩
  | .hbm, ⟨28, _⟩ => ⟨S_, .f32⟩
  | .hbm, ⟨29, _⟩ => ⟨S2x1024x512, .f32⟩
  | .hbm, ⟨30, _⟩ => ⟨S2x1024x512, .f32⟩
  | .hbm, ⟨31, _⟩ => ⟨S2x1024x512, .f32⟩
  | .hbm, ⟨32, _⟩ => ⟨S_, .f32⟩
  | .hbm, ⟨33, _⟩ => ⟨S2x1024x512, .f32⟩
  | .hbm, ⟨34, _⟩ => ⟨S2x1024x512, .f32⟩
  | .hbm, ⟨35, _⟩ => ⟨S2x1024x512, .f32⟩
  | .hbm, ⟨36, _⟩ => ⟨S_, .f32⟩
  | .hbm, ⟨37, _⟩ => ⟨S2x1024x512, .f32⟩
  | .hbm, ⟨38, _⟩ => ⟨S2x1024x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel20.lean ====
abbrev S4440x128 : Shape := ⟨2, ![4440, 128]⟩
abbrev S1480x128 : Shape := ⟨2, ![1480, 128]⟩

abbrev nBuf : Space → Nat
  | .hbm => 7
  | .vmem => 14
  | .smem => 0
  | _ => 0

abbrev bufTy : (tb : Table) → Fin (tcTables nBuf tb) → BufTy
  | .hbm, ⟨0, _⟩ => ⟨S4440x128, .f32⟩
  | .hbm, ⟨1, _⟩ => ⟨S4440x128, .f32⟩
  | .hbm, ⟨2, _⟩ => ⟨S4440x128, .f32⟩
  | .hbm, ⟨3, _⟩ => ⟨S4440x128, .f32⟩
  | .hbm, ⟨4, _⟩ => ⟨S4440x128, .f32⟩
  | .hbm, ⟨5, _⟩ => ⟨S4440x128, .f32⟩
  | .hbm, ⟨6, _⟩ => ⟨S4440x128, .f32⟩
  | .local _ .vmem, ⟨0, _⟩ => ⟨S1480x128, .f32⟩
  | .local _ .vmem, ⟨1, _⟩ => ⟨S1480x128, .f32⟩
  | .local _ .vmem, ⟨2, _⟩ => ⟨S1480x128, .f32⟩
  | .local _ .vmem, ⟨3, _⟩ => ⟨S1480x128, .f32⟩
  | .local _ .vmem, ⟨4, _⟩ => ⟨S1480x128, .f32⟩
  | .local _ .vmem, ⟨5, _⟩ => ⟨S1480x128, .f32⟩
  | .local _ .vmem, ⟨6, _⟩ => ⟨S1480x128, .f32⟩
  | .local _ .vmem, ⟨7, _⟩ => ⟨S1480x128, .f32⟩
  | .local _ .vmem, ⟨8, _⟩ => ⟨S1480x128, .f32⟩
  | .local _ .vmem, ⟨9, _⟩ => ⟨S1480x128, .f32⟩
  | .local _ .vmem, ⟨10, _⟩ => ⟨S1480x128, .f32⟩
  | .local _ .vmem, ⟨11, _⟩ => ⟨S1480x128, .f32⟩
  | .local _ .vmem, ⟨12, _⟩ => ⟨S1480x128, .f32⟩
  | .local _ .vmem, ⟨13, _⟩ => ⟨S1480x128, .f32⟩
  | _, _ => ⟨S4440x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1480x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1480x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1480x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1480x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1480x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1480x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1480x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference20Ideal.lean ====
abbrev S4440x128 : Shape := ⟨2, ![4440, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4440x128, .f32⟩
  | .hbm, ⟨1, _⟩ => ⟨S4440x128, .f32⟩
  | .hbm, ⟨2, _⟩ => ⟨S4440x128, .f32⟩
  | .hbm, ⟨3, _⟩ => ⟨S4440x128, .f32⟩
  | .hbm, ⟨4, _⟩ => ⟨S_, .f32⟩
  | .hbm, ⟨5, _⟩ => ⟨S4440x128, .f32⟩
  | .hbm, ⟨6, _⟩ => ⟨S4440x128, .f32⟩
  | .hbm, ⟨7, _⟩ => ⟨S_, .f32⟩
  | .hbm, ⟨8, _⟩ => ⟨S4440x128, .f32⟩
  | .hbm, ⟨9, _⟩ => ⟨S4440x128, .f32⟩
  | .hbm, ⟨10, _⟩ => ⟨S4440x128, .f32⟩
  | .hbm, ⟨11, _⟩ => ⟨S_, .f32⟩
  | .hbm, ⟨12, _⟩ => ⟨S4440x128, .f32⟩
  | .hbm, ⟨13, _⟩ => ⟨S4440x128, .f32⟩
  | .hbm, ⟨14, _⟩ => ⟨S4440x128, .f32⟩
  | .hbm, ⟨15, _⟩ => ⟨S_, .f32⟩
  | .hbm, ⟨16, _⟩ => ⟨S4440x128, .f32⟩
  | .hbm, ⟨17, _⟩ => ⟨S4440x128, .f32⟩
  | .hbm, ⟨18, _⟩ => ⟨S4440x128, .f32⟩
  | .hbm, ⟨19, _⟩ => ⟨S_, .f32⟩
  | .hbm, ⟨20, _⟩ => ⟨S4440x128, .f32⟩
  | .hbm, ⟨21, _⟩ => ⟨S4440x128, .f32⟩
  | .hbm, ⟨22, _⟩ => ⟨S_, .f32⟩
  | .hbm, ⟨23, _⟩ => ⟨S4440x128, .f32⟩
  | .hbm, ⟨24, _⟩ => ⟨S4440x128, .f32⟩
  | .hbm, ⟨25, _⟩ => ⟨S4440x128, .f32⟩
  | .hbm, ⟨26, _⟩ => ⟨S_, .f32⟩
  | .hbm, ⟨27, _⟩ => ⟨S4440x128, .f32⟩
  | .hbm, ⟨28, _⟩ => ⟨S4440x128, .f32⟩
  | .hbm, ⟨29, _⟩ => ⟨S4440x128, .f32⟩
  | .hbm, ⟨30, _⟩ => ⟨S_, .f32⟩
  | .hbm, ⟨31, _⟩ => ⟨S4440x128, .f32⟩
  | .hbm, ⟨32, _⟩ => ⟨S4440x128, .f32⟩
  | .hbm, ⟨33, _⟩ => ⟨S4440x128, .f32⟩
  | .hbm, ⟨34, _⟩ => ⟨S_, .f32⟩
  | .hbm, ⟨35, _⟩ => ⟨S4440x128, .f32⟩
  | .hbm, ⟨36, _⟩ => ⟨S4440x128, .f32⟩
  | _, _ => ⟨S4440x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S4x4x1024x1408 : Shape := ⟨4, ![4, 4, 1024, 1408]⟩
abbrev S7x4x512x1408 : Shape := ⟨4, ![7, 4, 512, 1408]⟩
abbrev S4x512x1408 : Shape := ⟨3, ![4, 512, 1408]⟩
abbrev S1x1x128x1408 : Shape := ⟨4, ![1, 1, 128, 1408]⟩
abbrev S7x1x128x1408 : Shape := ⟨4, ![7, 1, 128, 1408]⟩
abbrev S1x128x1408 : Shape := ⟨3, ![1, 128, 1408]⟩
abbrev S128x1408 : Shape := ⟨2, ![128, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4x4x1024x1408, .bf16⟩
  | .hbm, ⟨1, _⟩ => ⟨S7x4x512x1408, .bf16⟩
  | .hbm, ⟨2, _⟩ => ⟨S4x512x1408, .f32⟩
  | .local _ .vmem, ⟨0, _⟩ => ⟨S1x1x128x1408, .bf16⟩
  | .local _ .vmem, ⟨1, _⟩ => ⟨S1x1x128x1408, .bf16⟩
  | .local _ .vmem, ⟨2, _⟩ => ⟨S7x1x128x1408, .bf16⟩
  | .local _ .vmem, ⟨3, _⟩ => ⟨S7x1x128x1408, .bf16⟩
  | .local _ .vmem, ⟨4, _⟩ => ⟨S1x128x1408, .f32⟩
  | .local _ .vmem, ⟨5, _⟩ => ⟨S1x128x1408, .f32⟩
  | _, _ => ⟨S4x4x1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![arg0.toNat, c0_i32_0.toNat, v0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S7x1x128x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference21Ideal.lean ====
abbrev S4x4x1024x1408 : Shape := ⟨4, ![4, 4, 1024, 1408]⟩
abbrev S7x4x512x1408 : Shape := ⟨4, ![7, 4, 512, 1408]⟩
abbrev S4x1x512x1408 : Shape := ⟨4, ![4, 1, 512, 1408]⟩
abbrev S4x512x1408 : Shape := ⟨3, ![4, 512, 1408]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4x4x1024x1408, .bf16⟩
  | .hbm, ⟨1, _⟩ => ⟨S7x4x512x1408, .bf16⟩
  | .hbm, ⟨2, _⟩ => ⟨S4x1x512x1408, .bf16⟩
  | .hbm, ⟨3, _⟩ => ⟨S4x512x1408, .bf16⟩
  | .hbm, ⟨4, _⟩ => ⟨S4x512x1408, .f32⟩
  | .hbm, ⟨5, _⟩ => ⟨S7x4x512x1408, .f32⟩
  | .hbm, ⟨6, _⟩ => ⟨S_, .f32⟩
  | .hbm, ⟨7, _⟩ => ⟨S4x512x1408, .f32⟩
  | .hbm, ⟨8, _⟩ => ⟨S4x512x1408, .f32⟩
  | _, _ => ⟨S4x4x1024x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel22.lean ====
abbrev S4x4x704x1024 : Shape := ⟨4, ![4, 4, 704, 1024]⟩
abbrev S7x4x352x1024 : Shape := ⟨4, ![7, 4, 352, 1024]⟩
abbrev S4x352x1024 : Shape := ⟨3, ![4, 352, 1024]⟩
abbrev S1x1x176x1024 : Shape := ⟨4, ![1, 1, 176, 1024]⟩
abbrev S7x1x176x1024 : Shape := ⟨4, ![7, 1, 176, 1024]⟩
abbrev S1x176x1024 : Shape := ⟨3, ![1, 176, 1024]⟩
abbrev S176x1024 : Shape := ⟨2, ![176, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x4x704x1024, .bf16⟩
  | .hbm, ⟨1, _⟩ => ⟨S7x4x352x1024, .bf16⟩
  | .hbm, ⟨2, _⟩ => ⟨S4x352x1024, .f32⟩
  | .local _ .vmem, ⟨0, _⟩ => ⟨S1x1x176x1024, .bf16⟩
  | .local _ .vmem, ⟨1, _⟩ => ⟨S1x1x176x1024, .bf16⟩
  | .local _ .vmem, ⟨2, _⟩ => ⟨S7x1x176x1024, .bf16⟩
  | .local _ .vmem, ⟨3, _⟩ => ⟨S7x1x176x1024, .bf16⟩
  | .local _ .vmem, ⟨4, _⟩ => ⟨S1x176x1024, .f32⟩
  | .local _ .vmem, ⟨5, _⟩ => ⟨S1x176x1024, .f32⟩
  | _, _ => ⟨S4x4x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![arg0.toNat, c0_i32_0.toNat, v0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S7x1x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference22Ideal.lean ====
abbrev S4x4x704x1024 : Shape := ⟨4, ![4, 4, 704, 1024]⟩
abbrev S7x4x352x1024 : Shape := ⟨4, ![7, 4, 352, 1024]⟩
abbrev S4x1x352x1024 : Shape := ⟨4, ![4, 1, 352, 1024]⟩
abbrev S4x352x1024 : Shape := ⟨3, ![4, 352, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4x4x704x1024, .bf16⟩
  | .hbm, ⟨1, _⟩ => ⟨S7x4x352x1024, .bf16⟩
  | .hbm, ⟨2, _⟩ => ⟨S4x1x352x1024, .bf16⟩
  | .hbm, ⟨3, _⟩ => ⟨S4x352x1024, .bf16⟩
  | .hbm, ⟨4, _⟩ => ⟨S4x352x1024, .f32⟩
  | .hbm, ⟨5, _⟩ => ⟨S7x4x352x1024, .f32⟩
  | .hbm, ⟨6, _⟩ => ⟨S_, .f32⟩
  | .hbm, ⟨7, _⟩ => ⟨S4x352x1024, .f32⟩
  | .hbm, ⟨8, _⟩ => ⟨S4x352x1024, .f32⟩
  | _, _ => ⟨S4x4x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel23.lean ====
abbrev S1x4x1024x772 : Shape := ⟨4, ![1, 4, 1024, 772]⟩
abbrev S7x1x512x772 : Shape := ⟨4, ![7, 1, 512, 772]⟩
abbrev S1x512x772 : Shape := ⟨3, ![1, 512, 772]⟩
abbrev S1x1x256x772 : Shape := ⟨4, ![1, 1, 256, 772]⟩
abbrev S7x1x256x772 : Shape := ⟨4, ![7, 1, 256, 772]⟩
abbrev S1x256x772 : Shape := ⟨3, ![1, 256, 772]⟩
abbrev S256x772 : Shape := ⟨2, ![256, 772]⟩

abbrev nBuf : Space → Nat
  | .hbm => 3
  | .vmem => 6
  | .smem => 0
  | _ => 0

abbrev bufTy : (tb : Table) → Fin (tcTables nBuf tb) → BufTy
  | .hbm, ⟨0, _⟩ => ⟨S1x4x1024x772, .bf16⟩
  | .hbm, ⟨1, _⟩ => ⟨S7x1x512x772, .bf16⟩
  | .hbm, ⟨2, _⟩ => ⟨S1x512x772, .f32⟩
  | .local _ .vmem, ⟨0, _⟩ => ⟨S1x1x256x772, .bf16⟩
  | .local _ .vmem, ⟨1, _⟩ => ⟨S1x1x256x772, .bf16⟩
  | .local _ .vmem, ⟨2, _⟩ => ⟨S7x1x256x772, .bf16⟩
  | .local _ .vmem, ⟨3, _⟩ => ⟨S7x1x256x772, .bf16⟩
  | .local _ .vmem, ⟨4, _⟩ => ⟨S1x256x772, .f32⟩
  | .local _ .vmem, ⟨5, _⟩ => ⟨S1x256x772, .f32⟩
  | _, _ => ⟨S1x4x1024x772, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![arg0.toNat, c0_i32_0.toNat, v0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256x772 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S7x1x256x772 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x772 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference23Ideal.lean ====
abbrev S1x4x1024x772 : Shape := ⟨4, ![1, 4, 1024, 772]⟩
abbrev S7x1x512x772 : Shape := ⟨4, ![7, 1, 512, 772]⟩
abbrev S1x1x512x772 : Shape := ⟨4, ![1, 1, 512, 772]⟩
abbrev S1x512x772 : Shape := ⟨3, ![1, 512, 772]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1x4x1024x772, .bf16⟩
  | .hbm, ⟨1, _⟩ => ⟨S7x1x512x772, .bf16⟩
  | .hbm, ⟨2, _⟩ => ⟨S1x1x512x772, .bf16⟩
  | .hbm, ⟨3, _⟩ => ⟨S1x512x772, .bf16⟩
  | .hbm, ⟨4, _⟩ => ⟨S1x512x772, .f32⟩
  | .hbm, ⟨5, _⟩ => ⟨S7x1x512x772, .f32⟩
  | .hbm, ⟨6, _⟩ => ⟨S_, .f32⟩
  | .hbm, ⟨7, _⟩ => ⟨S1x512x772, .f32⟩
  | .hbm, ⟨8, _⟩ => ⟨S1x512x772, .f32⟩
  | _, _ => ⟨S1x4x1024x772, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel24.lean ====
abbrev S2x4x256x1024 : Shape := ⟨4, ![2, 4, 256, 1024]⟩
abbrev S7x2x128x1024 : Shape := ⟨4, ![7, 2, 128, 1024]⟩
abbrev S2x128x1024 : Shape := ⟨3, ![2, 128, 1024]⟩
abbrev S1x1x128x1024 : Shape := ⟨4, ![1, 1, 128, 1024]⟩
abbrev S7x1x128x1024 : Shape := ⟨4, ![7, 1, 128, 1024]⟩
abbrev S1x128x1024 : Shape := ⟨3, ![1, 128, 1024]⟩
abbrev S128x1024 : Shape := ⟨2, ![128, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2x4x256x1024, .bf16⟩
  | .hbm, ⟨1, _⟩ => ⟨S7x2x128x1024, .bf16⟩
  | .hbm, ⟨2, _⟩ => ⟨S2x128x1024, .f32⟩
  | .local _ .vmem, ⟨0, _⟩ => ⟨S1x1x128x1024, .bf16⟩
  | .local _ .vmem, ⟨1, _⟩ => ⟨S1x1x128x1024, .bf16⟩
  | .local _ .vmem, ⟨2, _⟩ => ⟨S7x1x128x1024, .bf16⟩
  | .local _ .vmem, ⟨3, _⟩ => ⟨S7x1x128x1024, .bf16⟩
  | .local _ .vmem, ⟨4, _⟩ => ⟨S1x128x1024, .f32⟩
  | .local _ .vmem, ⟨5, _⟩ => ⟨S1x128x1024, .f32⟩
  | _, _ => ⟨S2x4x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![arg0.toNat, c0_i32_0.toNat, v0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S7x1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference24Ideal.lean ====
abbrev S2x4x256x1024 : Shape := ⟨4, ![2, 4, 256, 1024]⟩
abbrev S7x2x128x1024 : Shape := ⟨4, ![7, 2, 128, 1024]⟩
abbrev S2x1x128x1024 : Shape := ⟨4, ![2, 1, 128, 1024]⟩
abbrev S2x128x1024 : Shape := ⟨3, ![2, 128, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2x4x256x1024, .bf16⟩
  | .hbm, ⟨1, _⟩ => ⟨S7x2x128x1024, .bf16⟩
  | .hbm, ⟨2, _⟩ => ⟨S2x1x128x1024, .bf16⟩
  | .hbm, ⟨3, _⟩ => ⟨S2x128x1024, .bf16⟩
  | .hbm, ⟨4, _⟩ => ⟨S2x128x1024, .f32⟩
  | .hbm, ⟨5, _⟩ => ⟨S7x2x128x1024, .f32⟩
  | .hbm, ⟨6, _⟩ => ⟨S_, .f32⟩
  | .hbm, ⟨7, _⟩ => ⟨S2x128x1024, .f32⟩
  | .hbm, ⟨8, _⟩ => ⟨S2x128x1024, .f32⟩
  | _, _ => ⟨S2x4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel25.lean ====
abbrev S2x4x1024x512 : Shape := ⟨4, ![2, 4, 1024, 512]⟩
abbrev S7x2x512x512 : Shape := ⟨4, ![7, 2, 512, 512]⟩
abbrev S2x512x512 : Shape := ⟨3, ![2, 512, 512]⟩
abbrev S1x1x512x512 : Shape := ⟨4, ![1, 1, 512, 512]⟩
abbrev S7x1x512x512 : Shape := ⟨4, ![7, 1, 512, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2x4x1024x512, .bf16⟩
  | .hbm, ⟨1, _⟩ => ⟨S7x2x512x512, .bf16⟩
  | .hbm, ⟨2, _⟩ => ⟨S2x512x512, .f32⟩
  | .local _ .vmem, ⟨0, _⟩ => ⟨S1x1x512x512, .bf16⟩
  | .local _ .vmem, ⟨1, _⟩ => ⟨S1x1x512x512, .bf16⟩
  | .local _ .vmem, ⟨2, _⟩ => ⟨S7x1x512x512, .bf16⟩
  | .local _ .vmem, ⟨3, _⟩ => ⟨S7x1x512x512, .bf16⟩
  | .local _ .vmem, ⟨4, _⟩ => ⟨S1x512x512, .f32⟩
  | .local _ .vmem, ⟨5, _⟩ => ⟨S1x512x512, .f32⟩
  | _, _ => ⟨S2x4x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![arg0.toNat, c0_i32_0.toNat, v0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S7x1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference25Ideal.lean ====
abbrev S2x4x1024x512 : Shape := ⟨4, ![2, 4, 1024, 512]⟩
abbrev S7x2x512x512 : Shape := ⟨4, ![7, 2, 512, 512]⟩
abbrev S2x1x512x512 : Shape := ⟨4, ![2, 1, 512, 512]⟩
abbrev S2x512x512 : Shape := ⟨3, ![2, 512, 512]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2x4x1024x512, .bf16⟩
  | .hbm, ⟨1, _⟩ => ⟨S7x2x512x512, .bf16⟩
  | .hbm, ⟨2, _⟩ => ⟨S2x1x512x512, .bf16⟩
  | .hbm, ⟨3, _⟩ => ⟨S2x512x512, .bf16⟩
  | .hbm, ⟨4, _⟩ => ⟨S2x512x512, .f32⟩
  | .hbm, ⟨5, _⟩ => ⟨S7x2x512x512, .f32⟩
  | .hbm, ⟨6, _⟩ => ⟨S_, .f32⟩
  | .hbm, ⟨7, _⟩ => ⟨S2x512x512, .f32⟩
  | .hbm, ⟨8, _⟩ => ⟨S2x512x512, .f32⟩
  | _, _ => ⟨S2x4x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel26.lean ====
abbrev S4440x128 : Shape := ⟨2, ![4440, 128]⟩
abbrev S8x4440x128 : Shape := ⟨3, ![8, 4440, 128]⟩
abbrev S296x128 : Shape := ⟨2, ![296, 128]⟩
abbrev S8x296x128 : Shape := ⟨3, ![8, 296, 128]⟩
abbrev S1x296x128 : Shape := ⟨3, ![1, 296, 128]⟩

abbrev nBuf : Space → Nat
  | .hbm => 3
  | .vmem => 6
  | .smem => 0
  | _ => 0

abbrev bufTy : (tb : Table) → Fin (tcTables nBuf tb) → BufTy
  | .hbm, ⟨0, _⟩ => ⟨S4440x128, .f32⟩
  | .hbm, ⟨1, _⟩ => ⟨S8x4440x128, .f32⟩
  | .hbm, ⟨2, _⟩ => ⟨S4440x128, .f32⟩
  | .local _ .vmem, ⟨0, _⟩ => ⟨S296x128, .f32⟩
  | .local _ .vmem, ⟨1, _⟩ => ⟨S296x128, .f32⟩
  | .local _ .vmem, ⟨2, _⟩ => ⟨S8x296x128, .f32⟩
  | .local _ .vmem, ⟨3, _⟩ => ⟨S8x296x128, .f32⟩
  | .local _ .vmem, ⟨4, _⟩ => ⟨S296x128, .f32⟩
  | .local _ .vmem, ⟨5, _⟩ => ⟨S296x128, .f32⟩
  | _, _ => ⟨S4440x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S296x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x296x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S296x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference26Ideal.lean ====
abbrev S4440x128 : Shape := ⟨2, ![4440, 128]⟩
abbrev S8x4440x128 : Shape := ⟨3, ![8, 4440, 128]⟩
abbrev S7x4440x128 : Shape := ⟨3, ![7, 4440, 128]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4440x128, .f32⟩
  | .hbm, ⟨1, _⟩ => ⟨S8x4440x128, .f32⟩
  | .hbm, ⟨2, _⟩ => ⟨S7x4440x128, .f32⟩
  | .hbm, ⟨3, _⟩ => ⟨S_, .f32⟩
  | .hbm, ⟨4, _⟩ => ⟨S4440x128, .f32⟩
  | .hbm, ⟨5, _⟩ => ⟨S4440x128, .f32⟩
  | _, _ => ⟨S4440x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel27.lean ====
abbrev S4096x1024 : Shape := ⟨2, ![4096, 1024]⟩
abbrev S1x1 : Shape := ⟨2, ![1, 1]⟩
abbrev S256x1024 : Shape := ⟨2, ![256, 1024]⟩
abbrev S256 : Shape := ⟨1, ![256]⟩
abbrev S256x1 : Shape := ⟨2, ![256, 1]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v8 : BitVec 1 := Scalar.cmpi .eq arg0 c0_i32
  let v9 : BitVec 32 := Scalar.extui v8
  let c0_i32_4 : BitVec 32 := 0#32
  let v10 : BitVec 1 := Scalar.cmpi .ne v9 c0_i32_4
  v10

def k0_cond2 (i : grid0.Coords) : BitVec 1 :=
  let arg0 : BitVec 32 := BitVec.ofNat 32 (i 0).val
  let c0_i32_5 : BitVec 32 := 0#32
  let v11 : BitVec 1 := Scalar.cmpi .sgt arg0 c0_i32_5
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference27Ideal.lean ====
abbrev S4096x1024 : Shape := ⟨2, ![4096, 1024]⟩
abbrev S_ : Shape := ⟨0, ![]⟩
abbrev S1x1 : Shape := ⟨2, ![1, 1]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S_, .f32⟩
  | .hbm, ⟨6, _⟩ => ⟨S1x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel28.lean ====
abbrev S4096x1024 : Shape := ⟨2, ![4096, 1024]⟩
abbrev S1x1024 : Shape := ⟨2, ![1, 1024]⟩
abbrev S4096x1 : Shape := ⟨2, ![4096, 1]⟩
abbrev S256x1024 : Shape := ⟨2, ![256, 1024]⟩
abbrev S256x1 : Shape := ⟨2, ![256, 1]⟩
abbrev S256 : Shape := ⟨1, ![256]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1, .f32⟩
  | .local _ .vmem, ⟨11, _⟩ => ⟨S256x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference28Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel29.lean ====
abbrev S4096x2048 : Shape := ⟨2, ![4096, 2048]⟩
abbrev S4096x1024 : Shape := ⟨2, ![4096, 1024]⟩
abbrev S256x2048 : Shape := ⟨2, ![256, 2048]⟩
abbrev S256x1024 : Shape := ⟨2, ![256, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference29Ideal.lean ====
abbrev S4096x2048 : Shape := ⟨2, ![4096, 2048]⟩
abbrev S4096x1024 : Shape := ⟨2, ![4096, 1024]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel30.lean ====
abbrev S4096x1024 : Shape := ⟨2, ![4096, 1024]⟩
abbrev S4096x2048 : Shape := ⟨2, ![4096, 2048]⟩
abbrev S256x1024 : Shape := ⟨2, ![256, 1024]⟩
abbrev S256x2048 : Shape := ⟨2, ![256, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .bf16⟩
  | .local _ .vmem, ⟨0, _⟩ => ⟨S256x1024, .f32⟩
  | .local _ .vmem, ⟨1, _⟩ => ⟨S256x1024, .f32⟩
  | .local _ .vmem, ⟨2, _⟩ => ⟨S256x2048, .f32⟩
  | .local _ .vmem, ⟨3, _⟩ => ⟨S256x2048, .f32⟩
  | .local _ .vmem, ⟨4, _⟩ => ⟨S256x2048, .bf16⟩
  | .local _ .vmem, ⟨5, _⟩ => ⟨S256x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference30Ideal.lean ====
abbrev S4096x1024 : Shape := ⟨2, ![4096, 1024]⟩
abbrev S4096x2048 : Shape := ⟨2, ![4096, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x2048, .f32⟩
  | .hbm, ⟨21, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel31.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S256x1024 : Shape := ⟨2, ![256, 1024]⟩
abbrev S256x1 : Shape := ⟨2, ![256, 1]⟩
abbrev S256 : Shape := ⟨1, ![256]⟩
abbrev S1024 : Shape := ⟨1, ![1024]⟩

abbrev nBuf : Space → Nat
  | .hbm => 30
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1, .f32⟩
  | .local _ .vmem, ⟨7, _⟩ => ⟨S256x1, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v36 : BitVec 1 := Scalar.cmpi .eq arg0 c0_i32
  let v37 : BitVec 32 := Scalar.extui v36
  let c0_i32_18 : BitVec 32 := 0#32
  let v38 : BitVec 1 := Scalar.cmpi .ne v37 c0_i32_18
  v38

def k0_cond2 (i : grid0.Coords) : BitVec 1 :=
  let arg0 : BitVec 32 := BitVec.ofNat 32 (i 0).val
  let c0_i32_19 : BitVec 32 := 0#32
  let v39 : BitVec 1 := Scalar.cmpi .sgt arg0 c0_i32_19
  let v40 : BitVec 32 := Scalar.extui v39
  let c0_i32_20 : BitVec 32 := 0#32
  let v41 : BitVec 1 := Scalar.cmpi .ne v40 c0_i32_20
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference31Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 84
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S4096x1024, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096, .f32⟩
  | .hbm, ⟨82, _⟩ => ⟨S4096x1024, .f32⟩
  | .hbm, ⟨83, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_10 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_v46 : Ref sig .tc := ⟨.hbm, 63, rfl⟩
abbrev main_cst_12 : Ref sig .tc := ⟨.hbm, 64, rfl⟩
abbrev main_v47 : Ref sig .tc := ⟨.hbm, 65, rfl⟩
abbrev main_v48 : Ref sig .tc := ⟨.hbm, 66, rfl⟩
abbrev main_cst_13 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_14 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_15 : Ref sig .tc := ⟨.hbm, 77, rfl⟩
abbrev main_v57 : Ref sig .tc := ⟨.hbm, 78, rfl⟩
abbrev main_v58 : Ref sig .tc := ⟨.hbm, 79, rfl⟩
abbrev main_cst_16 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩

abbrev nD : Nat := 1
abbrev τ : Topo := Topo.v7x

variable {F : FTy → Type} [FloatOps F]
-- ==== Proof.KernelFrame.lean ====
/-
  The frame of the kernel: at every grid point its body runs from any contents of the output blocks and of the scratch
  accumulator, hands the input blocks back as it found them, and leaves the outputs and the scratch at some contents.
  Nothing is said here of what those contents are.
-/
module

public import proofs.«01_k».proof.Proof.Gen.Kernel.Frame
public import proofs.«01_k».proof.Proof.Gen.Kernel.Loops
public import Idealize.ShloMosaic.Lib.Claim

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The buffers of one grid point: the inputs at given contents, the outputs and the scratch at some. -/
abbrev Held (c : Dev nD) (arg2 : Memref sig .tc .vmem S4x1024x128 .bf16) (arg3 : Memref sig .tc .vmem S1x1024x128 .bf16) (arg4 : Memref sig .tc .vmem S1x1024x128 .bf16) (arg5 : Memref sig .tc .vmem S1x4x1024x2 .f32) (arg6 : Memref sig .tc .vmem S1x1x2x1024 .f32) (arg7 : Memref sig .tc .vmem S4x1024x128 .f32) (arg8 : Memref sig .tc .vmem S1x4x1024x2 .f32) (arg9 : Memref sig .tc .vmem S4x1024x128 .f32) (arg10 : Memref sig .tc .vmem S4x1024x128 .bf16) (arg11 : Memref sig .tc .vmem S1x1024x128 .bf16) (arg12 : Memref sig .tc .vmem S1x1024x128 .bf16) (arg13 : Memref sig .tc .vmem S1x4x1024x2 .f32) (arg14 : Memref sig .tc .vmem S1x1x2x1024 .f32) (arg15 : Memref sig .tc .vmem S4x1024x128 .f32) (x0 : Vec F S4x1024x128 .bf16) (x1 : Vec F S1x1024x128 .bf16) (x2 : Vec F S1x1024x128 .bf16) (x3 : Vec F S1x4x1024x2 .f32) (x4 : Vec F S1x1x2x1024 .f32) (x5 : Vec F S4x1024x128 .f32) (x6 : Vec F S1x4x1024x2 .f32) (x7 : Vec F S4x1024x128 .f32) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d))

set_option maxHeartbeats 4000000 in
/-- The body from any point: the first block of a head pair resets the accumulators, the last one writes the gradient of
    the queries, and either way every access falls inside its buffer. -/
theorem body_runs (c : Dev nD) (i : grid0.Coords) (arg2 : Memref sig .tc .vmem S4x1024x128 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x4x1024x2 .f32) (harg5 : arg5.IsWhole) (arg6 : Memref sig .tc .vmem S1x1x2x1024 .f32) (harg6 : arg6.IsWhole) (arg7 : Memref sig .tc .vmem S4x1024x128 .f32) (harg7 : arg7.IsWhole) (arg8 : Memref sig .tc .vmem S1x4x1024x2 .f32) (harg8 : arg8.IsWhole) (arg9 : Memref sig .tc .vmem S4x1024x128 .f32) (harg9 : arg9.IsWhole) (arg10 : Memref sig .tc .vmem S4x1024x128 .bf16) (harg10 : arg10.IsWhole) (arg11 : Memref sig .tc .vmem S1x1024x128 .bf16) (harg11 : arg11.IsWhole) (arg12 : Memref sig .tc .vmem S1x1024x128 .bf16) (harg12 : arg12.IsWhole) (arg13 : Memref sig .tc .vmem S1x4x1024x2 .f32) (harg13 : arg13.IsWhole) (arg14 : Memref sig .tc .vmem S1x1x2x1024 .f32) (harg14 : arg14.IsWhole) (arg15 : Memref sig .tc .vmem S4x1024x128 .f32) (harg15 : arg15.IsWhole) (x0 : Vec F S4x1024x128 .bf16) (x1 : Vec F S1x1024x128 .bf16) (x2 : Vec F S1x1024x128 .bf16) (x3 : Vec F S1x4x1024x2 .f32) (x4 : Vec F S1x1x2x1024 .f32) (x5 : Vec F S4x1024x128 .f32) (x6 : Vec F S1x4x1024x2 .f32) (x7 : Vec F S4x1024x128 .f32)
    (E : Set ℕ) (K : PUnit → sProp 𝕄) :
    iprop(Held (F := F) c arg2 arg3 arg4 arg5 arg6 arg7 arg8 arg9 arg10 arg11 arg12 arg13 arg14 arg15 x0 x1 x2 x3 x4 x5 x6 x7 ∗ (Held (F := F) c arg2 arg3 arg4 arg5 arg6 arg7 arg8 arg9 arg10 arg11 arg12 arg13 arg14 arg15 x0 x1 x2 x3 x4 x5 x6 x7 -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15) K := by
  unfold Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d0, %g0, -, G0⟩, ⟨%d1, %g1, -, G1⟩, ⟨%d2, %g2, -, G2⟩, ⟨%d3, %g3, -, G3⟩, ⟨%d4, %g4, -, G4⟩, ⟨%d5, %g5, -, G5⟩⟩, Hk⟩
  by_cases h1 : (Scalar.cmpi .ne (Scalar.extui (Scalar.cmpi .eq (BitVec.ofNat 32 (i 1).val) 0#32) : BitVec 32) 0#32 : BitVec 1) = 1#1 <;>
  by_cases h2 : k0_cond2 i = 1#1
  all_goals
    sl_unfold [cc0_attn_bwd]
    sl_exec (disch := first | sl_exact h1 | sl_exact h2)
    sl_step
    iapply Hk
    sl_close

end Cert.Kernel.Own

end
-- ==== Proof.KernelIdealFrame.lean ====
/-
  The frame of the kernel: at every grid point its body runs from any contents of the output blocks and of the scratch
  accumulator, hands the input blocks back as it found them, and leaves the outputs and the scratch at some contents.
  Nothing is said here of what those contents are.
-/
module

public import proofs.«01_k».proof.Proof.Gen.KernelIdeal.Frame
public import proofs.«01_k».proof.Proof.Gen.KernelIdeal.Loops
public import Idealize.ShloMosaic.Lib.Claim

@[expose] public section

set_option maxRecDepth 16384

noncomputable section

namespace Cert.KernelIdeal

/-! The stretches of the kernel that do not read the mask, each as its accesses over its values' names. -/

open Cert.KernelIdeal.Gen Idealize.ShloMosaic

theorem k0_part5_eq_skeleton {F : FTy → Type} [FloatOps F] : k0_part5 (F := F) = k0_part5_skel (F := F) := rfl

theorem k0_part7_eq_skeleton {F : FTy → Type} [FloatOps F] : k0_part7 (F := F) = k0_part7_skel (F := F) := rfl

theorem k0_part9_eq_skeleton {F : FTy → Type} [FloatOps F] : k0_part9 (F := F) = k0_part9_skel (F := F) := rfl

theorem k0_part10_eq_skeleton {F : FTy → Type} [FloatOps F] : k0_part10 (F := F) = k0_part10_skel (F := F) := rfl

theorem k0_part12_eq_skeleton {F : FTy → Type} [FloatOps F] : k0_part12 (F := F) = k0_part12_skel (F := F) := rfl

theorem k0_part14_eq_skeleton {F : FTy → Type} [FloatOps F] : k0_part14 (F := F) = k0_part14_skel (F := F) := rfl

end Cert.KernelIdeal

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- The buffers of one grid point: the inputs at given contents, the outputs and the scratch at some. -/
abbrev Held (c : Dev nD) (arg2 : Memref sig .tc .vmem S4x1024x128 .bf16) (arg3 : Memref sig .tc .vmem S1x1024x128 .bf16) (arg4 : Memref sig .tc .vmem S1x1024x128 .bf16) (arg5 : Memref sig .tc .vmem S1x4x1024x2 .f32) (arg6 : Memref sig .tc .vmem S1x1x2x1024 .f32) (arg7 : Memref sig .tc .vmem S4x1024x128 .f32) (arg8 : Memref sig .tc .vmem S1x4x1024x2 .f32) (arg9 : Memref sig .tc .vmem S4x1024x128 .f32) (arg10 : Memref sig .tc .vmem S4x1024x128 .bf16) (arg11 : Memref sig .tc .vmem S1x1024x128 .bf16) (arg12 : Memref sig .tc .vmem S1x1024x128 .bf16) (arg13 : Memref sig .tc .vmem S1x4x1024x2 .f32) (arg14 : Memref sig .tc .vmem S1x1x2x1024 .f32) (arg15 : Memref sig .tc .vmem S4x1024x128 .f32) (x0 : Vec F S4x1024x128 .bf16) (x1 : Vec F S1x1024x128 .bf16) (x2 : Vec F S1x1024x128 .bf16) (x3 : Vec F S1x4x1024x2 .f32) (x4 : Vec F S1x1x2x1024 .f32) (x5 : Vec F S4x1024x128 .f32) (x6 : Vec F S1x4x1024x2 .f32) (x7 : Vec F S4x1024x128 .f32) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d))

set_option maxHeartbeats 4000000 in
/-- The body from any point: the first block of a head pair resets the accumulators, the last one writes the gradient of
    the queries, and either way every access falls inside its buffer. -/
theorem body_runs (c : Dev nD) (i : grid0.Coords) (arg2 : Memref sig .tc .vmem S4x1024x128 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x4x1024x2 .f32) (harg5 : arg5.IsWhole) (arg6 : Memref sig .tc .vmem S1x1x2x1024 .f32) (harg6 : arg6.IsWhole) (arg7 : Memref sig .tc .vmem S4x1024x128 .f32) (harg7 : arg7.IsWhole) (arg8 : Memref sig .tc .vmem S1x4x1024x2 .f32) (harg8 : arg8.IsWhole) (arg9 : Memref sig .tc .vmem S4x1024x128 .f32) (harg9 : arg9.IsWhole) (arg10 : Memref sig .tc .vmem S4x1024x128 .bf16) (harg10 : arg10.IsWhole) (arg11 : Memref sig .tc .vmem S1x1024x128 .bf16) (harg11 : arg11.IsWhole) (arg12 : Memref sig .tc .vmem S1x1024x128 .bf16) (harg12 : arg12.IsWhole) (arg13 : Memref sig .tc .vmem S1x4x1024x2 .f32) (harg13 : arg13.IsWhole) (arg14 : Memref sig .tc .vmem S1x1x2x1024 .f32) (harg14 : arg14.IsWhole) (arg15 : Memref sig .tc .vmem S4x1024x128 .f32) (harg15 : arg15.IsWhole) (x0 : Vec F S4x1024x128 .bf16) (x1 : Vec F S1x1024x128 .bf16) (x2 : Vec F S1x1024x128 .bf16) (x3 : Vec F S1x4x1024x2 .f32) (x4 : Vec F S1x1x2x1024 .f32) (x5 : Vec F S4x1024x128 .f32) (x6 : Vec F S1x4x1024x2 .f32) (x7 : Vec F S4x1024x128 .f32)
    (E : Set ℕ) (K : PUnit → sProp 𝕄) :
    iprop(Held (F := F) c arg2 arg3 arg4 arg5 arg6 arg7 arg8 arg9 arg10 arg11 arg12 arg13 arg14 arg15 x0 x1 x2 x3 x4 x5 x6 x7 ∗ (Held (F := F) c arg2 arg3 arg4 arg5 arg6 arg7 arg8 arg9 arg10 arg11 arg12 arg13 arg14 arg15 x0 x1 x2 x3 x4 x5 x6 x7 -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15) K := by
  unfold Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d0, %g0, -, G0⟩, ⟨%d1, %g1, -, G1⟩, ⟨%d2, %g2, -, G2⟩, ⟨%d3, %g3, -, G3⟩, ⟨%d4, %g4, -, G4⟩, ⟨%d5, %g5, -, G5⟩⟩, Hk⟩
  by_cases h1 : (Scalar.cmpi .ne (Scalar.extui (Scalar.cmpi .eq (BitVec.ofNat 32 (i 1).val) 0#32) : BitVec 32) 0#32 : BitVec 1) = 1#1 <;>
  by_cases h2 : k0_cond2 i = 1#1
  all_goals
    sl_unfold [cc0_attn_bwd]
    sl_exec (disch := first | sl_exact h1 | sl_exact h2)
    sl_step
    iapply Hk
    sl_close

end Cert.KernelIdeal.Own

end
-- ==== Proof.KernelIdealLaunch.lean ====
/-
  The kernel's launch: the body's triple at every grid point gives the run of the whole program, in which the arguments
  end as they were and every semaphore counter at zero.
-/
module

public import proofs.«01_k».proof.Proof.KernelIdealFrame

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The five results: of what is left in them this frame says nothing. -/
def results : Fin 13 → Bool := fun w => decide (8 ≤ w.val)

/-- The pipeline's data: the inputs' blocks stay as they are, the scratch is at anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem leaves_0 (c : Dev nD) (t : Fin cfg0.N) :
    (dats m 0 c).leavesExact 0 t = owns (c : Thread nD τ) (st0_0 t) fullShare (iblk m c 0 t) := by
  unfold Dat.leavesExact; rw [show cfg0.idle 0 (grid0.coords t) = false from rfl, after_0]
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem leaves_1 (c : Dev nD) (t : Fin cfg0.N) :
    (dats m 0 c).leavesExact 1 t = owns (c : Thread nD τ) (st0_1 t) fullShare (iblk m c 1 t) := by
  unfold Dat.leavesExact; rw [show cfg0.idle 1 (grid0.coords t) = false from rfl, after_1]
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem leaves_2 (c : Dev nD) (t : Fin cfg0.N) :
    (dats m 0 c).leavesExact 2 t = owns (c : Thread nD τ) (st0_2 t) fullShare (iblk m c 2 t) := by
  unfold Dat.leavesExact; rw [show cfg0.idle 2 (grid0.coords t) = false from rfl, after_2]
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem leaves_3 (c : Dev nD) (t : Fin cfg0.N) :
    (dats m 0 c).leavesExact 3 t = owns (c : Thread nD τ) (st0_3 t) fullShare (iblk m c 3 t) := by
  unfold Dat.leavesExact; rw [show cfg0.idle 3 (grid0.coords t) = false from rfl, after_3]
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem leaves_4 (c : Dev nD) (t : Fin cfg0.N) :
    (dats m 0 c).leavesExact 4 t = owns (c : Thread nD τ) (st0_4 t) fullShare (iblk m c 4 t) := by
  unfold Dat.leavesExact; rw [show cfg0.idle 4 (grid0.coords t) = false from rfl, after_4]
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem leaves_5 (c : Dev nD) (t : Fin cfg0.N) :
    (dats m 0 c).leavesExact 5 t = owns (c : Thread nD τ) (st0_5 t) fullShare (iblk m c 5 t) := by
  unfold Dat.leavesExact; rw [show cfg0.idle 5 (grid0.coords t) = false from rfl, after_5]
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem leaves_6 (c : Dev nD) (t : Fin cfg0.N) :
    (dats m 0 c).leavesExact 6 t = owns (c : Thread nD τ) (st0_6 t) fullShare (iblk m c 6 t) := by
  unfold Dat.leavesExact; rw [show cfg0.idle 6 (grid0.coords t) = false from rfl, after_6]
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (A_eq m c 7) (after_7 m c) t d
theorem leaves_7 (c : Dev nD) (t : Fin cfg0.N) :
    (dats m 0 c).leavesExact 7 t = owns (c : Thread nD τ) (st0_7 t) fullShare (iblk m c 7 t) := by
  unfold Dat.leavesExact; rw [show cfg0.idle 7 (grid0.coords t) = false from rfl, after_7]

/-- Between points: the scratch at some contents and the generator's register at some state. -/
theorem between_eq (c : Dev nD) : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d))

set_option maxHeartbeats 4000000 in
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, between_eq]
  simp only [before_0, before_1, before_2, before_3, before_4, before_5, before_6, before_7, leaves_0, leaves_1, leaves_2, leaves_3, leaves_4, leaves_5, leaves_6, leaves_7]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body_runs c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  isplitl [H0 H1 H2 H3 H4 H5 H6 H7 H8 H9 H10 H11 H12 HS]
  · unfold Held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    iexact HS
  · unfold Held
    iintro ⟨H0, H1, H2, H3, H4, H5, H6, H7, H8, H9, H10, H11, H12, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The body's obligation of the launch. -/
theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ results := fun t => by
  rw [bigSep_W0, bigSep_W0, body_row]
  exact triple_restated (body_at m c t) rfl .rfl fun _ => .rfl

set_option backward.isDefEq.respectTransparency.types false in
/-- The run. -/
theorem run_main : θ_run defs (onTc (τ := τ) (main (F := F))) (s₀ m ρ)
    (fun r => Pipeline.RDat.FramePost (cfgs 0) (fun c => (dats m 0 c).toRForget results) (V m) r ∧ r.2.sem = fun _ => 0) :=
  Pipeline.θ_run_frame_forget_shared (Q' := _) cfgs (dats m) (0 : Fin 1) launch₀0 defs₀ Variants.none results m ρ main
    (hbody := fun c => (obligation m c).loose) (hq := fun _ _ _ => rfl)
    (howed := fun _ _ => rfl) (V := V m) (hmain := hmain m Variants.none) (hA := A_eq m) (hΦ := fun _ _ => rfl)

/-- The frame: every run ends, with the arguments as they were and no semaphore counter raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.KernelIdeal.Own

end
-- ==== Proof.References.lean ====
module

public import proofs.«01_k».proof.Defs
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference15Ideal.Run
public import proofs.«01_k».proof.Proof.Gen.Reference16Ideal.Run
public import proofs.«01_k».proof.Proof.Gen.Reference17Ideal.Run
public import proofs.«01_k».proof.Proof.Gen.Reference18Ideal.Run
public import proofs.«01_k».proof.Proof.Gen.Reference19Ideal.Run
public import proofs.«01_k».proof.Proof.Gen.Reference20Ideal.Run
public import proofs.«01_k».proof.Proof.Gen.Reference21Ideal.Run
public import proofs.«01_k».proof.Proof.Gen.Reference22Ideal.Run
public import proofs.«01_k».proof.Proof.Gen.Reference23Ideal.Run
public import proofs.«01_k».proof.Proof.Gen.Reference24Ideal.Run
public import proofs.«01_k».proof.Proof.Gen.Reference25Ideal.Run
public import proofs.«01_k».proof.Proof.Gen.Reference26Ideal.Run
public import proofs.«01_k».proof.Proof.Gen.Reference27Ideal.Run
public import proofs.«01_k».proof.Proof.Gen.Reference28Ideal.Run
public import proofs.«01_k».proof.Proof.Gen.Reference29Ideal.Run
public import proofs.«01_k».proof.Proof.Gen.Reference30Ideal.Run
public import proofs.«01_k».proof.Proof.Gen.Reference31Ideal.Run
public import Idealize.ShloMosaic.Adequacy
public import Idealize.ShloMosaic.Lib.Quiescent

@[expose] public section

set_option maxRecDepth 16384

/-! # The references' frames

Each reference is plain host code: it runs, and it writes no argument buffer; and since it declares no semaphore, every
counter is zero at its end. -/

noncomputable section

namespace Cert.Proof

open Idealize.ShloMosaic Idealize.SL.Sem

/-- The frame of the reference of attention's backward pass. -/
theorem frame_reference : @Cert.quiescent_ReferenceIdeal Cert.ReferenceIdeal.Gen.facts := by
  intro m ρ _
  exact (θ_run Cert.ReferenceIdeal.defs _ _).mono
    (fun r h => ⟨fun c => (h c).2.2.2.2.2, Idealize.ShloMosaic.sem_eq_zero_of_no_sems (by decide) r.2⟩)
    (Cert.ReferenceIdeal.Value.run m ρ)

/-- The frame of the reference of program 2. -/
theorem frame_reference2 : @Cert.quiescent_Reference2Ideal Cert.Reference2Ideal.Gen.facts := by
  intro m ρ _
  exact (θ_run Cert.Reference2Ideal.defs _ _).mono
    (fun r h => ⟨fun c => (h c).2, Idealize.ShloMosaic.sem_eq_zero_of_no_sems (by decide) r.2⟩)
    (Cert.Reference2Ideal.Value.run m ρ)

/-- The frame of the reference of program 3. -/
theorem frame_reference3 : @Cert.quiescent_Reference3Ideal Cert.Reference3Ideal.Gen.facts := by
  intro m ρ _
  exact (θ_run Cert.Reference3Ideal.defs _ _).mono
    (fun r h => ⟨fun c => (h c).2, Idealize.ShloMosaic.sem_eq_zero_of_no_sems (by decide) r.2⟩)
    (Cert.Reference3Ideal.Value.run m ρ)

/-- The frame of the reference of program 4. -/
theorem frame_reference4 : @Cert.quiescent_Reference4Ideal Cert.Reference4Ideal.Gen.facts := by
  intro m ρ _
  exact (θ_run Cert.Reference4Ideal.defs _ _).mono
    (fun r h => ⟨fun c => (h c).2, Idealize.ShloMosaic.sem_eq_zero_of_no_sems (by decide) r.2⟩)
    (Cert.Reference4Ideal.Value.run m ρ)

/-- The frame of the reference of program 5. -/
theorem frame_reference5 : @Cert.quiescent_Reference5Ideal Cert.Reference5Ideal.Gen.facts := by
  intro m ρ _
  exact (θ_run Cert.Reference5Ideal.defs _ _).mono
    (fun r h => ⟨fun c => (h c).2.2.2, Idealize.ShloMosaic.sem_eq_zero_of_no_sems (by decide) r.2⟩)
    (Cert.Reference5Ideal.Value.run m ρ)

/-- The frame of the reference of program 6. -/
theorem frame_reference6 : @Cert.quiescent_Reference6Ideal Cert.Reference6Ideal.Gen.facts := by
  intro m ρ _
  exact (θ_run Cert.Reference6Ideal.defs _ _).mono
    (fun r h => ⟨fun c => (h c).2.2, Idealize.ShloMosaic.sem_eq_zero_of_no_sems (by decide) r.2⟩)
    (Cert.Reference6Ideal.Value.run m ρ)

/-- The frame of the reference of program 7. -/
theorem frame_reference7 : @Cert.quiescent_Reference7Ideal Cert.Reference7Ideal.Gen.facts := by
  intro m ρ _
  exact (θ_run Cert.Reference7Ideal.defs _ _).mono
    (fun r h => ⟨fun c => (h c).2.2.2, Idealize.ShloMosaic.sem_eq_zero_of_no_sems (by decide) r.2⟩)
    (Cert.Reference7Ideal.Value.run m ρ)

/-- The frame of the reference of program 8. -/
theorem frame_reference8 : @Cert.quiescent_Reference8Ideal Cert.Reference8Ideal.Gen.facts := by
  intro m ρ _
  exact (θ_run Cert.Reference8Ideal.defs _ _).mono
    (fun r h => ⟨fun c => (h c).2, Idealize.ShloMosaic.sem_eq_zero_of_no_sems (by decide) r.2⟩)
    (Cert.Reference8Ideal.Value.run m ρ)

/-- The frame of the reference of program 9. -/
theorem frame_reference9 : @Cert.quiescent_Reference9Ideal Cert.Reference9Ideal.Gen.facts := by
  intro m ρ _
  exact (θ_run Cert.Reference9Ideal.defs _ _).mono
    (fun r h => ⟨fun c => (h c).2, Idealize.ShloMosaic.sem_eq_zero_of_no_sems (by decide) r.2⟩)
    (Cert.Reference9Ideal.Value.run m ρ)

/-- The frame of the reference of program 10. -/
theorem frame_reference10 : @Cert.quiescent_Reference10Ideal Cert.Reference10Ideal.Gen.facts := by
  intro m ρ _
  exact (θ_run Cert.Reference10Ideal.defs _ _).mono
    (fun r h => ⟨fun c => (h c).2, Idealize.ShloMosaic.sem_eq_zero_of_no_sems (by decide) r.2⟩)
    (Cert.Reference10Ideal.Value.run m ρ)

/-- The frame of the reference of program 11. -/
theorem frame_reference11 : @Cert.quiescent_Reference11Ideal Cert.Reference11Ideal.Gen.facts := by
  intro m ρ _
  exact (θ_run Cert.Reference11Ideal.defs _ _).mono
    (fun r h => ⟨fun c => (h c).2, Idealize.ShloMosaic.sem_eq_zero_of_no_sems (by decide) r.2⟩)
    (Cert.Reference11Ideal.Value.run m ρ)

/-- The frame of the reference of program 12. -/
theorem frame_reference12 : @Cert.quiescent_Reference12Ideal Cert.Reference12Ideal.Gen.facts := by
  intro m ρ _
  exact (θ_run Cert.Reference12Ideal.defs _ _).mono
    (fun r h => ⟨fun c => (h c).2, Idealize.ShloMosaic.sem_eq_zero_of_no_sems (by decide) r.2⟩)
    (Cert.Reference12Ideal.Value.run m ρ)

/-- The frame of the reference of program 13. -/
theorem frame_reference13 : @Cert.quiescent_Reference13Ideal Cert.Reference13Ideal.Gen.facts := by
  intro m ρ _
  exact (θ_run Cert.Reference13Ideal.defs _ _).mono
    (fun r h => ⟨fun c => (h c).2, Idealize.ShloMosaic.sem_eq_zero_of_no_sems (by decide) r.2⟩)
    (Cert.Reference13Ideal.Value.run m ρ)

/-- The frame of the reference of program 14. -/
theorem frame_reference14 : @Cert.quiescent_Reference14Ideal Cert.Reference14Ideal.Gen.facts := by
  intro m ρ _
  exact (θ_run Cert.Reference14Ideal.defs _ _).mono
    (fun r h => ⟨fun c => (h c).2, Idealize.ShloMosaic.sem_eq_zero_of_no_sems (by decide) r.2⟩)
    (Cert.Reference14Ideal.Value.run m ρ)

/-- The frame of the reference of program 15. -/
theorem frame_reference15 : @Cert.quiescent_Reference15Ideal Cert.Reference15Ideal.Gen.facts := by
  intro m ρ _
  exact (θ_run Cert.Reference15Ideal.defs _ _).mono
    (fun r h => ⟨fun c => (h c).2.2.2.2, Idealize.ShloMosaic.sem_eq_zero_of_no_sems (by decide) r.2⟩)
    (Cert.Reference15Ideal.Value.run m ρ)

/-- The frame of the reference of program 16. -/
theorem frame_reference16 : @Cert.quiescent_Reference16Ideal Cert.Reference16Ideal.Gen.facts := by
  intro m ρ _
  exact (θ_run Cert.Reference16Ideal.defs _ _).mono
    (fun r h => ⟨fun c => (h c).2.2.2.2, Idealize.ShloMosaic.sem_eq_zero_of_no_sems (by decide) r.2⟩)
    (Cert.Reference16Ideal.Value.run m ρ)

/-- The frame of the reference of program 17. -/
theorem frame_reference17 : @Cert.quiescent_Reference17Ideal Cert.Reference17Ideal.Gen.facts := by
  intro m ρ _
  exact (θ_run Cert.Reference17Ideal.defs _ _).mono
    (fun r h => ⟨fun c => (h c).2.2.2.2, Idealize.ShloMosaic.sem_eq_zero_of_no_sems (by decide) r.2⟩)
    (Cert.Reference17Ideal.Value.run m ρ)

/-- The frame of the reference of program 18. -/
theorem frame_reference18 : @Cert.quiescent_Reference18Ideal Cert.Reference18Ideal.Gen.facts := by
  intro m ρ _
  exact (θ_run Cert.Reference18Ideal.defs _ _).mono
    (fun r h => ⟨fun c => (h c).2.2.2.2, Idealize.ShloMosaic.sem_eq_zero_of_no_sems (by decide) r.2⟩)
    (Cert.Reference18Ideal.Value.run m ρ)

/-- The frame of the reference of program 19. -/
theorem frame_reference19 : @Cert.quiescent_Reference19Ideal Cert.Reference19Ideal.Gen.facts := by
  intro m ρ _
  exact (θ_run Cert.Reference19Ideal.defs _ _).mono
    (fun r h => ⟨fun c => (h c).2.2.2.2, Idealize.ShloMosaic.sem_eq_zero_of_no_sems (by decide) r.2⟩)
    (Cert.Reference19Ideal.Value.run m ρ)

/-- The frame of the reference of program 20. -/
theorem frame_reference20 : @Cert.quiescent_Reference20Ideal Cert.Reference20Ideal.Gen.facts := by
  intro m ρ _
  exact (θ_run Cert.Reference20Ideal.defs _ _).mono
    (fun r h => ⟨fun c => (h c).2.2.2, Idealize.ShloMosaic.sem_eq_zero_of_no_sems (by decide) r.2⟩)
    (Cert.Reference20Ideal.Value.run m ρ)

/-- The frame of the reference of program 21. -/
theorem frame_reference21 : @Cert.quiescent_Reference21Ideal Cert.Reference21Ideal.Gen.facts := by
  intro m ρ _
  exact (θ_run Cert.Reference21Ideal.defs _ _).mono
    (fun r h => ⟨fun c => (h c).2, Idealize.ShloMosaic.sem_eq_zero_of_no_sems (by decide) r.2⟩)
    (Cert.Reference21Ideal.Value.run m ρ)

/-- The frame of the reference of program 22. -/
theorem frame_reference22 : @Cert.quiescent_Reference22Ideal Cert.Reference22Ideal.Gen.facts := by
  intro m ρ _
  exact (θ_run Cert.Reference22Ideal.defs _ _).mono
    (fun r h => ⟨fun c => (h c).2, Idealize.ShloMosaic.sem_eq_zero_of_no_sems (by decide) r.2⟩)
    (Cert.Reference22Ideal.Value.run m ρ)

/-- The frame of the reference of program 23. -/
theorem frame_reference23 : @Cert.quiescent_Reference23Ideal Cert.Reference23Ideal.Gen.facts := by
  intro m ρ _
  exact (θ_run Cert.Reference23Ideal.defs _ _).mono
    (fun r h => ⟨fun c => (h c).2, Idealize.ShloMosaic.sem_eq_zero_of_no_sems (by decide) r.2⟩)
    (Cert.Reference23Ideal.Value.run m ρ)

/-- The frame of the reference of program 24. -/
theorem frame_reference24 : @Cert.quiescent_Reference24Ideal Cert.Reference24Ideal.Gen.facts := by
  intro m ρ _
  exact (θ_run Cert.Reference24Ideal.defs _ _).mono
    (fun r h => ⟨fun c => (h c).2, Idealize.ShloMosaic.sem_eq_zero_of_no_sems (by decide) r.2⟩)
    (Cert.Reference24Ideal.Value.run m ρ)

/-- The frame of the reference of program 25. -/
theorem frame_reference25 : @Cert.quiescent_Reference25Ideal Cert.Reference25Ideal.Gen.facts := by
  intro m ρ _
  exact (θ_run Cert.Reference25Ideal.defs _ _).mono
    (fun r h => ⟨fun c => (h c).2, Idealize.ShloMosaic.sem_eq_zero_of_no_sems (by decide) r.2⟩)
    (Cert.Reference25Ideal.Value.run m ρ)

/-- The frame of the reference of program 26. -/
theorem frame_reference26 : @Cert.quiescent_Reference26Ideal Cert.Reference26Ideal.Gen.facts := by
  intro m ρ _
  exact (θ_run Cert.Reference26Ideal.defs _ _).mono
    (fun r h => ⟨fun c => (h c).2, Idealize.ShloMosaic.sem_eq_zero_of_no_sems (by decide) r.2⟩)
    (Cert.Reference26Ideal.Value.run m ρ)

/-- The frame of the reference of program 27. -/
theorem frame_reference27 : @Cert.quiescent_Reference27Ideal Cert.Reference27Ideal.Gen.facts := by
  intro m ρ _
  exact (θ_run Cert.Reference27Ideal.defs _ _).mono
    (fun r h => ⟨fun c => (h c).2, Idealize.ShloMosaic.sem_eq_zero_of_no_sems (by decide) r.2⟩)
    (Cert.Reference27Ideal.Value.run m ρ)

/-- The frame of the reference of program 28. -/
theorem frame_reference28 : @Cert.quiescent_Reference28Ideal Cert.Reference28Ideal.Gen.facts := by
  intro m ρ _
  exact (θ_run Cert.Reference28Ideal.defs _ _).mono
    (fun r h => ⟨fun c => (h c).2.2.2, Idealize.ShloMosaic.sem_eq_zero_of_no_sems (by decide) r.2⟩)
    (Cert.Reference28Ideal.Value.run m ρ)

/-- The frame of the reference of program 29. -/
theorem frame_reference29 : @Cert.quiescent_Reference29Ideal Cert.Reference29Ideal.Gen.facts := by
  intro m ρ _
  exact (θ_run Cert.Reference29Ideal.defs _ _).mono
    (fun r h => ⟨fun c => (h c).2, Idealize.ShloMosaic.sem_eq_zero_of_no_sems (by decide) r.2⟩)
    (Cert.Reference29Ideal.Value.run m ρ)

/-- The frame of the reference of program 30. -/
theorem frame_reference30 : @Cert.quiescent_Reference30Ideal Cert.Reference30Ideal.Gen.facts := by
  intro m ρ _
  exact (θ_run Cert.Reference30Ideal.defs _ _).mono
    (fun r h => ⟨fun c => (h c).2, Idealize.ShloMosaic.sem_eq_zero_of_no_sems (by decide) r.2⟩)
    (Cert.Reference30Ideal.Value.run m ρ)

/-- The frame of the reference of program 31. -/
theorem frame_reference31 : @Cert.quiescent_Reference31Ideal Cert.Reference31Ideal.Gen.facts := by
  intro m ρ _
  exact (θ_run Cert.Reference31Ideal.defs _ _).mono
    (fun r h => ⟨fun c => (h c).2.2.2, Idealize.ShloMosaic.sem_eq_zero_of_no_sems (by decide) r.2⟩)
    (Cert.Reference31Ideal.Value.run m ρ)

end Cert.Proof

end
-- ==== Proof.Algebra.lean ====
/-
  Facts of the extended reals that the value proofs share.
-/
module

public import Idealize.ShloMosaic.Lib.Pipeline.ValueKit
public import Idealize.ShloMosaic.Lib.IdealHost
public import Idealize.ShloMosaic.Lib.Pointwise

@[expose] public section

noncomputable section

open Idealize.ShloMosaic
open scoped BigOperators

namespace Cert.Algebra

/-- The word of one half is one half. -/
theorem ofBits_half : Ideal.ofBits .f32 0x3F000000#32 = (((1 : ℝ) / 2 : ℝ) : EReal) := by
  simp [Ideal.ofBits, Ideal.ieee, -EReal.coe_mul]; norm_num

/-- A real factor that is not negative goes through a finite sum, whatever the terms. -/
theorem mul_sum {ι : Type*} (s : Finset ι) (f : ι → EReal) (c : ℝ) (hc : 0 ≤ c) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

/-- The same on the right. -/
theorem sum_mul {ι : Type*} (s : Finset ι) (f : ι → EReal) (c : ℝ) (hc : 0 ≤ c) :
    (∑ i ∈ s, f i) * (c : EReal) = ∑ i ∈ s, f i * (c : EReal) := by
  rw [mul_comm, mul_sum s f c hc]
  exact Finset.sum_congr rfl fun i _ => mul_comm _ _

end Cert.Algebra

end
-- ==== Proof.Reals.lean ====
module

public import proofs.«01_k».proof.Proof.Algebra
public import Idealize.ShloMosaic.Lib.Pointwise

@[expose] public section

/-! # Reals among the extended reals

The operations of the ideal instance at real operands, and what an entry of an array that passes a precondition is. -/

noncomputable section

open Idealize.ShloMosaic
open scoped BigOperators

namespace Cert.Reals

/-- An extended real that is a real. -/
def IsReal (x : EReal) : Prop := ∃ r : ℝ, x = (r : EReal)

/-- What a precondition says of an entry: its absolute value is below infinity, so it is real. -/
theorem of_small {x : EReal} (h : Ideal.cmp .olt (max x (-x)) (Ideal.ofBits .f32 0x7F800000#32) = 1#1) : IsReal x := by
  have e : Ideal.ofBits .f32 0x7F800000#32 = ⊤ := by simp [Ideal.ofBits, Ideal.ieee]
  rw [e] at h
  induction x with
  | bot => simp [Ideal.cmp] at h
  | top => simp [Ideal.cmp] at h
  | coe r => exact ⟨r, rfl⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.neg {x : EReal} (hx : IsReal x) : IsReal (-x) := by
  obtain ⟨a, rfl⟩ := hx; exact ⟨-a, (EReal.coe_neg a).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type*} {s : Finset ι} {f : ι → EReal} (h : ∀ i, IsReal (f i)) : IsReal (∑ i ∈ s, f i) := by
  choose g hg using h
  exact ⟨∑ i ∈ s, g i, by rw [coe_sum]; exact Finset.sum_congr rfl fun i _ => hg i⟩

theorem div_coe_coe (a : ℝ) {b : ℝ} (h : b ≠ 0) : Ideal.div (a : EReal) (b : EReal) = ((a / b : ℝ) : EReal) := by
  rw [Ideal.div, if_neg (by exact_mod_cast h), ← EReal.coe_inv, ← EReal.coe_mul, div_eq_mul_inv]

theorem exp_coe (a : ℝ) : Ideal.exp (a : EReal) = (Real.exp a : EReal) := rfl

theorem rsqrt_coe {a : ℝ} (h : 0 < a) : Ideal.rsqrt (a : EReal) = (((Real.sqrt a)⁻¹ : ℝ) : EReal) := by
  show (if a < 0 then ⊥ else if a = 0 then ⊤ else (((Real.sqrt a)⁻¹ : ℝ) : EReal)) = _
  rw [if_neg (not_lt.mpr h.le), if_neg h.ne']

theorem log_coe {a : ℝ} (h : 0 < a) : Ideal.log (a : EReal) = (Real.log a : EReal) := by
  show (if a ≤ 0 then ⊥ else (Real.log a : EReal)) = _
  rw [if_neg (not_le.mpr h)]

end Cert.Reals

end
-- ==== Proof.Value2.lean ====
module

public import proofs.«01_k».proof.Proof.Gen.Kernel2Ideal.Value
public import proofs.«01_k».proof.Proof.Gen.Reference2Ideal.Run
public import proofs.«01_k».proof.Proof.Reals
public import Idealize.ShloMosaic.Lib.Pipeline.ValueKit
public import Idealize.ShloMosaic.Lib.Pipeline.ReadBack
public import Idealize.ShloMosaic.Lib.StableHlo.Run
public import Idealize.ShloMosaic.Lib.Pointwise

@[expose] public section

set_option maxRecDepth 16384

noncomputable section

open Idealize.ShloMosaic Idealize.ShloMosaic.TcCoe Idealize.SL.Sem
open scoped BigOperators

namespace Cert.Kernel2Ideal.Own

open Cert.Kernel2Ideal Cert.Kernel2Ideal.Gen Cert.Kernel2Ideal.Value

variable (m : (ℓ : Loc nD τ sig) → Buf (Elt Ideal) ℓ) (ρ : Dev nD → PrngReg)

/-- The logistic function, of its exponential. -/
def logist (g : EReal) : EReal := Ideal.div 1 (1 + Ideal.exp (-g))

/-- The gradient of the activations: half a row's product with a row of the output weights. -/
def prod (z : Vec Ideal S4096x1024 .f32) (w : Vec Ideal S4x2816x1024 .f32) (r : Fin 4096) (q : Fin 2816) : EReal :=
  Ideal.ofBits .f32 0x3F000000#32 * ∑ k : Fin 1024, z (ix2 r k) * w (ix3 (0 : Fin 4) q k)

/-- The gradient of a gate. -/
def dgate (d g u : EReal) : EReal := d * u * logist g * (1 + g * (1 - logist g))

/-- The gradient of what the gate multiplies. -/
def dup (d g : EReal) : EReal := d * g * logist g

/-- What a block's product is, at an entry. -/
def part (x : Vec Ideal S512x1024 .f32) (s : Vec Ideal S1x1024 .f32) (y : Vec Ideal S1x1408x1024 .bf16) (p : Fin 512) (q : Fin 1408) : EReal :=
  Ideal.ofBits .f32 0x3F000000#32 * ∑ k : Fin 1024, (x (ix2 p k) + s (ix2 (0 : Fin 1) k)) * y (ix3 (0 : Fin 1) q k)

theorem pay3 (x : Vec Ideal S512x1024 .f32) (s : Vec Ideal S1x1024 .f32) (y : Vec Ideal S1x1408x1024 .bf16) (p : Fin 512) (q : Fin 1408) :
    k0_pay3 x s y (ix2 p q) = part x s y p q := by
  pointwise [k0_pay3, part]

theorem pay4 (g : Vec Ideal S1x512x1408 .bf16) (p : Fin 512) (q : Fin 1408) :
    k0_pay4 g (ix2 p q) = g (ix3 (0 : Fin 1) p q) := by
  pointwise [k0_pay4]

theorem pay5 (g : Vec Ideal S1x512x1408 .bf16) (p : Fin 512) (q : Fin 1408) :
    k0_pay5 g (ix2 p q) = logist (g (ix3 (0 : Fin 1) p q)) := by
  pointwise [k0_pay5, pay4, logist]
  rw [zero_sub]

theorem pay6 (x : Vec Ideal S512x1024 .f32) (s : Vec Ideal S1x1024 .f32) (y : Vec Ideal S1x1408x1024 .bf16) (g u : Vec Ideal S1x512x1408 .bf16) (p : Fin 512) (q : Fin 1408) :
    k0_pay6 x s y g u (ix2 p q) = dgate (part x s y p q) (g (ix3 (0 : Fin 1) p q)) (u (ix3 (0 : Fin 1) p q)) := by
  pointwise [k0_pay6, pay3, pay4, pay5, dgate]

theorem pay1 (x : Vec Ideal S512x1024 .f32) (s : Vec Ideal S1x1024 .f32) (y : Vec Ideal S1x1408x1024 .bf16) (g u : Vec Ideal S1x512x1408 .bf16) (j : S1x512x1408.Idx) :
    k0_pay1 (k0_pay6 x s y g u) j = dgate (part x s y (j 1) (j 2)) (g (ix3 (0 : Fin 1) (j 1) (j 2))) (u (ix3 (0 : Fin 1) (j 1) (j 2))) := by
  idx_vars j
  pointwise [k0_pay1, pay6]

theorem pay2 (x : Vec Ideal S512x1024 .f32) (s : Vec Ideal S1x1024 .f32) (y : Vec Ideal S1x1408x1024 .bf16) (g : Vec Ideal S1x512x1408 .bf16) (j : S1x512x1408.Idx) :
    k0_pay2 (k0_pay3 x s y) (k0_pay4 g) (k0_pay5 g) j = dup (part x s y (j 1) (j 2)) (g (ix3 (0 : Fin 1) (j 1) (j 2))) := by
  idx_vars j
  pointwise [k0_pay2, pay3, pay4, pay5, dup]

theorem index0 : ∀ t : Fin cfg0.N, win0_0.index t = ![t.val % 8, 0] := by decide +kernel
theorem index1 : ∀ t : Fin cfg0.N, win0_1.index t = ![0, 0] := by decide +kernel
theorem index2 : ∀ t : Fin cfg0.N, win0_2.index t = ![0, t.val / 8, 0] := by decide +kernel
theorem index3 : ∀ t : Fin cfg0.N, win0_3.index t = ![0, t.val % 8, t.val / 8] := by decide +kernel
theorem index4 : ∀ t : Fin cfg0.N, win0_4.index t = ![1, t.val % 8, t.val / 8] := by decide +kernel
theorem index5 : ∀ t : Fin cfg0.N, win0_5.index t = ![0, t.val % 8, t.val / 8] := by decide +kernel

theorem V0 (c : Dev nD) (i : S4x2816x1024.Idx) : V m c main_v0 i = m ((c : Thread nD τ).loc main_arg1) i := by
  have h : V m c main_v0 = (truncf (F := Ideal) .bf16 (m ((c : Thread nD τ).loc main_arg1) : FVec Ideal S4x2816x1024 .f32) bitsLt_bf16_f32 : FVec Ideal S4x2816x1024 .bf16) := by
    unfold_abbrev_sides
    after_results
  rw [h]; rfl

theorem V1 (c : Dev nD) (i : S2x4096x2816.Idx) : V m c main_v1 i = m ((c : Thread nD τ).loc main_arg2) i := by
  have h : V m c main_v1 = (truncf (F := Ideal) .bf16 (m ((c : Thread nD τ).loc main_arg2) : FVec Ideal S2x4096x2816 .f32) bitsLt_bf16_f32 : FVec Ideal S2x4096x2816 .bf16) := by
    unfold_abbrev_sides
    after_results
  rw [h]; rfl

theorem V2 (c : Dev nD) (k : Fin 1024) : (V m c main_v2 : FVec Ideal S1x1024 .f32) (ix2 (0 : Fin 1) k) = (0 : EReal) := by
  have h : V m c main_v2 = (broadcastInDim S1x1024 ![] bcast_S_S1x1024 (constant (F := Ideal) S_ .f32 0x00000000#32) : FVec Ideal S1x1024 .f32) := by
    unfold_abbrev_sides
    after_results
  rw [h]
  pointwise []

theorem iblk0 (c : Dev nD) (t : Fin cfg0.N) (p : Fin 512) (k : Fin 1024) (h0 : t.val % 8 * 512 + p.val < 4096) :
    iblk m c 0 t (ix2 p k) = m ((c : Thread nD τ).loc main_arg0) (ix2 ⟨t.val % 8 * 512 + p.val, h0⟩ k) := by
  blk_simp [iblk]
  rw [V_main_arg0]
  blk_ext [index0]

theorem iblk1 (c : Dev nD) (t : Fin cfg0.N) (k : Fin 1024) :
    iblk (F := Ideal) m c 1 t (ix2 (0 : Fin 1) k) = (V m c main_v2 : FVec Ideal S1x1024 .f32) (ix2 (0 : Fin 1) k) := by
  blk_simp [iblk]
  blk_ext [index1]

theorem iblk2 (c : Dev nD) (t : Fin cfg0.N) (q : Fin 1408) (k : Fin 1024) (h : t.val / 8 * 1408 + q.val < 2816) :
    iblk m c 2 t (ix3 (0 : Fin 1) q k) = m ((c : Thread nD τ).loc main_arg1) (ix3 (0 : Fin 4) ⟨t.val / 8 * 1408 + q.val, h⟩ k) := by
  blk_simp [iblk]
  rw [V0]
  blk_ext [index2]

theorem iblk3 (c : Dev nD) (t : Fin cfg0.N) (p : Fin 512) (q : Fin 1408) (h0 : t.val % 8 * 512 + p.val < 4096) (h : t.val / 8 * 1408 + q.val < 2816) :
    iblk m c 3 t (ix3 (0 : Fin 1) p q) = m ((c : Thread nD τ).loc main_arg2) (ix3 (0 : Fin 2) ⟨t.val % 8 * 512 + p.val, h0⟩ ⟨t.val / 8 * 1408 + q.val, h⟩) := by
  blk_simp [iblk]
  rw [V1]
  blk_ext [index3]

theorem iblk4 (c : Dev nD) (t : Fin cfg0.N) (p : Fin 512) (q : Fin 1408) (h0 : t.val % 8 * 512 + p.val < 4096) (h : t.val / 8 * 1408 + q.val < 2816) :
    iblk m c 4 t (ix3 (0 : Fin 1) p q) = m ((c : Thread nD τ).loc main_arg2) (ix3 (1 : Fin 2) ⟨t.val % 8 * 512 + p.val, h0⟩ ⟨t.val / 8 * 1408 + q.val, h⟩) := by
  blk_simp [iblk]
  rw [V1]
  blk_ext [index4]

theorem part_eq (c : Dev nD) (t : Fin cfg0.N) (p : Fin 512) (q : Fin 1408) (h0 : t.val % 8 * 512 + p.val < 4096) (h : t.val / 8 * 1408 + q.val < 2816) :
    part (iblk m c 0 t) (iblk m c 1 t) (iblk m c 2 t) p q
      = prod (m ((c : Thread nD τ).loc main_arg0)) (m ((c : Thread nD τ).loc main_arg1)) ⟨t.val % 8 * 512 + p.val, h0⟩ ⟨t.val / 8 * 1408 + q.val, h⟩ :=
  congrArg (fun s => Ideal.ofBits .f32 0x3F000000#32 * s) (Finset.sum_congr rfl fun k _ => by
    rw [iblk0 m c t p k h0, iblk1 m c t k, iblk2 m c t q k h, V2 m c k, add_zero])

/-- The gradients of the two halves of the hidden layer. -/
def grads (z : Vec Ideal S4096x1024 .f32) (w : Vec Ideal S4x2816x1024 .f32) (h : Vec Ideal S2x4096x2816 .f32) : Vec Ideal S2x4096x2816 .bf16 :=
  fun i => if (i 0).val = 0 then dgate (prod z w (i 1) (i 2)) (h (ix3 (0 : Fin 2) (i 1) (i 2))) (h (ix3 (1 : Fin 2) (i 1) (i 2)))
    else dup (prod z w (i 1) (i 2)) (h (ix3 (0 : Fin 2) (i 1) (i 2)))

/-- What a block of them is left at. -/
def halves (x : Vec Ideal S512x1024 .f32) (s : Vec Ideal S1x1024 .f32) (y : Vec Ideal S1x1408x1024 .bf16) (g u : Vec Ideal S1x512x1408 .bf16) : Vec Ideal S2x512x1408 .bf16 :=
  fun j => if (j 0).val = 0 then dgate (part x s y (j 1) (j 2)) (g (ix3 (0 : Fin 1) (j 1) (j 2))) (u (ix3 (0 : Fin 1) (j 1) (j 2)))
    else dup (part x s y (j 1) (j 2)) (g (ix3 (0 : Fin 1) (j 1) (j 2)))

theorem emb1 (i : S1x512x1408.Idx) : r0_5.emb i = ix3 (1 : Fin 2) (i 1) (i 2) := by
  have h0 : (i 0).val < 1 := (i 0).isLt
  refine funext fun a => Fin.ext ?_
  match a with
  | ⟨0, _⟩ => show 1 + 1 * (i 0).val = 1; omega
  | ⟨1, _⟩ => show 0 + 1 * (i 1).val = (i 1).val; omega
  | ⟨2, _⟩ => show 0 + 1 * (i 2).val = (i 2).val; omega

theorem emb0 (i : S1x512x1408.Idx) : r0_4.emb i = ix3 (0 : Fin 2) (i 1) (i 2) := by
  have h0 : (i 0).val < 1 := (i 0).isLt
  refine funext fun a => Fin.ext ?_
  match a with
  | ⟨0, _⟩ => show 0 + 1 * (i 0).val = 0; omega
  | ⟨1, _⟩ => show 0 + 1 * (i 1).val = (i 1).val; omega
  | ⟨2, _⟩ => show 0 + 1 * (i 2).val = (i 2).val; omega

theorem piece1 (x : Vec Ideal S512x1024 .f32) (s : Vec Ideal S1x1024 .f32) (y : Vec Ideal S1x1408x1024 .bf16) (g u : Vec Ideal S1x512x1408 .bf16) (i : S1x512x1408.Idx) :
    k0_pay2 (k0_pay3 (View.ld x r0_0) (View.ld s r0_1) (View.ld y r0_2)) (k0_pay4 (View.ld g r0_3)) (k0_pay5 (View.ld g r0_3)) i = halves x s y g u (r0_5.emb i) := by
  rw [pay2, View.ld_unit_lit _ _ (by decide), View.ld_unit_lit _ _ (by decide), View.ld_unit_lit _ _ (by decide), View.ld_unit_lit _ _ (by decide), emb1]
  rfl

theorem piece0 (x : Vec Ideal S512x1024 .f32) (s : Vec Ideal S1x1024 .f32) (y : Vec Ideal S1x1408x1024 .bf16) (g u : Vec Ideal S1x512x1408 .bf16) (i : S1x512x1408.Idx) :
    k0_pay1 (k0_pay6 (View.ld x r0_0) (View.ld s r0_1) (View.ld y r0_2) (View.ld g r0_3) (View.ld u r0_3)) i = halves x s y g u (r0_4.emb i) := by
  rw [pay1, View.ld_unit_lit _ _ (by decide), View.ld_unit_lit _ _ (by decide), View.ld_unit_lit _ _ (by decide), View.ld_unit_lit _ _ (by decide), View.ld_unit_lit _ _ (by decide), emb0]
  rfl

theorem out5 (x : Vec Ideal S512x1024 .f32) (s : Vec Ideal S1x1024 .f32) (y : Vec Ideal S1x1408x1024 .bf16) (g u : Vec Ideal S1x512x1408 .bf16) (j : S2x512x1408.Idx) :
    out0_5 x s y g u j = halves x s y g u j := by
  unfold out0_5
  refine View.canon_apply_of_pieces (halves x s y g u) _ ?_ j (cover0_5 _ _ j)
  intro pc hpc
  rcases List.mem_cons.mp hpc with rfl | hpc
  · exact fun i => piece1 x s y g u i
  rcases List.mem_cons.mp hpc with rfl | hpc
  · exact fun i => piece0 x s y g u i
  nomatch hpc

theorem final5 (c : Dev nD) : (dats m 0 c).arrAt 5 cfg0.N = grads (m ((c : Thread nD τ).loc main_arg0)) (m ((c : Thread nD τ).loc main_arg1)) (m ((c : Thread nD τ).loc main_arg2)) := by
  refine (dats m 0 c).arrAt_eq_of_covers 5 _ (by decide +kernel) fun t hf y => ?_
  have hN : t.val < 16 := lt_of_lt_of_eq t.isLt N_0
  have b0 : (y 0).val < 2 := (y 0).isLt
  have b1 : (y 1).val < 512 := (y 1).isLt
  have b2 : (y 2).val < 1408 := (y 2).isLt
  have h1 : t.val % 8 * 512 + (y 1).val < 4096 := by omega
  have h2 : t.val / 8 * 1408 + (y 2).val < 2816 := by omega
  have e : (win0_5.blk t).view.emb y = ix3 (y 0) (⟨t.val % 8 * 512 + (y 1).val, h1⟩ : Fin 4096) (⟨t.val / 8 * 1408 + (y 2).val, h2⟩ : Fin 2816) := by
    blk_ext [index5]
  blk_simp
  rw [after0_5, e]
  refine (out5 _ _ _ _ _ y).trans ?_
  unfold halves
  rw [part_eq m c t (y 1) (y 2) h1 h2, iblk3 m c t (y 1) (y 2) h1 h2, iblk4 m c t (y 1) (y 2) h1 h2]
  rfl

end Cert.Kernel2Ideal.Own

namespace Cert.Reference2Ideal.Own

open Cert.Reference2Ideal Cert.Reference2Ideal.Gen Cert.Reals

theorem logist_real (g : ℝ) : ∃ s : ℝ, Cert.Kernel2Ideal.Own.logist (g : EReal) = (s : EReal) := by
  refine ⟨1 / (1 + Real.exp (-g)), ?_⟩
  have h : 1 + Real.exp (-g) ≠ 0 := by positivity
  rw [← div_coe_coe 1 h]
  simp only [Cert.Kernel2Ideal.Own.logist, ← EReal.coe_neg, exp_coe, EReal.coe_add, EReal.coe_one]

/-- At reals, the factored derivative is the sum of its two terms. -/
theorem dgate_eq {d g u : EReal} (hd : IsReal d) (hg : IsReal g) (hu : IsReal u) :
    d * u * Cert.Kernel2Ideal.Own.logist g + g * (d * u) * (Cert.Kernel2Ideal.Own.logist g * (1 - Cert.Kernel2Ideal.Own.logist g)) = Cert.Kernel2Ideal.Own.dgate d g u := by
  obtain ⟨d, rfl⟩ := hd; obtain ⟨g, rfl⟩ := hg; obtain ⟨u, rfl⟩ := hu
  obtain ⟨s, hs⟩ := logist_real g
  simp only [Cert.Kernel2Ideal.Own.dgate, hs, ← EReal.coe_one, ← EReal.coe_mul, ← EReal.coe_sub, ← EReal.coe_add]
  exact congrArg _ (by ring)

/-- The half goes through the product's sum. -/
theorem prod_eq (z : FVec Ideal S4096x1024 .f32) (w : FVec Ideal S4x2816x1024 .f32) (r : Fin 4096) (q : Fin 2816) :
    ∑ k : Fin 1024, Ideal.ofBits .f32 0x3F000000#32 * z (ix2 r k) * w (ix3 (0 : Fin 4) q k) = Cert.Kernel2Ideal.Own.prod z w r q := by
  rw [Cert.Kernel2Ideal.Own.prod, Cert.Algebra.ofBits_half, Cert.Algebra.mul_sum _ _ _ (by norm_num)]
  exact Finset.sum_congr rfl fun k _ => mul_assoc _ _ _

theorem prod_real (z : FVec Ideal S4096x1024 .f32) (w : FVec Ideal S4x2816x1024 .f32) (hz : ∀ i, IsReal (z i)) (hw : ∀ i, IsReal (w i))
    (r : Fin 4096) (q : Fin 2816) : IsReal (Cert.Kernel2Ideal.Own.prod z w r q) := by
  rw [Cert.Kernel2Ideal.Own.prod, Cert.Algebra.ofBits_half]
  exact IsReal.mul ⟨_, rfl⟩ (IsReal.sum fun k => (hz _).mul (hw _))

/-- What the reference's result holds, entry by entry, at real entries. -/
theorem result_eq (z : FVec Ideal S4096x1024 .f32) (w : FVec Ideal S4x2816x1024 .f32) (h : FVec Ideal S2x4096x2816 .f32)
    (hz : ∀ i, IsReal (z i)) (hw : ∀ i, IsReal (w i)) (hh : ∀ i, IsReal (h i)) :
    truncf (F := Ideal) .bf16 (concatenate S2x4096x2816 0 [⟨S1x4096x2816, (broadcastInDim S1x4096x2816 ![1, 2] bcast_S4096x2816_S1x4096x2816_1_2 (addf (mulf (mulf (Host.dotGeneral dot_S4096x1024_S2816x1024_S4096x2816_1_1_0_0_n_n none (mulf (broadcastInDim S4096x1024 ![] bcast_S_S4096x1024 (constant S_ .f32 0x3F000000#32)) z) (shapeCast _ (extractStridedSlice S1x2816x1024 ![0, 0, 0] w slices_S4x2816x1024_S1x2816x1024_0_0_0) shapeCasts_S1x2816x1024_S2816x1024)) (shapeCast _ (extractStridedSlice S1x4096x2816 ![1, 0, 0] h slices_S2x4096x2816_S1x4096x2816_1_0_0) shapeCasts_S1x4096x2816_S4096x2816)) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (shapeCast _ (extractStridedSlice S1x4096x2816 ![0, 0, 0] h slices_S2x4096x2816_S1x4096x2816_0_0_0) shapeCasts_S1x4096x2816_S4096x2816)))))) (mulf (mulf (shapeCast _ (extractStridedSlice S1x4096x2816 ![0, 0, 0] h slices_S2x4096x2816_S1x4096x2816_0_0_0) shapeCasts_S1x4096x2816_S4096x2816) (mulf (Host.dotGeneral dot_S4096x1024_S2816x1024_S4096x2816_1_1_0_0_n_n none (mulf (broadcastInDim S4096x1024 ![] bcast_S_S4096x1024 (constant S_ .f32 0x3F000000#32)) z) (shapeCast _ (extractStridedSlice S1x2816x1024 ![0, 0, 0] w slices_S4x2816x1024_S1x2816x1024_0_0_0) shapeCasts_S1x2816x1024_S2816x1024)) (shapeCast _ (extractStridedSlice S1x4096x2816 ![1, 0, 0] h slices_S2x4096x2816_S1x4096x2816_1_0_0) shapeCasts_S1x4096x2816_S4096x2816))) (mulf (Host.divf (broadcastInDim S4096x2816 ![] bcast_S_S4096x2816 (constant S_ .f32 0x3F800000#32)) (addf (broadcastInDim S4096x2816 ![] bcast_S_S4096x2816 (constant S_ .f32 0x3F800000#32)) (Host.exp (Host.negf (shapeCast _ (extractStridedSlice S1x4096x2816 ![0, 0, 0] h slices_S2x4096x2816_S1x4096x2816_0_0_0) shapeCasts_S1x4096x2816_S4096x2816))))) (subf (broadcastInDim S4096x2816 ![] bcast_S_S4096x2816 (constant S_ .f32 0x3F800000#32)) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (shapeCast _ (extractStridedSlice S1x4096x2816 ![0, 0, 0] h slices_S2x4096x2816_S1x4096x2816_0_0_0) shapeCasts_S1x4096x2816_S4096x2816))))))))))⟩, ⟨S1x4096x2816, (broadcastInDim S1x4096x2816 ![1, 2] bcast_S4096x2816_S1x4096x2816_1_2 (mulf (mulf (shapeCast _ (extractStridedSlice S1x4096x2816 ![0, 0, 0] h slices_S2x4096x2816_S1x4096x2816_0_0_0) shapeCasts_S1x4096x2816_S4096x2816) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (shapeCast _ (extractStridedSlice S1x4096x2816 ![0, 0, 0] h slices_S2x4096x2816_S1x4096x2816_0_0_0) shapeCasts_S1x4096x2816_S4096x2816)))))) (Host.dotGeneral dot_S4096x1024_S2816x1024_S4096x2816_1_1_0_0_n_n none (mulf (broadcastInDim S4096x1024 ![] bcast_S_S4096x1024 (constant S_ .f32 0x3F000000#32)) z) (shapeCast _ (extractStridedSlice S1x2816x1024 ![0, 0, 0] w slices_S4x2816x1024_S1x2816x1024_0_0_0) shapeCasts_S1x2816x1024_S2816x1024))))⟩] concatenates_S1x4096x2816_S1x4096x2816_S2x4096x2816_d0) bitsLt_bf16_f32
      = Cert.Kernel2Ideal.Own.grads z w h := by
  funext j
  idx_vars j
  pointwise [Cert.Kernel2Ideal.Own.grads, prod_eq]
  have b0 := j0.isLt
  by_cases h0 : j0.val < 1
  · rw [dif_pos h0, if_pos (by omega)]
    exact dgate_eq (prod_real z w hz hw _ _) (hh _) (hh _)
  · rw [dif_neg h0, if_neg (by omega), Cert.Kernel2Ideal.Own.dup]
    rw [mul_comm, ← mul_assoc]
    rfl

end Cert.Reference2Ideal.Own

namespace Cert.Proof

/-- The gradients of the hidden layer's two halves are the reference's, at arguments whose entries are real. -/
theorem value2 (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg)
    (real : ∀ c : Dev Cert.Kernel2Ideal.nD,
      (∀ i, Cert.Reals.IsReal (m ((c.tc : Thread Cert.Kernel2Ideal.nD Cert.Kernel2Ideal.τ).loc Cert.Kernel2Ideal.main_arg0) i))
      ∧ (∀ i, Cert.Reals.IsReal (m ((c.tc : Thread Cert.Kernel2Ideal.nD Cert.Kernel2Ideal.τ).loc Cert.Kernel2Ideal.main_arg1) i))
      ∧ (∀ i, Cert.Reals.IsReal (m ((c.tc : Thread Cert.Kernel2Ideal.nD Cert.Kernel2Ideal.τ).loc Cert.Kernel2Ideal.main_arg2) i)))
    (h : ∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) :
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)) := by
  refine ⟨fun c => Cert.Kernel2Ideal.Own.grads (m ((c.tc : Thread _ _).loc Cert.Kernel2Ideal.main_arg0)) (m ((c.tc : Thread _ _).loc Cert.Kernel2Ideal.main_arg1)) (m ((c.tc : Thread _ _).loc Cert.Kernel2Ideal.main_arg2)), ?_, ?_⟩
  · exact (θ_run Cert.Kernel2Ideal.defs _ _).mono (fun r hr c => ⟨(hr c).1.trans (Cert.Kernel2Ideal.Own.final5 m c), (hr c).2⟩)
      (Cert.Kernel2Ideal.Value.run_blocks m g)
  · refine (θ_run Cert.Reference2Ideal.defs _ _).mono (fun r hr c => ⟨(hr c).1.trans ?_, (hr c).2⟩) (Cert.Reference2Ideal.Value.run m' g')
    rw [(h c).1, (h c).2.1, (h c).2.2]
    exact Cert.Reference2Ideal.Own.result_eq _ _ _ (real c).1 (real c).2.1 (real c).2.2

end Cert.Proof

end
-- ==== Proof.Value3.lean ====
module

public import proofs.«01_k».proof.Proof.Gen.Kernel3Ideal.Value
public import proofs.«01_k».proof.Proof.Gen.Reference3Ideal.Run
public import proofs.«01_k».proof.Proof.Algebra
public import Idealize.ShloMosaic.Lib.Pipeline.ValueKit
public import Idealize.ShloMosaic.Lib.Pipeline.ReadBack
public import Idealize.ShloMosaic.Lib.StableHlo.Run
public import Idealize.ShloMosaic.Lib.Pointwise

@[expose] public section

set_option maxRecDepth 16384

noncomputable section

open Idealize.ShloMosaic Idealize.ShloMosaic.TcCoe Idealize.SL.Sem
open scoped BigOperators

namespace Cert.Kernel3Ideal.Own

open Cert.Kernel3Ideal Cert.Kernel3Ideal.Gen Cert.Kernel3Ideal.Value

variable (m : (ℓ : Loc nD τ sig) → Buf (Elt Ideal) ℓ) (ρ : Dev nD → PrngReg)

/-- The partial product of one row block, at an entry. -/
def part (x : Vec Ideal S512x1408 .bf16) (y : Vec Ideal S512x1024 .f32) (j : S1408x1024.Idx) : EReal :=
  ∑ k : Fin 512, x (ix2 k (j 0)) * y (ix2 k (j 1))

theorem pay2 (x : Vec Ideal S512x1408 .bf16) (y : Vec Ideal S512x1024 .f32) (j : S1408x1024.Idx) :
    k0_pay2 x y j = part x y j := by
  idx_vars j
  pointwise [k0_pay2, k0_pay1, part]

theorem pay3 (x : Vec Ideal S512x1408 .bf16) (y : Vec Ideal S512x1024 .f32) (a : Vec Ideal S1408x1024 .f32) (j : S1408x1024.Idx) :
    k0_pay3 x y a j = a j + part x y j := by
  idx_vars j
  pointwise [k0_pay3, k0_pay1, part]

theorem pay4 (a : Vec Ideal S1408x1024 .f32) (j : S1x1408x1024.Idx) :
    k0_pay4 a j = a (ix2 (j 1) (j 2)) * Ideal.ofBits .f32 0x3F000000#32 := by
  idx_vars j
  pointwise [k0_pay4]

theorem acc (c : Dev nD) (t : Fin cfg0.N) (ht : t.val % 8 = 7) (j : S1408x1024.Idx) :
    (outsAt0 m c t.val t.isLt).2 j
      = ∑ s : Fin 8, part (iblk m c 0 ⟨8 * (t.val / 8) + s.val, Pipeline.run_point_lt_of_flush t ht s⟩) (iblk m c 1 ⟨8 * (t.val / 8) + s.val, Pipeline.run_point_lt_of_flush t ht s⟩) j := by
  rw [Pipeline.eq_sum_fin_of_reset_step_apply_of_flush (fun n h => (outsAt0 m c n h).2) 8 (fun _ => (0 : EReal))
    (fun t j => part (iblk m c 0 t) (iblk m c 1 t) j) ?_ ?_ t ht j, zero_add]
  · intro t h0 j
    rw [outsAt0_A m c t h0 (by omega) (by omega)]
    frame_out
    rw [pay2, zero_add]
  · intro t h0 j
    by_cases h2 : t.val % 8 = 7
    · rw [outsAt0_C m c t h0 (by omega) h2]
      frame_out
      rw [pay3, read_unread_whole]
    · rw [outsAt0_B m c t h0 (by omega) h2]
      frame_out
      rw [pay3, read_unread_whole]

theorem out (c : Dev nD) (t : Fin cfg0.N) (ht : t.val % 8 = 7) (j : S1x1408x1024.Idx) :
    (outsAt0 m c t.val t.isLt).1 j = (outsAt0 m c t.val t.isLt).2 (ix2 (j 1) (j 2)) * Ideal.ofBits .f32 0x3F000000#32 := by
  rw [outsAt0_C m c t (by omega) (by omega) ht]
  frame_out
  rw [pay4]

theorem index0 : ∀ t : Fin cfg0.N, win0_0.index t = ![t.val % 8, t.val / 8] := by decide +kernel

theorem index1 : ∀ t : Fin cfg0.N, win0_1.index t = ![t.val % 8, 0] := by decide +kernel

theorem index2 : ∀ t : Fin cfg0.N, win0_2.index t = ![0, t.val / 8, 0] := by decide +kernel

/-- What the result array holds: layer 0 the scaled product, the other layers as they came. -/
def result (a : Vec Ideal S4096x2816 .f32) (d : Vec Ideal S4096x1024 .f32) (w : Vec Ideal S4x2816x1024 .f32) : Vec Ideal S4x2816x1024 .bf16 :=
  fun i => if (i 0).val = 0 then (∑ l : Fin 4096, a (ix2 l (i 1)) * d (ix2 l (i 2))) * Ideal.ofBits .f32 0x3F000000#32 else w i

theorem V0 (c : Dev nD) (i : S4096x2816.Idx) : V m c main_v0 i = m ((c : Thread nD τ).loc main_arg0) i := by
  have h : V m c main_v0 = (truncf (F := Ideal) .bf16 (m ((c : Thread nD τ).loc main_arg0) : FVec Ideal S4096x2816 .f32) bitsLt_bf16_f32 : FVec Ideal S4096x2816 .bf16) := by
    unfold_abbrev_sides
    after_results
  rw [h]; rfl

theorem V2 (c : Dev nD) (i : S4x2816x1024.Idx) : V m c main_v2 i = m ((c : Thread nD τ).loc main_arg2) i := by
  have h : V m c main_v2 = (truncf (F := Ideal) .bf16 (m ((c : Thread nD τ).loc main_arg2) : FVec Ideal S4x2816x1024 .f32) bitsLt_bf16_f32 : FVec Ideal S4x2816x1024 .bf16) := by
    unfold_abbrev_sides
    after_results
    try rfl
  rw [h]; rfl

theorem iblk0 (c : Dev nD) (t : Fin cfg0.N) (k : Fin 512) (j : Fin 1408) (h0 : t.val % 8 * 512 + k.val < 4096) (h1 : t.val / 8 * 1408 + j.val < 2816) :
    iblk m c 0 t (ix2 k j) = m ((c : Thread nD τ).loc main_arg0) (ix2 ⟨t.val % 8 * 512 + k.val, h0⟩ ⟨t.val / 8 * 1408 + j.val, h1⟩) := by
  blk_simp [iblk]
  rw [V0]
  blk_ext [index0]

theorem iblk1 (c : Dev nD) (t : Fin cfg0.N) (k : Fin 512) (j : Fin 1024) (h0 : t.val % 8 * 512 + k.val < 4096) :
    iblk m c 1 t (ix2 k j) = m ((c : Thread nD τ).loc main_arg1) (ix2 ⟨t.val % 8 * 512 + k.val, h0⟩ j) := by
  blk_simp [iblk]
  rw [V_main_arg1]
  blk_ext [index1]

theorem result_zero (a : Vec Ideal S4096x2816 .f32) (d : Vec Ideal S4096x1024 .f32) (w : Vec Ideal S4x2816x1024 .f32) (r : Fin 2816) (q : Fin 1024) :
    result a d w (ix3 (0 : Fin 4) r q) = (∑ l : Fin 4096, a (ix2 l r) * d (ix2 l q)) * Ideal.ofBits .f32 0x3F000000#32 :=
  if_pos rfl

theorem point (c : Dev nD) (t : Fin cfg0.N) (ht : t.val % 8 = 7) (j : S1x1408x1024.Idx) (r : Fin 1408) (q : Fin 1024) (hr : j 1 = r) (hq : j 2 = q)
    (h1 : t.val / 8 * 1408 + r.val < 2816) :
    (outsAt0 m c t.val t.isLt).1 j = result (m ((c : Thread nD τ).loc main_arg0)) (m ((c : Thread nD τ).loc main_arg1)) (m ((c : Thread nD τ).loc main_arg2))
      (ix3 (0 : Fin 4) ⟨t.val / 8 * 1408 + r.val, h1⟩ q) := by
  have hN : t.val < 16 := lt_of_lt_of_eq t.isLt N_0
  rw [out m c t ht, acc m c t ht, result_zero, hr, hq]
  congr 1
  refine Fin.sum_mul_add_congr fun s k hl => ?_
  have hs := s.isLt
  have hk := k.isLt
  have e0 : (8 * (t.val / 8) + s.val) % 8 = s.val := by omega
  have e1 : (8 * (t.val / 8) + s.val) / 8 = t.val / 8 := by omega
  have := iblk0 m c ⟨8 * (t.val / 8) + s.val, Pipeline.run_point_lt_of_flush t ht s⟩ k r (by dsimp only; omega) (by dsimp only; omega)
  rw [show (ix2 (n0 := 1408) (n1 := 1024) r q) 0 = r from rfl, show (ix2 (n0 := 1408) (n1 := 1024) r q) 1 = q from rfl, this, iblk1 m c ⟨8 * (t.val / 8) + s.val, Pipeline.run_point_lt_of_flush t ht s⟩ k q (by dsimp only; omega)]
  simp only [e0, e1]

theorem final (c : Dev nD) : (dats m 0 c).arrAt 2 cfg0.N
    = result (m ((c : Thread nD τ).loc main_arg0)) (m ((c : Thread nD τ).loc main_arg1)) (m ((c : Thread nD τ).loc main_arg2)) := by
  refine (dats m 0 c).arrAt_eq_of_coversWhere_of_agree 2 _ (fun β => β 0 = 0) (by decide +kernel) (fun t hf y => ?_) (fun j hj => ?_)
  · have ht := (flush0_2 t).mp hf
    have hN : t.val < 16 := lt_of_lt_of_eq t.isLt N_0
    have b1 : (y 1).val < 1408 := (y 1).isLt
    have h1 : t.val / 8 * 1408 + (y 1).val < 2816 := by omega
    have e : (win0_2.blk t).view.emb y = ix3 (0 : Fin 4) ⟨t.val / 8 * 1408 + (y 1).val, h1⟩ (y 2) := by
      blk_ext [index2]
    blk_simp
    rw [after0_2, e]
    exact point m c t ht y (y 1) (y 2) rfl rfl h1
  · blk_simp [Pipeline.Window.cell_apply] at hj
    rw [A_eq]
    refine (V2 m c _).trans ?_
    unfold result
    rw [if_neg]
    show ¬ (j 0).val = 0
    rwa [Nat.div_one] at hj

end Cert.Kernel3Ideal.Own

namespace Cert.Reference3Ideal.Own

open Cert.Reference3Ideal Cert.Reference3Ideal.Gen

/-- What the reference's result holds, entry by entry. -/
theorem result_eq (a : FVec Ideal S4096x2816 .f32) (d : FVec Ideal S4096x1024 .f32) (w : FVec Ideal S4x2816x1024 .f32) :
    truncf (F := Ideal) .bf16 (concatenate S4x2816x1024 0 [⟨S1x2816x1024, (broadcastInDim S1x2816x1024 ![1, 2] bcast_S2816x1024_S1x2816x1024_1_2 (transpose S2816x1024 [1, 0] (Host.dotGeneral dot_S4096x1024_S4096x2816_S1024x2816_0_0_1_1_n_n none (mulf (broadcastInDim S4096x1024 ![] bcast_S_S4096x1024 (constant S_ .f32 0x3F000000#32)) d) a) transposes_S1024x2816_S2816x1024_1_0))⟩, ⟨S3x2816x1024, (extractStridedSlice S3x2816x1024 ![1, 0, 0] w slices_S4x2816x1024_S3x2816x1024_1_0_0)⟩] concatenates_S1x2816x1024_S3x2816x1024_S4x2816x1024_d0) bitsLt_bf16_f32
      = Cert.Kernel3Ideal.Own.result a d w := by
  funext j
  idx_vars j
  pointwise [Cert.Kernel3Ideal.Own.result]
  by_cases h : j0.val = 0
  · rw [dif_pos (by omega), if_pos h, Algebra.ofBits_half, Algebra.sum_mul _ _ _ (by norm_num)]
    exact Finset.sum_congr rfl fun x _ => by ac_rfl
  · rw [dif_neg (by omega), if_neg h]
    refine congrArg w (congrArg (fun r : Fin 4 => ix3 r j1 j2) (Fin.ext ?_))
    show 1 + (j0.val - 1) = j0.val
    omega

end Cert.Reference3Ideal.Own

namespace Cert.Proof

/-- The product of the kernel's row blocks is the reference's product. -/
theorem value3 (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg)
    (h : ∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) :
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)) := by
  refine ⟨fun c => Cert.Kernel3Ideal.Own.result (m ((c.tc : Thread _ _).loc Cert.Kernel3Ideal.main_arg0)) (m ((c.tc : Thread _ _).loc Cert.Kernel3Ideal.main_arg1)) (m ((c.tc : Thread _ _).loc Cert.Kernel3Ideal.main_arg2)), ?_, ?_⟩
  · exact (θ_run Cert.Kernel3Ideal.defs _ _).mono (fun r hr c => ⟨(hr c).1.trans (Cert.Kernel3Ideal.Own.final m c), (hr c).2⟩)
      (Cert.Kernel3Ideal.Value.run_blocks m g)
  · refine (θ_run Cert.Reference3Ideal.defs _ _).mono (fun r hr c => ⟨(hr c).1.trans ?_, (hr c).2⟩) (Cert.Reference3Ideal.Value.run m' g')
    rw [Cert.Reference3Ideal.Own.result_eq, (h c).1, (h c).2.1, (h c).2.2]

end Cert.Proof

end
-- ==== Proof.Value4.lean ====
module

public import proofs.«01_k».proof.Proof.Gen.Kernel4Ideal.Value
public import proofs.«01_k».proof.Proof.Gen.Reference4Ideal.Run
public import proofs.«01_k».proof.Proof.Algebra
public import Idealize.ShloMosaic.Lib.Pipeline.ValueKit
public import Idealize.ShloMosaic.Lib.Pipeline.ReadBack
public import Idealize.ShloMosaic.Lib.StableHlo.Run
public import Idealize.ShloMosaic.Lib.Pointwise

@[expose] public section

set_option maxRecDepth 16384

noncomputable section

open Idealize.ShloMosaic Idealize.ShloMosaic.TcCoe Idealize.SL.Sem
open scoped BigOperators

namespace Cert.Kernel4Ideal.Own

open Cert.Kernel4Ideal Cert.Kernel4Ideal.Gen Cert.Kernel4Ideal.Value

variable (m : (ℓ : Loc nD τ sig) → Buf (Elt Ideal) ℓ) (ρ : Dev nD → PrngReg)

/-- The partial product of one row block, at an entry. -/
def part (x : Vec Ideal S512x1024 .f32) (y : Vec Ideal S1x512x1408 .bf16) (j : S1024x1408.Idx) : EReal :=
  ∑ k : Fin 512, x (ix2 k (j 0)) * y (ix3 (0 : Fin 1) k (j 1))

theorem pay2 (x : Vec Ideal S512x1024 .f32) (y : Vec Ideal S1x512x1408 .bf16) (j : S1024x1408.Idx) :
    k0_pay2 x y j = part x y j := by
  idx_vars j
  pointwise [k0_pay2, k0_pay1, part]

theorem pay3 (x : Vec Ideal S512x1024 .f32) (y : Vec Ideal S1x512x1408 .bf16) (a : Vec Ideal S1024x1408 .f32) (j : S1024x1408.Idx) :
    k0_pay3 x y a j = a j + part x y j := by
  idx_vars j
  pointwise [k0_pay3, k0_pay1, part]

theorem pay4 (a : Vec Ideal S1024x1408 .f32) (j : S1x1x1024x1408.Idx) :
    k0_pay4 a j = a (ix2 (j 2) (j 3)) := by
  idx_vars j
  pointwise [k0_pay4]

theorem acc (c : Dev nD) (t : Fin cfg0.N) (ht : t.val % 8 = 7) (j : S1024x1408.Idx) :
    (outsAt0 m c t.val t.isLt).2 j
      = ∑ s : Fin 8, part (iblk m c 0 ⟨8 * (t.val / 8) + s.val, Pipeline.run_point_lt_of_flush t ht s⟩) (iblk m c 1 ⟨8 * (t.val / 8) + s.val, Pipeline.run_point_lt_of_flush t ht s⟩) j := by
  rw [Pipeline.eq_sum_fin_of_reset_step_apply_of_flush (fun n h => (outsAt0 m c n h).2) 8 (fun _ => (0 : EReal))
    (fun t j => part (iblk m c 0 t) (iblk m c 1 t) j) ?_ ?_ t ht j, zero_add]
  · intro t h0 j
    rw [outsAt0_A m c t h0 (by omega) (by omega)]
    frame_out
    rw [pay2, zero_add]
  · intro t h0 j
    by_cases h2 : t.val % 8 = 7
    · rw [outsAt0_C m c t h0 (by omega) h2]
      frame_out
      rw [pay3, read_unread_whole]
    · rw [outsAt0_B m c t h0 (by omega) h2]
      frame_out
      rw [pay3, read_unread_whole]

theorem out (c : Dev nD) (t : Fin cfg0.N) (ht : t.val % 8 = 7) (j : S1x1x1024x1408.Idx) :
    (outsAt0 m c t.val t.isLt).1 j = (outsAt0 m c t.val t.isLt).2 (ix2 (j 2) (j 3)) := by
  rw [outsAt0_C m c t (by omega) (by omega) ht]
  frame_out
  rw [pay4]

theorem index0 : ∀ t : Fin cfg0.N, win0_0.index t = ![t.val % 8, 0] := by decide +kernel

theorem index1 : ∀ t : Fin cfg0.N, win0_1.index t = ![t.val / 16, t.val % 8, t.val / 8 % 2] := by decide +kernel

theorem index2 : ∀ t : Fin cfg0.N, win0_2.index t = ![0, t.val / 8, 0, 0] := by decide +kernel

/-- What the result array holds: layer 0 the product by halves of the two factors' columns, the other layers as they came. -/
def result (x : Vec Ideal S4096x1024 .f32) (d : Vec Ideal S2x4096x2816 .f32) (w : Vec Ideal S4x4x1024x1408 .f32) : Vec Ideal S4x4x1024x1408 .bf16 :=
  fun i => if (i 0).val = 0 then ∑ l : Fin 4096, x (ix2 l (i 2)) * d (ix3 (⟨(i 1).val / 2, Nat.div_lt_of_lt_mul (i 1).isLt⟩ : Fin 2) l
    (⟨(i 1).val % 2 * 1408 + (i 3).val, by have h3 : (i 3).val < 1408 := (i 3).isLt; omega⟩ : Fin 2816)) else w i

theorem V0 (c : Dev nD) (i : S2x4096x2816.Idx) : V m c main_v0 i = m ((c : Thread nD τ).loc main_arg1) i := by
  have h : V m c main_v0 = (truncf (F := Ideal) .bf16 (m ((c : Thread nD τ).loc main_arg1) : FVec Ideal S2x4096x2816 .f32) bitsLt_bf16_f32 : FVec Ideal S2x4096x2816 .bf16) := by
    unfold_abbrev_sides
    after_results
  rw [h]; rfl

theorem V2 (c : Dev nD) (i : S4x4x1024x1408.Idx) : V m c main_v2 i = m ((c : Thread nD τ).loc main_arg2) i := by
  have h : V m c main_v2 = (truncf (F := Ideal) .bf16 (m ((c : Thread nD τ).loc main_arg2) : FVec Ideal S4x4x1024x1408 .f32) bitsLt_bf16_f32 : FVec Ideal S4x4x1024x1408 .bf16) := by
    unfold_abbrev_sides
    after_results
    try rfl
  rw [h]; rfl

theorem iblk0 (c : Dev nD) (t : Fin cfg0.N) (k : Fin 512) (j : Fin 1024) (h0 : t.val % 8 * 512 + k.val < 4096) :
    iblk m c 0 t (ix2 k j) = m ((c : Thread nD τ).loc main_arg0) (ix2 ⟨t.val % 8 * 512 + k.val, h0⟩ j) := by
  blk_simp [iblk]
  rw [V_main_arg0]
  blk_ext [index0]

theorem iblk1 (c : Dev nD) (t : Fin cfg0.N) (k : Fin 512) (j : Fin 1408) (h : t.val / 16 < 2) (h0 : t.val % 8 * 512 + k.val < 4096)
    (h1 : t.val / 8 % 2 * 1408 + j.val < 2816) :
    iblk m c 1 t (ix3 (0 : Fin 1) k j) = m ((c : Thread nD τ).loc main_arg1) (ix3 ⟨t.val / 16, h⟩ ⟨t.val % 8 * 512 + k.val, h0⟩ ⟨t.val / 8 % 2 * 1408 + j.val, h1⟩) := by
  blk_simp [iblk]
  rw [V0]
  blk_ext [index1]

theorem result_zero (x : Vec Ideal S4096x1024 .f32) (d : Vec Ideal S2x4096x2816 .f32) (w : Vec Ideal S4x4x1024x1408 .f32) (s : Fin 4) (r : Fin 1024) (q : Fin 1408)
    (h : s.val / 2 < 2) (h1 : s.val % 2 * 1408 + q.val < 2816) :
    result x d w (ix4 (0 : Fin 4) s r q) = ∑ l : Fin 4096, x (ix2 l r) * d (ix3 ⟨s.val / 2, h⟩ l ⟨s.val % 2 * 1408 + q.val, h1⟩) :=
  if_pos rfl

theorem point (c : Dev nD) (t : Fin cfg0.N) (ht : t.val % 8 = 7) (j : S1x1x1024x1408.Idx) (r : Fin 1024) (q : Fin 1408) (hr : j 2 = r) (hq : j 3 = q)
    (h1 : t.val / 8 < 4) :
    (outsAt0 m c t.val t.isLt).1 j = result (m ((c : Thread nD τ).loc main_arg0)) (m ((c : Thread nD τ).loc main_arg1)) (m ((c : Thread nD τ).loc main_arg2))
      (ix4 (0 : Fin 4) ⟨t.val / 8, h1⟩ r q) := by
  have hN : t.val < 32 := lt_of_lt_of_eq t.isLt N_0
  have hq' := q.isLt
  have a2 : t.val / 8 / 2 = t.val / 16 := by omega
  rw [out m c t ht, acc m c t ht, result_zero _ _ _ _ _ _ (by dsimp only; omega) (by dsimp only; omega), hr, hq]
  refine Fin.sum_mul_add_congr fun s k hl => ?_
  have hs := s.isLt
  have hk := k.isLt
  have e0 : (8 * (t.val / 8) + s.val) % 8 = s.val := by omega
  have e1 : (8 * (t.val / 8) + s.val) / 8 = t.val / 8 := by omega
  have e2 : (8 * (t.val / 8) + s.val) / 16 = t.val / 16 := by omega
  have := iblk0 m c ⟨8 * (t.val / 8) + s.val, Pipeline.run_point_lt_of_flush t ht s⟩ k r (by dsimp only; omega)
  rw [show (ix2 (n0 := 1024) (n1 := 1408) r q) 0 = r from rfl, show (ix2 (n0 := 1024) (n1 := 1408) r q) 1 = q from rfl, this,
    iblk1 m c ⟨8 * (t.val / 8) + s.val, Pipeline.run_point_lt_of_flush t ht s⟩ k q (by dsimp only; omega) (by dsimp only; omega) (by dsimp only; omega)]
  simp only [e0, e1, e2, a2]

theorem final (c : Dev nD) : (dats m 0 c).arrAt 2 cfg0.N
    = result (m ((c : Thread nD τ).loc main_arg0)) (m ((c : Thread nD τ).loc main_arg1)) (m ((c : Thread nD τ).loc main_arg2)) := by
  refine (dats m 0 c).arrAt_eq_of_coversWhere_of_agree 2 _ (fun β => β 0 = 0) (by decide +kernel) (fun t hf y => ?_) (fun j hj => ?_)
  · have ht := (flush0_2 t).mp hf
    have hN : t.val < 32 := lt_of_lt_of_eq t.isLt N_0
    have h1 : t.val / 8 < 4 := by omega
    have e : (win0_2.blk t).view.emb y = ix4 (0 : Fin 4) ⟨t.val / 8, h1⟩ (y 2) (y 3) := by
      blk_ext [index2]
    blk_simp
    rw [after0_2, e]
    exact point m c t ht y (y 2) (y 3) rfl rfl h1
  · blk_simp [Pipeline.Window.cell_apply] at hj
    rw [A_eq]
    refine (V2 m c _).trans ?_
    unfold result
    rw [if_neg]
    show ¬ (j 0).val = 0
    rwa [Nat.div_one] at hj

end Cert.Kernel4Ideal.Own

namespace Cert.Reference4Ideal.Own

open Cert.Reference4Ideal Cert.Reference4Ideal.Gen

/-- What the reference's result holds, entry by entry. -/
theorem result_eq (x : FVec Ideal S4096x1024 .f32) (d : FVec Ideal S2x4096x2816 .f32) (w : FVec Ideal S4x4x1024x1408 .f32) :
    truncf (F := Ideal) .bf16 (concatenate S4x4x1024x1408 0 [⟨S1x4x1024x1408, (broadcastInDim S1x4x1024x1408 ![1, 2, 3] bcast_S4x1024x1408_S1x4x1024x1408_1_2_3 (transpose S4x1024x1408 [1, 0, 2] (shapeCast _ (transpose S1024x5632 [1, 0] (Host.dotGeneral dot_S4096x5632_S4096x1024_S5632x1024_0_0_1_1_n_n none (concatenate S4096x5632 1 [⟨S4096x2816, (shapeCast _ (extractStridedSlice S1x4096x2816 ![0, 0, 0] d slices_S2x4096x2816_S1x4096x2816_0_0_0) shapeCasts_S1x4096x2816_S4096x2816)⟩, ⟨S4096x2816, (shapeCast _ (extractStridedSlice S1x4096x2816 ![1, 0, 0] d slices_S2x4096x2816_S1x4096x2816_1_0_0) shapeCasts_S1x4096x2816_S4096x2816)⟩] concatenates_S4096x2816_S4096x2816_S4096x5632_d1) x) transposes_S5632x1024_S1024x5632_1_0) shapeCasts_S1024x5632_S1024x4x1408) transposes_S1024x4x1408_S4x1024x1408_1_0_2))⟩, ⟨S3x4x1024x1408, (extractStridedSlice S3x4x1024x1408 ![1, 0, 0, 0] w slices_S4x4x1024x1408_S3x4x1024x1408_1_0_0_0)⟩] concatenates_S1x4x1024x1408_S3x4x1024x1408_S4x4x1024x1408_d0) bitsLt_bf16_f32
      = Cert.Kernel4Ideal.Own.result x d w := by
  funext j
  idx_vars j
  pointwise [Cert.Kernel4Ideal.Own.result]
  by_cases h : j0.val = 0
  · rw [dif_pos (by omega), if_pos h]
    refine Finset.sum_congr rfl fun k _ => ?_
    have b1 := j1.isLt
    have b3 := j3.isLt
    rw [mul_comm]
    congr 1
    by_cases h1 : j1.val * 1408 + j3.val < 2816
    · rw [dif_pos h1]
      refine congrArg d (congrArg₂ (fun (a : Fin 2) (b : Fin 2816) => ix3 a k b) (Fin.ext ?_) (Fin.ext ?_))
      · show 0 = j1.val / 2
        omega
      · show j1.val * 1408 + j3.val = j1.val % 2 * 1408 + j3.val
        omega
    · rw [dif_neg h1]
      refine congrArg d (congrArg₂ (fun (a : Fin 2) (b : Fin 2816) => ix3 a k b) (Fin.ext ?_) (Fin.ext ?_))
      · show 1 = j1.val / 2
        omega
      · show j1.val * 1408 + j3.val - 2816 = j1.val % 2 * 1408 + j3.val
        omega
  · rw [dif_neg (by omega), if_neg h]
    refine congrArg w (congrArg (fun r : Fin 4 => ix4 r j1 j2 j3) (Fin.ext ?_))
    show 1 + (j0.val - 1) = j0.val
    omega

end Cert.Reference4Ideal.Own

namespace Cert.Proof

/-- The product of the kernel's row blocks is the reference's product. -/
theorem value4 (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg)
    (h : ∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) :
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)) := by
  refine ⟨fun c => Cert.Kernel4Ideal.Own.result (m ((c.tc : Thread _ _).loc Cert.Kernel4Ideal.main_arg0)) (m ((c.tc : Thread _ _).loc Cert.Kernel4Ideal.main_arg1)) (m ((c.tc : Thread _ _).loc Cert.Kernel4Ideal.main_arg2)), ?_, ?_⟩
  · exact (θ_run Cert.Kernel4Ideal.defs _ _).mono (fun r hr c => ⟨(hr c).1.trans (Cert.Kernel4Ideal.Own.final m c), (hr c).2⟩)
      (Cert.Kernel4Ideal.Value.run_blocks m g)
  · refine (θ_run Cert.Reference4Ideal.defs _ _).mono (fun r hr c => ⟨(hr c).1.trans ?_, (hr c).2⟩) (Cert.Reference4Ideal.Value.run m' g')
    rw [Cert.Reference4Ideal.Own.result_eq, (h c).1, (h c).2.1, (h c).2.2]

end Cert.Proof

end
-- ==== Proof.Value5.lean ====
module

public import proofs.«01_k».proof.Proof.Gen.Kernel5Ideal.Value
public import proofs.«01_k».proof.Proof.Gen.Reference5Ideal.Run
public import proofs.«01_k».proof.Proof.Reals
public import Idealize.ShloMosaic.Lib.Pipeline.ValueKit
public import Idealize.ShloMosaic.Lib.Pipeline.ReadBack
public import Idealize.ShloMosaic.Lib.StableHlo.Run
public import Idealize.ShloMosaic.Lib.Pointwise

@[expose] public section

set_option maxRecDepth 16384

noncomputable section

open Idealize.ShloMosaic Idealize.ShloMosaic.TcCoe Idealize.SL.Sem
open scoped BigOperators

namespace Cert.Kernel5Ideal.Own

open Cert.Kernel5Ideal Cert.Kernel5Ideal.Gen Cert.Kernel5Ideal.Value

variable (m : (ℓ : Loc nD τ sig) → Buf (Elt Ideal) ℓ) (ρ : Dev nD → PrngReg)

/-- The mean of a row. -/
def mean (z : Fin 1024 → EReal) : EReal := Ideal.div (∑ k : Fin 1024, z k) (Ideal.ofBits .f32 0x44800000#32)

/-- A row less its mean. -/
def centred (z : Fin 1024 → EReal) (q : Fin 1024) : EReal := z q - mean z

/-- A row's variance, plus epsilon. -/
def spread (z : Fin 1024 → EReal) : EReal :=
  Ideal.div (∑ k : Fin 1024, centred z k * centred z k) (Ideal.ofBits .f32 0x44800000#32) + Ideal.ofBits .f32 0x3727C5AC#32

/-- The reciprocal of a row's deviation. -/
def rdev (z : Fin 1024 → EReal) : EReal := Ideal.rsqrt (spread z)

/-- A standardised row. -/
def hat (z : Fin 1024 → EReal) (q : Fin 1024) : EReal := centred z q * rdev z

/-- The gradient through the standardisation, in its short form, of the saved row and deviation. -/
def shortB (x : Fin 1024 → EReal) (r : EReal) (t : Fin 1024 → EReal) (q : Fin 1024) : EReal :=
  r * (t q - mean t - x q * mean (fun k => t k * x k))

/-- The row `r` of a matrix. -/
def row (z : Vec Ideal S4096x1024 .f32) (r : Fin 4096) (q : Fin 1024) : EReal := z (ix2 r q)

/-- The product of the hidden gradient's row with a row of the input weights. -/
def prod (d : Vec Ideal S2x4096x2816 .f32) (w : Vec Ideal S4x4x1024x1408 .f32) (r : Fin 4096) (q : Fin 1024) : EReal :=
  ∑ l : Fin 5632, d (ix3 (⟨l.val / 2816, Nat.div_lt_of_lt_mul l.isLt⟩ : Fin 2) r (⟨l.val % 2816, Nat.mod_lt _ (by decide)⟩ : Fin 2816))
    * w (ix4 (0 : Fin 4) (⟨l.val / 1408, Nat.div_lt_of_lt_mul l.isLt⟩ : Fin 4) q (⟨l.val % 1408, Nat.mod_lt _ (by decide)⟩ : Fin 1408))

/-- The gradient of a layer norm's result. -/
def dy (d : Vec Ideal S2x4096x2816 .f32) (w : Vec Ideal S4x4x1024x1408 .f32) (e : Vec Ideal S4096x1024 .f32) (r : Fin 4096) (q : Fin 1024) : EReal :=
  Ideal.ofBits .f32 0x3FD744FD#32 * e (ix2 r q) + prod d w r q

/-- What one quarter of the product is, at an entry. -/
def part (x : Vec Ideal S1x512x1408 .bf16) (y : Vec Ideal S1x1x1024x1408 .bf16) (j : S512x1024.Idx) : EReal :=
  ∑ l : Fin 1408, x (ix3 (0 : Fin 1) (j 0) l) * y (ix4 (0 : Fin 1) (0 : Fin 1) (j 1) l)

/-- The gradient of a layer norm's result, of a block. -/
def dyB (e a : Vec Ideal S512x1024 .f32) (p : Fin 512) (q : Fin 1024) : EReal :=
  Ideal.ofBits .f32 0x3FD744FD#32 * e (ix2 p q) + a (ix2 p q)

theorem pay2 (x : Vec Ideal S1x512x1408 .bf16) (y : Vec Ideal S1x1x1024x1408 .bf16) (j : S512x1024.Idx) :
    k0_pay2 x y j = part x y j := by
  idx_vars j
  pointwise [k0_pay2, k0_pay1, part]

theorem pay3 (x : Vec Ideal S1x512x1408 .bf16) (y : Vec Ideal S1x1x1024x1408 .bf16) (a : Vec Ideal S512x1024 .f32) (j : S512x1024.Idx) :
    k0_pay3 x y a j = a j + part x y j := by
  idx_vars j
  pointwise [k0_pay3, k0_pay1, part]

theorem pay4 (b a : Vec Ideal S1x1024 .f32) (j : S1x1024.Idx) : k0_pay4 b a j = a j + b j := by
  idx_vars j
  pointwise [k0_pay4]

theorem pay5 (b a : Vec Ideal S1x1024 .f32) (j : S1x1024.Idx) : k0_pay5 b a j = a j + b j := by
  idx_vars j
  pointwise [k0_pay5]

theorem pay8 (e a x : Vec Ideal S512x1024 .f32) (g : Vec Ideal S1x1024 .f32) (r : Vec Ideal S512x1 .f32) (j : S512x1024.Idx) :
    k0_pay8 e a x g r j = shortB (fun k => x (ix2 (j 0) k)) (r (ix2 (j 0) (0 : Fin 1))) (fun k => dyB e a (j 0) k * g (ix2 (0 : Fin 1) k)) (j 1) := by
  idx_vars j
  pointwise [k0_pay8, k0_pay7, k0_pay6, shortB, mean, dyB]

theorem pay9 (e a x : Vec Ideal S512x1024 .f32) (j : S1x1024.Idx) :
    k0_pay9 e a x j = ∑ p : Fin 512, dyB e a p (j 1) * x (ix2 p (j 1)) := by
  idx_vars j
  pointwise [k0_pay9, k0_pay7, k0_pay6, dyB]

theorem pay10 (e a : Vec Ideal S512x1024 .f32) (j : S1x1024.Idx) :
    k0_pay10 e a j = ∑ p : Fin 512, dyB e a p (j 1) := by
  idx_vars j
  pointwise [k0_pay10, k0_pay6, dyB]

theorem acc (c : Dev nD) (t : Fin cfg0.N) (ht : t.val % 4 = 3) (j : S512x1024.Idx) :
    (outsAt0 m c t.val t.isLt).2.2.2 j
      = ∑ s : Fin 4, part (iblk m c 0 ⟨4 * (t.val / 4) + s.val, Pipeline.run_point_lt_of_flush t ht s⟩) (iblk m c 1 ⟨4 * (t.val / 4) + s.val, Pipeline.run_point_lt_of_flush t ht s⟩) j := by
  rw [Pipeline.eq_sum_fin_of_reset_step_apply_of_flush (fun n h => (outsAt0 m c n h).2.2.2) 4 (fun _ => (0 : EReal))
    (fun t j => part (iblk m c 0 t) (iblk m c 1 t) j) ?_ ?_ t ht j, zero_add]
  · intro t h0 j
    rw [outsAt0_A m c t h0 (by omega) (by omega)]
    frame_out
    rw [pay2, zero_add]
  · intro t h0 j
    by_cases h2 : t.val % 4 = 3
    · by_cases h3 : t.val < 4
      · rw [outsAt0_C m c t h0 (by omega) h2 h3 (by omega)]
        frame_out
        rw [pay3, read_unread_whole]
      · rw [outsAt0_D m c t h0 (by omega) h2 h3 (by omega)]
        frame_out
        rw [pay3, read_unread_whole]
    · rw [outsAt0_B m c t h0 (by omega) h2]
      frame_out
      rw [pay3, read_unread_whole]

theorem out6 (c : Dev nD) (t : Fin cfg0.N) (ht : t.val % 4 = 3) :
    (outsAt0 m c t.val t.isLt).1 = k0_pay8 (iblk m c 2 t) (outsAt0 m c t.val t.isLt).2.2.2 (iblk m c 3 t) (iblk m c 5 t) (iblk m c 4 t) := by
  by_cases h3 : t.val < 4
  · rw [outsAt0_C m c t (by omega) (by omega) ht h3 (by omega)]
    frame_out
  · rw [outsAt0_D m c t (by omega) (by omega) ht h3 (by omega)]
    frame_out

theorem out7_first (c : Dev nD) (t : Fin cfg0.N) (ht : t.val % 4 = 3) (h3 : t.val < 4) :
    (outsAt0 m c t.val t.isLt).2.1 = k0_pay9 (iblk m c 2 t) (outsAt0 m c t.val t.isLt).2.2.2 (iblk m c 3 t) := by
  rw [outsAt0_C m c t (by omega) (by omega) ht h3 (by omega)]
  frame_out

theorem out7_next (c : Dev nD) (t : Fin cfg0.N) (ht : t.val % 4 = 3) (h3 : ¬ t.val < 4) :
    (outsAt0 m c t.val t.isLt).2.1 = k0_pay4 (k0_pay9 (iblk m c 2 t) (outsAt0 m c t.val t.isLt).2.2.2 (iblk m c 3 t))
      (outsAt0 m c (t.val - 1) (Nat.lt_of_le_of_lt (Nat.sub_le _ _) t.isLt)).2.1 := by
  rw [outsAt0_D m c t (by omega) (by omega) ht h3 (by omega)]
  frame_out
  try rw [read_unread_whole]

theorem out7_kept (c : Dev nD) (t : Fin cfg0.N) (ht : ¬ t.val % 4 = 3) :
    (outsAt0 m c t.val t.isLt).2.1 = (outsAt0 m c (t.val - 1) (Nat.lt_of_le_of_lt (Nat.sub_le _ _) t.isLt)).2.1 := by
  by_cases h0 : t.val % 4 = 0
  · rw [outsAt0_A m c t h0 (by omega) ht]
    rfl
  · rw [outsAt0_B m c t h0 (by omega) ht]
    rfl

theorem out8_first (c : Dev nD) (t : Fin cfg0.N) (ht : t.val % 4 = 3) (h3 : t.val < 4) :
    (outsAt0 m c t.val t.isLt).2.2.1 = k0_pay10 (iblk m c 2 t) (outsAt0 m c t.val t.isLt).2.2.2 := by
  rw [outsAt0_C m c t (by omega) (by omega) ht h3 (by omega)]
  frame_out

theorem out8_next (c : Dev nD) (t : Fin cfg0.N) (ht : t.val % 4 = 3) (h3 : ¬ t.val < 4) :
    (outsAt0 m c t.val t.isLt).2.2.1 = k0_pay5 (k0_pay10 (iblk m c 2 t) (outsAt0 m c t.val t.isLt).2.2.2)
      (outsAt0 m c (t.val - 1) (Nat.lt_of_le_of_lt (Nat.sub_le _ _) t.isLt)).2.2.1 := by
  rw [outsAt0_D m c t (by omega) (by omega) ht h3 (by omega)]
  frame_out
  try rw [read_unread_whole]

theorem out8_kept (c : Dev nD) (t : Fin cfg0.N) (ht : ¬ t.val % 4 = 3) :
    (outsAt0 m c t.val t.isLt).2.2.1 = (outsAt0 m c (t.val - 1) (Nat.lt_of_le_of_lt (Nat.sub_le _ _) t.isLt)).2.2.1 := by
  by_cases h0 : t.val % 4 = 0
  · rw [outsAt0_A m c t h0 (by omega) ht]
    rfl
  · rw [outsAt0_B m c t h0 (by omega) ht]
    rfl

theorem index0 : ∀ t : Fin cfg0.N, win0_0.index t = ![t.val % 4 / 2, t.val / 4, t.val % 2] := by decide +kernel
theorem index1 : ∀ t : Fin cfg0.N, win0_1.index t = ![0, t.val % 4, 0, 0] := by decide +kernel
theorem index2 : ∀ t : Fin cfg0.N, win0_2.index t = ![t.val / 4, 0] := by decide +kernel
theorem index3 : ∀ t : Fin cfg0.N, win0_3.index t = ![t.val / 4, 0] := by decide +kernel
theorem index4 : ∀ t : Fin cfg0.N, win0_4.index t = ![t.val / 4, 0] := by decide +kernel
theorem index5 : ∀ t : Fin cfg0.N, win0_5.index t = ![0, 0] := by decide +kernel
theorem index6 : ∀ t : Fin cfg0.N, win0_6.index t = ![t.val / 4, 0] := by decide +kernel
theorem index7 : ∀ t : Fin cfg0.N, win0_7.index t = ![0, 0] := by decide +kernel
theorem index8 : ∀ t : Fin cfg0.N, win0_8.index t = ![0, 0] := by decide +kernel

theorem V18 (c : Dev nD) (i : S2x4096x2816.Idx) : V m c main_v18 i = m ((c : Thread nD τ).loc main_arg0) i := by
  have h : V m c main_v18 = (truncf (F := Ideal) .bf16 (m ((c : Thread nD τ).loc main_arg0) : FVec Ideal S2x4096x2816 .f32) bitsLt_bf16_f32 : FVec Ideal S2x4096x2816 .bf16) := by
    unfold_abbrev_sides
    after_results
  rw [h]; rfl

theorem V19 (c : Dev nD) (i : S4x4x1024x1408.Idx) : V m c main_v19 i = m ((c : Thread nD τ).loc main_arg1) i := by
  have h : V m c main_v19 = (truncf (F := Ideal) .bf16 (m ((c : Thread nD τ).loc main_arg1) : FVec Ideal S4x4x1024x1408 .f32) bitsLt_bf16_f32 : FVec Ideal S4x4x1024x1408 .bf16) := by
    unfold_abbrev_sides
    after_results
  rw [h]; rfl

/-- The rows' means, as the host computes them. -/
def hmean (z : FVec Ideal S4096x1024 .f32) : FVec Ideal S4096x1 .f32 :=
  Host.divf (broadcastInDim S4096x1 ![0] bcast_S4096_S4096x1_0 (Host.reduceAdd z (constant S_ .f32 0x00000000#32) reducesTo_S4096x1024_S4096_d1 h_S_))
    (broadcastInDim S4096x1 ![] bcast_S_S4096x1 (constant S_ .f32 0x44800000#32))

/-- The rows less their means, as the host computes them. -/
def hcentred (z : FVec Ideal S4096x1024 .f32) : FVec Ideal S4096x1024 .f32 :=
  subf z (broadcastInDim S4096x1024 ![0, 1] bcast_S4096x1_S4096x1024_0_1 (hmean z))

/-- The rows' reciprocal deviations, as the host computes them. -/
def hrdev (z : FVec Ideal S4096x1024 .f32) : FVec Ideal S4096x1 .f32 :=
  Host.rsqrt (addf (hmean (mulf (hcentred z) (hcentred z))) (broadcastInDim S4096x1 ![] bcast_S_S4096x1 (constant S_ .f32 0x3727C5AC#32)))

theorem hmean_apply (z : FVec Ideal S4096x1024 .f32) (r : Fin 4096) (q : Fin 1) : hmean z (ix2 r q) = mean (row z r) := by
  pointwise [hmean, mean, row]

theorem hcentred_apply (z : FVec Ideal S4096x1024 .f32) (r : Fin 4096) (q : Fin 1024) : hcentred z (ix2 r q) = centred (row z r) q := by
  pointwise [hcentred, centred, row, hmean_apply]

theorem hrdev_apply (z : FVec Ideal S4096x1024 .f32) (r : Fin 4096) (q : Fin 1) : hrdev z (ix2 r q) = rdev (row z r) := by
  pointwise [hrdev, hmean_apply, rdev, spread, mean, row, hcentred_apply]

theorem V13 (c : Dev nD) (r : Fin 4096) (q : Fin 1) :
    (V m c main_v13 : FVec Ideal S4096x1 .f32) (ix2 r q) = rdev (row (m ((c : Thread nD τ).loc main_arg3)) r) := by
  have h : V m c main_v13 = hrdev (m ((c : Thread nD τ).loc main_arg3)) := by
    unfold_abbrev_sides
    after_results
    try rfl
  rw [h]
  exact hrdev_apply _ r q

theorem V17 (c : Dev nD) (r : Fin 4096) (q : Fin 1024) :
    (V m c main_v17 : FVec Ideal S4096x1024 .f32) (ix2 r q) = hat (row (m ((c : Thread nD τ).loc main_arg3)) r) q := by
  have h : V m c main_v17 = mulf (hcentred (m ((c : Thread nD τ).loc main_arg3)))
      (broadcastInDim S4096x1024 ![0, 1] bcast_S4096x1_S4096x1024_0_1 (hrdev (m ((c : Thread nD τ).loc main_arg3)))) := by
    unfold_abbrev_sides
    after_results
    try rfl
  rw [h]
  pointwise [hat, hcentred_apply, hrdev_apply]

theorem iblk0 (c : Dev nD) (t : Fin cfg0.N) (p : Fin 512) (l : Fin 1408) (h : t.val % 4 / 2 < 2) (h0 : t.val / 4 * 512 + p.val < 4096) (h1 : t.val % 2 * 1408 + l.val < 2816) :
    iblk m c 0 t (ix3 (0 : Fin 1) p l) = m ((c : Thread nD τ).loc main_arg0) (ix3 ⟨t.val % 4 / 2, h⟩ ⟨t.val / 4 * 512 + p.val, h0⟩ ⟨t.val % 2 * 1408 + l.val, h1⟩) := by
  blk_simp [iblk]
  rw [V18]
  blk_ext [index0]

theorem iblk1 (c : Dev nD) (t : Fin cfg0.N) (q : Fin 1024) (l : Fin 1408) (h : t.val % 4 < 4) :
    iblk m c 1 t (ix4 (0 : Fin 1) (0 : Fin 1) q l) = m ((c : Thread nD τ).loc main_arg1) (ix4 (0 : Fin 4) ⟨t.val % 4, h⟩ q l) := by
  blk_simp [iblk]
  rw [V19]
  blk_ext [index1]

theorem iblk2 (c : Dev nD) (t : Fin cfg0.N) (p : Fin 512) (q : Fin 1024) (h0 : t.val / 4 * 512 + p.val < 4096) :
    iblk m c 2 t (ix2 p q) = m ((c : Thread nD τ).loc main_arg2) (ix2 ⟨t.val / 4 * 512 + p.val, h0⟩ q) := by
  blk_simp [iblk]
  rw [V_main_arg2]
  blk_ext [index2]

theorem iblk3 (c : Dev nD) (t : Fin cfg0.N) (p : Fin 512) (q : Fin 1024) (h0 : t.val / 4 * 512 + p.val < 4096) :
    iblk m c 3 t (ix2 p q) = hat (row (m ((c : Thread nD τ).loc main_arg3)) ⟨t.val / 4 * 512 + p.val, h0⟩) q := by
  refine Eq.trans ?_ (V17 m c ⟨t.val / 4 * 512 + p.val, h0⟩ q)
  blk_simp [iblk]
  blk_ext [index3]

theorem iblk4 (c : Dev nD) (t : Fin cfg0.N) (p : Fin 512) (h0 : t.val / 4 * 512 + p.val < 4096) :
    iblk m c 4 t (ix2 p (0 : Fin 1)) = rdev (row (m ((c : Thread nD τ).loc main_arg3)) ⟨t.val / 4 * 512 + p.val, h0⟩) := by
  refine Eq.trans ?_ (V13 m c ⟨t.val / 4 * 512 + p.val, h0⟩ 0)
  blk_simp [iblk]
  blk_ext [index4]

theorem iblk5 (c : Dev nD) (t : Fin cfg0.N) (q : Fin 1024) :
    iblk m c 5 t (ix2 (0 : Fin 1) q) = m ((c : Thread nD τ).loc main_arg4) (ix2 (0 : Fin 1) q) := by
  blk_simp [iblk]
  rw [V_main_arg4]
  blk_ext [index5]

theorem acc_prod (c : Dev nD) (t : Fin cfg0.N) (ht : t.val % 4 = 3) (p : Fin 512) (q : Fin 1024) (h0 : t.val / 4 * 512 + p.val < 4096) :
    (outsAt0 m c t.val t.isLt).2.2.2 (ix2 p q)
      = prod (m ((c : Thread nD τ).loc main_arg0)) (m ((c : Thread nD τ).loc main_arg1)) ⟨t.val / 4 * 512 + p.val, h0⟩ q := by
  have hN : t.val < 32 := lt_of_lt_of_eq t.isLt N_0
  rw [acc m c t ht]
  unfold prod
  refine Fin.sum_mul_add_congr fun s l hl => ?_
  have hs := s.isLt
  have hk := l.isLt
  have e0 : (4 * (t.val / 4) + s.val) % 4 = s.val := by omega
  have e1 : (4 * (t.val / 4) + s.val) / 4 = t.val / 4 := by omega
  have e2 : (4 * (t.val / 4) + s.val) % 2 = s.val % 2 := by omega
  have e3 : (s.val * 1408 + l.val) / 2816 = s.val / 2 := by omega
  have e4 : (s.val * 1408 + l.val) % 2816 = s.val % 2 * 1408 + l.val := by omega
  have e5 : (s.val * 1408 + l.val) / 1408 = s.val := by omega
  have e6 : (s.val * 1408 + l.val) % 1408 = l.val := by omega
  rw [show (ix2 (n0 := 512) (n1 := 1024) p q) 0 = p from rfl, show (ix2 (n0 := 512) (n1 := 1024) p q) 1 = q from rfl,
    iblk0 m c ⟨4 * (t.val / 4) + s.val, Pipeline.run_point_lt_of_flush t ht s⟩ p l (by dsimp only; omega) (by dsimp only; omega) (by dsimp only; omega),
    iblk1 m c ⟨4 * (t.val / 4) + s.val, Pipeline.run_point_lt_of_flush t ht s⟩ q l (by dsimp only; omega)]
  simp only [e0, e1, e2, e3, e4, e5, e6]

theorem dyB_eq (c : Dev nD) (t : Fin cfg0.N) (ht : t.val % 4 = 3) (p : Fin 512) (q : Fin 1024) (h0 : t.val / 4 * 512 + p.val < 4096) :
    dyB (iblk m c 2 t) (outsAt0 m c t.val t.isLt).2.2.2 p q
      = dy (m ((c : Thread nD τ).loc main_arg0)) (m ((c : Thread nD τ).loc main_arg1)) (m ((c : Thread nD τ).loc main_arg2)) ⟨t.val / 4 * 512 + p.val, h0⟩ q := by
  unfold dyB dy
  rw [iblk2 m c t p q h0, acc_prod m c t ht p q h0]

/-- The gradient of the layer norm's argument, in its short form. -/
def dx (d : Vec Ideal S2x4096x2816 .f32) (w : Vec Ideal S4x4x1024x1408 .f32) (e z : Vec Ideal S4096x1024 .f32) (g : Vec Ideal S1x1024 .f32) : Vec Ideal S4096x1024 .f32 :=
  fun i => shortB (hat (row z (i 0))) (rdev (row z (i 0))) (fun k => dy d w e (i 0) k * g (ix2 (0 : Fin 1) k)) (i 1)

/-- The gradient of the layer norm's scale. -/
def dg (d : Vec Ideal S2x4096x2816 .f32) (w : Vec Ideal S4x4x1024x1408 .f32) (e z : Vec Ideal S4096x1024 .f32) : Vec Ideal S1x1024 .f32 :=
  fun i => ∑ r : Fin 4096, dy d w e r (i 1) * hat (row z r) (i 1)

/-- The gradient of the layer norm's shift. -/
def db (d : Vec Ideal S2x4096x2816 .f32) (w : Vec Ideal S4x4x1024x1408 .f32) (e : Vec Ideal S4096x1024 .f32) : Vec Ideal S1x1024 .f32 :=
  fun i => ∑ r : Fin 4096, dy d w e r (i 1)

theorem final6 (c : Dev nD) : (dats m 0 c).arrAt 6 cfg0.N = dx (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 6 _ (by decide +kernel) fun t hf y => ?_
  have ht := (flush0_6 t).mp hf
  have hN : t.val < 32 := lt_of_lt_of_eq t.isLt N_0
  have b0 : (y 0).val < 512 := (y 0).isLt
  have b1 : (y 1).val < 1024 := (y 1).isLt
  have h1 : t.val / 4 * 512 + (y 0).val < 4096 := by omega
  have e : (win0_6.blk t).view.emb y = ix2 (⟨t.val / 4 * 512 + (y 0).val, h1⟩ : Fin 4096) (y 1) := by
    blk_ext [index6]
  blk_simp
  rw [after0_6, e]
  show (outsAt0 m c t.val t.isLt).1 y = _
  rw [out6 m c t ht]
  refine (pay8 _ _ _ _ _ y).trans ?_
  unfold dx
  rw [iblk4 m c t (y 0) h1]
  refine congrArg₂ (fun x s => shortB x _ s (y 1)) (funext fun k => iblk3 m c t (y 0) k h1) (funext fun k => ?_)
  rw [dyB_eq m c t ht (y 0) k h1, iblk5 m c t k]
  rfl

/-- What a result is that starts at the first row block's end, and is added to at every other's. -/
theorem rows_sum (O : ∀ n, n < cfg0.N → EReal) (B : ℕ → EReal) (first : ∀ n h, n % 4 = 3 → n < 4 → O n h = B (n / 4))
    (kept : ∀ n h, ¬ n % 4 = 3 → O n h = O (n - 1) (Nat.lt_of_le_of_lt (Nat.sub_le _ _) h))
    (next : ∀ n h, n % 4 = 3 → ¬ n < 4 → O n h = O (n - 1) (Nat.lt_of_le_of_lt (Nat.sub_le _ _) h) + B (n / 4)) :
    ∀ s n h, n = 4 * s + 3 → O n h = ∑ i ∈ Finset.range (s + 1), B i := by
  intro s
  induction s with
  | zero =>
    intro n h hn
    rw [Finset.sum_range_one, first n h (by omega) (by omega), show n / 4 = 0 by omega]
  | succ s ih =>
    intro n h hn
    rw [Finset.sum_range_succ, next n h (by omega) (by omega), kept (n - 1) _ (by omega), kept (n - 1 - 1) _ (by omega),
      kept (n - 1 - 1 - 1) _ (by omega), ih _ _ (by omega), show n / 4 = s + 1 by omega]

/-- A function of rows, zero past the last. -/
def ext (f : Fin 4096 → EReal) (n : ℕ) : EReal := if h : n < 4096 then f ⟨n, h⟩ else 0

theorem sum_ext (f : Fin 4096 → EReal) : ∑ i ∈ Finset.range 8, ∑ p : Fin 512, ext f (i * 512 + p.val) = ∑ r : Fin 4096, f r := by
  rw [Finset.sum_range]
  refine Fin.sum_mul_add_congr fun s k hl => ?_
  exact dif_pos _

theorem last7 (c : Dev nD) (t : Fin cfg0.N) (ht : t.val = 31) : (outsAt0 m c t.val t.isLt).2.1
    = dg (m ((c : Thread nD τ).loc main_arg0)) (m ((c : Thread nD τ).loc main_arg1)) (m ((c : Thread nD τ).loc main_arg2)) (m ((c : Thread nD τ).loc main_arg3)) := by
  funext j
  have blk : ∀ t : Fin cfg0.N, t.val % 4 = 3 → k0_pay9 (iblk m c 2 t) (outsAt0 m c t.val t.isLt).2.2.2 (iblk m c 3 t) j
      = ∑ p : Fin 512, ext (fun r => dy (m ((c : Thread nD τ).loc main_arg0)) (m ((c : Thread nD τ).loc main_arg1)) (m ((c : Thread nD τ).loc main_arg2)) r (j 1)
        * hat (row (m ((c : Thread nD τ).loc main_arg3)) r) (j 1)) (t.val / 4 * 512 + p.val) := by
    intro t ht
    have hN : t.val < 32 := lt_of_lt_of_eq t.isLt N_0
    rw [pay9]
    refine Finset.sum_congr rfl fun p _ => ?_
    have hp := p.isLt
    have h0 : t.val / 4 * 512 + p.val < 4096 := by omega
    rw [ext, dif_pos h0, dyB_eq m c t ht p (j 1) h0, iblk3 m c t p (j 1) h0]
  refine (rows_sum (fun n h => (outsAt0 m c n h).2.1 j) (fun i => ∑ p : Fin 512, ext (fun r => dy (m ((c : Thread nD τ).loc main_arg0)) (m ((c : Thread nD τ).loc main_arg1)) (m ((c : Thread nD τ).loc main_arg2)) r (j 1)
        * hat (row (m ((c : Thread nD τ).loc main_arg3)) r) (j 1)) (i * 512 + p.val)) ?_ ?_ ?_ 7 t.val t.isLt ht).trans (sum_ext _)
  · intro n h hn h4
    exact (congrFun (out7_first m c ⟨n, h⟩ hn h4) j).trans (blk ⟨n, h⟩ hn)
  · intro n h hn
    exact congrFun (out7_kept m c ⟨n, h⟩ hn) j
  · intro n h hn h4
    have := congrFun (out7_next m c ⟨n, h⟩ hn h4) j
    refine this.trans ((pay4 _ _ j).trans ?_)
    exact congrArg _ (blk ⟨n, h⟩ hn)

theorem last8 (c : Dev nD) (t : Fin cfg0.N) (ht : t.val = 31) : (outsAt0 m c t.val t.isLt).2.2.1
    = db (m ((c : Thread nD τ).loc main_arg0)) (m ((c : Thread nD τ).loc main_arg1)) (m ((c : Thread nD τ).loc main_arg2)) := by
  funext j
  have blk : ∀ t : Fin cfg0.N, t.val % 4 = 3 → k0_pay10 (iblk m c 2 t) (outsAt0 m c t.val t.isLt).2.2.2 j
      = ∑ p : Fin 512, ext (fun r => dy (m ((c : Thread nD τ).loc main_arg0)) (m ((c : Thread nD τ).loc main_arg1)) (m ((c : Thread nD τ).loc main_arg2)) r (j 1)) (t.val / 4 * 512 + p.val) := by
    intro t ht
    have hN : t.val < 32 := lt_of_lt_of_eq t.isLt N_0
    rw [pay10]
    refine Finset.sum_congr rfl fun p _ => ?_
    have hp := p.isLt
    have h0 : t.val / 4 * 512 + p.val < 4096 := by omega
    rw [ext, dif_pos h0, dyB_eq m c t ht p (j 1) h0]
  refine (rows_sum (fun n h => (outsAt0 m c n h).2.2.1 j) (fun i => ∑ p : Fin 512, ext (fun r => dy (m ((c : Thread nD τ).loc main_arg0)) (m ((c : Thread nD τ).loc main_arg1)) (m ((c : Thread nD τ).loc main_arg2)) r (j 1)) (i * 512 + p.val)) ?_ ?_ ?_ 7 t.val t.isLt ht).trans (sum_ext _)
  · intro n h hn h4
    exact (congrFun (out8_first m c ⟨n, h⟩ hn h4) j).trans (blk ⟨n, h⟩ hn)
  · intro n h hn
    exact congrFun (out8_kept m c ⟨n, h⟩ hn) j
  · intro n h hn h4
    have := congrFun (out8_next m c ⟨n, h⟩ hn h4) j
    refine this.trans ((pay5 _ _ j).trans ?_)
    exact congrArg _ (blk ⟨n, h⟩ hn)

theorem final7 (c : Dev nD) : (dats m 0 c).arrAt 7 cfg0.N = dg (m ((c : Thread nD τ).loc main_arg0)) (m ((c : Thread nD τ).loc main_arg1)) (m ((c : Thread nD τ).loc main_arg2))
    (m ((c : Thread nD τ).loc main_arg3)) := by
  refine (dats m 0 c).arrAt_eq_of_covers 7 _ (by decide +kernel) fun t hf y => ?_
  have ht := (flush0_7 t).mp hf
  have hN : t.val < 32 := lt_of_lt_of_eq t.isLt N_0
  have b0 : (y 0).val < 1 := (y 0).isLt
  have b1 : (y 1).val < 1024 := (y 1).isLt
  have e : (win0_7.blk t).view.emb y = y := by
    have hy : y = ix2 (y 0) (y 1) := eq_ix2 y
    rw [hy]
    blk_ext [index7]
  blk_simp
  rw [after0_7, e]
  exact congrFun (last7 m c t (by omega)) y

theorem final8 (c : Dev nD) : (dats m 0 c).arrAt 8 cfg0.N = db (m ((c : Thread nD τ).loc main_arg0)) (m ((c : Thread nD τ).loc main_arg1)) (m ((c : Thread nD τ).loc main_arg2)) := by
  refine (dats m 0 c).arrAt_eq_of_covers 8 _ (by decide +kernel) fun t hf y => ?_
  have ht := (flush0_8 t).mp hf
  have hN : t.val < 32 := lt_of_lt_of_eq t.isLt N_0
  have b0 : (y 0).val < 1 := (y 0).isLt
  have b1 : (y 1).val < 1024 := (y 1).isLt
  have e : (win0_8.blk t).view.emb y = y := by
    have hy : y = ix2 (y 0) (y 1) := eq_ix2 y
    rw [hy]
    blk_ext [index8]
  blk_simp
  rw [after0_8, e]
  exact congrFun (last8 m c t (by omega)) y

end Cert.Kernel5Ideal.Own
namespace Cert.Reference5Ideal.Own

open Cert.Reference5Ideal Cert.Reference5Ideal.Gen Cert.Reals
open Cert.Kernel5Ideal.Own (mean centred spread rdev hat shortB row prod dy)

/-- The gradient of the layer norm's result, as the reference computes it. -/
def rdy (d : FVec Ideal S2x4096x2816 .f32) (w : FVec Ideal S4x4x1024x1408 .f32) (e : FVec Ideal S4096x1024 .f32) : FVec Ideal S4096x1024 .f32 :=
  addf (Host.dotGeneral dot_S4096x5632_S1024x5632_S4096x1024_1_1_0_0_n_n none (concatenate S4096x5632 1 [⟨S4096x2816, (shapeCast _ (extractStridedSlice S1x4096x2816 ![0, 0, 0] d slices_S2x4096x2816_S1x4096x2816_0_0_0) shapeCasts_S1x4096x2816_S4096x2816)⟩, ⟨S4096x2816, (shapeCast _ (extractStridedSlice S1x4096x2816 ![1, 0, 0] d slices_S2x4096x2816_S1x4096x2816_1_0_0) shapeCasts_S1x4096x2816_S4096x2816)⟩] concatenates_S4096x2816_S4096x2816_S4096x5632_d1) (shapeCast _ (transpose S1024x4x1408 [1, 0, 2] (shapeCast _ (extractStridedSlice S1x4x1024x1408 ![0, 0, 0, 0] w slices_S4x4x1024x1408_S1x4x1024x1408_0_0_0_0) shapeCasts_S1x4x1024x1408_S4x1024x1408) transposes_S4x1024x1408_S1024x4x1408_1_0_2) shapeCasts_S1024x4x1408_S1024x5632)) (mulf (broadcastInDim S4096x1024 ![] bcast_S_S4096x1024 (constant S_ .f32 0x3FD744FD#32)) e)

def rmean (z : FVec Ideal S4096x1024 .f32) : FVec Ideal S4096x1 .f32 :=
  Host.divf (broadcastInDim S4096x1 ![0] bcast_S4096_S4096x1_0 (Host.reduceAdd z (constant S_ .f32 0x00000000#32) reducesTo_S4096x1024_S4096_d1 h_S_))
    (broadcastInDim S4096x1 ![] bcast_S_S4096x1 (constant S_ .f32 0x44800000#32))

def rcentred (z : FVec Ideal S4096x1024 .f32) : FVec Ideal S4096x1024 .f32 :=
  subf z (broadcastInDim S4096x1024 ![0, 1] bcast_S4096x1_S4096x1024_0_1 (rmean z))

def rspread (z : FVec Ideal S4096x1024 .f32) : FVec Ideal S4096x1 .f32 :=
  addf (rmean (mulf (rcentred z) (rcentred z))) (broadcastInDim S4096x1 ![] bcast_S_S4096x1 (constant S_ .f32 0x3727C5AC#32))

/-- The gradient of the standardised rows. -/
def rt (y : FVec Ideal S4096x1024 .f32) (g : FVec Ideal S1x1024 .f32) : FVec Ideal S4096x1024 .f32 :=
  mulf y (broadcastInDim S4096x1024 ![0, 1] bcast_S1x1024_S4096x1024_0_1 g)

/-- Its part that is not through the deviation. -/
def rdirect (z t : FVec Ideal S4096x1024 .f32) : FVec Ideal S4096x1024 .f32 :=
  mulf t (broadcastInDim S4096x1024 ![0, 1] bcast_S4096x1_S4096x1024_0_1 (Host.rsqrt (rspread z)))

/-- The part through the deviation. -/
def rthrough (z t : FVec Ideal S4096x1024 .f32) : FVec Ideal S4096x1024 .f32 :=
  mulf (broadcastInDim S4096x1024 ![0] bcast_S4096_S4096x1024_0 (Host.reduceAdd (Host.divf (mulf (shapeCast _ (Host.reduceAdd (mulf (rcentred z) t)
      (constant S_ .f32 0x00000000#32) reducesTo_S4096x1024_S4096_d1 h_S_) shapeCasts_S4096_S4096x1)
      (mulf (broadcastInDim S4096x1 ![] bcast_S_S4096x1 (constant S_ .f32 0xBF000000#32)) (Host.divf (Host.rsqrt (rspread z)) (rspread z))))
      (broadcastInDim S4096x1 ![] bcast_S_S4096x1 (constant S_ .f32 0x44800000#32))) (constant S_ .f32 0x00000000#32) reducesTo_S4096x1_S4096_d1 h_S_))
    (mulf (broadcastInDim S4096x1024 ![] bcast_S_S4096x1024 (constant S_ .f32 0x40000000#32)) (rcentred z))

/-- The gradient of the layer norm's argument. -/
def rdx (z t : FVec Ideal S4096x1024 .f32) : FVec Ideal S4096x1024 .f32 :=
  addf (addf (rdirect z t) (rthrough z t)) (broadcastInDim S4096x1024 ![0] bcast_S4096_S4096x1024_0 (Host.reduceAdd (Host.divf (addf
    (shapeCast _ (Host.reduceAdd (Host.negf (rdirect z t)) (constant S_ .f32 0x00000000#32) reducesTo_S4096x1024_S4096_d1 h_S_) shapeCasts_S4096_S4096x1)
    (shapeCast _ (Host.reduceAdd (Host.negf (rthrough z t)) (constant S_ .f32 0x00000000#32) reducesTo_S4096x1024_S4096_d1 h_S_) shapeCasts_S4096_S4096x1))
    (broadcastInDim S4096x1 ![] bcast_S_S4096x1 (constant S_ .f32 0x44800000#32))) (constant S_ .f32 0x00000000#32) reducesTo_S4096x1_S4096_d1 h_S_))

theorem v74_eq (m : (ℓ : Loc nD τ sig) → Buf (Elt Ideal) ℓ) (c : Dev nD) :
    Value.res_main_v74 m c = rdx (m ((c.tc : Thread nD τ).loc main_arg3)) (rt (rdy (m ((c.tc : Thread nD τ).loc main_arg0)) (m ((c.tc : Thread nD τ).loc main_arg1)) (m ((c.tc : Thread nD τ).loc main_arg2)))
      (m ((c.tc : Thread nD τ).loc main_arg4))) := rfl

theorem rdy_apply (d : FVec Ideal S2x4096x2816 .f32) (w : FVec Ideal S4x4x1024x1408 .f32) (e : FVec Ideal S4096x1024 .f32) (r : Fin 4096) (q : Fin 1024) :
    rdy d w e (ix2 r q) = dy d w e r q := by
  pointwise [rdy, dy, prod]
  rw [add_comm]
  refine congrArg (Ideal.ofBits .f32 0x3FD744FD#32 * e (ix2 r q) + ·) (Eq.trans ?_ (Fin.sum_univ_add (M := EReal) (a := 2816) (b := 2816) _).symm)
  refine congrArg₂ (· + ·) (Finset.sum_congr rfl fun l _ => ?_) (Finset.sum_congr rfl fun l _ => ?_)
  · have hl := l.isLt
    refine congrArg (· * _) (congrArg d (congrArg₂ (fun (a : Fin 2) (b : Fin 2816) => ix3 a r b) (Fin.ext ?_) (Fin.ext ?_)))
    · show 0 = l.val / 2816
      omega
    · show l.val = l.val % 2816
      omega
  · have hl := l.isLt
    refine congrArg (· * _) (congrArg d (congrArg₂ (fun (a : Fin 2) (b : Fin 2816) => ix3 a r b) (Fin.ext ?_) (Fin.ext ?_)))
    · show 1 = (2816 + l.val) / 2816
      omega
    · show l.val = (2816 + l.val) % 2816
      omega

theorem rmean_apply (z : FVec Ideal S4096x1024 .f32) (r : Fin 4096) (q : Fin 1) : rmean z (ix2 r q) = mean (row z r) := by
  pointwise [rmean, mean, row]

theorem rcentred_apply (z : FVec Ideal S4096x1024 .f32) (r : Fin 4096) (q : Fin 1024) : rcentred z (ix2 r q) = centred (row z r) q := by
  pointwise [rcentred, centred, row, rmean_apply]

theorem rspread_apply (z : FVec Ideal S4096x1024 .f32) (r : Fin 4096) (q : Fin 1) : rspread z (ix2 r q) = spread (row z r) := by
  pointwise [rspread, rmean_apply, spread, mean, row, rcentred_apply]

/-- What the deviation's part has in front of each difference from the mean. -/
def coef (z t : Fin 1024 → EReal) : EReal :=
  Ideal.div ((∑ k : Fin 1024, centred z k * t k) * (Ideal.ofBits .f32 0xBF000000#32 * Ideal.div (rdev z) (spread z))) (Ideal.ofBits .f32 0x44800000#32)

/-- The gradient through the standardisation, term by term. -/
def long (z t : Fin 1024 → EReal) (q : Fin 1024) : EReal :=
  t q * rdev z + coef z t * (Ideal.ofBits .f32 0x40000000#32 * centred z q)
    + Ideal.div (∑ k : Fin 1024, -(t k * rdev z) + ∑ k : Fin 1024, -(coef z t * (Ideal.ofBits .f32 0x40000000#32 * centred z k))) (Ideal.ofBits .f32 0x44800000#32)

theorem rdirect_apply (z t : FVec Ideal S4096x1024 .f32) (r : Fin 4096) (q : Fin 1024) : rdirect z t (ix2 r q) = row t r q * rdev (row z r) := by
  pointwise [rdirect, rspread_apply, rdev, row]

theorem rthrough_apply (z t : FVec Ideal S4096x1024 .f32) (r : Fin 4096) (q : Fin 1024) :
    rthrough z t (ix2 r q) = coef (row z r) (row t r) * (Ideal.ofBits .f32 0x40000000#32 * centred (row z r) q) := by
  pointwise [rthrough, rspread_apply, rdev, row, rcentred_apply, coef]
  rw [Fin.sum_univ_one]

theorem rdx_apply (z t : FVec Ideal S4096x1024 .f32) (r : Fin 4096) (q : Fin 1024) : rdx z t (ix2 r q) = long (row z r) (row t r) q := by
  pointwise [rdx, rdirect_apply, rthrough_apply, long]
  rw [Fin.sum_univ_one]

theorem ofBits_count : Ideal.ofBits .f32 0x44800000#32 = ((1024 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_eps : ∃ e : ℝ, 0 < e ∧ Ideal.ofBits .f32 0x3727C5AC#32 = (e : EReal) := by
  refine ⟨_, ?_, by simp [Ideal.ofBits, Ideal.ieee, -EReal.coe_mul]; rfl⟩
  norm_num

theorem ofBits_alpha : IsReal (Ideal.ofBits .f32 0x3FD744FD#32) :=
  ⟨_, by simp [Ideal.ofBits, Ideal.ieee, -EReal.coe_mul]; rfl⟩

theorem mean_real (z : Fin 1024 → ℝ) : mean (fun k => (z k : EReal)) = (((∑ k, z k) / 1024 : ℝ) : EReal) := by
  rw [mean, ← coe_sum, ofBits_count, div_coe_coe _ (by norm_num)]

/-- At rows of reals the two forms agree: the differences from the mean sum to zero, and the reciprocal deviation's
    square is the reciprocal of what it is the root of. -/
theorem long_eq (z t : Fin 1024 → ℝ) (q : Fin 1024) :
    long (fun k => (z k : EReal)) (fun k => (t k : EReal)) q = shortB (hat (fun k => (z k : EReal))) (rdev (fun k => (z k : EReal))) (fun k => (t k : EReal)) q := by
  obtain ⟨e, he, hE⟩ := ofBits_eps
  have hc : ∀ k, centred (fun k => (z k : EReal)) k = ((z k - (∑ k, z k) / 1024 : ℝ) : EReal) := fun k => by
    rw [centred, mean_real, ← EReal.coe_sub]
  obtain ⟨u, hu⟩ : ∃ u : Fin 1024 → ℝ, ∀ k, u k = z k - (∑ k, z k) / 1024 := ⟨_, fun _ => rfl⟩
  have hu0 : ∑ k, u k = 0 := by
    simp only [hu, Finset.sum_sub_distrib, Finset.sum_const, Finset.card_univ, Fintype.card_fin, nsmul_eq_mul]
    push_cast
    ring
  simp only [← hu] at hc
  have hs : spread (fun k => (z k : EReal)) = (((∑ k, u k * u k) / 1024 + e : ℝ) : EReal) := by
    simp only [spread, hc, hE, ofBits_count, ← EReal.coe_mul, ← coe_sum]
    rw [div_coe_coe _ (by norm_num), ← EReal.coe_add]
  have hv : 0 < (∑ k, u k * u k) / 1024 + e := by
    have : 0 ≤ ∑ k, u k * u k := Finset.sum_nonneg fun k _ => mul_self_nonneg _
    positivity
  obtain ⟨v, hvd⟩ : ∃ v, v = (∑ k, u k * u k) / 1024 + e := ⟨_, rfl⟩
  rw [← hvd] at hs hv
  have hr : rdev (fun k => (z k : EReal)) = (((Real.sqrt v)⁻¹ : ℝ) : EReal) := by
    rw [rdev, hs, rsqrt_coe hv]
  obtain ⟨r, hrd⟩ : ∃ r, r = (Real.sqrt v)⁻¹ := ⟨_, rfl⟩
  rw [← hrd] at hr
  have hrv : r / v = r * r * r := by
    have h2 : r * r = v⁻¹ := by
      rw [hrd, ← mul_inv, Real.mul_self_sqrt hv.le]
    rw [h2, div_eq_mul_inv, mul_comm]
  have hcoef : coef (fun k => (z k : EReal)) (fun k => (t k : EReal)) = (((∑ k, u k * t k) * (-(1 / 2) * (r * r * r)) / 1024 : ℝ) : EReal) := by
    simp only [coef, hc, hs, hr, ofBits_count, ofBits_neg_half, ← EReal.coe_mul, ← coe_sum]
    rw [div_coe_coe _ hv.ne', hrv, ← EReal.coe_mul, ← EReal.coe_mul, div_coe_coe _ (by norm_num)]
  simp only [long, shortB, hat, hcoef, hc, hr, ofBits_two, ofBits_count, mean_real, ← EReal.coe_mul, ← EReal.coe_neg, ← coe_sum, ← EReal.coe_add, ← EReal.coe_sub]
  rw [div_coe_coe _ (by norm_num), ← EReal.coe_add]
  refine congrArg _ ?_
  simp only [Finset.sum_neg_distrib, ← Finset.mul_sum, ← Finset.sum_mul, hu0]
  have h3 : ∑ k, t k * (u k * r) = (∑ k, u k * t k) * r := by
    rw [Finset.sum_mul]
    exact Finset.sum_congr rfl fun k _ => by ring
  rw [h3]
  ring

theorem prod_real (d : FVec Ideal S2x4096x2816 .f32) (w : FVec Ideal S4x4x1024x1408 .f32) (hd : ∀ i, IsReal (d i)) (hw : ∀ i, IsReal (w i))
    (r : Fin 4096) (q : Fin 1024) : IsReal (prod d w r q) :=
  IsReal.sum fun l => (hd _).mul (hw _)

/-- What the reference's first result holds, at real entries. -/
theorem dx_eq (d : FVec Ideal S2x4096x2816 .f32) (w : FVec Ideal S4x4x1024x1408 .f32) (e z : FVec Ideal S4096x1024 .f32) (g : FVec Ideal S1x1024 .f32)
    (hd : ∀ i, IsReal (d i)) (hw : ∀ i, IsReal (w i)) (he : ∀ i, IsReal (e i)) (hz : ∀ i, IsReal (z i)) (hg : ∀ i, IsReal (g i)) :
    rdx z (rt (rdy d w e) g) = Cert.Kernel5Ideal.Own.dx d w e z g := by
  funext j
  idx_vars j
  have ht : row (rt (rdy d w e) g) j0 = fun k => dy d w e j0 k * g (ix2 (0 : Fin 1) k) := by
    funext k
    pointwise [row, rt, rdy_apply]
  have hy : ∀ k, IsReal (dy d w e j0 k * g (ix2 (0 : Fin 1) k)) := fun k =>
    ((ofBits_alpha.mul (he _)).add (prod_real d w hd hw _ _)).mul (hg _)
  choose t ht' using hy
  choose z' hz' using hz
  have hzr : row z j0 = fun k => ((z' (ix2 j0 k) : ℝ) : EReal) := funext fun k => hz' _
  have e1 : (fun k => dy d w e j0 k * g (ix2 (0 : Fin 1) k)) = fun k => (t k : EReal) := funext ht'
  rw [rdx_apply, ht]
  show _ = shortB (hat (row z j0)) (rdev (row z j0)) (fun k => dy d w e j0 k * g (ix2 (0 : Fin 1) k)) j1
  rw [e1, hzr]
  exact long_eq _ _ _

theorem dg_eq (d : FVec Ideal S2x4096x2816 .f32) (w : FVec Ideal S4x4x1024x1408 .f32) (e z : FVec Ideal S4096x1024 .f32) :
    shapeCast S1x1024 (Host.reduceAdd (mulf (mulf (rcentred z) (broadcastInDim S4096x1024 ![0, 1] bcast_S4096x1_S4096x1024_0_1 (Host.rsqrt (rspread z)))) (rdy d w e))
      (constant S_ .f32 0x00000000#32) reducesTo_S4096x1024_S1024_d0 h_S_) shapeCasts_S1024_S1x1024 = Cert.Kernel5Ideal.Own.dg d w e z := by
  funext j
  idx_vars j
  pointwise [Cert.Kernel5Ideal.Own.dg, rcentred_apply, rspread_apply, rdy_apply, hat, rdev]
  exact Finset.sum_congr rfl fun k _ => mul_comm _ _

theorem db_eq (d : FVec Ideal S2x4096x2816 .f32) (w : FVec Ideal S4x4x1024x1408 .f32) (e : FVec Ideal S4096x1024 .f32) :
    shapeCast S1x1024 (Host.reduceAdd (rdy d w e) (constant S_ .f32 0x00000000#32) reducesTo_S4096x1024_S1024_d0 h_S_) shapeCasts_S1024_S1x1024
      = Cert.Kernel5Ideal.Own.db d w e := by
  funext j
  idx_vars j
  pointwise [Cert.Kernel5Ideal.Own.db, rdy_apply]

end Cert.Reference5Ideal.Own

namespace Cert.Proof

/-- The gradients through the layer norm, of its argument, scale and shift, are the reference's, at arguments whose entries are real. -/
theorem value5 (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg)
    (real : ∀ c : Dev Cert.Kernel5Ideal.nD,
      (∀ i, Cert.Reals.IsReal (m ((c.tc : Thread Cert.Kernel5Ideal.nD Cert.Kernel5Ideal.τ).loc Cert.Kernel5Ideal.main_arg0) i))
      ∧ (∀ i, Cert.Reals.IsReal (m ((c.tc : Thread Cert.Kernel5Ideal.nD Cert.Kernel5Ideal.τ).loc Cert.Kernel5Ideal.main_arg1) i))
      ∧ (∀ i, Cert.Reals.IsReal (m ((c.tc : Thread Cert.Kernel5Ideal.nD Cert.Kernel5Ideal.τ).loc Cert.Kernel5Ideal.main_arg2) i))
      ∧ (∀ i, Cert.Reals.IsReal (m ((c.tc : Thread Cert.Kernel5Ideal.nD Cert.Kernel5Ideal.τ).loc Cert.Kernel5Ideal.main_arg3) i))
      ∧ (∀ i, Cert.Reals.IsReal (m ((c.tc : Thread Cert.Kernel5Ideal.nD Cert.Kernel5Ideal.τ).loc Cert.Kernel5Ideal.main_arg4) i)))
    (h : ∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) :
    ∃ (v0 : (c : Dev Cert.Kernel5Ideal.nD) → Buf (Elt Ideal) ((c.tc : Thread Cert.Kernel5Ideal.nD Cert.Kernel5Ideal.τ).loc Cert.Kernel5Ideal.main_v20_0)) (v1 : (c : Dev Cert.Kernel5Ideal.nD) → Buf (Elt Ideal) ((c.tc : Thread Cert.Kernel5Ideal.nD Cert.Kernel5Ideal.τ).loc Cert.Kernel5Ideal.main_v20_1)) (v2 : (c : Dev Cert.Kernel5Ideal.nD) → Buf (Elt Ideal) ((c.tc : Thread Cert.Kernel5Ideal.nD Cert.Kernel5Ideal.τ).loc Cert.Kernel5Ideal.main_v20_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v20_0) = v0 c
          ∧ r.2.mem ((c.tc : Thread Cert.Kernel5Ideal.nD Cert.Kernel5Ideal.τ).loc Cert.Kernel5Ideal.main_v20_1) = v1 c
          ∧ r.2.mem ((c.tc : Thread Cert.Kernel5Ideal.nD Cert.Kernel5Ideal.τ).loc Cert.Kernel5Ideal.main_v20_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v74) = v0 c
          ∧ r.2.mem ((c.tc : Thread Cert.Reference5Ideal.nD Cert.Reference5Ideal.τ).loc Cert.Reference5Ideal.main_v48) = v1 c
          ∧ r.2.mem ((c.tc : Thread Cert.Reference5Ideal.nD Cert.Reference5Ideal.τ).loc Cert.Reference5Ideal.main_v45) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)) := by
  refine ⟨fun c => Cert.Kernel5Ideal.Own.dx (m ((c.tc : Thread _ _).loc Cert.Kernel5Ideal.main_arg0)) (m ((c.tc : Thread _ _).loc Cert.Kernel5Ideal.main_arg1)) (m ((c.tc : Thread _ _).loc Cert.Kernel5Ideal.main_arg2)) (m ((c.tc : Thread _ _).loc Cert.Kernel5Ideal.main_arg3)) (m ((c.tc : Thread _ _).loc Cert.Kernel5Ideal.main_arg4)), fun c => Cert.Kernel5Ideal.Own.dg (m ((c.tc : Thread _ _).loc Cert.Kernel5Ideal.main_arg0)) (m ((c.tc : Thread _ _).loc Cert.Kernel5Ideal.main_arg1)) (m ((c.tc : Thread _ _).loc Cert.Kernel5Ideal.main_arg2)) (m ((c.tc : Thread _ _).loc Cert.Kernel5Ideal.main_arg3)), fun c => Cert.Kernel5Ideal.Own.db (m ((c.tc : Thread _ _).loc Cert.Kernel5Ideal.main_arg0)) (m ((c.tc : Thread _ _).loc Cert.Kernel5Ideal.main_arg1)) (m ((c.tc : Thread _ _).loc Cert.Kernel5Ideal.main_arg2)), ?_, ?_⟩
  · exact (θ_run Cert.Kernel5Ideal.defs _ _).mono (fun r hr c => ⟨(hr c).1.trans (Cert.Kernel5Ideal.Own.final6 m c), (hr c).2.1.trans (Cert.Kernel5Ideal.Own.final7 m c), (hr c).2.2.1.trans (Cert.Kernel5Ideal.Own.final8 m c), (hr c).2.2.2⟩)
      (Cert.Kernel5Ideal.Value.run_blocks m g)
  · refine (θ_run Cert.Reference5Ideal.defs _ _).mono (fun r hr c => ⟨(hr c).1.trans ?_, (hr c).2.1.trans ?_, (hr c).2.2.1.trans ?_, (hr c).2.2.2⟩) (Cert.Reference5Ideal.Value.run m' g')
    · rw [Cert.Reference5Ideal.Own.v74_eq, (h c).1, (h c).2.1, (h c).2.2.1, (h c).2.2.2.1, (h c).2.2.2.2]
      exact Cert.Reference5Ideal.Own.dx_eq _ _ _ _ _ (real c).1 (real c).2.1 (real c).2.2.1 (real c).2.2.2.1 (real c).2.2.2.2
    · rw [(h c).1, (h c).2.1, (h c).2.2.1, (h c).2.2.2.1]
      exact Cert.Reference5Ideal.Own.dg_eq _ _ _ _
    · rw [(h c).1, (h c).2.1, (h c).2.2.1]
      exact Cert.Reference5Ideal.Own.db_eq _ _ _

end Cert.Proof

end
-- ==== Proof.Value6.lean ====
module

public import proofs.«01_k».proof.Proof.Gen.Kernel6Ideal.Value
public import proofs.«01_k».proof.Proof.Gen.Reference6Ideal.Run
public import proofs.«01_k».proof.Proof.Algebra
public import Idealize.ShloMosaic.Lib.Pipeline.ValueKit
public import Idealize.ShloMosaic.Lib.Pipeline.ReadBack
public import Idealize.ShloMosaic.Lib.StableHlo.Run
public import Idealize.ShloMosaic.Lib.Pointwise

@[expose] public section

set_option maxRecDepth 16384

noncomputable section

open Idealize.ShloMosaic Idealize.ShloMosaic.TcCoe Idealize.SL.Sem
open scoped BigOperators

namespace Cert.Kernel6Ideal.Own

open Cert.Kernel6Ideal Cert.Kernel6Ideal.Gen Cert.Kernel6Ideal.Value

variable (m : (ℓ : Loc nD τ sig) → Buf (Elt Ideal) ℓ) (ρ : Dev nD → PrngReg)

/-- A row's product with a column of one of the four shards of the input weights. -/
def prod (x : Vec Ideal S4096x1024 .f32) (w : Vec Ideal S4x4x1024x1408 .f32) (r : Fin 4096) (s : Fin 4) (q : Fin 1408) : EReal :=
  ∑ k : Fin 1024, x (ix2 r k) * w (ix4 (0 : Fin 4) s k q)

/-- The gated activation. -/
def act (g u : EReal) : EReal :=
  g * (Ideal.div (Ideal.ofBits .f32 0x3F800000#32) (Ideal.ofBits .f32 0x3F800000#32 + Ideal.exp (-g))) * u

/-- What a block's product is, at an entry. -/
def part (x : Vec Ideal S512x1024 .f32) (y : Vec Ideal S1x1x1024x1408 .bf16) (p : Fin 512) (q : Fin 1408) : EReal :=
  ∑ k : Fin 1024, x (ix2 p k) * y (ix4 (0 : Fin 1) (0 : Fin 1) k q)

theorem pay2 (x : Vec Ideal S512x1024 .f32) (y : Vec Ideal S1x1x1024x1408 .bf16) (p : Fin 512) (q : Fin 1408) :
    k0_pay2 x y (ix2 p q) = part x y p q := by
  pointwise [k0_pay2, k0_pay1, part]

theorem pay3 (x : Vec Ideal S512x1024 .f32) (y : Vec Ideal S1x1x1024x1408 .bf16) (p : Fin 512) (q : Fin 1408) :
    k0_pay3 x y (ix2 p q) = part x y p q := by
  pointwise [k0_pay3, k0_pay1, part]

theorem pay4 (x : Vec Ideal S512x1024 .f32) (y : Vec Ideal S1x1x1024x1408 .bf16) (j : S1x512x1408.Idx) :
    k0_pay4 x y j = part x y (j 1) (j 2) := by
  idx_vars j
  pointwise [k0_pay4, pay2]

theorem pay5 (x : Vec Ideal S512x1024 .f32) (y : Vec Ideal S1x1x1024x1408 .bf16) (j : S1x512x1408.Idx) :
    k0_pay5 x y j = part x y (j 1) (j 2) := by
  idx_vars j
  pointwise [k0_pay5, pay3]

theorem pay6 (x : Vec Ideal S512x1024 .f32) (y z : Vec Ideal S1x1x1024x1408 .bf16) (j : S512x1408.Idx) :
    k0_pay6 x y z j = act (part x y (j 0) (j 1)) (part x z (j 0) (j 1)) := by
  idx_vars j
  pointwise [k0_pay6, pay2, pay3, act]
  rw [zero_sub]

theorem index0 : ∀ t : Fin cfg0.N, win0_0.index t = ![t.val % 8, 0] := by decide +kernel

theorem index1 : ∀ t : Fin cfg0.N, win0_1.index t = ![0, t.val / 8, 0, 0] := by decide +kernel

theorem index2 : ∀ t : Fin cfg0.N, win0_2.index t = ![0, 2 + t.val / 8, 0, 0] := by decide +kernel

theorem index3 : ∀ t : Fin cfg0.N, win0_3.index t = ![0, t.val % 8, t.val / 8] := by decide +kernel

theorem index4 : ∀ t : Fin cfg0.N, win0_4.index t = ![t.val % 8, t.val / 8] := by decide +kernel

theorem V0 (c : Dev nD) (i : S4x4x1024x1408.Idx) : V m c main_v0 i = m ((c : Thread nD τ).loc main_arg1) i := by
  have h : V m c main_v0 = (truncf (F := Ideal) .bf16 (m ((c : Thread nD τ).loc main_arg1) : FVec Ideal S4x4x1024x1408 .f32) bitsLt_bf16_f32 : FVec Ideal S4x4x1024x1408 .bf16) := by
    unfold_abbrev_sides
    after_results
  rw [h]; rfl

theorem iblk0 (c : Dev nD) (t : Fin cfg0.N) (p : Fin 512) (k : Fin 1024) (h0 : t.val % 8 * 512 + p.val < 4096) :
    iblk m c 0 t (ix2 p k) = m ((c : Thread nD τ).loc main_arg0) (ix2 ⟨t.val % 8 * 512 + p.val, h0⟩ k) := by
  blk_simp [iblk]
  rw [V_main_arg0]
  blk_ext [index0]

theorem iblk1 (c : Dev nD) (t : Fin cfg0.N) (k : Fin 1024) (q : Fin 1408) (h : t.val / 8 < 4) :
    iblk m c 1 t (ix4 (0 : Fin 1) (0 : Fin 1) k q) = m ((c : Thread nD τ).loc main_arg1) (ix4 (0 : Fin 4) ⟨t.val / 8, h⟩ k q) := by
  blk_simp [iblk]
  rw [V0]
  blk_ext [index1]

theorem iblk2 (c : Dev nD) (t : Fin cfg0.N) (k : Fin 1024) (q : Fin 1408) (h : 2 + t.val / 8 < 4) :
    iblk m c 2 t (ix4 (0 : Fin 1) (0 : Fin 1) k q) = m ((c : Thread nD τ).loc main_arg1) (ix4 (0 : Fin 4) ⟨2 + t.val / 8, h⟩ k q) := by
  blk_simp [iblk]
  rw [V0]
  blk_ext [index2]

theorem part1 (c : Dev nD) (t : Fin cfg0.N) (p : Fin 512) (q : Fin 1408) (h0 : t.val % 8 * 512 + p.val < 4096) (h : t.val / 8 < 4) :
    part (iblk m c 0 t) (iblk m c 1 t) p q
      = prod (m ((c : Thread nD τ).loc main_arg0)) (m ((c : Thread nD τ).loc main_arg1)) ⟨t.val % 8 * 512 + p.val, h0⟩ ⟨t.val / 8, h⟩ q :=
  Finset.sum_congr rfl fun k _ => by rw [iblk0 m c t p k h0, iblk1 m c t k q h]

theorem part2 (c : Dev nD) (t : Fin cfg0.N) (p : Fin 512) (q : Fin 1408) (h0 : t.val % 8 * 512 + p.val < 4096) (h : 2 + t.val / 8 < 4) :
    part (iblk m c 0 t) (iblk m c 2 t) p q
      = prod (m ((c : Thread nD τ).loc main_arg0)) (m ((c : Thread nD τ).loc main_arg1)) ⟨t.val % 8 * 512 + p.val, h0⟩ ⟨2 + t.val / 8, h⟩ q :=
  Finset.sum_congr rfl fun k _ => by rw [iblk0 m c t p k h0, iblk2 m c t k q h]

/-- The products: the two halves of the hidden layer. -/
def hidden (x : Vec Ideal S4096x1024 .f32) (w : Vec Ideal S4x4x1024x1408 .f32) : Vec Ideal S2x4096x2816 .bf16 :=
  fun i => prod x w (i 1)
    (⟨2 * (i 0).val + (i 2).val / 1408, by have h0 : (i 0).val < 2 := (i 0).isLt; have h2 : (i 2).val < 2816 := (i 2).isLt; omega⟩ : Fin 4)
    (⟨(i 2).val % 1408, Nat.mod_lt _ (by norm_num)⟩ : Fin 1408)

/-- The activations. -/
def active (x : Vec Ideal S4096x1024 .f32) (w : Vec Ideal S4x4x1024x1408 .f32) : Vec Ideal S4096x2816 .bf16 :=
  fun i => act (hidden x w (ix3 (0 : Fin 2) (i 0) (i 1))) (hidden x w (ix3 (1 : Fin 2) (i 0) (i 1)))

theorem hidden_at (x : Vec Ideal S4096x1024 .f32) (w : Vec Ideal S4x4x1024x1408 .f32) (b : Fin 2) (r : Fin 4096) (j : ℕ) (q : Fin 1408)
    (h : j * 1408 + q.val < 2816) (s : Fin 4) (hs : s.val = 2 * b.val + j) :
    hidden x w (ix3 b r (⟨j * 1408 + q.val, h⟩ : Fin 2816)) = prod x w r s q := by
  have hq := q.isLt
  refine congrArg₂ (prod x w r) (Fin.ext ?_) (Fin.ext ?_)
  · show 2 * b.val + (j * 1408 + q.val) / 1408 = s.val
    omega
  · show (j * 1408 + q.val) % 1408 = q.val
    omega

/-- What a block of the hidden layer is left at: its half 0 and half 1 from the two products. -/
def halves (x : Vec Ideal S512x1024 .f32) (y z : Vec Ideal S1x1x1024x1408 .bf16) : Vec Ideal S2x512x1408 .bf16 :=
  fun j => if (j 0).val = 0 then part x y (j 1) (j 2) else part x z (j 1) (j 2)

theorem emb1 (i : S1x512x1408.Idx) : r0_3.emb i = ix3 (1 : Fin 2) (i 1) (i 2) := by
  have h0 : (i 0).val < 1 := (i 0).isLt
  refine funext fun a => Fin.ext ?_
  match a with
  | ⟨0, _⟩ => show 1 + 1 * (i 0).val = 1; omega
  | ⟨1, _⟩ => show 0 + 1 * (i 1).val = (i 1).val; omega
  | ⟨2, _⟩ => show 0 + 1 * (i 2).val = (i 2).val; omega

theorem emb0 (i : S1x512x1408.Idx) : r0_2.emb i = ix3 (0 : Fin 2) (i 1) (i 2) := by
  have h0 : (i 0).val < 1 := (i 0).isLt
  refine funext fun a => Fin.ext ?_
  match a with
  | ⟨0, _⟩ => show 0 + 1 * (i 0).val = 0; omega
  | ⟨1, _⟩ => show 0 + 1 * (i 1).val = (i 1).val; omega
  | ⟨2, _⟩ => show 0 + 1 * (i 2).val = (i 2).val; omega

theorem piece1 (x : Vec Ideal S512x1024 .f32) (y z : Vec Ideal S1x1x1024x1408 .bf16) (i : S1x512x1408.Idx) :
    k0_pay5 (View.ld x r0_0) (View.ld z r0_1) i = halves x y z (r0_3.emb i) := by
  rw [pay5, View.ld_unit_lit _ _ (by decide), View.ld_unit_lit _ _ (by decide), emb1]
  rfl

theorem piece0 (x : Vec Ideal S512x1024 .f32) (y z : Vec Ideal S1x1x1024x1408 .bf16) (i : S1x512x1408.Idx) :
    k0_pay4 (View.ld x r0_0) (View.ld y r0_1) i = halves x y z (r0_2.emb i) := by
  rw [pay4, View.ld_unit_lit _ _ (by decide), View.ld_unit_lit _ _ (by decide), emb0]
  rfl

theorem out3 (x : Vec Ideal S512x1024 .f32) (y z : Vec Ideal S1x1x1024x1408 .bf16) (j : S2x512x1408.Idx) :
    out0_3 x y z j = halves x y z j := by
  unfold out0_3
  refine View.canon_apply_of_pieces (halves x y z) _ ?_ j (cover0_3 _ _ j)
  intro pc hpc
  rcases List.mem_cons.mp hpc with rfl | hpc
  · exact fun i => piece1 x y z i
  rcases List.mem_cons.mp hpc with rfl | hpc
  · exact fun i => piece0 x y z i
  nomatch hpc

theorem final3 (c : Dev nD) : (dats m 0 c).arrAt 3 cfg0.N = hidden (m ((c : Thread nD τ).loc main_arg0)) (m ((c : Thread nD τ).loc main_arg1)) := by
  refine (dats m 0 c).arrAt_eq_of_covers 3 _ (by decide +kernel) fun t hf y => ?_
  have hN : t.val < 16 := lt_of_lt_of_eq t.isLt N_0
  have b0 : (y 0).val < 2 := (y 0).isLt
  have b1 : (y 1).val < 512 := (y 1).isLt
  have b2 : (y 2).val < 1408 := (y 2).isLt
  have h1 : t.val % 8 * 512 + (y 1).val < 4096 := by omega
  have h2 : t.val / 8 * 1408 + (y 2).val < 2816 := by omega
  have e : (win0_3.blk t).view.emb y = ix3 (y 0) (⟨t.val % 8 * 512 + (y 1).val, h1⟩ : Fin 4096) (⟨t.val / 8 * 1408 + (y 2).val, h2⟩ : Fin 2816) := by
    blk_ext [index3]
  blk_simp
  rw [after0_3, e]
  refine (out3 _ _ _ y).trans ?_
  unfold halves
  split
  · next h =>
    rw [part1 m c t (y 1) (y 2) h1 (by omega)]
    exact (hidden_at _ _ (y 0) _ (t.val / 8) (y 2) h2 _ (by show t.val / 8 = 2 * (y 0).val + t.val / 8; omega)).symm
  · next h =>
    rw [part2 m c t (y 1) (y 2) h1 (by omega)]
    exact (hidden_at _ _ (y 0) _ (t.val / 8) (y 2) h2 _ (by show 2 + t.val / 8 = 2 * (y 0).val + t.val / 8; omega)).symm

theorem final4 (c : Dev nD) : (dats m 0 c).arrAt 4 cfg0.N = active (m ((c : Thread nD τ).loc main_arg0)) (m ((c : Thread nD τ).loc main_arg1)) := by
  refine (dats m 0 c).arrAt_eq_of_covers 4 _ (by decide +kernel) fun t hf y => ?_
  have hN : t.val < 16 := lt_of_lt_of_eq t.isLt N_0
  have b0 : (y 0).val < 512 := (y 0).isLt
  have b1 : (y 1).val < 1408 := (y 1).isLt
  have h1 : t.val % 8 * 512 + (y 0).val < 4096 := by omega
  have h2 : t.val / 8 * 1408 + (y 1).val < 2816 := by omega
  have e : (win0_4.blk t).view.emb y = ix2 (⟨t.val % 8 * 512 + (y 0).val, h1⟩ : Fin 4096) (⟨t.val / 8 * 1408 + (y 1).val, h2⟩ : Fin 2816) := by
    blk_ext [index4]
  blk_simp
  rw [after0_4, e]
  frame_out
  refine (pay6 _ _ _ y).trans ?_
  refine congrArg₂ act ?_ ?_
  · rw [part1 m c t (y 0) (y 1) h1 (by omega)]
    exact (hidden_at _ _ 0 _ (t.val / 8) (y 1) h2 _ (by show t.val / 8 = 2 * 0 + t.val / 8; omega)).symm
  · rw [part2 m c t (y 0) (y 1) h1 (by omega)]
    exact (hidden_at _ _ 1 _ (t.val / 8) (y 1) h2 _ (by show 2 + t.val / 8 = 2 * 1 + t.val / 8; omega)).symm

end Cert.Kernel6Ideal.Own

namespace Cert.Reference6Ideal.Own

open Cert.Reference6Ideal Cert.Reference6Ideal.Gen

/-- What the reference's two results hold, entry by entry. -/
theorem result0_eq (x : FVec Ideal S4096x1024 .f32) (w : FVec Ideal S4x4x1024x1408 .f32) :
    truncf (F := Ideal) .bf16 (concatenate S2x4096x2816 0 [⟨S1x4096x2816, (broadcastInDim S1x4096x2816 ![1, 2] bcast_S4096x2816_S1x4096x2816_1_2 (extractStridedSlice S4096x2816 ![0, 0] (Host.dotGeneral dot_S4096x1024_S1024x5632_S4096x5632_1_0_0_1_n_n none x (shapeCast _ (transpose S1024x4x1408 [1, 0, 2] (shapeCast _ (extractStridedSlice S1x4x1024x1408 ![0, 0, 0, 0] w slices_S4x4x1024x1408_S1x4x1024x1408_0_0_0_0) shapeCasts_S1x4x1024x1408_S4x1024x1408) transposes_S4x1024x1408_S1024x4x1408_1_0_2) shapeCasts_S1024x4x1408_S1024x5632)) slices_S4096x5632_S4096x2816_0_0))⟩, ⟨S1x4096x2816, (broadcastInDim S1x4096x2816 ![1, 2] bcast_S4096x2816_S1x4096x2816_1_2 (extractStridedSlice S4096x2816 ![0, 2816] (Host.dotGeneral dot_S4096x1024_S1024x5632_S4096x5632_1_0_0_1_n_n none x (shapeCast _ (transpose S1024x4x1408 [1, 0, 2] (shapeCast _ (extractStridedSlice S1x4x1024x1408 ![0, 0, 0, 0] w slices_S4x4x1024x1408_S1x4x1024x1408_0_0_0_0) shapeCasts_S1x4x1024x1408_S4x1024x1408) transposes_S4x1024x1408_S1024x4x1408_1_0_2) shapeCasts_S1024x4x1408_S1024x5632)) slices_S4096x5632_S4096x2816_0_2816))⟩] concatenates_S1x4096x2816_S1x4096x2816_S2x4096x2816_d0) bitsLt_bf16_f32
      = Cert.Kernel6Ideal.Own.hidden x w := by
  funext j
  idx_vars j
  pointwise [Cert.Kernel6Ideal.Own.hidden, Cert.Kernel6Ideal.Own.prod]
  have b0 := j0.isLt
  split
  · next h => simp only [show j0.val = 0 by omega, Nat.mul_zero, Nat.zero_add]
  · next h => simp only [show j0.val = 1 by omega, Nat.mul_one, show (2816 + j2.val) / 1408 = 2 + j2.val / 1408 by omega, show (2816 + j2.val) % 1408 = j2.val % 1408 by omega]

theorem result1_eq (x : FVec Ideal S4096x1024 .f32) (w : FVec Ideal S4x4x1024x1408 .f32) :
    truncf (F := Ideal) .bf16 (mulf (mulf (extractStridedSlice S4096x2816 ![0, 0] (Host.dotGeneral dot_S4096x1024_S1024x5632_S4096x5632_1_0_0_1_n_n none x (shapeCast _ (transpose S1024x4x1408 [1, 0, 2] (shapeCast _ (extractStridedSlice S1x4x1024x1408 ![0, 0, 0, 0] w slices_S4x4x1024x1408_S1x4x1024x1408_0_0_0_0) shapeCasts_S1x4x1024x1408_S4x1024x1408) transposes_S4x1024x1408_S1024x4x1408_1_0_2) shapeCasts_S1024x4x1408_S1024x5632)) slices_S4096x5632_S4096x2816_0_0) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extractStridedSlice S4096x2816 ![0, 0] (Host.dotGeneral dot_S4096x1024_S1024x5632_S4096x5632_1_0_0_1_n_n none x (shapeCast _ (transpose S1024x4x1408 [1, 0, 2] (shapeCast _ (extractStridedSlice S1x4x1024x1408 ![0, 0, 0, 0] w slices_S4x4x1024x1408_S1x4x1024x1408_0_0_0_0) shapeCasts_S1x4x1024x1408_S4x1024x1408) transposes_S4x1024x1408_S1024x4x1408_1_0_2) shapeCasts_S1024x4x1408_S1024x5632)) slices_S4096x5632_S4096x2816_0_0)))))) (extractStridedSlice S4096x2816 ![0, 2816] (Host.dotGeneral dot_S4096x1024_S1024x5632_S4096x5632_1_0_0_1_n_n none x (shapeCast _ (transpose S1024x4x1408 [1, 0, 2] (shapeCast _ (extractStridedSlice S1x4x1024x1408 ![0, 0, 0, 0] w slices_S4x4x1024x1408_S1x4x1024x1408_0_0_0_0) shapeCasts_S1x4x1024x1408_S4x1024x1408) transposes_S4x1024x1408_S1024x4x1408_1_0_2) shapeCasts_S1024x4x1408_S1024x5632)) slices_S4096x5632_S4096x2816_0_2816)) bitsLt_bf16_f32
      = Cert.Kernel6Ideal.Own.active x w := by
  funext j
  idx_vars j
  pointwise [Cert.Kernel6Ideal.Own.active, Cert.Kernel6Ideal.Own.act, Cert.Kernel6Ideal.Own.hidden, Cert.Kernel6Ideal.Own.prod]
  simp only [show (2816 + j1.val) / 1408 = 2 + j1.val / 1408 by omega, show (2816 + j1.val) % 1408 = j1.val % 1408 by omega]

end Cert.Reference6Ideal.Own

namespace Cert.Proof

/-- The hidden layer and its activation are the reference's. -/
theorem value6 (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg)
    (h : ∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) :
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_v13) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)) := by
  refine ⟨fun c => Cert.Kernel6Ideal.Own.hidden (m ((c.tc : Thread _ _).loc Cert.Kernel6Ideal.main_arg0)) (m ((c.tc : Thread _ _).loc Cert.Kernel6Ideal.main_arg1)), fun c => Cert.Kernel6Ideal.Own.active (m ((c.tc : Thread _ _).loc Cert.Kernel6Ideal.main_arg0)) (m ((c.tc : Thread _ _).loc Cert.Kernel6Ideal.main_arg1)), ?_, ?_⟩
  · exact (θ_run Cert.Kernel6Ideal.defs _ _).mono (fun r hr c => ⟨(hr c).1.trans (Cert.Kernel6Ideal.Own.final3 m c), (hr c).2.1.trans (Cert.Kernel6Ideal.Own.final4 m c), (hr c).2.2⟩)
      (Cert.Kernel6Ideal.Value.run_blocks m g)
  · refine (θ_run Cert.Reference6Ideal.defs _ _).mono (fun r hr c => ⟨(hr c).1.trans ?_, (hr c).2.1.trans ?_, (hr c).2.2⟩) (Cert.Reference6Ideal.Value.run m' g')
    · rw [Cert.Reference6Ideal.Own.result0_eq, (h c).1, (h c).2]
    · rw [Cert.Reference6Ideal.Own.result1_eq, (h c).1, (h c).2]

end Cert.Proof

end
-- ==== Proof.Value7.lean ====
module

public import proofs.«01_k».proof.Proof.Gen.Kernel7Ideal.Value
public import proofs.«01_k».proof.Proof.Gen.Reference7Ideal.Run
public import proofs.«01_k».proof.Proof.Algebra
public import Idealize.ShloMosaic.Lib.Pipeline.ValueKit
public import Idealize.ShloMosaic.Lib.Pipeline.ReadBack
public import Idealize.ShloMosaic.Lib.StableHlo.Run
public import Idealize.ShloMosaic.Lib.Pointwise

@[expose] public section

set_option maxRecDepth 16384

noncomputable section

open Idealize.ShloMosaic Idealize.ShloMosaic.TcCoe Idealize.SL.Sem
open scoped BigOperators

namespace Cert.Kernel7Ideal.Own

open Cert.Kernel7Ideal Cert.Kernel7Ideal.Gen Cert.Kernel7Ideal.Value

variable (m : (ℓ : Loc nD τ sig) → Buf (Elt Ideal) ℓ) (ρ : Dev nD → PrngReg)

/-- The mean of a row. -/
def mean (z : Fin 1024 → EReal) : EReal := Ideal.div (∑ k : Fin 1024, z k) (Ideal.ofBits .f32 0x44800000#32)

/-- A row less its mean. -/
def centred (z : Fin 1024 → EReal) (q : Fin 1024) : EReal := z q - mean z

/-- The reciprocal of a row's deviation. -/
def rdev (z : Fin 1024 → EReal) : EReal :=
  Ideal.rsqrt (Ideal.div (∑ k : Fin 1024, centred z k * centred z k) (Ideal.ofBits .f32 0x44800000#32) + Ideal.ofBits .f32 0x3727C5AC#32)

/-- A row of the residual sum, of a block. -/
def rowB (a : Vec Ideal S512x2816 .bf16) (w : Vec Ideal S1x2816x1024 .bf16) (x : Vec Ideal S512x1024 .f32) (p : Fin 512) (q : Fin 1024) : EReal :=
  Ideal.ofBits .f32 0x3FD744FD#32 * x (ix2 p q) + Ideal.ofBits .f32 0x3F000000#32 * ∑ l : Fin 2816, a (ix2 p l) * w (ix3 (0 : Fin 1) l q)

/-- A row of the residual sum. -/
def row (a : Vec Ideal S4096x2816 .f32) (w : Vec Ideal S4x2816x1024 .f32) (x : Vec Ideal S4096x1024 .f32) (p : Fin 4096) (q : Fin 1024) : EReal :=
  Ideal.ofBits .f32 0x3FD744FD#32 * x (ix2 p q) + Ideal.ofBits .f32 0x3F000000#32 * ∑ l : Fin 2816, a (ix2 p l) * w (ix3 (0 : Fin 4) l q)

theorem pay1 (a : Vec Ideal S512x2816 .bf16) (w : Vec Ideal S1x2816x1024 .bf16) (x : Vec Ideal S512x1024 .f32) (p : Fin 512) (q : Fin 1024) :
    k0_pay1 a w x (ix2 p q) = centred (rowB a w x p) q := by
  pointwise [k0_pay1, centred, mean, rowB]

theorem pay2 (a : Vec Ideal S512x2816 .bf16) (w : Vec Ideal S1x2816x1024 .bf16) (x : Vec Ideal S512x1024 .f32) (j : S512x1.Idx) :
    k0_pay2 a w x j = rdev (rowB a w x (j 0)) := by
  idx_vars j
  pointwise [k0_pay2, pay1, rdev]

theorem pay3 (a : Vec Ideal S512x2816 .bf16) (w : Vec Ideal S1x2816x1024 .bf16) (x : Vec Ideal S512x1024 .f32) (j : S512x1024.Idx) :
    k0_pay3 a w x j = centred (rowB a w x (j 0)) (j 1) * rdev (rowB a w x (j 0)) := by
  idx_vars j
  pointwise [k0_pay3, pay1, pay2]

theorem pay4 (a : Vec Ideal S512x2816 .bf16) (w : Vec Ideal S1x2816x1024 .bf16) (x : Vec Ideal S512x1024 .f32) (g b : Vec Ideal S1x1024 .f32) (j : S512x1024.Idx) :
    k0_pay4 a w x g b j = centred (rowB a w x (j 0)) (j 1) * rdev (rowB a w x (j 0)) * g (ix2 (0 : Fin 1) (j 1)) + b (ix2 (0 : Fin 1) (j 1)) := by
  idx_vars j
  pointwise [k0_pay4, pay3]

theorem index0 : ∀ t : Fin cfg0.N, win0_0.index t = ![t.val, 0] := by decide +kernel
theorem index1 : ∀ t : Fin cfg0.N, win0_1.index t = ![0, 0, 0] := by decide +kernel
theorem index2 : ∀ t : Fin cfg0.N, win0_2.index t = ![t.val, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![t.val, 0] := by decide +kernel
theorem index6 : ∀ t : Fin cfg0.N, win0_6.index t = ![t.val, 0] := by decide +kernel
theorem index7 : ∀ t : Fin cfg0.N, win0_7.index t = ![t.val, 0] := by decide +kernel

theorem V0 (c : Dev nD) (i : S4096x2816.Idx) : V m c main_v0 i = m ((c : Thread nD τ).loc main_arg0) i := by
  have h : V m c main_v0 = (truncf (F := Ideal) .bf16 (m ((c : Thread nD τ).loc main_arg0) : FVec Ideal S4096x2816 .f32) bitsLt_bf16_f32 : FVec Ideal S4096x2816 .bf16) := by
    unfold_abbrev_sides
    after_results
  rw [h]; rfl

theorem V1 (c : Dev nD) (i : S4x2816x1024.Idx) : V m c main_v1 i = m ((c : Thread nD τ).loc main_arg1) i := by
  have h : V m c main_v1 = (truncf (F := Ideal) .bf16 (m ((c : Thread nD τ).loc main_arg1) : FVec Ideal S4x2816x1024 .f32) bitsLt_bf16_f32 : FVec Ideal S4x2816x1024 .bf16) := by
    unfold_abbrev_sides
    after_results
  rw [h]; rfl

theorem iblk0 (c : Dev nD) (t : Fin cfg0.N) (p : Fin 512) (k : Fin 2816) (h0 : t.val * 512 + p.val < 4096) :
    iblk m c 0 t (ix2 p k) = m ((c : Thread nD τ).loc main_arg0) (ix2 ⟨t.val * 512 + p.val, h0⟩ k) := by
  blk_simp [iblk]
  rw [V0]
  blk_ext [index0]

theorem iblk1 (c : Dev nD) (t : Fin cfg0.N) (k : Fin 2816) (q : Fin 1024) :
    iblk m c 1 t (ix3 (0 : Fin 1) k q) = m ((c : Thread nD τ).loc main_arg1) (ix3 (0 : Fin 4) k q) := by
  blk_simp [iblk]
  rw [V1]
  blk_ext [index1]

theorem iblk2 (c : Dev nD) (t : Fin cfg0.N) (p : Fin 512) (k : Fin 1024) (h0 : t.val * 512 + p.val < 4096) :
    iblk m c 2 t (ix2 p k) = m ((c : Thread nD τ).loc main_arg2) (ix2 ⟨t.val * 512 + p.val, h0⟩ k) := by
  blk_simp [iblk]
  rw [V_main_arg2]
  blk_ext [index2]

theorem iblk3 (c : Dev nD) (t : Fin cfg0.N) (q : Fin 1024) :
    iblk m c 3 t (ix2 (0 : Fin 1) q) = m ((c : Thread nD τ).loc main_arg3) (ix2 (0 : Fin 1) q) := by
  blk_simp [iblk]
  rw [V_main_arg3]
  blk_ext [index3]

theorem iblk4 (c : Dev nD) (t : Fin cfg0.N) (q : Fin 1024) :
    iblk m c 4 t (ix2 (0 : Fin 1) q) = m ((c : Thread nD τ).loc main_arg4) (ix2 (0 : Fin 1) q) := by
  blk_simp [iblk]
  rw [V_main_arg4]
  blk_ext [index4]

theorem row_block (c : Dev nD) (t : Fin cfg0.N) (p : Fin 512) (h0 : t.val * 512 + p.val < 4096) :
    rowB (iblk m c 0 t) (iblk m c 1 t) (iblk m c 2 t) p
      = row (m ((c : Thread nD τ).loc main_arg0)) (m ((c : Thread nD τ).loc main_arg1)) (m ((c : Thread nD τ).loc main_arg2)) ⟨t.val * 512 + p.val, h0⟩ := by
  funext q
  unfold rowB row
  rw [iblk2 m c t p q h0]
  refine congrArg (fun s => _ + _ * s) (Finset.sum_congr rfl fun k _ => ?_)
  rw [iblk0 m c t p k h0, iblk1 m c t k q]

/-- The standardised residual sum. -/
def standard (a : Vec Ideal S4096x2816 .f32) (w : Vec Ideal S4x2816x1024 .f32) (x : Vec Ideal S4096x1024 .f32) : Vec Ideal S4096x1024 .f32 :=
  fun i => centred (row a w x (i 0)) (i 1) * rdev (row a w x (i 0))

/-- Its rows' reciprocal deviations. -/
def rdevs (a : Vec Ideal S4096x2816 .f32) (w : Vec Ideal S4x2816x1024 .f32) (x : Vec Ideal S4096x1024 .f32) : Vec Ideal S4096x1 .f32 :=
  fun i => rdev (row a w x (i 0))

/-- The layer norm of the residual sum. -/
def normed (a : Vec Ideal S4096x2816 .f32) (w : Vec Ideal S4x2816x1024 .f32) (x : Vec Ideal S4096x1024 .f32) (g b : Vec Ideal S1x1024 .f32) : Vec Ideal S4096x1024 .f32 :=
  fun i => centred (row a w x (i 0)) (i 1) * rdev (row a w x (i 0)) * g (ix2 (0 : Fin 1) (i 1)) + b (ix2 (0 : Fin 1) (i 1))

theorem final5 (c : Dev nD) : (dats m 0 c).arrAt 5 cfg0.N = normed (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have hN : t.val < 8 := lt_of_lt_of_eq t.isLt N_0
  have b0 : (y 0).val < 512 := (y 0).isLt
  have b1 : (y 1).val < 1024 := (y 1).isLt
  have h1 : t.val * 512 + (y 0).val < 4096 := by omega
  have e : (win0_5.blk t).view.emb y = ix2 (⟨t.val * 512 + (y 0).val, h1⟩ : Fin 4096) (y 1) := by
    blk_ext [index5]
  blk_simp
  rw [after0_5, e]
  frame_out
  refine (pay4 _ _ _ _ _ y).trans ?_
  rw [row_block m c t (y 0) h1]
  refine congrArg₂ (fun g b => _ * _ * g + b) (iblk3 m c t (y 1)) (iblk4 m c t (y 1))

theorem final6 (c : Dev nD) : (dats m 0 c).arrAt 6 cfg0.N = standard (m ((c : Thread nD τ).loc main_arg0)) (m ((c : Thread nD τ).loc main_arg1)) (m ((c : Thread nD τ).loc main_arg2)) := by
  refine (dats m 0 c).arrAt_eq_of_covers 6 _ (by decide +kernel) fun t hf y => ?_
  have hN : t.val < 8 := lt_of_lt_of_eq t.isLt N_0
  have b0 : (y 0).val < 512 := (y 0).isLt
  have b1 : (y 1).val < 1024 := (y 1).isLt
  have h1 : t.val * 512 + (y 0).val < 4096 := by omega
  have e : (win0_6.blk t).view.emb y = ix2 (⟨t.val * 512 + (y 0).val, h1⟩ : Fin 4096) (y 1) := by
    blk_ext [index6]
  blk_simp
  rw [after0_6, e]
  frame_out
  refine (pay3 _ _ _ y).trans ?_
  rw [row_block m c t (y 0) h1]
  rfl

theorem final7 (c : Dev nD) : (dats m 0 c).arrAt 7 cfg0.N = rdevs (m ((c : Thread nD τ).loc main_arg0)) (m ((c : Thread nD τ).loc main_arg1)) (m ((c : Thread nD τ).loc main_arg2)) := by
  refine (dats m 0 c).arrAt_eq_of_covers 7 _ (by decide +kernel) fun t hf y => ?_
  have hN : t.val < 8 := lt_of_lt_of_eq t.isLt N_0
  have b0 : (y 0).val < 512 := (y 0).isLt
  have b1 : (y 1).val < 1 := (y 1).isLt
  have h1 : t.val * 512 + (y 0).val < 4096 := by omega
  have e : (win0_7.blk t).view.emb y = ix2 (⟨t.val * 512 + (y 0).val, h1⟩ : Fin 4096) (y 1) := by
    blk_ext [index7]
  blk_simp
  rw [after0_7, e]
  frame_out
  refine (pay2 _ _ _ y).trans ?_
  rw [row_block m c t (y 0) h1]
  rfl

end Cert.Kernel7Ideal.Own

namespace Cert.Reference7Ideal.Own

open Cert.Reference7Ideal Cert.Reference7Ideal.Gen

/-- What the reference's results hold, entry by entry. -/
theorem rdevs_eq (a : FVec Ideal S4096x2816 .f32) (w : FVec Ideal S4x2816x1024 .f32) (x : FVec Ideal S4096x1024 .f32) :
    Host.rsqrt (addf (Host.divf (broadcastInDim S4096x1 ![0] bcast_S4096_S4096x1_0 (Host.reduceAdd (mulf (subf (addf (mulf (broadcastInDim S4096x1024 ![] bcast_S_S4096x1024 (constant S_ .f32 0x3FD744FD#32)) x) (mulf (broadcastInDim S4096x1024 ![] bcast_S_S4096x1024 (constant S_ .f32 0x3F000000#32)) (Host.dotGeneral dot_S4096x2816_S2816x1024_S4096x1024_1_0_0_1_n_n none a (shapeCast _ (extractStridedSlice S1x2816x1024 ![0, 0, 0] w slices_S4x2816x1024_S1x2816x1024_0_0_0) shapeCasts_S1x2816x1024_S2816x1024)))) (broadcastInDim S4096x1024 ![0, 1] bcast_S4096x1_S4096x1024_0_1 (Host.divf (broadcastInDim S4096x1 ![0] bcast_S4096_S4096x1_0 (Host.reduceAdd (addf (mulf (broadcastInDim S4096x1024 ![] bcast_S_S4096x1024 (constant S_ .f32 0x3FD744FD#32)) x) (mulf (broadcastInDim S4096x1024 ![] bcast_S_S4096x1024 (constant S_ .f32 0x3F000000#32)) (Host.dotGeneral dot_S4096x2816_S2816x1024_S4096x1024_1_0_0_1_n_n none a (shapeCast _ (extractStridedSlice S1x2816x1024 ![0, 0, 0] w slices_S4x2816x1024_S1x2816x1024_0_0_0) shapeCasts_S1x2816x1024_S2816x1024)))) (constant S_ .f32 0x00000000#32) reducesTo_S4096x1024_S4096_d1 h_S_)) (broadcastInDim S4096x1 ![] bcast_S_S4096x1 (constant S_ .f32 0x44800000#32))))) (subf (addf (mulf (broadcastInDim S4096x1024 ![] bcast_S_S4096x1024 (constant S_ .f32 0x3FD744FD#32)) x) (mulf (broadcastInDim S4096x1024 ![] bcast_S_S4096x1024 (constant S_ .f32 0x3F000000#32)) (Host.dotGeneral dot_S4096x2816_S2816x1024_S4096x1024_1_0_0_1_n_n none a (shapeCast _ (extractStridedSlice S1x2816x1024 ![0, 0, 0] w slices_S4x2816x1024_S1x2816x1024_0_0_0) shapeCasts_S1x2816x1024_S2816x1024)))) (broadcastInDim S4096x1024 ![0, 1] bcast_S4096x1_S4096x1024_0_1 (Host.divf (broadcastInDim S4096x1 ![0] bcast_S4096_S4096x1_0 (Host.reduceAdd (addf (mulf (broadcastInDim S4096x1024 ![] bcast_S_S4096x1024 (constant S_ .f32 0x3FD744FD#32)) x) (mulf (broadcastInDim S4096x1024 ![] bcast_S_S4096x1024 (constant S_ .f32 0x3F000000#32)) (Host.dotGeneral dot_S4096x2816_S2816x1024_S4096x1024_1_0_0_1_n_n none a (shapeCast _ (extractStridedSlice S1x2816x1024 ![0, 0, 0] w slices_S4x2816x1024_S1x2816x1024_0_0_0) shapeCasts_S1x2816x1024_S2816x1024)))) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))
      = Cert.Kernel7Ideal.Own.rdevs a w x := by
  funext j
  idx_vars j
  pointwise [Cert.Kernel7Ideal.Own.rdevs, Cert.Kernel7Ideal.Own.rdev, Cert.Kernel7Ideal.Own.centred, Cert.Kernel7Ideal.Own.mean, Cert.Kernel7Ideal.Own.row]

theorem standard_eq (m : (ℓ : Loc nD τ sig) → Buf (Elt Ideal) ℓ) (c : Dev nD) :
    Value.res_main_v47 m c = Cert.Kernel7Ideal.Own.standard (m ((c.tc : Thread nD τ).loc main_arg0)) (m ((c.tc : Thread nD τ).loc main_arg1)) (m ((c.tc : Thread nD τ).loc main_arg2)) := by
  funext j
  idx_vars j
  pointwise [Value.res_main_v47, Cert.Kernel7Ideal.Own.standard, Cert.Kernel7Ideal.Own.rdev, Cert.Kernel7Ideal.Own.centred, Cert.Kernel7Ideal.Own.mean, Cert.Kernel7Ideal.Own.row]

theorem normed_eq (m : (ℓ : Loc nD τ sig) → Buf (Elt Ideal) ℓ) (c : Dev nD) :
    Value.res_main_v43 m c = Cert.Kernel7Ideal.Own.normed (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  funext j
  idx_vars j
  pointwise [Value.res_main_v43, Cert.Kernel7Ideal.Own.normed, Cert.Kernel7Ideal.Own.rdev, Cert.Kernel7Ideal.Own.centred, Cert.Kernel7Ideal.Own.mean, Cert.Kernel7Ideal.Own.row]

end Cert.Reference7Ideal.Own

namespace Cert.Proof

/-- The layer norm, what its backward pass reads of it, and the residual sum under it are the reference's. -/
theorem value7 (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg)
    (h : ∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) :
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)) (v2 : (c : Dev Cert.Kernel7Ideal.nD) → Buf (Elt Ideal) ((c.tc : Thread Cert.Kernel7Ideal.nD Cert.Kernel7Ideal.τ).loc Cert.Kernel7Ideal.main_v2_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_v2_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v43) = v0 c
          ∧ r.2.mem ((c.tc : Thread Cert.Reference7Ideal.nD Cert.Reference7Ideal.τ).loc Cert.Reference7Ideal.main_v47) = v1 c
          ∧ r.2.mem ((c.tc : Thread Cert.Reference7Ideal.nD Cert.Reference7Ideal.τ).loc Cert.Reference7Ideal.main_v21) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)) := by
  refine ⟨fun c => Cert.Kernel7Ideal.Own.normed (m ((c.tc : Thread _ _).loc Cert.Kernel7Ideal.main_arg0)) (m ((c.tc : Thread _ _).loc Cert.Kernel7Ideal.main_arg1)) (m ((c.tc : Thread _ _).loc Cert.Kernel7Ideal.main_arg2)) (m ((c.tc : Thread _ _).loc Cert.Kernel7Ideal.main_arg3)) (m ((c.tc : Thread _ _).loc Cert.Kernel7Ideal.main_arg4)), fun c => Cert.Kernel7Ideal.Own.standard (m ((c.tc : Thread _ _).loc Cert.Kernel7Ideal.main_arg0)) (m ((c.tc : Thread _ _).loc Cert.Kernel7Ideal.main_arg1)) (m ((c.tc : Thread _ _).loc Cert.Kernel7Ideal.main_arg2)), fun c => Cert.Kernel7Ideal.Own.rdevs (m ((c.tc : Thread _ _).loc Cert.Kernel7Ideal.main_arg0)) (m ((c.tc : Thread _ _).loc Cert.Kernel7Ideal.main_arg1)) (m ((c.tc : Thread _ _).loc Cert.Kernel7Ideal.main_arg2)), ?_, ?_⟩
  · exact (θ_run Cert.Kernel7Ideal.defs _ _).mono (fun r hr c => ⟨(hr c).1.trans (Cert.Kernel7Ideal.Own.final5 m c), (hr c).2.1.trans (Cert.Kernel7Ideal.Own.final6 m c), (hr c).2.2.1.trans (Cert.Kernel7Ideal.Own.final7 m c), (hr c).2.2.2⟩)
      (Cert.Kernel7Ideal.Value.run_blocks m g)
  · refine (θ_run Cert.Reference7Ideal.defs _ _).mono (fun r hr c => ⟨(hr c).1.trans ?_, (hr c).2.1.trans ?_, (hr c).2.2.1.trans ?_, (hr c).2.2.2⟩) (Cert.Reference7Ideal.Value.run m' g')
    · rw [Cert.Reference7Ideal.Own.normed_eq, (h c).1, (h c).2.1, (h c).2.2.1, (h c).2.2.2.1, (h c).2.2.2.2]
    · rw [Cert.Reference7Ideal.Own.standard_eq, (h c).1, (h c).2.1, (h c).2.2.1]
    · rw [Cert.Reference7Ideal.Own.rdevs_eq, (h c).1, (h c).2.1, (h c).2.2.1]

end Cert.Proof

end
-- ==== Proof.Value8.lean ====
module

public import proofs.«01_k».proof.Proof.Gen.Kernel8Ideal.Value
public import proofs.«01_k».proof.Proof.Gen.Reference8Ideal.Run
public import proofs.«01_k».proof.Proof.Algebra
public import Idealize.ShloMosaic.Lib.Pipeline.ValueKit
public import Idealize.ShloMosaic.Lib.Pipeline.ReadBack
public import Idealize.ShloMosaic.Lib.StableHlo.Run
public import Idealize.ShloMosaic.Lib.Pointwise

@[expose] public section

set_option maxRecDepth 16384

noncomputable section

open Idealize.ShloMosaic Idealize.ShloMosaic.TcCoe Idealize.SL.Sem
open scoped BigOperators

namespace Cert.Kernel8Ideal.Own

open Cert.Kernel8Ideal Cert.Kernel8Ideal.Gen Cert.Kernel8Ideal.Value

variable (m : (ℓ : Loc nD τ sig) → Buf (Elt Ideal) ℓ) (ρ : Dev nD → PrngReg)

/-- The product of the hidden gradient's row with a row of the input weights. -/
def prod (d : Vec Ideal S2x4096x2816 .f32) (w : Vec Ideal S4x4x1024x1408 .f32) (r : Fin 4096) (q : Fin 1024) : EReal :=
  ∑ l : Fin 5632, d (ix3 (⟨l.val / 2816, Nat.div_lt_of_lt_mul l.isLt⟩ : Fin 2) r (⟨l.val % 2816, Nat.mod_lt _ (by decide)⟩ : Fin 2816))
    * w (ix4 (0 : Fin 4) (⟨l.val / 1408, Nat.div_lt_of_lt_mul l.isLt⟩ : Fin 4) q (⟨l.val % 1408, Nat.mod_lt _ (by decide)⟩ : Fin 1408))

/-- What one quarter of the product is, at an entry. -/
def part (x : Vec Ideal S1x512x1408 .bf16) (y : Vec Ideal S1x1x1024x1408 .bf16) (j : S512x1024.Idx) : EReal :=
  ∑ l : Fin 1408, x (ix3 (0 : Fin 1) (j 0) l) * y (ix4 (0 : Fin 1) (0 : Fin 1) (j 1) l)

theorem pay2 (x : Vec Ideal S1x512x1408 .bf16) (y : Vec Ideal S1x1x1024x1408 .bf16) (j : S512x1024.Idx) :
    k0_pay2 x y j = part x y j := by
  idx_vars j
  pointwise [k0_pay2, k0_pay1, part]

theorem pay3 (x : Vec Ideal S1x512x1408 .bf16) (y : Vec Ideal S1x1x1024x1408 .bf16) (a : Vec Ideal S512x1024 .f32) (j : S512x1024.Idx) :
    k0_pay3 x y a j = a j + part x y j := by
  idx_vars j
  pointwise [k0_pay3, k0_pay1, part]

theorem pay4 (e a : Vec Ideal S512x1024 .f32) (g : Vec Ideal S1x1024 .f32) (j : S512x1024.Idx) :
    k0_pay4 e a g j = Ideal.ofBits .f32 0x3FD744FD#32 * e j + a j + g (ix2 (0 : Fin 1) (j 1)) := by
  idx_vars j
  pointwise [k0_pay4]

theorem acc (c : Dev nD) (t : Fin cfg0.N) (ht : t.val % 4 = 3) (j : S512x1024.Idx) :
    (outsAt0 m c t.val t.isLt).2 j
      = ∑ s : Fin 4, part (iblk m c 0 ⟨4 * (t.val / 4) + s.val, Pipeline.run_point_lt_of_flush t ht s⟩) (iblk m c 1 ⟨4 * (t.val / 4) + s.val, Pipeline.run_point_lt_of_flush t ht s⟩) j := by
  rw [Pipeline.eq_sum_fin_of_reset_step_apply_of_flush (fun n h => (outsAt0 m c n h).2) 4 (fun _ => (0 : EReal))
    (fun t j => part (iblk m c 0 t) (iblk m c 1 t) j) ?_ ?_ t ht j, zero_add]
  · intro t h0 j
    rw [outsAt0_A m c t h0 (by omega) (by omega)]
    frame_out
    rw [pay2, zero_add]
  · intro t h0 j
    by_cases h2 : t.val % 4 = 3
    · rw [outsAt0_C m c t h0 (by omega) h2]
      frame_out
      rw [pay3, read_unread_whole]
    · rw [outsAt0_B m c t h0 (by omega) h2]
      frame_out
      rw [pay3, read_unread_whole]

theorem out (c : Dev nD) (t : Fin cfg0.N) (ht : t.val % 4 = 3) :
    (outsAt0 m c t.val t.isLt).1 = k0_pay4 (iblk m c 2 t) (outsAt0 m c t.val t.isLt).2 (iblk m c 3 t) := by
  rw [outsAt0_C m c t (by omega) (by omega) ht]
  frame_out

theorem index0 : ∀ t : Fin cfg0.N, win0_0.index t = ![t.val % 4 / 2, t.val / 4, t.val % 2] := by decide +kernel
theorem index1 : ∀ t : Fin cfg0.N, win0_1.index t = ![0, t.val % 4, 0, 0] := by decide +kernel
theorem index2 : ∀ t : Fin cfg0.N, win0_2.index t = ![t.val / 4, 0] := by decide +kernel
theorem index3 : ∀ t : Fin cfg0.N, win0_3.index t = ![0, 0] := by decide +kernel
theorem index4 : ∀ t : Fin cfg0.N, win0_4.index t = ![t.val / 4, 0] := by decide +kernel

theorem V0 (c : Dev nD) (i : S2x4096x2816.Idx) : V m c main_v0 i = m ((c : Thread nD τ).loc main_arg0) i := by
  have h : V m c main_v0 = (truncf (F := Ideal) .bf16 (m ((c : Thread nD τ).loc main_arg0) : FVec Ideal S2x4096x2816 .f32) bitsLt_bf16_f32 : FVec Ideal S2x4096x2816 .bf16) := by
    unfold_abbrev_sides
    after_results
    try rfl
  rw [h]; rfl

theorem V1 (c : Dev nD) (i : S4x4x1024x1408.Idx) : V m c main_v1 i = m ((c : Thread nD τ).loc main_arg1) i := by
  have h : V m c main_v1 = (truncf (F := Ideal) .bf16 (m ((c : Thread nD τ).loc main_arg1) : FVec Ideal S4x4x1024x1408 .f32) bitsLt_bf16_f32 : FVec Ideal S4x4x1024x1408 .bf16) := by
    unfold_abbrev_sides
    after_results
    try rfl
  rw [h]; rfl

theorem V2 (c : Dev nD) (q : Fin 1024) : (V m c main_v2 : FVec Ideal S1x1024 .f32) (ix2 (0 : Fin 1) q) = (0 : EReal) := by
  have h : V m c main_v2 = (broadcastInDim S1x1024 ![] bcast_S_S1x1024 (constant (F := Ideal) S_ .f32 0x00000000#32) : FVec Ideal S1x1024 .f32) := by
    unfold_abbrev_sides
    after_results
    try rfl
  rw [h]
  pointwise

theorem iblk0 (c : Dev nD) (t : Fin cfg0.N) (p : Fin 512) (l : Fin 1408) (h : t.val % 4 / 2 < 2) (h0 : t.val / 4 * 512 + p.val < 4096) (h1 : t.val % 2 * 1408 + l.val < 2816) :
    iblk m c 0 t (ix3 (0 : Fin 1) p l) = m ((c : Thread nD τ).loc main_arg0) (ix3 ⟨t.val % 4 / 2, h⟩ ⟨t.val / 4 * 512 + p.val, h0⟩ ⟨t.val % 2 * 1408 + l.val, h1⟩) := by
  blk_simp [iblk]
  rw [V0]
  blk_ext [index0]

theorem iblk1 (c : Dev nD) (t : Fin cfg0.N) (q : Fin 1024) (l : Fin 1408) (h : t.val % 4 < 4) :
    iblk m c 1 t (ix4 (0 : Fin 1) (0 : Fin 1) q l) = m ((c : Thread nD τ).loc main_arg1) (ix4 (0 : Fin 4) ⟨t.val % 4, h⟩ q l) := by
  blk_simp [iblk]
  rw [V1]
  blk_ext [index1]

theorem iblk2 (c : Dev nD) (t : Fin cfg0.N) (p : Fin 512) (q : Fin 1024) (h0 : t.val / 4 * 512 + p.val < 4096) :
    iblk m c 2 t (ix2 p q) = m ((c : Thread nD τ).loc main_arg2) (ix2 ⟨t.val / 4 * 512 + p.val, h0⟩ q) := by
  blk_simp [iblk]
  rw [V_main_arg2]
  blk_ext [index2]

theorem iblk3 (c : Dev nD) (t : Fin cfg0.N) (q : Fin 1024) : iblk m c 3 t (ix2 (0 : Fin 1) q) = (0 : EReal) := by
  refine Eq.trans ?_ (V2 m c q)
  blk_simp [iblk]
  blk_ext [index3]

theorem acc_prod (c : Dev nD) (t : Fin cfg0.N) (ht : t.val % 4 = 3) (p : Fin 512) (q : Fin 1024) (h0 : t.val / 4 * 512 + p.val < 4096) :
    (outsAt0 m c t.val t.isLt).2 (ix2 p q)
      = prod (m ((c : Thread nD τ).loc main_arg0)) (m ((c : Thread nD τ).loc main_arg1)) ⟨t.val / 4 * 512 + p.val, h0⟩ q := by
  have hN : t.val < 32 := lt_of_lt_of_eq t.isLt N_0
  rw [acc m c t ht]
  unfold prod
  refine Fin.sum_mul_add_congr fun s l hl => ?_
  have hs := s.isLt
  have hk := l.isLt
  have e0 : (4 * (t.val / 4) + s.val) % 4 = s.val := by omega
  have e1 : (4 * (t.val / 4) + s.val) / 4 = t.val / 4 := by omega
  have e2 : (4 * (t.val / 4) + s.val) % 2 = s.val % 2 := by omega
  have e3 : (s.val * 1408 + l.val) / 2816 = s.val / 2 := by omega
  have e4 : (s.val * 1408 + l.val) % 2816 = s.val % 2 * 1408 + l.val := by omega
  have e5 : (s.val * 1408 + l.val) / 1408 = s.val := by omega
  have e6 : (s.val * 1408 + l.val) % 1408 = l.val := by omega
  rw [show (ix2 (n0 := 512) (n1 := 1024) p q) 0 = p from rfl, show (ix2 (n0 := 512) (n1 := 1024) p q) 1 = q from rfl,
    iblk0 m c ⟨4 * (t.val / 4) + s.val, Pipeline.run_point_lt_of_flush t ht s⟩ p l (by dsimp only; omega) (by dsimp only; omega) (by dsimp only; omega),
    iblk1 m c ⟨4 * (t.val / 4) + s.val, Pipeline.run_point_lt_of_flush t ht s⟩ q l (by dsimp only; omega)]
  simp only [e0, e1, e2, e3, e4, e5, e6]

/-- What the result array holds: the gradient past the input projection, and the residual's. -/
def result (d : Vec Ideal S2x4096x2816 .f32) (w : Vec Ideal S4x4x1024x1408 .f32) (e : Vec Ideal S4096x1024 .f32) : Vec Ideal S4096x1024 .f32 :=
  fun i => Ideal.ofBits .f32 0x3FD744FD#32 * e i + prod d w (i 0) (i 1)

theorem final (c : Dev nD) : (dats m 0 c).arrAt 4 cfg0.N = result (m ((c : Thread nD τ).loc main_arg0)) (m ((c : Thread nD τ).loc main_arg1)) (m ((c : Thread nD τ).loc main_arg2)) := by
  refine (dats m 0 c).arrAt_eq_of_covers 4 _ (by decide +kernel) fun t hf y => ?_
  have ht := (flush0_4 t).mp hf
  have hN : t.val < 32 := lt_of_lt_of_eq t.isLt N_0
  have b0 : (y 0).val < 512 := (y 0).isLt
  have b1 : (y 1).val < 1024 := (y 1).isLt
  have h1 : t.val / 4 * 512 + (y 0).val < 4096 := by omega
  have e : (win0_4.blk t).view.emb y = ix2 (⟨t.val / 4 * 512 + (y 0).val, h1⟩ : Fin 4096) (y 1) := by
    blk_ext [index4]
  blk_simp
  rw [after0_4, e]
  show (outsAt0 m c t.val t.isLt).1 y = _
  rw [out m c t ht]
  refine (pay4 _ _ _ y).trans ?_
  have hy : y = ix2 (y 0) (y 1) := eq_ix2 y
  have a2 : iblk m c 2 t y = m ((c : Thread nD τ).loc main_arg2) (ix2 ⟨t.val / 4 * 512 + (y 0).val, h1⟩ (y 1)) :=
    (congrArg (iblk m c 2 t) hy).trans (iblk2 m c t (y 0) (y 1) h1)
  have a3 : (outsAt0 m c t.val t.isLt).2 y = prod (m ((c : Thread nD τ).loc main_arg0)) (m ((c : Thread nD τ).loc main_arg1)) ⟨t.val / 4 * 512 + (y 0).val, h1⟩ (y 1) :=
    (congrArg (outsAt0 m c t.val t.isLt).2 hy).trans (acc_prod m c t ht (y 0) (y 1) h1)
  rw [a2, a3, iblk3 m c t (y 1), add_zero]
  rfl

end Cert.Kernel8Ideal.Own

namespace Cert.Reference8Ideal.Own

open Cert.Reference8Ideal Cert.Reference8Ideal.Gen

/-- What the reference's result holds, entry by entry. -/
theorem result_eq (x : FVec Ideal S2x4096x2816 .f32) (y : FVec Ideal S4x4x1024x1408 .f32) (z : FVec Ideal S4096x1024 .f32) :
    addf (Host.dotGeneral dot_S4096x5632_S1024x5632_S4096x1024_1_1_0_0_n_n none (concatenate S4096x5632 1 [⟨S4096x2816, (shapeCast _ (extractStridedSlice S1x4096x2816 ![0, 0, 0] x slices_S2x4096x2816_S1x4096x2816_0_0_0) shapeCasts_S1x4096x2816_S4096x2816)⟩, ⟨S4096x2816, (shapeCast _ (extractStridedSlice S1x4096x2816 ![1, 0, 0] x slices_S2x4096x2816_S1x4096x2816_1_0_0) shapeCasts_S1x4096x2816_S4096x2816)⟩] concatenates_S4096x2816_S4096x2816_S4096x5632_d1) (shapeCast _ (transpose S1024x4x1408 [1, 0, 2] (shapeCast _ (extractStridedSlice S1x4x1024x1408 ![0, 0, 0, 0] y slices_S4x4x1024x1408_S1x4x1024x1408_0_0_0_0) shapeCasts_S1x4x1024x1408_S4x1024x1408) transposes_S4x1024x1408_S1024x4x1408_1_0_2) shapeCasts_S1024x4x1408_S1024x5632)) (mulf (broadcastInDim S4096x1024 ![] bcast_S_S4096x1024 (constant S_ .f32 0x3FD744FD#32)) z)
      = Cert.Kernel8Ideal.Own.result x y z := by
  funext j
  idx_vars j
  pointwise [Cert.Kernel8Ideal.Own.result, Cert.Kernel8Ideal.Own.prod]
  rw [add_comm]
  refine congrArg (Ideal.ofBits .f32 0x3FD744FD#32 * z (ix2 j0 j1) + ·) (Eq.trans ?_ (Fin.sum_univ_add (M := EReal) (a := 2816) (b := 2816) _).symm)
  refine congrArg₂ (· + ·) (Finset.sum_congr rfl fun l _ => ?_) (Finset.sum_congr rfl fun l _ => ?_)
  · have hl := l.isLt
    refine congrArg (· * _) (congrArg x (congrArg₂ (fun (a : Fin 2) (b : Fin 2816) => ix3 a j0 b) (Fin.ext ?_) (Fin.ext ?_)))
    · show 0 = l.val / 2816
      omega
    · show l.val = l.val % 2816
      omega
  · have hl := l.isLt
    refine congrArg (· * _) (congrArg x (congrArg₂ (fun (a : Fin 2) (b : Fin 2816) => ix3 a j0 b) (Fin.ext ?_) (Fin.ext ?_)))
    · show 1 = (2816 + l.val) / 2816
      omega
    · show l.val = (2816 + l.val) % 2816
      omega

end Cert.Reference8Ideal.Own

namespace Cert.Proof

/-- The kernel's quarters and the residual's gradient are the reference's gradient of the layer's input. -/
theorem value8 (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg)
    (h : ∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) :
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v16) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)) := by
  refine ⟨fun c => Cert.Kernel8Ideal.Own.result (m ((c.tc : Thread _ _).loc Cert.Kernel8Ideal.main_arg0)) (m ((c.tc : Thread _ _).loc Cert.Kernel8Ideal.main_arg1)) (m ((c.tc : Thread _ _).loc Cert.Kernel8Ideal.main_arg2)), ?_, ?_⟩
  · exact (θ_run Cert.Kernel8Ideal.defs _ _).mono (fun r hr c => ⟨(hr c).1.trans (Cert.Kernel8Ideal.Own.final m c), (hr c).2⟩)
      (Cert.Kernel8Ideal.Value.run_blocks m g)
  · refine (θ_run Cert.Reference8Ideal.defs _ _).mono (fun r hr c => ⟨(hr c).1.trans ?_, (hr c).2⟩) (Cert.Reference8Ideal.Value.run m' g')
    rw [Cert.Reference8Ideal.Own.result_eq, (h c).1, (h c).2.1, (h c).2.2]

end Cert.Proof

end
-- ==== Proof.Value9.lean ====
module

public import proofs.«01_k».proof.Proof.Gen.Kernel9Ideal.Value
public import proofs.«01_k».proof.Proof.Gen.Reference9Ideal.Run
public import proofs.«01_k».proof.Proof.Algebra
public import Idealize.ShloMosaic.Lib.Pipeline.ValueKit
public import Idealize.ShloMosaic.Lib.Pipeline.ReadBack
public import Idealize.ShloMosaic.Lib.StableHlo.Run
public import Idealize.ShloMosaic.Lib.Pointwise

@[expose] public section

set_option maxRecDepth 16384

noncomputable section

open Idealize.ShloMosaic Idealize.ShloMosaic.TcCoe Idealize.SL.Sem
open scoped BigOperators

namespace Cert.Kernel9Ideal.Own

open Cert.Kernel9Ideal Cert.Kernel9Ideal.Gen Cert.Kernel9Ideal.Value

variable (m : (ℓ : Loc nD τ sig) → Buf (Elt Ideal) ℓ) (ρ : Dev nD → PrngReg)

/-- The partial product of one row block, at an entry. -/
def part (x : Vec Ideal S512x1024 .f32) (y : Vec Ideal S512x640 .bf16) (j : S1024x640.Idx) : EReal :=
  ∑ k : Fin 512, x (ix2 k (j 0)) * y (ix2 k (j 1))

theorem pay1 (x : Vec Ideal S512x1024 .f32) (y : Vec Ideal S512x640 .bf16) (j : S1024x640.Idx) :
    k0_pay1 x y j = part x y j := by
  idx_vars j
  pointwise [k0_pay1, part]

theorem pay2 (x : Vec Ideal S512x1024 .f32) (y : Vec Ideal S512x640 .bf16) (a : Vec Ideal S1024x640 .f32) (j : S1024x640.Idx) :
    k0_pay2 x y a j = a j + part x y j := by
  idx_vars j
  pointwise [k0_pay2, k0_pay1, part]

theorem acc (c : Dev nD) (t : Fin cfg0.N) (ht : t.val % 8 = 7) (j : S1024x640.Idx) :
    (outsAt0 m c t.val t.isLt) j
      = ∑ s : Fin 8, part (iblk m c 0 ⟨8 * (t.val / 8) + s.val, Pipeline.run_point_lt_of_flush t ht s⟩) (iblk m c 1 ⟨8 * (t.val / 8) + s.val, Pipeline.run_point_lt_of_flush t ht s⟩) j := by
  rw [Pipeline.eq_sum_fin_of_reset_step_apply_of_flush (fun n h => outsAt0 m c n h) 8 (fun _ => (0 : EReal))
    (fun t j => part (iblk m c 0 t) (iblk m c 1 t) j) ?_ ?_ t ht j, zero_add]
  · intro t h0 j
    rw [outsAt0_A m c t h0 (by omega)]
    frame_out
    rw [pay1, zero_add]
  · intro t h0 j
    rw [outsAt0_B m c t h0 (by omega)]
    frame_out
    rw [pay2]

theorem index0 : ∀ t : Fin cfg0.N, win0_0.index t = ![t.val % 8, 0] := by decide +kernel
theorem index1 : ∀ t : Fin cfg0.N, win0_1.index t = ![t.val % 8, t.val / 8] := by decide +kernel
theorem index2 : ∀ t : Fin cfg0.N, win0_2.index t = ![0, t.val / 8] := by decide +kernel

/-- A row of the gradient, zero past the last column. -/
def padded (y : Vec Ideal S4096x3088 .f32) (l : Fin 4096) (q : Fin 3200) : EReal :=
  if h : q.val < 3088 then y (ix2 l ⟨q.val, h⟩) else 0

/-- What the result array holds: the product over the rows with the gradient, zero past its last column. -/
def result (x : Vec Ideal S4096x1024 .f32) (y : Vec Ideal S4096x3088 .f32) : Vec Ideal S1024x3200 .f32 :=
  fun i => ∑ l : Fin 4096, x (ix2 l (i 0)) * padded y l (i 1)

/-- The gradient with the zero columns the host puts after it. -/
def wide (y : FVec Ideal S4096x3088 .f32) : FVec Ideal S4096x3200 .bf16 :=
  concatenate S4096x3200 1 [⟨S4096x3088, truncf (F := Ideal) .bf16 y bitsLt_bf16_f32⟩,
    ⟨S4096x112, broadcastInDim S4096x112 ![] bcast_S_S4096x112 (constant (F := Ideal) S_ .bf16 0x0000#16)⟩] concatenates_S4096x3088_S4096x112_S4096x3200_d1

theorem wide_apply (y : FVec Ideal S4096x3088 .f32) (l : Fin 4096) (q : Fin 3200) : wide y (ix2 l q) = padded y l q := by
  pointwise [wide, padded]

theorem V2 (c : Dev nD) (l : Fin 4096) (q : Fin 3200) :
    (V m c main_v2 : FVec Ideal S4096x3200 .bf16) (ix2 l q) = padded (m ((c : Thread nD τ).loc main_arg1)) l q := by
  have e : V m c main_v2 = wide (m ((c : Thread nD τ).loc main_arg1)) := by
    unfold_abbrev_sides
    after_results
    try rfl
  rw [e]
  exact wide_apply _ l q

theorem iblk0 (c : Dev nD) (t : Fin cfg0.N) (k : Fin 512) (j : Fin 1024) (h0 : t.val % 8 * 512 + k.val < 4096) :
    iblk m c 0 t (ix2 k j) = m ((c : Thread nD τ).loc main_arg0) (ix2 ⟨t.val % 8 * 512 + k.val, h0⟩ j) := by
  blk_simp [iblk]
  rw [V_main_arg0]
  blk_ext [index0]

theorem iblk1 (c : Dev nD) (t : Fin cfg0.N) (k : Fin 512) (q : Fin 640) (h0 : t.val % 8 * 512 + k.val < 4096) (h1 : t.val / 8 * 640 + q.val < 3200) :
    iblk m c 1 t (ix2 k q) = padded (m ((c : Thread nD τ).loc main_arg1)) ⟨t.val % 8 * 512 + k.val, h0⟩ ⟨t.val / 8 * 640 + q.val, h1⟩ := by
  refine Eq.trans ?_ (V2 m c ⟨t.val % 8 * 512 + k.val, h0⟩ ⟨t.val / 8 * 640 + q.val, h1⟩)
  blk_simp [iblk]
  blk_ext [index1]

theorem point (c : Dev nD) (t : Fin cfg0.N) (ht : t.val % 8 = 7) (r : Fin 1024) (q : Fin 640) (h1 : t.val / 8 * 640 + q.val < 3200) :
    (outsAt0 m c t.val t.isLt) (ix2 r q) = result (m ((c : Thread nD τ).loc main_arg0)) (m ((c : Thread nD τ).loc main_arg1)) (ix2 r ⟨t.val / 8 * 640 + q.val, h1⟩) := by
  have hN : t.val < 40 := lt_of_lt_of_eq t.isLt N_0
  rw [acc m c t ht]
  refine Fin.sum_mul_add_congr fun s k hl => ?_
  have hs := s.isLt
  have hk := k.isLt
  have e0 : (8 * (t.val / 8) + s.val) % 8 = s.val := by omega
  have e1 : (8 * (t.val / 8) + s.val) / 8 = t.val / 8 := by omega
  rw [show (ix2 (n0 := 1024) (n1 := 640) r q) 0 = r from rfl, show (ix2 (n0 := 1024) (n1 := 640) r q) 1 = q from rfl,
    iblk0 m c ⟨8 * (t.val / 8) + s.val, Pipeline.run_point_lt_of_flush t ht s⟩ k r (by dsimp only; omega),
    iblk1 m c ⟨8 * (t.val / 8) + s.val, Pipeline.run_point_lt_of_flush t ht s⟩ k q (by dsimp only; omega) (by dsimp only; omega)]
  simp only [e0, e1]
  rfl

theorem final (c : Dev nD) : (dats m 0 c).arrAt 2 cfg0.N = result (m ((c : Thread nD τ).loc main_arg0)) (m ((c : Thread nD τ).loc main_arg1)) := by
  refine (dats m 0 c).arrAt_eq_of_covers 2 _ (by decide +kernel) fun t hf y => ?_
  have ht := (flush0_2 t).mp hf
  have hN : t.val < 40 := lt_of_lt_of_eq t.isLt N_0
  have b0 : (y 0).val < 1024 := (y 0).isLt
  have b1 : (y 1).val < 640 := (y 1).isLt
  have h1 : t.val / 8 * 640 + (y 1).val < 3200 := by omega
  have e : (win0_2.blk t).view.emb y = ix2 (y 0) (⟨t.val / 8 * 640 + (y 1).val, h1⟩ : Fin 3200) := by
    blk_ext [index2]
  blk_simp
  rw [after0_2, e]
  exact (congrArg _ (eq_ix2 y)).trans (point m c t ht (y 0) (y 1) h1)

end Cert.Kernel9Ideal.Own

namespace Cert.Reference9Ideal.Own

open Cert.Reference9Ideal Cert.Reference9Ideal.Gen

/-- What the reference's result holds, entry by entry. -/
theorem result_eq (x : FVec Ideal S4096x1024 .f32) (y : FVec Ideal S4096x3088 .f32) :
    concatenate S1024x3200 1 [⟨S1024x3088, (transpose S1024x3088 [1, 0] (Host.dotGeneral dot_S4096x3088_S4096x1024_S3088x1024_0_0_1_1_n_n none y x) transposes_S3088x1024_S1024x3088_1_0)⟩, ⟨S1024x112, (broadcastInDim S1024x112 ![] bcast_S_S1024x112 (constant S_ .f32 0x00000000#32))⟩] concatenates_S1024x3088_S1024x112_S1024x3200_d1
      = Cert.Kernel9Ideal.Own.result x y := by
  funext j
  idx_vars j
  pointwise [Cert.Kernel9Ideal.Own.result, Cert.Kernel9Ideal.Own.padded]
  by_cases h : j1.val < 3088
  · simp only [dif_pos h]
    exact Finset.sum_congr rfl fun k _ => mul_comm _ _
  · simp only [dif_neg h, mul_zero, Finset.sum_const_zero]

end Cert.Reference9Ideal.Own

namespace Cert.Proof

/-- The sum of the row blocks' products is the reference's derivative of the projections, with zero columns after it. -/
theorem value9 (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg)
    (h : ∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) :
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)) := by
  refine ⟨fun c => Cert.Kernel9Ideal.Own.result (m ((c.tc : Thread _ _).loc Cert.Kernel9Ideal.main_arg0)) (m ((c.tc : Thread _ _).loc Cert.Kernel9Ideal.main_arg1)), ?_, ?_⟩
  · exact (θ_run Cert.Kernel9Ideal.defs _ _).mono (fun r hr c => ⟨(hr c).1.trans (Cert.Kernel9Ideal.Own.final m c), (hr c).2⟩)
      (Cert.Kernel9Ideal.Value.run_blocks m g)
  · refine (θ_run Cert.Reference9Ideal.defs _ _).mono (fun r hr c => ⟨(hr c).1.trans ?_, (hr c).2⟩) (Cert.Reference9Ideal.Value.run m' g')
    rw [Cert.Reference9Ideal.Own.result_eq, (h c).1, (h c).2]

end Cert.Proof

end
-- ==== Proof.Value10.lean ====
module

public import proofs.«01_k».proof.Proof.Gen.Kernel10Ideal.Value
public import proofs.«01_k».proof.Proof.Gen.Reference10Ideal.Run
public import proofs.«01_k».proof.Proof.Algebra
public import Idealize.ShloMosaic.Lib.Pipeline.ValueKit
public import Idealize.ShloMosaic.Lib.Pipeline.ReadBack
public import Idealize.ShloMosaic.Lib.StableHlo.Run
public import Idealize.ShloMosaic.Lib.Pointwise

@[expose] public section

set_option maxRecDepth 16384

noncomputable section

open Idealize.ShloMosaic Idealize.ShloMosaic.TcCoe Idealize.SL.Sem
open scoped BigOperators

namespace Cert.Kernel10Ideal.Own

open Cert.Kernel10Ideal Cert.Kernel10Ideal.Gen Cert.Kernel10Ideal.Value

variable (m : (ℓ : Loc nD τ sig) → Buf (Elt Ideal) ℓ) (ρ : Dev nD → PrngReg)

/-- What the result array holds: the product with the first columns of the weights. -/
def result (x : Vec Ideal S4096x1024 .f32) (w : Vec Ideal S1024x3088 .f32) : Vec Ideal S4096x3072 .bf16 :=
  fun i => ∑ l : Fin 1024, x (ix2 (i 0) l) * w (ix2 l (⟨(i 1).val, lt_trans (i 1).isLt (by decide)⟩ : Fin 3088))

theorem pay1 (x : Vec Ideal S512x1024 .f32) (y : Vec Ideal S1024x1024 .bf16) (j : S512x1024.Idx) :
    k0_pay1 x y j = ∑ l : Fin 1024, x (ix2 (j 0) l) * y (ix2 l (j 1)) := by
  idx_vars j
  pointwise [k0_pay1]

theorem index0 : ∀ t : Fin cfg0.N, win0_0.index t = ![t.val % 8, 0] := by decide +kernel
theorem index1 : ∀ t : Fin cfg0.N, win0_1.index t = ![0, t.val / 8] := by decide +kernel
theorem index2 : ∀ t : Fin cfg0.N, win0_2.index t = ![t.val % 8, t.val / 8] := by decide +kernel

/-- The columns the host keeps of the weights with zero columns after them. -/
def kept (w : FVec Ideal S1024x3088 .f32) : FVec Ideal S1024x3072 .bf16 :=
  extractStridedSlice S1024x3072 ![0, 0] (concatenate S1024x3200 1 [⟨S1024x3088, truncf (F := Ideal) .bf16 w bitsLt_bf16_f32⟩,
    ⟨S1024x112, broadcastInDim S1024x112 ![] bcast_S_S1024x112 (constant (F := Ideal) S_ .bf16 0x0000#16)⟩] concatenates_S1024x3088_S1024x112_S1024x3200_d1) slices_S1024x3200_S1024x3072_0_0

theorem kept_apply (w : FVec Ideal S1024x3088 .f32) (l : Fin 1024) (q : Fin 3072) (h : q.val < 3088) : kept w (ix2 l q) = w (ix2 l ⟨q.val, h⟩) := by
  have hq := q.isLt
  pointwise [kept]
  try rw [dif_pos (by omega)]

theorem V3 (c : Dev nD) (l : Fin 1024) (q : Fin 3072) (h : q.val < 3088) :
    (V m c main_v3 : FVec Ideal S1024x3072 .bf16) (ix2 l q) = m ((c : Thread nD τ).loc main_arg1) (ix2 l ⟨q.val, h⟩) := by
  have e : V m c main_v3 = kept (m ((c : Thread nD τ).loc main_arg1)) := by
    unfold_abbrev_sides
    after_results
    try rfl
  rw [e]
  exact kept_apply _ l q h

theorem iblk0 (c : Dev nD) (t : Fin cfg0.N) (p : Fin 512) (l : Fin 1024) (h0 : t.val % 8 * 512 + p.val < 4096) :
    iblk m c 0 t (ix2 p l) = m ((c : Thread nD τ).loc main_arg0) (ix2 ⟨t.val % 8 * 512 + p.val, h0⟩ l) := by
  blk_simp [iblk]
  rw [V_main_arg0]
  blk_ext [index0]

theorem iblk1 (c : Dev nD) (t : Fin cfg0.N) (l q : Fin 1024) (h0 : t.val / 8 * 1024 + q.val < 3072) (h : t.val / 8 * 1024 + q.val < 3088) :
    iblk m c 1 t (ix2 l q) = m ((c : Thread nD τ).loc main_arg1) (ix2 l ⟨t.val / 8 * 1024 + q.val, h⟩) := by
  refine Eq.trans ?_ (V3 m c l ⟨t.val / 8 * 1024 + q.val, h0⟩ h)
  blk_simp [iblk]
  blk_ext [index1]

theorem final (c : Dev nD) : (dats m 0 c).arrAt 2 cfg0.N = result (m ((c : Thread nD τ).loc main_arg0)) (m ((c : Thread nD τ).loc main_arg1)) := by
  refine (dats m 0 c).arrAt_eq_of_covers 2 _ (by decide +kernel) fun t hf y => ?_
  have hN : t.val < 24 := lt_of_lt_of_eq t.isLt N_0
  have b0 : (y 0).val < 512 := (y 0).isLt
  have b1 : (y 1).val < 1024 := (y 1).isLt
  have h0 : t.val % 8 * 512 + (y 0).val < 4096 := by omega
  have h1 : t.val / 8 * 1024 + (y 1).val < 3072 := by omega
  have e : (win0_2.blk t).view.emb y = ix2 (⟨t.val % 8 * 512 + (y 0).val, h0⟩ : Fin 4096) (⟨t.val / 8 * 1024 + (y 1).val, h1⟩ : Fin 3072) := by
    blk_ext [index2]
  blk_simp
  rw [after0_2, e]
  frame_out
  refine (pay1 _ _ y).trans (Finset.sum_congr rfl fun l _ => ?_)
  exact congrArg₂ (· * ·) (iblk0 m c t (y 0) l h0) (iblk1 m c t l (y 1) h1 (by omega))

end Cert.Kernel10Ideal.Own

namespace Cert.Reference10Ideal.Own

open Cert.Reference10Ideal Cert.Reference10Ideal.Gen

/-- What the reference's result holds, entry by entry. -/
theorem result_eq (x : FVec Ideal S4096x1024 .f32) (y : FVec Ideal S1024x3088 .f32) :
    truncf (F := Ideal) .bf16 (extractStridedSlice S4096x3072 ![0, 0] (Host.dotGeneral dot_S4096x1024_S1024x3088_S4096x3088_1_0_0_1_n_n none x y) slices_S4096x3088_S4096x3072_0_0) bitsLt_bf16_f32
      = Cert.Kernel10Ideal.Own.result x y := by
  funext j
  idx_vars j
  pointwise [Cert.Kernel10Ideal.Own.result]

end Cert.Reference10Ideal.Own

namespace Cert.Proof

/-- The product of the kernel's blocks with the first columns is the reference's product there. -/
theorem value10 (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg)
    (h : ∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) :
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)) := by
  refine ⟨fun c => Cert.Kernel10Ideal.Own.result (m ((c.tc : Thread _ _).loc Cert.Kernel10Ideal.main_arg0)) (m ((c.tc : Thread _ _).loc Cert.Kernel10Ideal.main_arg1)), ?_, ?_⟩
  · exact (θ_run Cert.Kernel10Ideal.defs _ _).mono (fun r hr c => ⟨(hr c).1.trans (Cert.Kernel10Ideal.Own.final m c), (hr c).2⟩)
      (Cert.Kernel10Ideal.Value.run_blocks m g)
  · refine (θ_run Cert.Reference10Ideal.defs _ _).mono (fun r hr c => ⟨(hr c).1.trans ?_, (hr c).2⟩) (Cert.Reference10Ideal.Value.run m' g')
    rw [Cert.Reference10Ideal.Own.result_eq, (h c).1, (h c).2]

end Cert.Proof

end
-- ==== Proof.Value11.lean ====
module

public import proofs.«01_k».proof.Proof.Gen.Kernel11Ideal.Value
public import proofs.«01_k».proof.Proof.Gen.Reference11Ideal.Run
public import proofs.«01_k».proof.Proof.Algebra
public import Idealize.ShloMosaic.Lib.Pipeline.ValueKit
public import Idealize.ShloMosaic.Lib.Pipeline.ReadBack
public import Idealize.ShloMosaic.Lib.StableHlo.Run
public import Idealize.ShloMosaic.Lib.Pointwise

@[expose] public section

set_option maxRecDepth 16384

noncomputable section

open Idealize.ShloMosaic Idealize.ShloMosaic.TcCoe Idealize.SL.Sem
open scoped BigOperators

namespace Cert.Kernel11Ideal.Own

open Cert.Kernel11Ideal Cert.Kernel11Ideal.Gen Cert.Kernel11Ideal.Value

variable (m : (ℓ : Loc nD τ sig) → Buf (Elt Ideal) ℓ) (ρ : Dev nD → PrngReg)

/-- What the result array holds: the product with the layer's weights, whose shards lie side by side. -/
def result (x : Vec Ideal S4096x1024 .f32) (w : Vec Ideal S2x4x1024x512 .f32) : Vec Ideal S4096x2048 .f32 :=
  fun i => ∑ l : Fin 1024, x (ix2 (i 0) l) * w (ix4 (0 : Fin 2) (⟨(i 1).val / 512, Nat.div_lt_of_lt_mul (i 1).isLt⟩ : Fin 4) l
    (⟨(i 1).val % 512, Nat.mod_lt _ (by decide)⟩ : Fin 512))

theorem pay1 (x : Vec Ideal S512x1024 .bf16) (y : Vec Ideal S1x1x1024x512 .bf16) (j : S512x512.Idx) :
    k0_pay1 x y j = ∑ l : Fin 1024, x (ix2 (j 0) l) * y (ix4 (0 : Fin 1) (0 : Fin 1) l (j 1)) := by
  idx_vars j
  pointwise [k0_pay1]

theorem index0 : ∀ t : Fin cfg0.N, win0_0.index t = ![t.val % 8, 0] := by decide +kernel
theorem index1 : ∀ t : Fin cfg0.N, win0_1.index t = ![0, t.val / 8, 0, 0] := by decide +kernel
theorem index2 : ∀ t : Fin cfg0.N, win0_2.index t = ![t.val % 8, t.val / 8] := by decide +kernel

theorem V0 (c : Dev nD) (i : S4096x1024.Idx) : V m c main_v0 i = m ((c : Thread nD τ).loc main_arg0) i := by
  have h : V m c main_v0 = (truncf (F := Ideal) .bf16 (m ((c : Thread nD τ).loc main_arg0) : FVec Ideal S4096x1024 .f32) bitsLt_bf16_f32 : FVec Ideal S4096x1024 .bf16) := by
    unfold_abbrev_sides
    after_results
    try rfl
  rw [h]; rfl

theorem V1 (c : Dev nD) (i : S2x4x1024x512.Idx) : V m c main_v1 i = m ((c : Thread nD τ).loc main_arg1) i := by
  have h : V m c main_v1 = (truncf (F := Ideal) .bf16 (m ((c : Thread nD τ).loc main_arg1) : FVec Ideal S2x4x1024x512 .f32) bitsLt_bf16_f32 : FVec Ideal S2x4x1024x512 .bf16) := by
    unfold_abbrev_sides
    after_results
    try rfl
  rw [h]; rfl

theorem iblk0 (c : Dev nD) (t : Fin cfg0.N) (p : Fin 512) (l : Fin 1024) (h0 : t.val % 8 * 512 + p.val < 4096) :
    iblk m c 0 t (ix2 p l) = m ((c : Thread nD τ).loc main_arg0) (ix2 ⟨t.val % 8 * 512 + p.val, h0⟩ l) := by
  blk_simp [iblk]
  rw [V0]
  blk_ext [index0]

theorem iblk1 (c : Dev nD) (t : Fin cfg0.N) (l : Fin 1024) (q : Fin 512) (h : t.val / 8 < 4) :
    iblk m c 1 t (ix4 (0 : Fin 1) (0 : Fin 1) l q) = m ((c : Thread nD τ).loc main_arg1) (ix4 (0 : Fin 2) ⟨t.val / 8, h⟩ l q) := by
  blk_simp [iblk]
  rw [V1]
  blk_ext [index1]

theorem final (c : Dev nD) : (dats m 0 c).arrAt 2 cfg0.N = result (m ((c : Thread nD τ).loc main_arg0)) (m ((c : Thread nD τ).loc main_arg1)) := by
  refine (dats m 0 c).arrAt_eq_of_covers 2 _ (by decide +kernel) fun t hf y => ?_
  have hN : t.val < 32 := lt_of_lt_of_eq t.isLt N_0
  have b0 : (y 0).val < 512 := (y 0).isLt
  have b1 : (y 1).val < 512 := (y 1).isLt
  have h0 : t.val % 8 * 512 + (y 0).val < 4096 := by omega
  have h1 : t.val / 8 * 512 + (y 1).val < 2048 := by omega
  have e : (win0_2.blk t).view.emb y = ix2 (⟨t.val % 8 * 512 + (y 0).val, h0⟩ : Fin 4096) (⟨t.val / 8 * 512 + (y 1).val, h1⟩ : Fin 2048) := by
    blk_ext [index2]
  have e1 : (t.val / 8 * 512 + (y 1).val) / 512 = t.val / 8 := by omega
  have e2 : (t.val / 8 * 512 + (y 1).val) % 512 = (y 1).val := by omega
  blk_simp
  rw [after0_2, e]
  frame_out
  refine (pay1 _ _ y).trans (Finset.sum_congr rfl fun l _ => ?_)
  refine congrArg₂ (· * ·) (iblk0 m c t (y 0) l h0) ((iblk1 m c t l (y 1) (by omega)).trans ?_)
  refine congrArg _ (congrArg₂ (fun (a : Fin 4) (b : Fin 512) => ix4 (0 : Fin 2) a l b) (Fin.ext e1.symm) (Fin.ext e2.symm))

end Cert.Kernel11Ideal.Own

namespace Cert.Reference11Ideal.Own

open Cert.Reference11Ideal Cert.Reference11Ideal.Gen

/-- What the reference's result holds, entry by entry. -/
theorem result_eq (x : FVec Ideal S4096x1024 .f32) (y : FVec Ideal S2x4x1024x512 .f32) :
    Host.dotGeneral dot_S4096x1024_S1024x2048_S4096x2048_1_0_0_1_n_n none x (shapeCast _ (transpose S1024x4x512 [1, 0, 2] (shapeCast _ (extractStridedSlice S1x4x1024x512 ![0, 0, 0, 0] y slices_S2x4x1024x512_S1x4x1024x512_0_0_0_0) shapeCasts_S1x4x1024x512_S4x1024x512) transposes_S4x1024x512_S1024x4x512_1_0_2) shapeCasts_S1024x4x512_S1024x2048)
      = Cert.Kernel11Ideal.Own.result x y := by
  funext j
  idx_vars j
  pointwise [Cert.Kernel11Ideal.Own.result]

end Cert.Reference11Ideal.Own

namespace Cert.Proof

/-- The product of the kernel's blocks with the weights' shards is the reference's product. -/
theorem value11 (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg)
    (h : ∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) :
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)) := by
  refine ⟨fun c => Cert.Kernel11Ideal.Own.result (m ((c.tc : Thread _ _).loc Cert.Kernel11Ideal.main_arg0)) (m ((c.tc : Thread _ _).loc Cert.Kernel11Ideal.main_arg1)), ?_, ?_⟩
  · exact (θ_run Cert.Kernel11Ideal.defs _ _).mono (fun r hr c => ⟨(hr c).1.trans (Cert.Kernel11Ideal.Own.final m c), (hr c).2⟩)
      (Cert.Kernel11Ideal.Value.run_blocks m g)
  · refine (θ_run Cert.Reference11Ideal.defs _ _).mono (fun r hr c => ⟨(hr c).1.trans ?_, (hr c).2⟩) (Cert.Reference11Ideal.Value.run m' g')
    rw [Cert.Reference11Ideal.Own.result_eq, (h c).1, (h c).2]

end Cert.Proof

end
-- ==== Proof.Value12.lean ====
module

public import proofs.«01_k».proof.Proof.Gen.Kernel12Ideal.Value
public import proofs.«01_k».proof.Proof.Gen.Reference12Ideal.Run
public import proofs.«01_k».proof.Proof.Algebra
public import Idealize.ShloMosaic.Lib.Pipeline.ValueKit
public import Idealize.ShloMosaic.Lib.Pipeline.ReadBack
public import Idealize.ShloMosaic.Lib.StableHlo.Run
public import Idealize.ShloMosaic.Lib.Pointwise

@[expose] public section

set_option maxRecDepth 16384

noncomputable section

open Idealize.ShloMosaic Idealize.ShloMosaic.TcCoe Idealize.SL.Sem
open scoped BigOperators

namespace Cert.Kernel12Ideal.Own

open Cert.Kernel12Ideal Cert.Kernel12Ideal.Gen Cert.Kernel12Ideal.Value

variable (m : (ℓ : Loc nD τ sig) → Buf (Elt Ideal) ℓ) (ρ : Dev nD → PrngReg)

/-- The partial product of one shard, at an entry. -/
def part (x : Vec Ideal S512x512 .bf16) (y : Vec Ideal S1x1x1024x512 .bf16) (j : S512x1024.Idx) : EReal :=
  ∑ l : Fin 512, x (ix2 (j 0) l) * y (ix4 (0 : Fin 1) (0 : Fin 1) (j 1) l)

theorem pay1 (x : Vec Ideal S512x512 .bf16) (y : Vec Ideal S1x1x1024x512 .bf16) (j : S512x1024.Idx) :
    k0_pay1 x y j = part x y j := by
  idx_vars j
  pointwise [k0_pay1, part]

theorem pay2 (x : Vec Ideal S512x512 .bf16) (y : Vec Ideal S1x1x1024x512 .bf16) (a : Vec Ideal S512x1024 .f32) (j : S512x1024.Idx) :
    k0_pay2 x y a j = a j + part x y j := by
  idx_vars j
  pointwise [k0_pay2, k0_pay1, part]

theorem acc (c : Dev nD) (t : Fin cfg0.N) (ht : t.val % 4 = 3) (j : S512x1024.Idx) :
    (outsAt0 m c t.val t.isLt) j
      = ∑ s : Fin 4, part (iblk m c 0 ⟨4 * (t.val / 4) + s.val, Pipeline.run_point_lt_of_flush t ht s⟩) (iblk m c 1 ⟨4 * (t.val / 4) + s.val, Pipeline.run_point_lt_of_flush t ht s⟩) j := by
  rw [Pipeline.eq_sum_fin_of_reset_step_apply_of_flush (fun n h => outsAt0 m c n h) 4 (fun _ => (0 : EReal))
    (fun t j => part (iblk m c 0 t) (iblk m c 1 t) j) ?_ ?_ t ht j, zero_add]
  · intro t h0 j
    rw [outsAt0_A m c t h0 (by omega)]
    frame_out
    rw [pay1, zero_add]
  · intro t h0 j
    rw [outsAt0_B m c t h0 (by omega)]
    frame_out
    rw [pay2]

theorem index0 : ∀ t : Fin cfg0.N, win0_0.index t = ![t.val / 4, t.val % 4] := by decide +kernel
theorem index1 : ∀ t : Fin cfg0.N, win0_1.index t = ![0, t.val % 4, 0, 0] := by decide +kernel
theorem index2 : ∀ t : Fin cfg0.N, win0_2.index t = ![t.val / 4, 0] := by decide +kernel

/-- What the result array holds: the product with the transpose of the layer's weights, whose shards lie side by side. -/
def result (x : Vec Ideal S4096x2048 .f32) (w : Vec Ideal S2x4x1024x512 .f32) : Vec Ideal S4096x1024 .f32 :=
  fun i => ∑ l : Fin 2048, x (ix2 (i 0) l) * w (ix4 (0 : Fin 2) (⟨l.val / 512, Nat.div_lt_of_lt_mul l.isLt⟩ : Fin 4) (i 1)
    (⟨l.val % 512, Nat.mod_lt _ (by decide)⟩ : Fin 512))

theorem V0 (c : Dev nD) (i : S4096x2048.Idx) : V m c main_v0 i = m ((c : Thread nD τ).loc main_arg0) i := by
  have h : V m c main_v0 = (truncf (F := Ideal) .bf16 (m ((c : Thread nD τ).loc main_arg0) : FVec Ideal S4096x2048 .f32) bitsLt_bf16_f32 : FVec Ideal S4096x2048 .bf16) := by
    unfold_abbrev_sides
    after_results
    try rfl
  rw [h]; rfl

theorem V1 (c : Dev nD) (i : S2x4x1024x512.Idx) : V m c main_v1 i = m ((c : Thread nD τ).loc main_arg1) i := by
  have h : V m c main_v1 = (truncf (F := Ideal) .bf16 (m ((c : Thread nD τ).loc main_arg1) : FVec Ideal S2x4x1024x512 .f32) bitsLt_bf16_f32 : FVec Ideal S2x4x1024x512 .bf16) := by
    unfold_abbrev_sides
    after_results
    try rfl
  rw [h]; rfl

theorem iblk0 (c : Dev nD) (t : Fin cfg0.N) (p l : Fin 512) (h0 : t.val / 4 * 512 + p.val < 4096) (h1 : t.val % 4 * 512 + l.val < 2048) :
    iblk m c 0 t (ix2 p l) = m ((c : Thread nD τ).loc main_arg0) (ix2 ⟨t.val / 4 * 512 + p.val, h0⟩ ⟨t.val % 4 * 512 + l.val, h1⟩) := by
  blk_simp [iblk]
  rw [V0]
  blk_ext [index0]

theorem iblk1 (c : Dev nD) (t : Fin cfg0.N) (q : Fin 1024) (l : Fin 512) (h : t.val % 4 < 4) :
    iblk m c 1 t (ix4 (0 : Fin 1) (0 : Fin 1) q l) = m ((c : Thread nD τ).loc main_arg1) (ix4 (0 : Fin 2) ⟨t.val % 4, h⟩ q l) := by
  blk_simp [iblk]
  rw [V1]
  blk_ext [index1]

theorem point (c : Dev nD) (t : Fin cfg0.N) (ht : t.val % 4 = 3) (p : Fin 512) (q : Fin 1024) (h0 : t.val / 4 * 512 + p.val < 4096) :
    (outsAt0 m c t.val t.isLt) (ix2 p q) = result (m ((c : Thread nD τ).loc main_arg0)) (m ((c : Thread nD τ).loc main_arg1)) (ix2 ⟨t.val / 4 * 512 + p.val, h0⟩ q) := by
  have hN : t.val < 32 := lt_of_lt_of_eq t.isLt N_0
  rw [acc m c t ht]
  refine Fin.sum_mul_add_congr fun s l hl => ?_
  have hs := s.isLt
  have hk := l.isLt
  have e0 : (4 * (t.val / 4) + s.val) % 4 = s.val := by omega
  have e1 : (4 * (t.val / 4) + s.val) / 4 = t.val / 4 := by omega
  have e5 : (s.val * 512 + l.val) / 512 = s.val := by omega
  have e6 : (s.val * 512 + l.val) % 512 = l.val := by omega
  rw [show (ix2 (n0 := 512) (n1 := 1024) p q) 0 = p from rfl, show (ix2 (n0 := 512) (n1 := 1024) p q) 1 = q from rfl,
    iblk0 m c ⟨4 * (t.val / 4) + s.val, Pipeline.run_point_lt_of_flush t ht s⟩ p l (by dsimp only; omega) (by dsimp only; omega),
    iblk1 m c ⟨4 * (t.val / 4) + s.val, Pipeline.run_point_lt_of_flush t ht s⟩ q l (by dsimp only; omega)]
  simp only [e0, e1, e5, e6]
  rfl

theorem final (c : Dev nD) : (dats m 0 c).arrAt 2 cfg0.N = result (m ((c : Thread nD τ).loc main_arg0)) (m ((c : Thread nD τ).loc main_arg1)) := by
  refine (dats m 0 c).arrAt_eq_of_covers 2 _ (by decide +kernel) fun t hf y => ?_
  have ht := (flush0_2 t).mp hf
  have hN : t.val < 32 := lt_of_lt_of_eq t.isLt N_0
  have b0 : (y 0).val < 512 := (y 0).isLt
  have b1 : (y 1).val < 1024 := (y 1).isLt
  have h0 : t.val / 4 * 512 + (y 0).val < 4096 := by omega
  have e : (win0_2.blk t).view.emb y = ix2 (⟨t.val / 4 * 512 + (y 0).val, h0⟩ : Fin 4096) (y 1) := by
    blk_ext [index2]
  blk_simp
  rw [after0_2, e]
  exact (congrArg _ (eq_ix2 y)).trans (point m c t ht (y 0) (y 1) h0)

end Cert.Kernel12Ideal.Own

namespace Cert.Reference12Ideal.Own

open Cert.Reference12Ideal Cert.Reference12Ideal.Gen

/-- What the reference's result holds, entry by entry. -/
theorem result_eq (x : FVec Ideal S4096x2048 .f32) (y : FVec Ideal S2x4x1024x512 .f32) :
    Host.dotGeneral dot_S4096x2048_S1024x2048_S4096x1024_1_1_0_0_n_n none x (shapeCast _ (transpose S1024x4x512 [1, 0, 2] (shapeCast _ (extractStridedSlice S1x4x1024x512 ![0, 0, 0, 0] y slices_S2x4x1024x512_S1x4x1024x512_0_0_0_0) shapeCasts_S1x4x1024x512_S4x1024x512) transposes_S4x1024x512_S1024x4x512_1_0_2) shapeCasts_S1024x4x512_S1024x2048)
      = Cert.Kernel12Ideal.Own.result x y := by
  funext j
  idx_vars j
  pointwise [Cert.Kernel12Ideal.Own.result]

end Cert.Reference12Ideal.Own

namespace Cert.Proof

/-- The sum of the shards' products is the reference's derivative of the output product. -/
theorem value12 (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg)
    (h : ∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) :
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)) := by
  refine ⟨fun c => Cert.Kernel12Ideal.Own.result (m ((c.tc : Thread _ _).loc Cert.Kernel12Ideal.main_arg0)) (m ((c.tc : Thread _ _).loc Cert.Kernel12Ideal.main_arg1)), ?_, ?_⟩
  · exact (θ_run Cert.Kernel12Ideal.defs _ _).mono (fun r hr c => ⟨(hr c).1.trans (Cert.Kernel12Ideal.Own.final m c), (hr c).2⟩)
      (Cert.Kernel12Ideal.Value.run_blocks m g)
  · refine (θ_run Cert.Reference12Ideal.defs _ _).mono (fun r hr c => ⟨(hr c).1.trans ?_, (hr c).2⟩) (Cert.Reference12Ideal.Value.run m' g')
    rw [Cert.Reference12Ideal.Own.result_eq, (h c).1, (h c).2]

end Cert.Proof

end
-- ==== Proof.Value13.lean ====
module

public import proofs.«01_k».proof.Proof.Gen.Kernel13Ideal.Value
public import proofs.«01_k».proof.Proof.Gen.Reference13Ideal.Run
public import proofs.«01_k».proof.Proof.Algebra
public import Idealize.ShloMosaic.Lib.Pipeline.ValueKit
public import Idealize.ShloMosaic.Lib.Pipeline.ReadBack
public import Idealize.ShloMosaic.Lib.StableHlo.Run
public import Idealize.ShloMosaic.Lib.Pointwise

@[expose] public section

set_option maxRecDepth 16384

noncomputable section

open Idealize.ShloMosaic Idealize.ShloMosaic.TcCoe Idealize.SL.Sem
open scoped BigOperators

namespace Cert.Kernel13Ideal.Own

open Cert.Kernel13Ideal Cert.Kernel13Ideal.Gen Cert.Kernel13Ideal.Value

variable (m : (ℓ : Loc nD τ sig) → Buf (Elt Ideal) ℓ) (ρ : Dev nD → PrngReg)

/-- The partial product of one row block, at an entry. -/
def part (x : Vec Ideal S512x1024 .bf16) (y : Vec Ideal S512x512 .bf16) (j : S1024x512.Idx) : EReal :=
  ∑ k : Fin 512, x (ix2 k (j 0)) * y (ix2 k (j 1))

theorem pay2 (x : Vec Ideal S512x1024 .bf16) (y : Vec Ideal S512x512 .bf16) (j : S1024x512.Idx) :
    k0_pay2 x y j = part x y j := by
  idx_vars j
  pointwise [k0_pay2, k0_pay1, part]

theorem pay3 (x : Vec Ideal S512x1024 .bf16) (y : Vec Ideal S512x512 .bf16) (a : Vec Ideal S1024x512 .f32) (j : S1024x512.Idx) :
    k0_pay3 x y a j = a j + part x y j := by
  idx_vars j
  pointwise [k0_pay3, k0_pay1, part]

theorem pay4 (a : Vec Ideal S1024x512 .f32) (j : S1x1x1024x512.Idx) :
    k0_pay4 a j = a (ix2 (j 2) (j 3)) := by
  idx_vars j
  pointwise [k0_pay4]

theorem acc (c : Dev nD) (t : Fin cfg0.N) (ht : t.val % 8 = 7) (j : S1024x512.Idx) :
    (outsAt0 m c t.val t.isLt).2 j
      = ∑ s : Fin 8, part (iblk m c 0 ⟨8 * (t.val / 8) + s.val, Pipeline.run_point_lt_of_flush t ht s⟩) (iblk m c 1 ⟨8 * (t.val / 8) + s.val, Pipeline.run_point_lt_of_flush t ht s⟩) j := by
  rw [Pipeline.eq_sum_fin_of_reset_step_apply_of_flush (fun n h => (outsAt0 m c n h).2) 8 (fun _ => (0 : EReal))
    (fun t j => part (iblk m c 0 t) (iblk m c 1 t) j) ?_ ?_ t ht j, zero_add]
  · intro t h0 j
    rw [outsAt0_A m c t h0 (by omega) (by omega)]
    frame_out
    rw [pay2, zero_add]
  · intro t h0 j
    by_cases h2 : t.val % 8 = 7
    · rw [outsAt0_C m c t h0 (by omega) h2]
      frame_out
      rw [pay3, read_unread_whole]
    · rw [outsAt0_B m c t h0 (by omega) h2]
      frame_out
      rw [pay3, read_unread_whole]

theorem out (c : Dev nD) (t : Fin cfg0.N) (ht : t.val % 8 = 7) (j : S1x1x1024x512.Idx) :
    (outsAt0 m c t.val t.isLt).1 j = (outsAt0 m c t.val t.isLt).2 (ix2 (j 2) (j 3)) := by
  rw [outsAt0_C m c t (by omega) (by omega) ht]
  frame_out
  rw [pay4]

theorem index0 : ∀ t : Fin cfg0.N, win0_0.index t = ![t.val % 8, 0] := by decide +kernel
theorem index1 : ∀ t : Fin cfg0.N, win0_1.index t = ![t.val % 8, t.val / 8] := by decide +kernel
theorem index2 : ∀ t : Fin cfg0.N, win0_2.index t = ![0, t.val / 8, 0, 0] := by decide +kernel

/-- What the result array holds: layer 0 the product over the rows, its columns in shards, the other layer as it came. -/
def result (x : Vec Ideal S4096x1024 .f32) (d : Vec Ideal S4096x2048 .f32) (w : Vec Ideal S2x4x1024x512 .f32) : Vec Ideal S2x4x1024x512 .bf16 :=
  fun i => if (i 0).val = 0 then ∑ l : Fin 4096, x (ix2 l (i 2)) * d (ix2 l
    (⟨(i 1).val * 512 + (i 3).val, by have h1 : (i 1).val < 4 := (i 1).isLt; have h3 : (i 3).val < 512 := (i 3).isLt; omega⟩ : Fin 2048)) else w i

theorem V0 (c : Dev nD) (i : S4096x1024.Idx) : V m c main_v0 i = m ((c : Thread nD τ).loc main_arg0) i := by
  have h : V m c main_v0 = (truncf (F := Ideal) .bf16 (m ((c : Thread nD τ).loc main_arg0) : FVec Ideal S4096x1024 .f32) bitsLt_bf16_f32 : FVec Ideal S4096x1024 .bf16) := by
    unfold_abbrev_sides
    after_results
    try rfl
  rw [h]; rfl

theorem V1 (c : Dev nD) (i : S4096x2048.Idx) : V m c main_v1 i = m ((c : Thread nD τ).loc main_arg1) i := by
  have h : V m c main_v1 = (truncf (F := Ideal) .bf16 (m ((c : Thread nD τ).loc main_arg1) : FVec Ideal S4096x2048 .f32) bitsLt_bf16_f32 : FVec Ideal S4096x2048 .bf16) := by
    unfold_abbrev_sides
    after_results
    try rfl
  rw [h]; rfl

theorem V3 (c : Dev nD) (i : S2x4x1024x512.Idx) : V m c main_v3 i = m ((c : Thread nD τ).loc main_arg2) i := by
  have h : V m c main_v3 = (truncf (F := Ideal) .bf16 (m ((c : Thread nD τ).loc main_arg2) : FVec Ideal S2x4x1024x512 .f32) bitsLt_bf16_f32 : FVec Ideal S2x4x1024x512 .bf16) := by
    unfold_abbrev_sides
    after_results
    try rfl
  rw [h]; rfl

theorem iblk0 (c : Dev nD) (t : Fin cfg0.N) (k : Fin 512) (j : Fin 1024) (h0 : t.val % 8 * 512 + k.val < 4096) :
    iblk m c 0 t (ix2 k j) = m ((c : Thread nD τ).loc main_arg0) (ix2 ⟨t.val % 8 * 512 + k.val, h0⟩ j) := by
  blk_simp [iblk]
  rw [V0]
  blk_ext [index0]

theorem iblk1 (c : Dev nD) (t : Fin cfg0.N) (k q : Fin 512) (h0 : t.val % 8 * 512 + k.val < 4096) (h1 : t.val / 8 * 512 + q.val < 2048) :
    iblk m c 1 t (ix2 k q) = m ((c : Thread nD τ).loc main_arg1) (ix2 ⟨t.val % 8 * 512 + k.val, h0⟩ ⟨t.val / 8 * 512 + q.val, h1⟩) := by
  blk_simp [iblk]
  rw [V1]
  blk_ext [index1]

theorem result_zero (x : Vec Ideal S4096x1024 .f32) (d : Vec Ideal S4096x2048 .f32) (w : Vec Ideal S2x4x1024x512 .f32) (s : Fin 4) (r : Fin 1024) (q : Fin 512)
    (h1 : s.val * 512 + q.val < 2048) :
    result x d w (ix4 (0 : Fin 2) s r q) = ∑ l : Fin 4096, x (ix2 l r) * d (ix2 l ⟨s.val * 512 + q.val, h1⟩) :=
  if_pos rfl

theorem point (c : Dev nD) (t : Fin cfg0.N) (ht : t.val % 8 = 7) (j : S1x1x1024x512.Idx) (r : Fin 1024) (q : Fin 512) (hr : j 2 = r) (hq : j 3 = q)
    (h1 : t.val / 8 < 4) :
    (outsAt0 m c t.val t.isLt).1 j = result (m ((c : Thread nD τ).loc main_arg0)) (m ((c : Thread nD τ).loc main_arg1)) (m ((c : Thread nD τ).loc main_arg2))
      (ix4 (0 : Fin 2) ⟨t.val / 8, h1⟩ r q) := by
  have hN : t.val < 32 := lt_of_lt_of_eq t.isLt N_0
  have hq' := q.isLt
  rw [out m c t ht, acc m c t ht, result_zero _ _ _ _ _ _ (by dsimp only; omega), hr, hq]
  refine Fin.sum_mul_add_congr fun s k hl => ?_
  have hs := s.isLt
  have hk := k.isLt
  have e0 : (8 * (t.val / 8) + s.val) % 8 = s.val := by omega
  have e1 : (8 * (t.val / 8) + s.val) / 8 = t.val / 8 := by omega
  have := iblk0 m c ⟨8 * (t.val / 8) + s.val, Pipeline.run_point_lt_of_flush t ht s⟩ k r (by dsimp only; omega)
  rw [show (ix2 (n0 := 1024) (n1 := 512) r q) 0 = r from rfl, show (ix2 (n0 := 1024) (n1 := 512) r q) 1 = q from rfl, this,
    iblk1 m c ⟨8 * (t.val / 8) + s.val, Pipeline.run_point_lt_of_flush t ht s⟩ k q (by dsimp only; omega) (by dsimp only; omega)]
  simp only [e0, e1]

theorem final (c : Dev nD) : (dats m 0 c).arrAt 2 cfg0.N
    = result (m ((c : Thread nD τ).loc main_arg0)) (m ((c : Thread nD τ).loc main_arg1)) (m ((c : Thread nD τ).loc main_arg2)) := by
  refine (dats m 0 c).arrAt_eq_of_coversWhere_of_agree 2 _ (fun β => β 0 = 0) (by decide +kernel) (fun t hf y => ?_) (fun j hj => ?_)
  · have ht := (flush0_2 t).mp hf
    have hN : t.val < 32 := lt_of_lt_of_eq t.isLt N_0
    have h1 : t.val / 8 < 4 := by omega
    have e : (win0_2.blk t).view.emb y = ix4 (0 : Fin 2) ⟨t.val / 8, h1⟩ (y 2) (y 3) := by
      blk_ext [index2]
    blk_simp
    rw [after0_2, e]
    exact point m c t ht y (y 2) (y 3) rfl rfl h1
  · blk_simp [Pipeline.Window.cell_apply] at hj
    rw [A_eq]
    refine (V3 m c _).trans ?_
    unfold result
    rw [if_neg]
    show ¬ (j 0).val = 0
    rwa [Nat.div_one] at hj

end Cert.Kernel13Ideal.Own

namespace Cert.Reference13Ideal.Own

open Cert.Reference13Ideal Cert.Reference13Ideal.Gen

/-- What the reference's result holds, entry by entry. -/
theorem result_eq (x : FVec Ideal S4096x1024 .f32) (y : FVec Ideal S4096x2048 .f32) (z : FVec Ideal S2x4x1024x512 .f32) :
    truncf (F := Ideal) .bf16 (concatenate S2x4x1024x512 0 [⟨S1x4x1024x512, (broadcastInDim S1x4x1024x512 ![1, 2, 3] bcast_S4x1024x512_S1x4x1024x512_1_2_3 (transpose S4x1024x512 [1, 0, 2] (shapeCast _ (transpose S1024x2048 [1, 0] (Host.dotGeneral dot_S4096x2048_S4096x1024_S2048x1024_0_0_1_1_n_n none y x) transposes_S2048x1024_S1024x2048_1_0) shapeCasts_S1024x2048_S1024x4x512) transposes_S1024x4x512_S4x1024x512_1_0_2))⟩, ⟨S1x4x1024x512, (extractStridedSlice S1x4x1024x512 ![1, 0, 0, 0] z slices_S2x4x1024x512_S1x4x1024x512_1_0_0_0)⟩] concatenates_S1x4x1024x512_S1x4x1024x512_S2x4x1024x512_d0) bitsLt_bf16_f32
      = Cert.Kernel13Ideal.Own.result x y z := by
  funext j
  idx_vars j
  pointwise [Cert.Kernel13Ideal.Own.result]
  by_cases h : j0.val = 0
  · rw [dif_pos (by omega), if_pos h]
    exact Finset.sum_congr rfl fun k _ => mul_comm _ _
  · rw [dif_neg (by omega), if_neg h]
    refine congrArg z (congrArg (fun r : Fin 2 => ix4 r j1 j2 j3) (Fin.ext ?_))
    show 1 + (j0.val - 1) = j0.val
    omega

end Cert.Reference13Ideal.Own

namespace Cert.Proof

/-- The product of the kernel's row blocks is the reference's derivative, in the layer of the array it goes into. -/
theorem value13 (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg)
    (h : ∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) :
    ∃ (v0 : (c : Dev Cert.Kernel13Ideal.nD) → Buf (Elt Ideal) ((c.tc : Thread Cert.Kernel13Ideal.nD Cert.Kernel13Ideal.τ).loc Cert.Kernel13Ideal.main_v3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v11) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)) := by
  refine ⟨fun c => Cert.Kernel13Ideal.Own.result (m ((c.tc : Thread _ _).loc Cert.Kernel13Ideal.main_arg0)) (m ((c.tc : Thread _ _).loc Cert.Kernel13Ideal.main_arg1)) (m ((c.tc : Thread _ _).loc Cert.Kernel13Ideal.main_arg2)), ?_, ?_⟩
  · exact (θ_run Cert.Kernel13Ideal.defs _ _).mono (fun r hr c => ⟨(hr c).1.trans (Cert.Kernel13Ideal.Own.final m c), (hr c).2⟩)
      (Cert.Kernel13Ideal.Value.run_blocks m g)
  · refine (θ_run Cert.Reference13Ideal.defs _ _).mono (fun r hr c => ⟨(hr c).1.trans ?_, (hr c).2⟩) (Cert.Reference13Ideal.Value.run m' g')
    rw [Cert.Reference13Ideal.Own.result_eq, (h c).1, (h c).2.1, (h c).2.2]

end Cert.Proof

end
-- ==== Proof.Value14.lean ====
module

public import proofs.«01_k».proof.Proof.Gen.Kernel14Ideal.Value
public import proofs.«01_k».proof.Proof.Gen.Reference14Ideal.Run
public import proofs.«01_k».proof.Proof.Algebra
public import Idealize.ShloMosaic.Lib.Pipeline.ValueKit
public import Idealize.ShloMosaic.Lib.Pipeline.ReadBack
public import Idealize.ShloMosaic.Lib.StableHlo.Run
public import Idealize.ShloMosaic.Lib.Pointwise

@[expose] public section

set_option maxRecDepth 16384

noncomputable section

open Idealize.ShloMosaic Idealize.ShloMosaic.TcCoe Idealize.SL.Sem
open scoped BigOperators

namespace Cert.Kernel14Ideal.Own

open Cert.Kernel14Ideal Cert.Kernel14Ideal.Gen Cert.Kernel14Ideal.Value

variable (m : (ℓ : Loc nD τ sig) → Buf (Elt Ideal) ℓ) (ρ : Dev nD → PrngReg)

/-- What the result array holds: the product with the transpose of the layer's weights. -/
def result (x : Vec Ideal S4096x1024 .f32) (w : Vec Ideal S2x1024x1024 .f32) : Vec Ideal S4096x1024 .f32 :=
  fun i => ∑ l : Fin 1024, x (ix2 (i 0) l) * w (ix3 (0 : Fin 2) (i 1) l)

theorem pay1 (x : Vec Ideal S512x1024 .f32) (y : Vec Ideal S1x1024x1024 .bf16) (j : S512x1024.Idx) :
    k0_pay1 x y j = ∑ l : Fin 1024, x (ix2 (j 0) l) * y (ix3 (0 : Fin 1) (j 1) l) := by
  idx_vars j
  pointwise [k0_pay1]

theorem index0 : ∀ t : Fin cfg0.N, win0_0.index t = ![t.val, 0] := by decide +kernel
theorem index1 : ∀ t : Fin cfg0.N, win0_1.index t = ![0, 0, 0] := by decide +kernel
theorem index2 : ∀ t : Fin cfg0.N, win0_2.index t = ![t.val, 0] := by decide +kernel

theorem V0 (c : Dev nD) (i : S2x1024x1024.Idx) : V m c main_v0 i = m ((c : Thread nD τ).loc main_arg1) i := by
  have h : V m c main_v0 = (truncf (F := Ideal) .bf16 (m ((c : Thread nD τ).loc main_arg1) : FVec Ideal S2x1024x1024 .f32) bitsLt_bf16_f32 : FVec Ideal S2x1024x1024 .bf16) := by
    unfold_abbrev_sides
    after_results
    try rfl
  rw [h]; rfl

theorem iblk0 (c : Dev nD) (t : Fin cfg0.N) (p : Fin 512) (l : Fin 1024) (h0 : t.val * 512 + p.val < 4096) :
    iblk m c 0 t (ix2 p l) = m ((c : Thread nD τ).loc main_arg0) (ix2 ⟨t.val * 512 + p.val, h0⟩ l) := by
  blk_simp [iblk]
  rw [V_main_arg0]
  blk_ext [index0]

theorem iblk1 (c : Dev nD) (t : Fin cfg0.N) (q l : Fin 1024) :
    iblk m c 1 t (ix3 (0 : Fin 1) q l) = m ((c : Thread nD τ).loc main_arg1) (ix3 (0 : Fin 2) q l) := by
  blk_simp [iblk]
  rw [V0]
  blk_ext [index1]

theorem final (c : Dev nD) : (dats m 0 c).arrAt 2 cfg0.N = result (m ((c : Thread nD τ).loc main_arg0)) (m ((c : Thread nD τ).loc main_arg1)) := by
  refine (dats m 0 c).arrAt_eq_of_covers 2 _ (by decide +kernel) fun t hf y => ?_
  have hN : t.val < 8 := lt_of_lt_of_eq t.isLt N_0
  have b0 : (y 0).val < 512 := (y 0).isLt
  have b1 : (y 1).val < 1024 := (y 1).isLt
  have h0 : t.val * 512 + (y 0).val < 4096 := by omega
  have e : (win0_2.blk t).view.emb y = ix2 (⟨t.val * 512 + (y 0).val, h0⟩ : Fin 4096) (y 1) := by
    blk_ext [index2]
  blk_simp
  rw [after0_2, e]
  frame_out
  refine (pay1 _ _ y).trans (Finset.sum_congr rfl fun l _ => ?_)
  exact congrArg₂ (· * ·) (iblk0 m c t (y 0) l h0) (iblk1 m c t (y 1) l)

end Cert.Kernel14Ideal.Own

namespace Cert.Reference14Ideal.Own

open Cert.Reference14Ideal Cert.Reference14Ideal.Gen

/-- What the reference's result holds, entry by entry. -/
theorem result_eq (x : FVec Ideal S4096x1024 .f32) (y : FVec Ideal S2x1024x1024 .f32) :
    Host.dotGeneral dot_S4096x1024_S1024x1024_S4096x1024_1_1_0_0_n_n none x (shapeCast _ (extractStridedSlice S1x1024x1024 ![0, 0, 0] y slices_S2x1024x1024_S1x1024x1024_0_0_0) shapeCasts_S1x1024x1024_S1024x1024)
      = Cert.Kernel14Ideal.Own.result x y := by
  funext j
  idx_vars j
  pointwise [Cert.Kernel14Ideal.Own.result]

end Cert.Reference14Ideal.Own

namespace Cert.Proof

/-- The product of the kernel's row blocks is the reference's derivative of the output product. -/
theorem value14 (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg)
    (h : ∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) :
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)) := by
  refine ⟨fun c => Cert.Kernel14Ideal.Own.result (m ((c.tc : Thread _ _).loc Cert.Kernel14Ideal.main_arg0)) (m ((c.tc : Thread _ _).loc Cert.Kernel14Ideal.main_arg1)), ?_, ?_⟩
  · exact (θ_run Cert.Kernel14Ideal.defs _ _).mono (fun r hr c => ⟨(hr c).1.trans (Cert.Kernel14Ideal.Own.final m c), (hr c).2⟩)
      (Cert.Kernel14Ideal.Value.run_blocks m g)
  · refine (θ_run Cert.Reference14Ideal.defs _ _).mono (fun r hr c => ⟨(hr c).1.trans ?_, (hr c).2⟩) (Cert.Reference14Ideal.Value.run m' g')
    rw [Cert.Reference14Ideal.Own.result_eq, (h c).1, (h c).2]

end Cert.Proof

end
-- ==== Proof.Adam.lean ====
module

public import Idealize.ShloMosaic.Lib.Pointwise

@[expose] public section

/-! # One AdamW step of one weight

The constants are the decay rates 0.9 and 0.999, what they leave to one, the bias corrections of step 10, epsilon, the
weight decay 0.01 and the rate -0.001, as 32-bit floats. -/

noncomputable section

open Idealize.ShloMosaic

namespace Cert.Adam

/-- The new first moment. -/
def first (g m : EReal) : EReal := Ideal.ofBits .f32 0x3F666666#32 * m + Ideal.ofBits .f32 0x3DCCCCCD#32 * g

/-- The new second moment. -/
def second (g v : EReal) : EReal := Ideal.ofBits .f32 0x3F7FBE77#32 * v + Ideal.ofBits .f32 0x3A83126F#32 * (g * g)

/-- The first moment over the root of the second, both corrected for their start at zero. -/
def ratio (g m v : EReal) : EReal :=
  Ideal.div (Ideal.div (first g m) (Ideal.ofBits .f32 0x3F26BD02#32))
    (Ideal.sqrt (Ideal.div (second g v) (Ideal.ofBits .f32 0x3C231ACC#32)) + Ideal.ofBits .f32 0x322BCC77#32)

/-- The change of the weight. -/
def change (w g m v : EReal) : EReal :=
  Ideal.ofBits .f32 0xBA83126F#32 * (ratio g m v + Ideal.ofBits .f32 0x3C23D70A#32 * w)

end Cert.Adam

end
-- ==== Proof.Value15.lean ====
module

public import proofs.«01_k».proof.Proof.Gen.Kernel15Ideal.Value
public import proofs.«01_k».proof.Proof.Gen.Reference15Ideal.Run
public import proofs.«01_k».proof.Proof.Adam
public import Idealize.ShloMosaic.Lib.Pipeline.ValueKit
public import Idealize.ShloMosaic.Lib.Pipeline.ReadBack
public import Idealize.ShloMosaic.Lib.StableHlo.Run
public import Idealize.ShloMosaic.Lib.Pointwise

@[expose] public section

set_option maxRecDepth 16384

noncomputable section

open Idealize.ShloMosaic Idealize.ShloMosaic.TcCoe Idealize.SL.Sem
open scoped BigOperators

namespace Cert.Kernel15Ideal.Own

open Cert.Kernel15Ideal Cert.Kernel15Ideal.Gen Cert.Kernel15Ideal.Value

variable (m : (ℓ : Loc nD τ sig) → Buf (Elt Ideal) ℓ) (ρ : Dev nD → PrngReg)

/-- The rows of the gradient, from their two halves. -/
def grad (a b : Vec Ideal S4x512x1408 .f32) : Vec Ideal S4x1024x1408 .f32 :=
  fun i => if (i 1).val < 512 then a (ix3 (i 0) (⟨(i 1).val % 512, Nat.mod_lt _ (by decide)⟩ : Fin 512) (i 2))
    else b (ix3 (i 0) (⟨(i 1).val % 512, Nat.mod_lt _ (by decide)⟩ : Fin 512) (i 2))

/-- The change of the weights. -/
def delta (w : Vec Ideal S4x1024x1408 .f32) (a b : Vec Ideal S4x512x1408 .f32) (x y : Vec Ideal S4x1024x1408 .f32) : Vec Ideal S4x1024x1408 .f32 :=
  fun i => Adam.change (w i) (grad a b i) (x i) (y i)

/-- The new first moments. -/
def firsts (a b : Vec Ideal S4x512x1408 .f32) (x : Vec Ideal S4x1024x1408 .f32) : Vec Ideal S4x1024x1408 .f32 :=
  fun i => Adam.first (grad a b i) (x i)

/-- The new second moments. -/
def seconds (a b : Vec Ideal S4x512x1408 .f32) (y : Vec Ideal S4x1024x1408 .f32) : Vec Ideal S4x1024x1408 .f32 :=
  fun i => Adam.second (grad a b i) (y i)

/-- A block of the gradient, from the half that the grid point reads. -/
def gradB (i : grid0.Coords) (a b : Vec Ideal S1x128x1408 .f32) : Vec Ideal S1x128x1408 .f32 :=
  fun j => if (i 1).val = 0 then a j else b j

theorem pay4 (i : grid0.Coords) (a b : Vec Ideal S1x128x1408 .f32) (p : Fin 128) (q : Fin 1408) :
    k0_pay4 i a b (ix2 p q) = gradB i a b (ix3 (0 : Fin 1) p q) := by
  have hi : (i 1).val < 2 := (i 1).isLt
  unfold gradB
  by_cases h : (i 1).val = 0
  · rw [if_pos h]
    pointwise [k0_pay4, h]
    try rfl
  · have h1 : (i 1).val = 1 := by omega
    rw [if_neg h]
    pointwise [k0_pay4, h1]
    try rfl

theorem pay5 (i : grid0.Coords) (a b x : Vec Ideal S1x128x1408 .f32) (p : Fin 128) (q : Fin 1408) :
    k0_pay5 i a b x (ix2 p q) = Adam.first (gradB i a b (ix3 (0 : Fin 1) p q)) (x (ix3 (0 : Fin 1) p q)) := by
  pointwise [k0_pay5, pay4, Adam.first]

theorem pay6 (i : grid0.Coords) (a b y : Vec Ideal S1x128x1408 .f32) (p : Fin 128) (q : Fin 1408) :
    k0_pay6 i a b y (ix2 p q) = Adam.second (gradB i a b (ix3 (0 : Fin 1) p q)) (y (ix3 (0 : Fin 1) p q)) := by
  pointwise [k0_pay6, pay4, Adam.second]

theorem pay7 (i : grid0.Coords) (a b : Vec Ideal S1x128x1408 .f32) (j : S1x128x1408.Idx) :
    k0_pay7 i a b j = gradB i a b (ix3 (0 : Fin 1) (j 1) (j 2)) := by
  idx_vars j
  pointwise [k0_pay7, pay4]

theorem pay8 (i : grid0.Coords) (a b x y : Vec Ideal S1x128x1408 .f32) (p : Fin 128) (q : Fin 1408) :
    k0_pay8 i a b x y (ix2 p q) = Adam.ratio (gradB i a b (ix3 (0 : Fin 1) p q)) (x (ix3 (0 : Fin 1) p q)) (y (ix3 (0 : Fin 1) p q)) := by
  pointwise [k0_pay8, pay5, pay6, Adam.ratio]

theorem pay1 (i : grid0.Coords) (w a b x y : Vec Ideal S1x128x1408 .f32) (j : S1x128x1408.Idx) :
    k0_pay1 (k0_pay8 i a b x y) w j
      = Adam.change (w (ix3 (0 : Fin 1) (j 1) (j 2))) (gradB i a b (ix3 (0 : Fin 1) (j 1) (j 2))) (x (ix3 (0 : Fin 1) (j 1) (j 2))) (y (ix3 (0 : Fin 1) (j 1) (j 2))) := by
  idx_vars j
  pointwise [k0_pay1, pay8, Adam.change]

theorem pay2 (i : grid0.Coords) (a b x : Vec Ideal S1x128x1408 .f32) (j : S1x128x1408.Idx) :
    k0_pay2 (k0_pay5 i a b x) j = Adam.first (gradB i a b (ix3 (0 : Fin 1) (j 1) (j 2))) (x (ix3 (0 : Fin 1) (j 1) (j 2))) := by
  idx_vars j
  pointwise [k0_pay2, pay5]

theorem pay3 (i : grid0.Coords) (a b y : Vec Ideal S1x128x1408 .f32) (j : S1x128x1408.Idx) :
    k0_pay3 (k0_pay6 i a b y) j = Adam.second (gradB i a b (ix3 (0 : Fin 1) (j 1) (j 2))) (y (ix3 (0 : Fin 1) (j 1) (j 2))) := by
  idx_vars j
  pointwise [k0_pay3, pay6]

theorem half : ∀ t : Fin cfg0.N, ((grid0.coords t) 1).val = t.val / 4 % 2 := by decide +kernel
theorem index0 : ∀ t : Fin cfg0.N, win0_0.index t = ![t.val / 8, t.val % 8, 0] := by decide +kernel
theorem index3 : ∀ t : Fin cfg0.N, win0_3.index t = ![t.val / 8, t.val % 8, 0] := by decide +kernel
theorem index4 : ∀ t : Fin cfg0.N, win0_4.index t = ![t.val / 8, t.val % 8, 0] := by decide +kernel
theorem index5 : ∀ t : Fin cfg0.N, win0_5.index t = ![t.val / 8, t.val % 8, 0] := by decide +kernel
theorem index6 : ∀ t : Fin cfg0.N, win0_6.index t = ![t.val / 8, t.val % 8, 0] := by decide +kernel
theorem index7 : ∀ t : Fin cfg0.N, win0_7.index t = ![t.val / 8, t.val % 8, 0] := by decide +kernel
theorem index8 : ∀ t : Fin cfg0.N, win0_8.index t = ![t.val / 8, t.val % 8, 0] := by decide +kernel
theorem index1 : ∀ t : Fin cfg0.N, win0_1.index t = ![t.val / 8, if t.val / 4 % 2 = 0 then t.val % 4 else 0, 0] := by decide +kernel
theorem index2 : ∀ t : Fin cfg0.N, win0_2.index t = ![t.val / 8, if t.val / 4 % 2 = 0 then 0 else t.val % 4, 0] := by decide +kernel

theorem iblk0 (c : Dev nD) (t : Fin cfg0.N) (p : Fin 128) (q : Fin 1408) (h0 : t.val / 8 < 4) (h1 : t.val % 8 * 128 + p.val < 1024) :
    iblk m c 0 t (ix3 (0 : Fin 1) p q) = m ((c : Thread nD τ).loc main_arg0) (ix3 (⟨t.val / 8, h0⟩ : Fin 4) (⟨t.val % 8 * 128 + p.val, h1⟩ : Fin 1024) q) := by
  blk_simp [iblk]
  rw [V_main_arg0]
  blk_ext [index0]

theorem iblk3 (c : Dev nD) (t : Fin cfg0.N) (p : Fin 128) (q : Fin 1408) (h0 : t.val / 8 < 4) (h1 : t.val % 8 * 128 + p.val < 1024) :
    iblk m c 3 t (ix3 (0 : Fin 1) p q) = m ((c : Thread nD τ).loc main_arg3) (ix3 (⟨t.val / 8, h0⟩ : Fin 4) (⟨t.val % 8 * 128 + p.val, h1⟩ : Fin 1024) q) := by
  blk_simp [iblk]
  rw [V_main_arg3]
  blk_ext [index3]

theorem iblk4 (c : Dev nD) (t : Fin cfg0.N) (p : Fin 128) (q : Fin 1408) (h0 : t.val / 8 < 4) (h1 : t.val % 8 * 128 + p.val < 1024) :
    iblk m c 4 t (ix3 (0 : Fin 1) p q) = m ((c : Thread nD τ).loc main_arg4) (ix3 (⟨t.val / 8, h0⟩ : Fin 4) (⟨t.val % 8 * 128 + p.val, h1⟩ : Fin 1024) q) := by
  blk_simp [iblk]
  rw [V_main_arg4]
  blk_ext [index4]

theorem iblk1 (c : Dev nD) (t : Fin cfg0.N) (p : Fin 128) (q : Fin 1408) (h0 : t.val / 8 < 4) (h1 : t.val % 4 * 128 + p.val < 512)
    (h : t.val / 4 % 2 = 0) :
    iblk m c 1 t (ix3 (0 : Fin 1) p q) = m ((c : Thread nD τ).loc main_arg1) (ix3 (⟨t.val / 8, h0⟩ : Fin 4) (⟨t.val % 4 * 128 + p.val, h1⟩ : Fin 512) q) := by
  have e := index1 t
  rw [if_pos h] at e
  blk_simp [iblk]
  rw [V_main_arg1]
  blk_ext [e]

theorem iblk2 (c : Dev nD) (t : Fin cfg0.N) (p : Fin 128) (q : Fin 1408) (h0 : t.val / 8 < 4) (h1 : t.val % 4 * 128 + p.val < 512)
    (h : t.val / 4 % 2 ≠ 0) :
    iblk m c 2 t (ix3 (0 : Fin 1) p q) = m ((c : Thread nD τ).loc main_arg2) (ix3 (⟨t.val / 8, h0⟩ : Fin 4) (⟨t.val % 4 * 128 + p.val, h1⟩ : Fin 512) q) := by
  have e := index2 t
  rw [if_neg h] at e
  blk_simp [iblk]
  rw [V_main_arg2]
  blk_ext [e]

theorem grad_block (c : Dev nD) (t : Fin cfg0.N) (p : Fin 128) (q : Fin 1408) (h0 : t.val / 8 < 4) (h1 : t.val % 8 * 128 + p.val < 1024) :
    gradB (grid0.coords t) (iblk m c 1 t) (iblk m c 2 t) (ix3 (0 : Fin 1) p q)
      = grad (m ((c : Thread nD τ).loc main_arg1)) (m ((c : Thread nD τ).loc main_arg2)) (ix3 (⟨t.val / 8, h0⟩ : Fin 4) (⟨t.val % 8 * 128 + p.val, h1⟩ : Fin 1024) q) := by
  have hp : p.val < 128 := p.isLt
  have hm : t.val % 4 < 4 := Nat.mod_lt _ (by decide)
  have h2 : t.val % 4 * 128 + p.val < 512 := by omega
  have hd : t.val % 8 = t.val / 4 % 2 * 4 + t.val % 4 := by omega
  have e : (⟨(t.val % 8 * 128 + p.val) % 512, Nat.mod_lt _ (by decide)⟩ : Fin 512) = ⟨t.val % 4 * 128 + p.val, h2⟩ :=
    Fin.ext (show (t.val % 8 * 128 + p.val) % 512 = t.val % 4 * 128 + p.val by omega)
  unfold gradB grad
  rw [half t]
  by_cases h : t.val / 4 % 2 = 0
  · rw [if_pos h, iblk1 m c t p q h0 h2 h]
    refine Eq.trans ?_ (if_pos (show t.val % 8 * 128 + p.val < 512 by omega)).symm
    exact congrArg (fun k : Fin 512 => m ((c : Thread nD τ).loc main_arg1) (ix3 (⟨t.val / 8, h0⟩ : Fin 4) k q)) e.symm
  · rw [if_neg h, iblk2 m c t p q h0 h2 h]
    refine Eq.trans ?_ (if_neg (show ¬ t.val % 8 * 128 + p.val < 512 by omega)).symm
    exact congrArg (fun k : Fin 512 => m ((c : Thread nD τ).loc main_arg2) (ix3 (⟨t.val / 8, h0⟩ : Fin 4) k q)) e.symm

theorem final5 (c : Dev nD) : (dats m 0 c).arrAt 5 cfg0.N = grad (m ((c : Thread nD τ).loc main_arg1)) (m ((c : Thread nD τ).loc main_arg2)) := by
  refine (dats m 0 c).arrAt_eq_of_covers 5 _ (by decide +kernel) fun t hf y => ?_
  have hN : t.val < 32 := lt_of_lt_of_eq t.isLt N_0
  have b0 : (y 0).val < 1 := (y 0).isLt
  have b1 : (y 1).val < 128 := (y 1).isLt
  have h0 : t.val / 8 < 4 := by omega
  have h1 : t.val % 8 * 128 + (y 1).val < 1024 := by omega
  have e : (win0_5.blk t).view.emb y = ix3 (⟨t.val / 8, h0⟩ : Fin 4) (⟨t.val % 8 * 128 + (y 1).val, h1⟩ : Fin 1024) (y 2) := by
    blk_ext [index5]
  blk_simp
  rw [after0_5, e]
  frame_out
  refine (pay7 _ _ _ y).trans ?_
  exact grad_block m c t (y 1) (y 2) h0 h1

theorem final6 (c : Dev nD) : (dats m 0 c).arrAt 6 cfg0.N = delta (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have hN : t.val < 32 := lt_of_lt_of_eq t.isLt N_0
  have b0 : (y 0).val < 1 := (y 0).isLt
  have b1 : (y 1).val < 128 := (y 1).isLt
  have h0 : t.val / 8 < 4 := by omega
  have h1 : t.val % 8 * 128 + (y 1).val < 1024 := by omega
  have e : (win0_6.blk t).view.emb y = ix3 (⟨t.val / 8, h0⟩ : Fin 4) (⟨t.val % 8 * 128 + (y 1).val, h1⟩ : Fin 1024) (y 2) := by
    blk_ext [index6]
  blk_simp
  rw [after0_6, e]
  frame_out
  refine (pay1 _ _ _ _ _ _ y).trans ?_
  rw [grad_block m c t (y 1) (y 2) h0 h1, iblk0 m c t (y 1) (y 2) h0 h1, iblk3 m c t (y 1) (y 2) h0 h1, iblk4 m c t (y 1) (y 2) h0 h1]; rfl

theorem final7 (c : Dev nD) : (dats m 0 c).arrAt 7 cfg0.N = firsts (m ((c : Thread nD τ).loc main_arg1)) (m ((c : Thread nD τ).loc main_arg2)) (m ((c : Thread nD τ).loc main_arg3)) := by
  refine (dats m 0 c).arrAt_eq_of_covers 7 _ (by decide +kernel) fun t hf y => ?_
  have hN : t.val < 32 := lt_of_lt_of_eq t.isLt N_0
  have b0 : (y 0).val < 1 := (y 0).isLt
  have b1 : (y 1).val < 128 := (y 1).isLt
  have h0 : t.val / 8 < 4 := by omega
  have h1 : t.val % 8 * 128 + (y 1).val < 1024 := by omega
  have e : (win0_7.blk t).view.emb y = ix3 (⟨t.val / 8, h0⟩ : Fin 4) (⟨t.val % 8 * 128 + (y 1).val, h1⟩ : Fin 1024) (y 2) := by
    blk_ext [index7]
  blk_simp
  rw [after0_7, e]
  frame_out
  refine (pay2 _ _ _ _ y).trans ?_
  rw [grad_block m c t (y 1) (y 2) h0 h1, iblk3 m c t (y 1) (y 2) h0 h1]; rfl

theorem final8 (c : Dev nD) : (dats m 0 c).arrAt 8 cfg0.N = seconds (m ((c : Thread nD τ).loc main_arg1)) (m ((c : Thread nD τ).loc main_arg2)) (m ((c : Thread nD τ).loc main_arg4)) := by
  refine (dats m 0 c).arrAt_eq_of_covers 8 _ (by decide +kernel) fun t hf y => ?_
  have hN : t.val < 32 := lt_of_lt_of_eq t.isLt N_0
  have b0 : (y 0).val < 1 := (y 0).isLt
  have b1 : (y 1).val < 128 := (y 1).isLt
  have h0 : t.val / 8 < 4 := by omega
  have h1 : t.val % 8 * 128 + (y 1).val < 1024 := by omega
  have e : (win0_8.blk t).view.emb y = ix3 (⟨t.val / 8, h0⟩ : Fin 4) (⟨t.val % 8 * 128 + (y 1).val, h1⟩ : Fin 1024) (y 2) := by
    blk_ext [index8]
  blk_simp
  rw [after0_8, e]
  frame_out
  refine (pay3 _ _ _ _ y).trans ?_
  rw [grad_block m c t (y 1) (y 2) h0 h1, iblk4 m c t (y 1) (y 2) h0 h1]; rfl

end Cert.Kernel15Ideal.Own

namespace Cert.Reference15Ideal.Own

open Cert.Reference15Ideal Cert.Reference15Ideal.Gen

/-- The reference's result 0. -/
theorem grad_eq (a : FVec Ideal S4x512x1408 .f32) (b : FVec Ideal S4x512x1408 .f32) :
    concatenate S4x1024x1408 1 [⟨S4x512x1408, a⟩, ⟨S4x512x1408, b⟩] concatenates_S4x512x1408_S4x512x1408_S4x1024x1408_d1
      = Cert.Kernel15Ideal.Own.grad a b := by
  funext j
  idx_vars j
  have hb : j1.val < 1024 := j1.isLt
  pointwise [Cert.Kernel15Ideal.Own.grad]
  by_cases h : j1.val < 512
  · rw [dif_pos (by omega), if_pos h]
    refine congrArg a (congrArg (fun r : Fin 512 => ix3 j0 r j2) (Fin.ext ?_))
    show j1.val = j1.val % 512
    omega
  · rw [dif_neg (by omega), if_neg h]
    refine congrArg b (congrArg (fun r : Fin 512 => ix3 j0 r j2) (Fin.ext ?_))
    show j1.val - 512 = j1.val % 512
    omega

/-- The reference's result 1. -/
theorem delta_eq (w : FVec Ideal S4x1024x1408 .f32) (a : FVec Ideal S4x512x1408 .f32) (b : FVec Ideal S4x512x1408 .f32) (x : FVec Ideal S4x1024x1408 .f32) (y : FVec Ideal S4x1024x1408 .f32) :
    mulf (broadcastInDim S4x1024x1408 ![] bcast_S_S4x1024x1408 (constant S_ .f32 0xBA83126F#32)) (addf (Host.divf (Host.divf (addf (mulf (broadcastInDim S4x1024x1408 ![] bcast_S_S4x1024x1408 (constant S_ .f32 0x3F666666#32)) x) (mulf (broadcastInDim S4x1024x1408 ![] bcast_S_S4x1024x1408 (constant S_ .f32 0x3DCCCCCD#32)) (concatenate S4x1024x1408 1 [⟨S4x512x1408, a⟩, ⟨S4x512x1408, b⟩] concatenates_S4x512x1408_S4x512x1408_S4x1024x1408_d1))) (broadcastInDim S4x1024x1408 ![] bcast_S_S4x1024x1408 (constant S_ .f32 0x3F26BD02#32))) (addf (Host.sqrt (Host.divf (addf (mulf (broadcastInDim S4x1024x1408 ![] bcast_S_S4x1024x1408 (constant S_ .f32 0x3F7FBE77#32)) y) (mulf (broadcastInDim S4x1024x1408 ![] bcast_S_S4x1024x1408 (constant S_ .f32 0x3A83126F#32)) (mulf (concatenate S4x1024x1408 1 [⟨S4x512x1408, a⟩, ⟨S4x512x1408, b⟩] concatenates_S4x512x1408_S4x512x1408_S4x1024x1408_d1) (concatenate S4x1024x1408 1 [⟨S4x512x1408, a⟩, ⟨S4x512x1408, b⟩] concatenates_S4x512x1408_S4x512x1408_S4x1024x1408_d1)))) (broadcastInDim S4x1024x1408 ![] bcast_S_S4x1024x1408 (constant S_ .f32 0x3C231ACC#32)))) (broadcastInDim S4x1024x1408 ![] bcast_S_S4x1024x1408 (constant S_ .f32 0x322BCC77#32)))) (mulf (broadcastInDim S4x1024x1408 ![] bcast_S_S4x1024x1408 (constant S_ .f32 0x3C23D70A#32)) w))
      = Cert.Kernel15Ideal.Own.delta w a b x y := by
  rw [grad_eq]
  funext j
  idx_vars j
  pointwise [Cert.Kernel15Ideal.Own.delta, Adam.change, Adam.ratio, Adam.first, Adam.second]

/-- The reference's result 2. -/
theorem firsts_eq (a : FVec Ideal S4x512x1408 .f32) (b : FVec Ideal S4x512x1408 .f32) (x : FVec Ideal S4x1024x1408 .f32) :
    addf (mulf (broadcastInDim S4x1024x1408 ![] bcast_S_S4x1024x1408 (constant S_ .f32 0x3F666666#32)) x) (mulf (broadcastInDim S4x1024x1408 ![] bcast_S_S4x1024x1408 (constant S_ .f32 0x3DCCCCCD#32)) (concatenate S4x1024x1408 1 [⟨S4x512x1408, a⟩, ⟨S4x512x1408, b⟩] concatenates_S4x512x1408_S4x512x1408_S4x1024x1408_d1))
      = Cert.Kernel15Ideal.Own.firsts a b x := by
  rw [grad_eq]
  funext j
  idx_vars j
  pointwise [Cert.Kernel15Ideal.Own.firsts, Adam.change, Adam.ratio, Adam.first, Adam.second]

/-- The reference's result 3. -/
theorem seconds_eq (a : FVec Ideal S4x512x1408 .f32) (b : FVec Ideal S4x512x1408 .f32) (y : FVec Ideal S4x1024x1408 .f32) :
    addf (mulf (broadcastInDim S4x1024x1408 ![] bcast_S_S4x1024x1408 (constant S_ .f32 0x3F7FBE77#32)) y) (mulf (broadcastInDim S4x1024x1408 ![] bcast_S_S4x1024x1408 (constant S_ .f32 0x3A83126F#32)) (mulf (concatenate S4x1024x1408 1 [⟨S4x512x1408, a⟩, ⟨S4x512x1408, b⟩] concatenates_S4x512x1408_S4x512x1408_S4x1024x1408_d1) (concatenate S4x1024x1408 1 [⟨S4x512x1408, a⟩, ⟨S4x512x1408, b⟩] concatenates_S4x512x1408_S4x512x1408_S4x1024x1408_d1)))
      = Cert.Kernel15Ideal.Own.seconds a b y := by
  rw [grad_eq]
  funext j
  idx_vars j
  pointwise [Cert.Kernel15Ideal.Own.seconds, Adam.change, Adam.ratio, Adam.first, Adam.second]

end Cert.Reference15Ideal.Own

namespace Cert.Proof

/-- The joined update of the feed-forward input weights is the AdamW step of the gradient that the two halves make. -/
theorem value15 (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg)
    (h : ∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) :
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_v24) = v1 c
          ∧ r.2.mem ((c.tc : Thread Cert.Reference15Ideal.nD Cert.Reference15Ideal.τ).loc Cert.Reference15Ideal.main_v5) = v2 c
          ∧ r.2.mem ((c.tc : Thread Cert.Reference15Ideal.nD Cert.Reference15Ideal.τ).loc Cert.Reference15Ideal.main_v11) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)) := by
  refine ⟨fun c => Cert.Kernel15Ideal.Own.grad (m ((c.tc : Thread _ _).loc Cert.Kernel15Ideal.main_arg1)) (m ((c.tc : Thread _ _).loc Cert.Kernel15Ideal.main_arg2)), fun c => Cert.Kernel15Ideal.Own.delta (m ((c.tc : Thread _ _).loc Cert.Kernel15Ideal.main_arg0)) (m ((c.tc : Thread _ _).loc Cert.Kernel15Ideal.main_arg1)) (m ((c.tc : Thread _ _).loc Cert.Kernel15Ideal.main_arg2)) (m ((c.tc : Thread _ _).loc Cert.Kernel15Ideal.main_arg3)) (m ((c.tc : Thread _ _).loc Cert.Kernel15Ideal.main_arg4)), fun c => Cert.Kernel15Ideal.Own.firsts (m ((c.tc : Thread _ _).loc Cert.Kernel15Ideal.main_arg1)) (m ((c.tc : Thread _ _).loc Cert.Kernel15Ideal.main_arg2)) (m ((c.tc : Thread _ _).loc Cert.Kernel15Ideal.main_arg3)), fun c => Cert.Kernel15Ideal.Own.seconds (m ((c.tc : Thread _ _).loc Cert.Kernel15Ideal.main_arg1)) (m ((c.tc : Thread _ _).loc Cert.Kernel15Ideal.main_arg2)) (m ((c.tc : Thread _ _).loc Cert.Kernel15Ideal.main_arg4)), ?_, ?_⟩
  · exact (θ_run Cert.Kernel15Ideal.defs _ _).mono (fun r hr c => ⟨(hr c).1.trans (Cert.Kernel15Ideal.Own.final5 m c), (hr c).2.1.trans (Cert.Kernel15Ideal.Own.final6 m c),
        (hr c).2.2.1.trans (Cert.Kernel15Ideal.Own.final7 m c), (hr c).2.2.2.1.trans (Cert.Kernel15Ideal.Own.final8 m c), (hr c).2.2.2.2⟩)
      (Cert.Kernel15Ideal.Value.run_blocks m g)
  · refine (θ_run Cert.Reference15Ideal.defs _ _).mono (fun r hr c => ⟨(hr c).1.trans ?_, (hr c).2.1.trans ?_, (hr c).2.2.1.trans ?_, (hr c).2.2.2.1.trans ?_, (hr c).2.2.2.2⟩)
      (Cert.Reference15Ideal.Value.run m' g')
    · rw [Cert.Reference15Ideal.Own.grad_eq, (h c).2.1, (h c).2.2.1]
    · rw [Cert.Reference15Ideal.Own.delta_eq, (h c).1, (h c).2.1, (h c).2.2.1, (h c).2.2.2.1, (h c).2.2.2.2]
    · rw [Cert.Reference15Ideal.Own.firsts_eq, (h c).2.1, (h c).2.2.1, (h c).2.2.2.1]
    · rw [Cert.Reference15Ideal.Own.seconds_eq, (h c).2.1, (h c).2.2.1, (h c).2.2.2.2]

end Cert.Proof

end
-- ==== Proof.Value16.lean ====
module

public import proofs.«01_k».proof.Proof.Gen.Kernel16Ideal.Value
public import proofs.«01_k».proof.Proof.Gen.Reference16Ideal.Run
public import proofs.«01_k».proof.Proof.Adam
public import Idealize.ShloMosaic.Lib.Pipeline.ValueKit
public import Idealize.ShloMosaic.Lib.Pipeline.ReadBack
public import Idealize.ShloMosaic.Lib.StableHlo.Run
public import Idealize.ShloMosaic.Lib.Pointwise

@[expose] public section

set_option maxRecDepth 16384

noncomputable section

open Idealize.ShloMosaic Idealize.ShloMosaic.TcCoe Idealize.SL.Sem
open scoped BigOperators

namespace Cert.Kernel16Ideal.Own

open Cert.Kernel16Ideal Cert.Kernel16Ideal.Gen Cert.Kernel16Ideal.Value

variable (m : (ℓ : Loc nD τ sig) → Buf (Elt Ideal) ℓ) (ρ : Dev nD → PrngReg)

/-- The rows of the gradient, from their two halves. -/
def grad (a b : Vec Ideal S4x352x1024 .f32) : Vec Ideal S4x704x1024 .f32 :=
  fun i => if (i 1).val < 352 then a (ix3 (i 0) (⟨(i 1).val % 352, Nat.mod_lt _ (by decide)⟩ : Fin 352) (i 2))
    else b (ix3 (i 0) (⟨(i 1).val % 352, Nat.mod_lt _ (by decide)⟩ : Fin 352) (i 2))

/-- The change of the weights. -/
def delta (w : Vec Ideal S4x704x1024 .f32) (a b : Vec Ideal S4x352x1024 .f32) (x y : Vec Ideal S4x704x1024 .f32) : Vec Ideal S4x704x1024 .f32 :=
  fun i => Adam.change (w i) (grad a b i) (x i) (y i)

/-- The new first moments. -/
def firsts (a b : Vec Ideal S4x352x1024 .f32) (x : Vec Ideal S4x704x1024 .f32) : Vec Ideal S4x704x1024 .f32 :=
  fun i => Adam.first (grad a b i) (x i)

/-- The new second moments. -/
def seconds (a b : Vec Ideal S4x352x1024 .f32) (y : Vec Ideal S4x704x1024 .f32) : Vec Ideal S4x704x1024 .f32 :=
  fun i => Adam.second (grad a b i) (y i)

/-- A block of the gradient, from the half that the grid point reads. -/
def gradB (i : grid0.Coords) (a b : Vec Ideal S1x176x1024 .f32) : Vec Ideal S1x176x1024 .f32 :=
  fun j => if (i 1).val = 0 then a j else b j

theorem pay4 (i : grid0.Coords) (a b : Vec Ideal S1x176x1024 .f32) (p : Fin 176) (q : Fin 1024) :
    k0_pay4 i a b (ix2 p q) = gradB i a b (ix3 (0 : Fin 1) p q) := by
  have hi : (i 1).val < 2 := (i 1).isLt
  unfold gradB
  by_cases h : (i 1).val = 0
  · rw [if_pos h]
    pointwise [k0_pay4, h]
    try rfl
  · have h1 : (i 1).val = 1 := by omega
    rw [if_neg h]
    pointwise [k0_pay4, h1]
    try rfl

theorem pay5 (i : grid0.Coords) (a b x : Vec Ideal S1x176x1024 .f32) (p : Fin 176) (q : Fin 1024) :
    k0_pay5 i a b x (ix2 p q) = Adam.first (gradB i a b (ix3 (0 : Fin 1) p q)) (x (ix3 (0 : Fin 1) p q)) := by
  pointwise [k0_pay5, pay4, Adam.first]

theorem pay6 (i : grid0.Coords) (a b y : Vec Ideal S1x176x1024 .f32) (p : Fin 176) (q : Fin 1024) :
    k0_pay6 i a b y (ix2 p q) = Adam.second (gradB i a b (ix3 (0 : Fin 1) p q)) (y (ix3 (0 : Fin 1) p q)) := by
  pointwise [k0_pay6, pay4, Adam.second]

theorem pay7 (i : grid0.Coords) (a b : Vec Ideal S1x176x1024 .f32) (j : S1x176x1024.Idx) :
    k0_pay7 i a b j = gradB i a b (ix3 (0 : Fin 1) (j 1) (j 2)) := by
  idx_vars j
  pointwise [k0_pay7, pay4]

theorem pay8 (i : grid0.Coords) (a b x y : Vec Ideal S1x176x1024 .f32) (p : Fin 176) (q : Fin 1024) :
    k0_pay8 i a b x y (ix2 p q) = Adam.ratio (gradB i a b (ix3 (0 : Fin 1) p q)) (x (ix3 (0 : Fin 1) p q)) (y (ix3 (0 : Fin 1) p q)) := by
  pointwise [k0_pay8, pay5, pay6, Adam.ratio]

theorem pay1 (i : grid0.Coords) (w a b x y : Vec Ideal S1x176x1024 .f32) (j : S1x176x1024.Idx) :
    k0_pay1 (k0_pay8 i a b x y) w j
      = Adam.change (w (ix3 (0 : Fin 1) (j 1) (j 2))) (gradB i a b (ix3 (0 : Fin 1) (j 1) (j 2))) (x (ix3 (0 : Fin 1) (j 1) (j 2))) (y (ix3 (0 : Fin 1) (j 1) (j 2))) := by
  idx_vars j
  pointwise [k0_pay1, pay8, Adam.change]

theorem pay2 (i : grid0.Coords) (a b x : Vec Ideal S1x176x1024 .f32) (j : S1x176x1024.Idx) :
    k0_pay2 (k0_pay5 i a b x) j = Adam.first (gradB i a b (ix3 (0 : Fin 1) (j 1) (j 2))) (x (ix3 (0 : Fin 1) (j 1) (j 2))) := by
  idx_vars j
  pointwise [k0_pay2, pay5]

theorem pay3 (i : grid0.Coords) (a b y : Vec Ideal S1x176x1024 .f32) (j : S1x176x1024.Idx) :
    k0_pay3 (k0_pay6 i a b y) j = Adam.second (gradB i a b (ix3 (0 : Fin 1) (j 1) (j 2))) (y (ix3 (0 : Fin 1) (j 1) (j 2))) := by
  idx_vars j
  pointwise [k0_pay3, pay6]

theorem half : ∀ t : Fin cfg0.N, ((grid0.coords t) 1).val = t.val / 2 % 2 := by decide +kernel
theorem index0 : ∀ t : Fin cfg0.N, win0_0.index t = ![t.val / 4, t.val % 4, 0] := by decide +kernel
theorem index3 : ∀ t : Fin cfg0.N, win0_3.index t = ![t.val / 4, t.val % 4, 0] := by decide +kernel
theorem index4 : ∀ t : Fin cfg0.N, win0_4.index t = ![t.val / 4, t.val % 4, 0] := by decide +kernel
theorem index5 : ∀ t : Fin cfg0.N, win0_5.index t = ![t.val / 4, t.val % 4, 0] := by decide +kernel
theorem index6 : ∀ t : Fin cfg0.N, win0_6.index t = ![t.val / 4, t.val % 4, 0] := by decide +kernel
theorem index7 : ∀ t : Fin cfg0.N, win0_7.index t = ![t.val / 4, t.val % 4, 0] := by decide +kernel
theorem index8 : ∀ t : Fin cfg0.N, win0_8.index t = ![t.val / 4, t.val % 4, 0] := by decide +kernel
theorem index1 : ∀ t : Fin cfg0.N, win0_1.index t = ![t.val / 4, if t.val / 2 % 2 = 0 then t.val % 2 else 0, 0] := by decide +kernel
theorem index2 : ∀ t : Fin cfg0.N, win0_2.index t = ![t.val / 4, if t.val / 2 % 2 = 0 then 0 else t.val % 2, 0] := by decide +kernel

theorem iblk0 (c : Dev nD) (t : Fin cfg0.N) (p : Fin 176) (q : Fin 1024) (h0 : t.val / 4 < 4) (h1 : t.val % 4 * 176 + p.val < 704) :
    iblk m c 0 t (ix3 (0 : Fin 1) p q) = m ((c : Thread nD τ).loc main_arg0) (ix3 (⟨t.val / 4, h0⟩ : Fin 4) (⟨t.val % 4 * 176 + p.val, h1⟩ : Fin 704) q) := by
  blk_simp [iblk]
  rw [V_main_arg0]
  blk_ext [index0]

theorem iblk3 (c : Dev nD) (t : Fin cfg0.N) (p : Fin 176) (q : Fin 1024) (h0 : t.val / 4 < 4) (h1 : t.val % 4 * 176 + p.val < 704) :
    iblk m c 3 t (ix3 (0 : Fin 1) p q) = m ((c : Thread nD τ).loc main_arg3) (ix3 (⟨t.val / 4, h0⟩ : Fin 4) (⟨t.val % 4 * 176 + p.val, h1⟩ : Fin 704) q) := by
  blk_simp [iblk]
  rw [V_main_arg3]
  blk_ext [index3]

theorem iblk4 (c : Dev nD) (t : Fin cfg0.N) (p : Fin 176) (q : Fin 1024) (h0 : t.val / 4 < 4) (h1 : t.val % 4 * 176 + p.val < 704) :
    iblk m c 4 t (ix3 (0 : Fin 1) p q) = m ((c : Thread nD τ).loc main_arg4) (ix3 (⟨t.val / 4, h0⟩ : Fin 4) (⟨t.val % 4 * 176 + p.val, h1⟩ : Fin 704) q) := by
  blk_simp [iblk]
  rw [V_main_arg4]
  blk_ext [index4]

theorem iblk1 (c : Dev nD) (t : Fin cfg0.N) (p : Fin 176) (q : Fin 1024) (h0 : t.val / 4 < 4) (h1 : t.val % 2 * 176 + p.val < 352)
    (h : t.val / 2 % 2 = 0) :
    iblk m c 1 t (ix3 (0 : Fin 1) p q) = m ((c : Thread nD τ).loc main_arg1) (ix3 (⟨t.val / 4, h0⟩ : Fin 4) (⟨t.val % 2 * 176 + p.val, h1⟩ : Fin 352) q) := by
  have e := index1 t
  rw [if_pos h] at e
  blk_simp [iblk]
  rw [V_main_arg1]
  blk_ext [e]

theorem iblk2 (c : Dev nD) (t : Fin cfg0.N) (p : Fin 176) (q : Fin 1024) (h0 : t.val / 4 < 4) (h1 : t.val % 2 * 176 + p.val < 352)
    (h : t.val / 2 % 2 ≠ 0) :
    iblk m c 2 t (ix3 (0 : Fin 1) p q) = m ((c : Thread nD τ).loc main_arg2) (ix3 (⟨t.val / 4, h0⟩ : Fin 4) (⟨t.val % 2 * 176 + p.val, h1⟩ : Fin 352) q) := by
  have e := index2 t
  rw [if_neg h] at e
  blk_simp [iblk]
  rw [V_main_arg2]
  blk_ext [e]

theorem grad_block (c : Dev nD) (t : Fin cfg0.N) (p : Fin 176) (q : Fin 1024) (h0 : t.val / 4 < 4) (h1 : t.val % 4 * 176 + p.val < 704) :
    gradB (grid0.coords t) (iblk m c 1 t) (iblk m c 2 t) (ix3 (0 : Fin 1) p q)
      = grad (m ((c : Thread nD τ).loc main_arg1)) (m ((c : Thread nD τ).loc main_arg2)) (ix3 (⟨t.val / 4, h0⟩ : Fin 4) (⟨t.val % 4 * 176 + p.val, h1⟩ : Fin 704) q) := by
  have hp : p.val < 176 := p.isLt
  have hm : t.val % 2 < 2 := Nat.mod_lt _ (by decide)
  have h2 : t.val % 2 * 176 + p.val < 352 := by omega
  have hd : t.val % 4 = t.val / 2 % 2 * 2 + t.val % 2 := by omega
  have e : (⟨(t.val % 4 * 176 + p.val) % 352, Nat.mod_lt _ (by decide)⟩ : Fin 352) = ⟨t.val % 2 * 176 + p.val, h2⟩ :=
    Fin.ext (show (t.val % 4 * 176 + p.val) % 352 = t.val % 2 * 176 + p.val by omega)
  unfold gradB grad
  rw [half t]
  by_cases h : t.val / 2 % 2 = 0
  · rw [if_pos h, iblk1 m c t p q h0 h2 h]
    refine Eq.trans ?_ (if_pos (show t.val % 4 * 176 + p.val < 352 by omega)).symm
    exact congrArg (fun k : Fin 352 => m ((c : Thread nD τ).loc main_arg1) (ix3 (⟨t.val / 4, h0⟩ : Fin 4) k q)) e.symm
  · rw [if_neg h, iblk2 m c t p q h0 h2 h]
    refine Eq.trans ?_ (if_neg (show ¬ t.val % 4 * 176 + p.val < 352 by omega)).symm
    exact congrArg (fun k : Fin 352 => m ((c : Thread nD τ).loc main_arg2) (ix3 (⟨t.val / 4, h0⟩ : Fin 4) k q)) e.symm

theorem final5 (c : Dev nD) : (dats m 0 c).arrAt 5 cfg0.N = grad (m ((c : Thread nD τ).loc main_arg1)) (m ((c : Thread nD τ).loc main_arg2)) := by
  refine (dats m 0 c).arrAt_eq_of_covers 5 _ (by decide +kernel) fun t hf y => ?_
  have hN : t.val < 16 := lt_of_lt_of_eq t.isLt N_0
  have b0 : (y 0).val < 1 := (y 0).isLt
  have b1 : (y 1).val < 176 := (y 1).isLt
  have h0 : t.val / 4 < 4 := by omega
  have h1 : t.val % 4 * 176 + (y 1).val < 704 := by omega
  have e : (win0_5.blk t).view.emb y = ix3 (⟨t.val / 4, h0⟩ : Fin 4) (⟨t.val % 4 * 176 + (y 1).val, h1⟩ : Fin 704) (y 2) := by
    blk_ext [index5]
  blk_simp
  rw [after0_5, e]
  frame_out
  refine (pay7 _ _ _ y).trans ?_
  exact grad_block m c t (y 1) (y 2) h0 h1

theorem final6 (c : Dev nD) : (dats m 0 c).arrAt 6 cfg0.N = delta (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have hN : t.val < 16 := lt_of_lt_of_eq t.isLt N_0
  have b0 : (y 0).val < 1 := (y 0).isLt
  have b1 : (y 1).val < 176 := (y 1).isLt
  have h0 : t.val / 4 < 4 := by omega
  have h1 : t.val % 4 * 176 + (y 1).val < 704 := by omega
  have e : (win0_6.blk t).view.emb y = ix3 (⟨t.val / 4, h0⟩ : Fin 4) (⟨t.val % 4 * 176 + (y 1).val, h1⟩ : Fin 704) (y 2) := by
    blk_ext [index6]
  blk_simp
  rw [after0_6, e]
  frame_out
  refine (pay1 _ _ _ _ _ _ y).trans ?_
  rw [grad_block m c t (y 1) (y 2) h0 h1, iblk0 m c t (y 1) (y 2) h0 h1, iblk3 m c t (y 1) (y 2) h0 h1, iblk4 m c t (y 1) (y 2) h0 h1]; rfl

theorem final7 (c : Dev nD) : (dats m 0 c).arrAt 7 cfg0.N = firsts (m ((c : Thread nD τ).loc main_arg1)) (m ((c : Thread nD τ).loc main_arg2)) (m ((c : Thread nD τ).loc main_arg3)) := by
  refine (dats m 0 c).arrAt_eq_of_covers 7 _ (by decide +kernel) fun t hf y => ?_
  have hN : t.val < 16 := lt_of_lt_of_eq t.isLt N_0
  have b0 : (y 0).val < 1 := (y 0).isLt
  have b1 : (y 1).val < 176 := (y 1).isLt
  have h0 : t.val / 4 < 4 := by omega
  have h1 : t.val % 4 * 176 + (y 1).val < 704 := by omega
  have e : (win0_7.blk t).view.emb y = ix3 (⟨t.val / 4, h0⟩ : Fin 4) (⟨t.val % 4 * 176 + (y 1).val, h1⟩ : Fin 704) (y 2) := by
    blk_ext [index7]
  blk_simp
  rw [after0_7, e]
  frame_out
  refine (pay2 _ _ _ _ y).trans ?_
  rw [grad_block m c t (y 1) (y 2) h0 h1, iblk3 m c t (y 1) (y 2) h0 h1]; rfl

theorem final8 (c : Dev nD) : (dats m 0 c).arrAt 8 cfg0.N = seconds (m ((c : Thread nD τ).loc main_arg1)) (m ((c : Thread nD τ).loc main_arg2)) (m ((c : Thread nD τ).loc main_arg4)) := by
  refine (dats m 0 c).arrAt_eq_of_covers 8 _ (by decide +kernel) fun t hf y => ?_
  have hN : t.val < 16 := lt_of_lt_of_eq t.isLt N_0
  have b0 : (y 0).val < 1 := (y 0).isLt
  have b1 : (y 1).val < 176 := (y 1).isLt
  have h0 : t.val / 4 < 4 := by omega
  have h1 : t.val % 4 * 176 + (y 1).val < 704 := by omega
  have e : (win0_8.blk t).view.emb y = ix3 (⟨t.val / 4, h0⟩ : Fin 4) (⟨t.val % 4 * 176 + (y 1).val, h1⟩ : Fin 704) (y 2) := by
    blk_ext [index8]
  blk_simp
  rw [after0_8, e]
  frame_out
  refine (pay3 _ _ _ _ y).trans ?_
  rw [grad_block m c t (y 1) (y 2) h0 h1, iblk4 m c t (y 1) (y 2) h0 h1]; rfl

end Cert.Kernel16Ideal.Own

namespace Cert.Reference16Ideal.Own

open Cert.Reference16Ideal Cert.Reference16Ideal.Gen

/-- The reference's result 0. -/
theorem grad_eq (a : FVec Ideal S4x352x1024 .f32) (b : FVec Ideal S4x352x1024 .f32) :
    concatenate S4x704x1024 1 [⟨S4x352x1024, a⟩, ⟨S4x352x1024, b⟩] concatenates_S4x352x1024_S4x352x1024_S4x704x1024_d1
      = Cert.Kernel16Ideal.Own.grad a b := by
  funext j
  idx_vars j
  have hb : j1.val < 704 := j1.isLt
  pointwise [Cert.Kernel16Ideal.Own.grad]
  by_cases h : j1.val < 352
  · rw [dif_pos (by omega), if_pos h]
    refine congrArg a (congrArg (fun r : Fin 352 => ix3 j0 r j2) (Fin.ext ?_))
    show j1.val = j1.val % 352
    omega
  · rw [dif_neg (by omega), if_neg h]
    refine congrArg b (congrArg (fun r : Fin 352 => ix3 j0 r j2) (Fin.ext ?_))
    show j1.val - 352 = j1.val % 352
    omega

/-- The reference's result 1. -/
theorem delta_eq (w : FVec Ideal S4x704x1024 .f32) (a : FVec Ideal S4x352x1024 .f32) (b : FVec Ideal S4x352x1024 .f32) (x : FVec Ideal S4x704x1024 .f32) (y : FVec Ideal S4x704x1024 .f32) :
    mulf (broadcastInDim S4x704x1024 ![] bcast_S_S4x704x1024 (constant S_ .f32 0xBA83126F#32)) (addf (Host.divf (Host.divf (addf (mulf (broadcastInDim S4x704x1024 ![] bcast_S_S4x704x1024 (constant S_ .f32 0x3F666666#32)) x) (mulf (broadcastInDim S4x704x1024 ![] bcast_S_S4x704x1024 (constant S_ .f32 0x3DCCCCCD#32)) (concatenate S4x704x1024 1 [⟨S4x352x1024, a⟩, ⟨S4x352x1024, b⟩] concatenates_S4x352x1024_S4x352x1024_S4x704x1024_d1))) (broadcastInDim S4x704x1024 ![] bcast_S_S4x704x1024 (constant S_ .f32 0x3F26BD02#32))) (addf (Host.sqrt (Host.divf (addf (mulf (broadcastInDim S4x704x1024 ![] bcast_S_S4x704x1024 (constant S_ .f32 0x3F7FBE77#32)) y) (mulf (broadcastInDim S4x704x1024 ![] bcast_S_S4x704x1024 (constant S_ .f32 0x3A83126F#32)) (mulf (concatenate S4x704x1024 1 [⟨S4x352x1024, a⟩, ⟨S4x352x1024, b⟩] concatenates_S4x352x1024_S4x352x1024_S4x704x1024_d1) (concatenate S4x704x1024 1 [⟨S4x352x1024, a⟩, ⟨S4x352x1024, b⟩] concatenates_S4x352x1024_S4x352x1024_S4x704x1024_d1)))) (broadcastInDim S4x704x1024 ![] bcast_S_S4x704x1024 (constant S_ .f32 0x3C231ACC#32)))) (broadcastInDim S4x704x1024 ![] bcast_S_S4x704x1024 (constant S_ .f32 0x322BCC77#32)))) (mulf (broadcastInDim S4x704x1024 ![] bcast_S_S4x704x1024 (constant S_ .f32 0x3C23D70A#32)) w))
      = Cert.Kernel16Ideal.Own.delta w a b x y := by
  rw [grad_eq]
  funext j
  idx_vars j
  pointwise [Cert.Kernel16Ideal.Own.delta, Adam.change, Adam.ratio, Adam.first, Adam.second]

/-- The reference's result 2. -/
theorem firsts_eq (a : FVec Ideal S4x352x1024 .f32) (b : FVec Ideal S4x352x1024 .f32) (x : FVec Ideal S4x704x1024 .f32) :
    addf (mulf (broadcastInDim S4x704x1024 ![] bcast_S_S4x704x1024 (constant S_ .f32 0x3F666666#32)) x) (mulf (broadcastInDim S4x704x1024 ![] bcast_S_S4x704x1024 (constant S_ .f32 0x3DCCCCCD#32)) (concatenate S4x704x1024 1 [⟨S4x352x1024, a⟩, ⟨S4x352x1024, b⟩] concatenates_S4x352x1024_S4x352x1024_S4x704x1024_d1))
      = Cert.Kernel16Ideal.Own.firsts a b x := by
  rw [grad_eq]
  funext j
  idx_vars j
  pointwise [Cert.Kernel16Ideal.Own.firsts, Adam.change, Adam.ratio, Adam.first, Adam.second]

/-- The reference's result 3. -/
theorem seconds_eq (a : FVec Ideal S4x352x1024 .f32) (b : FVec Ideal S4x352x1024 .f32) (y : FVec Ideal S4x704x1024 .f32) :
    addf (mulf (broadcastInDim S4x704x1024 ![] bcast_S_S4x704x1024 (constant S_ .f32 0x3F7FBE77#32)) y) (mulf (broadcastInDim S4x704x1024 ![] bcast_S_S4x704x1024 (constant S_ .f32 0x3A83126F#32)) (mulf (concatenate S4x704x1024 1 [⟨S4x352x1024, a⟩, ⟨S4x352x1024, b⟩] concatenates_S4x352x1024_S4x352x1024_S4x704x1024_d1) (concatenate S4x704x1024 1 [⟨S4x352x1024, a⟩, ⟨S4x352x1024, b⟩] concatenates_S4x352x1024_S4x352x1024_S4x704x1024_d1)))
      = Cert.Kernel16Ideal.Own.seconds a b y := by
  rw [grad_eq]
  funext j
  idx_vars j
  pointwise [Cert.Kernel16Ideal.Own.seconds, Adam.change, Adam.ratio, Adam.first, Adam.second]

end Cert.Reference16Ideal.Own

namespace Cert.Proof

/-- The joined update of the feed-forward output weights is the AdamW step of the gradient that the two halves make. -/
theorem value16 (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg)
    (h : ∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) :
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_v24) = v1 c
          ∧ r.2.mem ((c.tc : Thread Cert.Reference16Ideal.nD Cert.Reference16Ideal.τ).loc Cert.Reference16Ideal.main_v5) = v2 c
          ∧ r.2.mem ((c.tc : Thread Cert.Reference16Ideal.nD Cert.Reference16Ideal.τ).loc Cert.Reference16Ideal.main_v11) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)) := by
  refine ⟨fun c => Cert.Kernel16Ideal.Own.grad (m ((c.tc : Thread _ _).loc Cert.Kernel16Ideal.main_arg1)) (m ((c.tc : Thread _ _).loc Cert.Kernel16Ideal.main_arg2)), fun c => Cert.Kernel16Ideal.Own.delta (m ((c.tc : Thread _ _).loc Cert.Kernel16Ideal.main_arg0)) (m ((c.tc : Thread _ _).loc Cert.Kernel16Ideal.main_arg1)) (m ((c.tc : Thread _ _).loc Cert.Kernel16Ideal.main_arg2)) (m ((c.tc : Thread _ _).loc Cert.Kernel16Ideal.main_arg3)) (m ((c.tc : Thread _ _).loc Cert.Kernel16Ideal.main_arg4)), fun c => Cert.Kernel16Ideal.Own.firsts (m ((c.tc : Thread _ _).loc Cert.Kernel16Ideal.main_arg1)) (m ((c.tc : Thread _ _).loc Cert.Kernel16Ideal.main_arg2)) (m ((c.tc : Thread _ _).loc Cert.Kernel16Ideal.main_arg3)), fun c => Cert.Kernel16Ideal.Own.seconds (m ((c.tc : Thread _ _).loc Cert.Kernel16Ideal.main_arg1)) (m ((c.tc : Thread _ _).loc Cert.Kernel16Ideal.main_arg2)) (m ((c.tc : Thread _ _).loc Cert.Kernel16Ideal.main_arg4)), ?_, ?_⟩
  · exact (θ_run Cert.Kernel16Ideal.defs _ _).mono (fun r hr c => ⟨(hr c).1.trans (Cert.Kernel16Ideal.Own.final5 m c), (hr c).2.1.trans (Cert.Kernel16Ideal.Own.final6 m c),
        (hr c).2.2.1.trans (Cert.Kernel16Ideal.Own.final7 m c), (hr c).2.2.2.1.trans (Cert.Kernel16Ideal.Own.final8 m c), (hr c).2.2.2.2⟩)
      (Cert.Kernel16Ideal.Value.run_blocks m g)
  · refine (θ_run Cert.Reference16Ideal.defs _ _).mono (fun r hr c => ⟨(hr c).1.trans ?_, (hr c).2.1.trans ?_, (hr c).2.2.1.trans ?_, (hr c).2.2.2.1.trans ?_, (hr c).2.2.2.2⟩)
      (Cert.Reference16Ideal.Value.run m' g')
    · rw [Cert.Reference16Ideal.Own.grad_eq, (h c).2.1, (h c).2.2.1]
    · rw [Cert.Reference16Ideal.Own.delta_eq, (h c).1, (h c).2.1, (h c).2.2.1, (h c).2.2.2.1, (h c).2.2.2.2]
    · rw [Cert.Reference16Ideal.Own.firsts_eq, (h c).2.1, (h c).2.2.1, (h c).2.2.2.1]
    · rw [Cert.Reference16Ideal.Own.seconds_eq, (h c).2.1, (h c).2.2.1, (h c).2.2.2.2]

end Cert.Proof

end
-- ==== Proof.Value17.lean ====
module

public import proofs.«01_k».proof.Proof.Gen.Kernel17Ideal.Value
public import proofs.«01_k».proof.Proof.Gen.Reference17Ideal.Run
public import proofs.«01_k».proof.Proof.Adam
public import Idealize.ShloMosaic.Lib.Pipeline.ValueKit
public import Idealize.ShloMosaic.Lib.Pipeline.ReadBack
public import Idealize.ShloMosaic.Lib.StableHlo.Run
public import Idealize.ShloMosaic.Lib.Pointwise

@[expose] public section

set_option maxRecDepth 16384

noncomputable section

open Idealize.ShloMosaic Idealize.ShloMosaic.TcCoe Idealize.SL.Sem
open scoped BigOperators

namespace Cert.Kernel17Ideal.Own

open Cert.Kernel17Ideal Cert.Kernel17Ideal.Gen Cert.Kernel17Ideal.Value

variable (m : (ℓ : Loc nD τ sig) → Buf (Elt Ideal) ℓ) (ρ : Dev nD → PrngReg)

/-- The rows of the gradient, from their two halves. -/
def grad (a b : Vec Ideal S2x512x772 .f32) : Vec Ideal S2x1024x772 .f32 :=
  fun i => if (i 1).val < 512 then a (ix3 (i 0) (⟨(i 1).val % 512, Nat.mod_lt _ (by decide)⟩ : Fin 512) (i 2))
    else b (ix3 (i 0) (⟨(i 1).val % 512, Nat.mod_lt _ (by decide)⟩ : Fin 512) (i 2))

/-- The change of the weights. -/
def delta (w : Vec Ideal S2x1024x772 .f32) (a b : Vec Ideal S2x512x772 .f32) (x y : Vec Ideal S2x1024x772 .f32) : Vec Ideal S2x1024x772 .f32 :=
  fun i => Adam.change (w i) (grad a b i) (x i) (y i)

/-- The new first moments. -/
def firsts (a b : Vec Ideal S2x512x772 .f32) (x : Vec Ideal S2x1024x772 .f32) : Vec Ideal S2x1024x772 .f32 :=
  fun i => Adam.first (grad a b i) (x i)

/-- The new second moments. -/
def seconds (a b : Vec Ideal S2x512x772 .f32) (y : Vec Ideal S2x1024x772 .f32) : Vec Ideal S2x1024x772 .f32 :=
  fun i => Adam.second (grad a b i) (y i)

/-- A block of the gradient, from the half that the grid point reads. -/
def gradB (i : grid0.Coords) (a b : Vec Ideal S1x256x772 .f32) : Vec Ideal S1x256x772 .f32 :=
  fun j => if (i 1).val = 0 then a j else b j

theorem pay4 (i : grid0.Coords) (a b : Vec Ideal S1x256x772 .f32) (p : Fin 256) (q : Fin 772) :
    k0_pay4 i a b (ix2 p q) = gradB i a b (ix3 (0 : Fin 1) p q) := by
  have hi : (i 1).val < 2 := (i 1).isLt
  unfold gradB
  by_cases h : (i 1).val = 0
  · rw [if_pos h]
    pointwise [k0_pay4, h]
    try rfl
  · have h1 : (i 1).val = 1 := by omega
    rw [if_neg h]
    pointwise [k0_pay4, h1]
    try rfl

theorem pay5 (i : grid0.Coords) (a b x : Vec Ideal S1x256x772 .f32) (p : Fin 256) (q : Fin 772) :
    k0_pay5 i a b x (ix2 p q) = Adam.first (gradB i a b (ix3 (0 : Fin 1) p q)) (x (ix3 (0 : Fin 1) p q)) := by
  pointwise [k0_pay5, pay4, Adam.first]

theorem pay6 (i : grid0.Coords) (a b y : Vec Ideal S1x256x772 .f32) (p : Fin 256) (q : Fin 772) :
    k0_pay6 i a b y (ix2 p q) = Adam.second (gradB i a b (ix3 (0 : Fin 1) p q)) (y (ix3 (0 : Fin 1) p q)) := by
  pointwise [k0_pay6, pay4, Adam.second]

theorem pay7 (i : grid0.Coords) (a b : Vec Ideal S1x256x772 .f32) (j : S1x256x772.Idx) :
    k0_pay7 i a b j = gradB i a b (ix3 (0 : Fin 1) (j 1) (j 2)) := by
  idx_vars j
  pointwise [k0_pay7, pay4]

theorem pay8 (i : grid0.Coords) (a b x y : Vec Ideal S1x256x772 .f32) (p : Fin 256) (q : Fin 772) :
    k0_pay8 i a b x y (ix2 p q) = Adam.ratio (gradB i a b (ix3 (0 : Fin 1) p q)) (x (ix3 (0 : Fin 1) p q)) (y (ix3 (0 : Fin 1) p q)) := by
  pointwise [k0_pay8, pay5, pay6, Adam.ratio]

theorem pay1 (i : grid0.Coords) (w a b x y : Vec Ideal S1x256x772 .f32) (j : S1x256x772.Idx) :
    k0_pay1 (k0_pay8 i a b x y) w j
      = Adam.change (w (ix3 (0 : Fin 1) (j 1) (j 2))) (gradB i a b (ix3 (0 : Fin 1) (j 1) (j 2))) (x (ix3 (0 : Fin 1) (j 1) (j 2))) (y (ix3 (0 : Fin 1) (j 1) (j 2))) := by
  idx_vars j
  pointwise [k0_pay1, pay8, Adam.change]

theorem pay2 (i : grid0.Coords) (a b x : Vec Ideal S1x256x772 .f32) (j : S1x256x772.Idx) :
    k0_pay2 (k0_pay5 i a b x) j = Adam.first (gradB i a b (ix3 (0 : Fin 1) (j 1) (j 2))) (x (ix3 (0 : Fin 1) (j 1) (j 2))) := by
  idx_vars j
  pointwise [k0_pay2, pay5]

theorem pay3 (i : grid0.Coords) (a b y : Vec Ideal S1x256x772 .f32) (j : S1x256x772.Idx) :
    k0_pay3 (k0_pay6 i a b y) j = Adam.second (gradB i a b (ix3 (0 : Fin 1) (j 1) (j 2))) (y (ix3 (0 : Fin 1) (j 1) (j 2))) := by
  idx_vars j
  pointwise [k0_pay3, pay6]

theorem half : ∀ t : Fin cfg0.N, ((grid0.coords t) 1).val = t.val / 2 % 2 := by decide +kernel
theorem index0 : ∀ t : Fin cfg0.N, win0_0.index t = ![t.val / 4, t.val % 4, 0] := by decide +kernel
theorem index3 : ∀ t : Fin cfg0.N, win0_3.index t = ![t.val / 4, t.val % 4, 0] := by decide +kernel
theorem index4 : ∀ t : Fin cfg0.N, win0_4.index t = ![t.val / 4, t.val % 4, 0] := by decide +kernel
theorem index5 : ∀ t : Fin cfg0.N, win0_5.index t = ![t.val / 4, t.val % 4, 0] := by decide +kernel
theorem index6 : ∀ t : Fin cfg0.N, win0_6.index t = ![t.val / 4, t.val % 4, 0] := by decide +kernel
theorem index7 : ∀ t : Fin cfg0.N, win0_7.index t = ![t.val / 4, t.val % 4, 0] := by decide +kernel
theorem index8 : ∀ t : Fin cfg0.N, win0_8.index t = ![t.val / 4, t.val % 4, 0] := by decide +kernel
theorem index1 : ∀ t : Fin cfg0.N, win0_1.index t = ![t.val / 4, if t.val / 2 % 2 = 0 then t.val % 2 else 0, 0] := by decide +kernel
theorem index2 : ∀ t : Fin cfg0.N, win0_2.index t = ![t.val / 4, if t.val / 2 % 2 = 0 then 0 else t.val % 2, 0] := by decide +kernel

theorem iblk0 (c : Dev nD) (t : Fin cfg0.N) (p : Fin 256) (q : Fin 772) (h0 : t.val / 4 < 2) (h1 : t.val % 4 * 256 + p.val < 1024) :
    iblk m c 0 t (ix3 (0 : Fin 1) p q) = m ((c : Thread nD τ).loc main_arg0) (ix3 (⟨t.val / 4, h0⟩ : Fin 2) (⟨t.val % 4 * 256 + p.val, h1⟩ : Fin 1024) q) := by
  blk_simp [iblk]
  rw [V_main_arg0]
  blk_ext [index0]

theorem iblk3 (c : Dev nD) (t : Fin cfg0.N) (p : Fin 256) (q : Fin 772) (h0 : t.val / 4 < 2) (h1 : t.val % 4 * 256 + p.val < 1024) :
    iblk m c 3 t (ix3 (0 : Fin 1) p q) = m ((c : Thread nD τ).loc main_arg3) (ix3 (⟨t.val / 4, h0⟩ : Fin 2) (⟨t.val % 4 * 256 + p.val, h1⟩ : Fin 1024) q) := by
  blk_simp [iblk]
  rw [V_main_arg3]
  blk_ext [index3]

theorem iblk4 (c : Dev nD) (t : Fin cfg0.N) (p : Fin 256) (q : Fin 772) (h0 : t.val / 4 < 2) (h1 : t.val % 4 * 256 + p.val < 1024) :
    iblk m c 4 t (ix3 (0 : Fin 1) p q) = m ((c : Thread nD τ).loc main_arg4) (ix3 (⟨t.val / 4, h0⟩ : Fin 2) (⟨t.val % 4 * 256 + p.val, h1⟩ : Fin 1024) q) := by
  blk_simp [iblk]
  rw [V_main_arg4]
  blk_ext [index4]

theorem iblk1 (c : Dev nD) (t : Fin cfg0.N) (p : Fin 256) (q : Fin 772) (h0 : t.val / 4 < 2) (h1 : t.val % 2 * 256 + p.val < 512)
    (h : t.val / 2 % 2 = 0) :
    iblk m c 1 t (ix3 (0 : Fin 1) p q) = m ((c : Thread nD τ).loc main_arg1) (ix3 (⟨t.val / 4, h0⟩ : Fin 2) (⟨t.val % 2 * 256 + p.val, h1⟩ : Fin 512) q) := by
  have e := index1 t
  rw [if_pos h] at e
  blk_simp [iblk]
  rw [V_main_arg1]
  blk_ext [e]

theorem iblk2 (c : Dev nD) (t : Fin cfg0.N) (p : Fin 256) (q : Fin 772) (h0 : t.val / 4 < 2) (h1 : t.val % 2 * 256 + p.val < 512)
    (h : t.val / 2 % 2 ≠ 0) :
    iblk m c 2 t (ix3 (0 : Fin 1) p q) = m ((c : Thread nD τ).loc main_arg2) (ix3 (⟨t.val / 4, h0⟩ : Fin 2) (⟨t.val % 2 * 256 + p.val, h1⟩ : Fin 512) q) := by
  have e := index2 t
  rw [if_neg h] at e
  blk_simp [iblk]
  rw [V_main_arg2]
  blk_ext [e]

theorem grad_block (c : Dev nD) (t : Fin cfg0.N) (p : Fin 256) (q : Fin 772) (h0 : t.val / 4 < 2) (h1 : t.val % 4 * 256 + p.val < 1024) :
    gradB (grid0.coords t) (iblk m c 1 t) (iblk m c 2 t) (ix3 (0 : Fin 1) p q)
      = grad (m ((c : Thread nD τ).loc main_arg1)) (m ((c : Thread nD τ).loc main_arg2)) (ix3 (⟨t.val / 4, h0⟩ : Fin 2) (⟨t.val % 4 * 256 + p.val, h1⟩ : Fin 1024) q) := by
  have hp : p.val < 256 := p.isLt
  have hm : t.val % 2 < 2 := Nat.mod_lt _ (by decide)
  have h2 : t.val % 2 * 256 + p.val < 512 := by omega
  have hd : t.val % 4 = t.val / 2 % 2 * 2 + t.val % 2 := by omega
  have e : (⟨(t.val % 4 * 256 + p.val) % 512, Nat.mod_lt _ (by decide)⟩ : Fin 512) = ⟨t.val % 2 * 256 + p.val, h2⟩ :=
    Fin.ext (show (t.val % 4 * 256 + p.val) % 512 = t.val % 2 * 256 + p.val by omega)
  unfold gradB grad
  rw [half t]
  by_cases h : t.val / 2 % 2 = 0
  · rw [if_pos h, iblk1 m c t p q h0 h2 h]
    refine Eq.trans ?_ (if_pos (show t.val % 4 * 256 + p.val < 512 by omega)).symm
    exact congrArg (fun k : Fin 512 => m ((c : Thread nD τ).loc main_arg1) (ix3 (⟨t.val / 4, h0⟩ : Fin 2) k q)) e.symm
  · rw [if_neg h, iblk2 m c t p q h0 h2 h]
    refine Eq.trans ?_ (if_neg (show ¬ t.val % 4 * 256 + p.val < 512 by omega)).symm
    exact congrArg (fun k : Fin 512 => m ((c : Thread nD τ).loc main_arg2) (ix3 (⟨t.val / 4, h0⟩ : Fin 2) k q)) e.symm

theorem final5 (c : Dev nD) : (dats m 0 c).arrAt 5 cfg0.N = grad (m ((c : Thread nD τ).loc main_arg1)) (m ((c : Thread nD τ).loc main_arg2)) := by
  refine (dats m 0 c).arrAt_eq_of_covers 5 _ (by decide +kernel) fun t hf y => ?_
  have hN : t.val < 8 := lt_of_lt_of_eq t.isLt N_0
  have b0 : (y 0).val < 1 := (y 0).isLt
  have b1 : (y 1).val < 256 := (y 1).isLt
  have h0 : t.val / 4 < 2 := by omega
  have h1 : t.val % 4 * 256 + (y 1).val < 1024 := by omega
  have e : (win0_5.blk t).view.emb y = ix3 (⟨t.val / 4, h0⟩ : Fin 2) (⟨t.val % 4 * 256 + (y 1).val, h1⟩ : Fin 1024) (y 2) := by
    blk_ext [index5]
  blk_simp
  rw [after0_5, e]
  frame_out
  refine (pay7 _ _ _ y).trans ?_
  exact grad_block m c t (y 1) (y 2) h0 h1

theorem final6 (c : Dev nD) : (dats m 0 c).arrAt 6 cfg0.N = delta (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have hN : t.val < 8 := lt_of_lt_of_eq t.isLt N_0
  have b0 : (y 0).val < 1 := (y 0).isLt
  have b1 : (y 1).val < 256 := (y 1).isLt
  have h0 : t.val / 4 < 2 := by omega
  have h1 : t.val % 4 * 256 + (y 1).val < 1024 := by omega
  have e : (win0_6.blk t).view.emb y = ix3 (⟨t.val / 4, h0⟩ : Fin 2) (⟨t.val % 4 * 256 + (y 1).val, h1⟩ : Fin 1024) (y 2) := by
    blk_ext [index6]
  blk_simp
  rw [after0_6, e]
  frame_out
  refine (pay1 _ _ _ _ _ _ y).trans ?_
  rw [grad_block m c t (y 1) (y 2) h0 h1, iblk0 m c t (y 1) (y 2) h0 h1, iblk3 m c t (y 1) (y 2) h0 h1, iblk4 m c t (y 1) (y 2) h0 h1]; rfl

theorem final7 (c : Dev nD) : (dats m 0 c).arrAt 7 cfg0.N = firsts (m ((c : Thread nD τ).loc main_arg1)) (m ((c : Thread nD τ).loc main_arg2)) (m ((c : Thread nD τ).loc main_arg3)) := by
  refine (dats m 0 c).arrAt_eq_of_covers 7 _ (by decide +kernel) fun t hf y => ?_
  have hN : t.val < 8 := lt_of_lt_of_eq t.isLt N_0
  have b0 : (y 0).val < 1 := (y 0).isLt
  have b1 : (y 1).val < 256 := (y 1).isLt
  have h0 : t.val / 4 < 2 := by omega
  have h1 : t.val % 4 * 256 + (y 1).val < 1024 := by omega
  have e : (win0_7.blk t).view.emb y = ix3 (⟨t.val / 4, h0⟩ : Fin 2) (⟨t.val % 4 * 256 + (y 1).val, h1⟩ : Fin 1024) (y 2) := by
    blk_ext [index7]
  blk_simp
  rw [after0_7, e]
  frame_out
  refine (pay2 _ _ _ _ y).trans ?_
  rw [grad_block m c t (y 1) (y 2) h0 h1, iblk3 m c t (y 1) (y 2) h0 h1]; rfl

theorem final8 (c : Dev nD) : (dats m 0 c).arrAt 8 cfg0.N = seconds (m ((c : Thread nD τ).loc main_arg1)) (m ((c : Thread nD τ).loc main_arg2)) (m ((c : Thread nD τ).loc main_arg4)) := by
  refine (dats m 0 c).arrAt_eq_of_covers 8 _ (by decide +kernel) fun t hf y => ?_
  have hN : t.val < 8 := lt_of_lt_of_eq t.isLt N_0
  have b0 : (y 0).val < 1 := (y 0).isLt
  have b1 : (y 1).val < 256 := (y 1).isLt
  have h0 : t.val / 4 < 2 := by omega
  have h1 : t.val % 4 * 256 + (y 1).val < 1024 := by omega
  have e : (win0_8.blk t).view.emb y = ix3 (⟨t.val / 4, h0⟩ : Fin 2) (⟨t.val % 4 * 256 + (y 1).val, h1⟩ : Fin 1024) (y 2) := by
    blk_ext [index8]
  blk_simp
  rw [after0_8, e]
  frame_out
  refine (pay3 _ _ _ _ y).trans ?_
  rw [grad_block m c t (y 1) (y 2) h0 h1, iblk4 m c t (y 1) (y 2) h0 h1]; rfl

end Cert.Kernel17Ideal.Own

namespace Cert.Reference17Ideal.Own

open Cert.Reference17Ideal Cert.Reference17Ideal.Gen

/-- The reference's result 0. -/
theorem grad_eq (a : FVec Ideal S2x512x772 .f32) (b : FVec Ideal S2x512x772 .f32) :
    concatenate S2x1024x772 1 [⟨S2x512x772, a⟩, ⟨S2x512x772, b⟩] concatenates_S2x512x772_S2x512x772_S2x1024x772_d1
      = Cert.Kernel17Ideal.Own.grad a b := by
  funext j
  idx_vars j
  have hb : j1.val < 1024 := j1.isLt
  pointwise [Cert.Kernel17Ideal.Own.grad]
  by_cases h : j1.val < 512
  · rw [dif_pos (by omega), if_pos h]
    refine congrArg a (congrArg (fun r : Fin 512 => ix3 j0 r j2) (Fin.ext ?_))
    show j1.val = j1.val % 512
    omega
  · rw [dif_neg (by omega), if_neg h]
    refine congrArg b (congrArg (fun r : Fin 512 => ix3 j0 r j2) (Fin.ext ?_))
    show j1.val - 512 = j1.val % 512
    omega

/-- The reference's result 1. -/
theorem delta_eq (w : FVec Ideal S2x1024x772 .f32) (a : FVec Ideal S2x512x772 .f32) (b : FVec Ideal S2x512x772 .f32) (x : FVec Ideal S2x1024x772 .f32) (y : FVec Ideal S2x1024x772 .f32) :
    mulf (broadcastInDim S2x1024x772 ![] bcast_S_S2x1024x772 (constant S_ .f32 0xBA83126F#32)) (addf (Host.divf (Host.divf (addf (mulf (broadcastInDim S2x1024x772 ![] bcast_S_S2x1024x772 (constant S_ .f32 0x3F666666#32)) x) (mulf (broadcastInDim S2x1024x772 ![] bcast_S_S2x1024x772 (constant S_ .f32 0x3DCCCCCD#32)) (concatenate S2x1024x772 1 [⟨S2x512x772, a⟩, ⟨S2x512x772, b⟩] concatenates_S2x512x772_S2x512x772_S2x1024x772_d1))) (broadcastInDim S2x1024x772 ![] bcast_S_S2x1024x772 (constant S_ .f32 0x3F26BD02#32))) (addf (Host.sqrt (Host.divf (addf (mulf (broadcastInDim S2x1024x772 ![] bcast_S_S2x1024x772 (constant S_ .f32 0x3F7FBE77#32)) y) (mulf (broadcastInDim S2x1024x772 ![] bcast_S_S2x1024x772 (constant S_ .f32 0x3A83126F#32)) (mulf (concatenate S2x1024x772 1 [⟨S2x512x772, a⟩, ⟨S2x512x772, b⟩] concatenates_S2x512x772_S2x512x772_S2x1024x772_d1) (concatenate S2x1024x772 1 [⟨S2x512x772, a⟩, ⟨S2x512x772, b⟩] concatenates_S2x512x772_S2x512x772_S2x1024x772_d1)))) (broadcastInDim S2x1024x772 ![] bcast_S_S2x1024x772 (constant S_ .f32 0x3C231ACC#32)))) (broadcastInDim S2x1024x772 ![] bcast_S_S2x1024x772 (constant S_ .f32 0x322BCC77#32)))) (mulf (broadcastInDim S2x1024x772 ![] bcast_S_S2x1024x772 (constant S_ .f32 0x3C23D70A#32)) w))
      = Cert.Kernel17Ideal.Own.delta w a b x y := by
  rw [grad_eq]
  funext j
  idx_vars j
  pointwise [Cert.Kernel17Ideal.Own.delta, Adam.change, Adam.ratio, Adam.first, Adam.second]

/-- The reference's result 2. -/
theorem firsts_eq (a : FVec Ideal S2x512x772 .f32) (b : FVec Ideal S2x512x772 .f32) (x : FVec Ideal S2x1024x772 .f32) :
    addf (mulf (broadcastInDim S2x1024x772 ![] bcast_S_S2x1024x772 (constant S_ .f32 0x3F666666#32)) x) (mulf (broadcastInDim S2x1024x772 ![] bcast_S_S2x1024x772 (constant S_ .f32 0x3DCCCCCD#32)) (concatenate S2x1024x772 1 [⟨S2x512x772, a⟩, ⟨S2x512x772, b⟩] concatenates_S2x512x772_S2x512x772_S2x1024x772_d1))
      = Cert.Kernel17Ideal.Own.firsts a b x := by
  rw [grad_eq]
  funext j
  idx_vars j
  pointwise [Cert.Kernel17Ideal.Own.firsts, Adam.change, Adam.ratio, Adam.first, Adam.second]

/-- The reference's result 3. -/
theorem seconds_eq (a : FVec Ideal S2x512x772 .f32) (b : FVec Ideal S2x512x772 .f32) (y : FVec Ideal S2x1024x772 .f32) :
    addf (mulf (broadcastInDim S2x1024x772 ![] bcast_S_S2x1024x772 (constant S_ .f32 0x3F7FBE77#32)) y) (mulf (broadcastInDim S2x1024x772 ![] bcast_S_S2x1024x772 (constant S_ .f32 0x3A83126F#32)) (mulf (concatenate S2x1024x772 1 [⟨S2x512x772, a⟩, ⟨S2x512x772, b⟩] concatenates_S2x512x772_S2x512x772_S2x1024x772_d1) (concatenate S2x1024x772 1 [⟨S2x512x772, a⟩, ⟨S2x512x772, b⟩] concatenates_S2x512x772_S2x512x772_S2x1024x772_d1)))
      = Cert.Kernel17Ideal.Own.seconds a b y := by
  rw [grad_eq]
  funext j
  idx_vars j
  pointwise [Cert.Kernel17Ideal.Own.seconds, Adam.change, Adam.ratio, Adam.first, Adam.second]

end Cert.Reference17Ideal.Own

namespace Cert.Proof

/-- The joined update of the attention layer's input weights is the AdamW step of the gradient that the two halves make. -/
theorem value17 (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg)
    (h : ∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) :
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_v24) = v1 c
          ∧ r.2.mem ((c.tc : Thread Cert.Reference17Ideal.nD Cert.Reference17Ideal.τ).loc Cert.Reference17Ideal.main_v5) = v2 c
          ∧ r.2.mem ((c.tc : Thread Cert.Reference17Ideal.nD Cert.Reference17Ideal.τ).loc Cert.Reference17Ideal.main_v11) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)) := by
  refine ⟨fun c => Cert.Kernel17Ideal.Own.grad (m ((c.tc : Thread _ _).loc Cert.Kernel17Ideal.main_arg1)) (m ((c.tc : Thread _ _).loc Cert.Kernel17Ideal.main_arg2)), fun c => Cert.Kernel17Ideal.Own.delta (m ((c.tc : Thread _ _).loc Cert.Kernel17Ideal.main_arg0)) (m ((c.tc : Thread _ _).loc Cert.Kernel17Ideal.main_arg1)) (m ((c.tc : Thread _ _).loc Cert.Kernel17Ideal.main_arg2)) (m ((c.tc : Thread _ _).loc Cert.Kernel17Ideal.main_arg3)) (m ((c.tc : Thread _ _).loc Cert.Kernel17Ideal.main_arg4)), fun c => Cert.Kernel17Ideal.Own.firsts (m ((c.tc : Thread _ _).loc Cert.Kernel17Ideal.main_arg1)) (m ((c.tc : Thread _ _).loc Cert.Kernel17Ideal.main_arg2)) (m ((c.tc : Thread _ _).loc Cert.Kernel17Ideal.main_arg3)), fun c => Cert.Kernel17Ideal.Own.seconds (m ((c.tc : Thread _ _).loc Cert.Kernel17Ideal.main_arg1)) (m ((c.tc : Thread _ _).loc Cert.Kernel17Ideal.main_arg2)) (m ((c.tc : Thread _ _).loc Cert.Kernel17Ideal.main_arg4)), ?_, ?_⟩
  · exact (θ_run Cert.Kernel17Ideal.defs _ _).mono (fun r hr c => ⟨(hr c).1.trans (Cert.Kernel17Ideal.Own.final5 m c), (hr c).2.1.trans (Cert.Kernel17Ideal.Own.final6 m c),
        (hr c).2.2.1.trans (Cert.Kernel17Ideal.Own.final7 m c), (hr c).2.2.2.1.trans (Cert.Kernel17Ideal.Own.final8 m c), (hr c).2.2.2.2⟩)
      (Cert.Kernel17Ideal.Value.run_blocks m g)
  · refine (θ_run Cert.Reference17Ideal.defs _ _).mono (fun r hr c => ⟨(hr c).1.trans ?_, (hr c).2.1.trans ?_, (hr c).2.2.1.trans ?_, (hr c).2.2.2.1.trans ?_, (hr c).2.2.2.2⟩)
      (Cert.Reference17Ideal.Value.run m' g')
    · rw [Cert.Reference17Ideal.Own.grad_eq, (h c).2.1, (h c).2.2.1]
    · rw [Cert.Reference17Ideal.Own.delta_eq, (h c).1, (h c).2.1, (h c).2.2.1, (h c).2.2.2.1, (h c).2.2.2.2]
    · rw [Cert.Reference17Ideal.Own.firsts_eq, (h c).2.1, (h c).2.2.1, (h c).2.2.2.1]
    · rw [Cert.Reference17Ideal.Own.seconds_eq, (h c).2.1, (h c).2.2.1, (h c).2.2.2.2]

end Cert.Proof

end
-- ==== Proof.Value18.lean ====
module

public import proofs.«01_k».proof.Proof.Gen.Kernel18Ideal.Value
public import proofs.«01_k».proof.Proof.Gen.Reference18Ideal.Run
public import proofs.«01_k».proof.Proof.Adam
public import Idealize.ShloMosaic.Lib.Pipeline.ValueKit
public import Idealize.ShloMosaic.Lib.Pipeline.ReadBack
public import Idealize.ShloMosaic.Lib.StableHlo.Run
public import Idealize.ShloMosaic.Lib.Pointwise

@[expose] public section

set_option maxRecDepth 16384

noncomputable section

open Idealize.ShloMosaic Idealize.ShloMosaic.TcCoe Idealize.SL.Sem
open scoped BigOperators

namespace Cert.Kernel18Ideal.Own

open Cert.Kernel18Ideal Cert.Kernel18Ideal.Gen Cert.Kernel18Ideal.Value

variable (m : (ℓ : Loc nD τ sig) → Buf (Elt Ideal) ℓ) (ρ : Dev nD → PrngReg)

/-- The rows of the gradient, from their two halves. -/
def grad (a b : Vec Ideal S2x128x1024 .f32) : Vec Ideal S2x256x1024 .f32 :=
  fun i => if (i 1).val < 128 then a (ix3 (i 0) (⟨(i 1).val % 128, Nat.mod_lt _ (by decide)⟩ : Fin 128) (i 2))
    else b (ix3 (i 0) (⟨(i 1).val % 128, Nat.mod_lt _ (by decide)⟩ : Fin 128) (i 2))

/-- The change of the weights. -/
def delta (w : Vec Ideal S2x256x1024 .f32) (a b : Vec Ideal S2x128x1024 .f32) (x y : Vec Ideal S2x256x1024 .f32) : Vec Ideal S2x256x1024 .f32 :=
  fun i => Adam.change (w i) (grad a b i) (x i) (y i)

/-- The new first moments. -/
def firsts (a b : Vec Ideal S2x128x1024 .f32) (x : Vec Ideal S2x256x1024 .f32) : Vec Ideal S2x256x1024 .f32 :=
  fun i => Adam.first (grad a b i) (x i)

/-- The new second moments. -/
def seconds (a b : Vec Ideal S2x128x1024 .f32) (y : Vec Ideal S2x256x1024 .f32) : Vec Ideal S2x256x1024 .f32 :=
  fun i => Adam.second (grad a b i) (y i)

/-- A block of the gradient, from the half that the grid point reads. -/
def gradB (i : grid0.Coords) (a b : Vec Ideal S1x128x1024 .f32) : Vec Ideal S1x128x1024 .f32 :=
  fun j => if (i 1).val = 0 then a j else b j

theorem pay4 (i : grid0.Coords) (a b : Vec Ideal S1x128x1024 .f32) (p : Fin 128) (q : Fin 1024) :
    k0_pay4 i a b (ix2 p q) = gradB i a b (ix3 (0 : Fin 1) p q) := by
  have hi : (i 1).val < 2 := (i 1).isLt
  unfold gradB
  by_cases h : (i 1).val = 0
  · rw [if_pos h]
    pointwise [k0_pay4, h]
    try rfl
  · have h1 : (i 1).val = 1 := by omega
    rw [if_neg h]
    pointwise [k0_pay4, h1]
    try rfl

theorem pay5 (i : grid0.Coords) (a b x : Vec Ideal S1x128x1024 .f32) (p : Fin 128) (q : Fin 1024) :
    k0_pay5 i a b x (ix2 p q) = Adam.first (gradB i a b (ix3 (0 : Fin 1) p q)) (x (ix3 (0 : Fin 1) p q)) := by
  pointwise [k0_pay5, pay4, Adam.first]

theorem pay6 (i : grid0.Coords) (a b y : Vec Ideal S1x128x1024 .f32) (p : Fin 128) (q : Fin 1024) :
    k0_pay6 i a b y (ix2 p q) = Adam.second (gradB i a b (ix3 (0 : Fin 1) p q)) (y (ix3 (0 : Fin 1) p q)) := by
  pointwise [k0_pay6, pay4, Adam.second]

theorem pay7 (i : grid0.Coords) (a b : Vec Ideal S1x128x1024 .f32) (j : S1x128x1024.Idx) :
    k0_pay7 i a b j = gradB i a b (ix3 (0 : Fin 1) (j 1) (j 2)) := by
  idx_vars j
  pointwise [k0_pay7, pay4]

theorem pay8 (i : grid0.Coords) (a b x y : Vec Ideal S1x128x1024 .f32) (p : Fin 128) (q : Fin 1024) :
    k0_pay8 i a b x y (ix2 p q) = Adam.ratio (gradB i a b (ix3 (0 : Fin 1) p q)) (x (ix3 (0 : Fin 1) p q)) (y (ix3 (0 : Fin 1) p q)) := by
  pointwise [k0_pay8, pay5, pay6, Adam.ratio]

theorem pay1 (i : grid0.Coords) (w a b x y : Vec Ideal S1x128x1024 .f32) (j : S1x128x1024.Idx) :
    k0_pay1 (k0_pay8 i a b x y) w j
      = Adam.change (w (ix3 (0 : Fin 1) (j 1) (j 2))) (gradB i a b (ix3 (0 : Fin 1) (j 1) (j 2))) (x (ix3 (0 : Fin 1) (j 1) (j 2))) (y (ix3 (0 : Fin 1) (j 1) (j 2))) := by
  idx_vars j
  pointwise [k0_pay1, pay8, Adam.change]

theorem pay2 (i : grid0.Coords) (a b x : Vec Ideal S1x128x1024 .f32) (j : S1x128x1024.Idx) :
    k0_pay2 (k0_pay5 i a b x) j = Adam.first (gradB i a b (ix3 (0 : Fin 1) (j 1) (j 2))) (x (ix3 (0 : Fin 1) (j 1) (j 2))) := by
  idx_vars j
  pointwise [k0_pay2, pay5]

theorem pay3 (i : grid0.Coords) (a b y : Vec Ideal S1x128x1024 .f32) (j : S1x128x1024.Idx) :
    k0_pay3 (k0_pay6 i a b y) j = Adam.second (gradB i a b (ix3 (0 : Fin 1) (j 1) (j 2))) (y (ix3 (0 : Fin 1) (j 1) (j 2))) := by
  idx_vars j
  pointwise [k0_pay3, pay6]

theorem half : ∀ t : Fin cfg0.N, ((grid0.coords t) 1).val = t.val / 1 % 2 := by decide +kernel
theorem index0 : ∀ t : Fin cfg0.N, win0_0.index t = ![t.val / 2, t.val % 2, 0] := by decide +kernel
theorem index3 : ∀ t : Fin cfg0.N, win0_3.index t = ![t.val / 2, t.val % 2, 0] := by decide +kernel
theorem index4 : ∀ t : Fin cfg0.N, win0_4.index t = ![t.val / 2, t.val % 2, 0] := by decide +kernel
theorem index5 : ∀ t : Fin cfg0.N, win0_5.index t = ![t.val / 2, t.val % 2, 0] := by decide +kernel
theorem index6 : ∀ t : Fin cfg0.N, win0_6.index t = ![t.val / 2, t.val % 2, 0] := by decide +kernel
theorem index7 : ∀ t : Fin cfg0.N, win0_7.index t = ![t.val / 2, t.val % 2, 0] := by decide +kernel
theorem index8 : ∀ t : Fin cfg0.N, win0_8.index t = ![t.val / 2, t.val % 2, 0] := by decide +kernel
theorem index1 : ∀ t : Fin cfg0.N, win0_1.index t = ![t.val / 2, if t.val / 1 % 2 = 0 then t.val % 1 else 0, 0] := by decide +kernel
theorem index2 : ∀ t : Fin cfg0.N, win0_2.index t = ![t.val / 2, if t.val / 1 % 2 = 0 then 0 else t.val % 1, 0] := by decide +kernel

theorem iblk0 (c : Dev nD) (t : Fin cfg0.N) (p : Fin 128) (q : Fin 1024) (h0 : t.val / 2 < 2) (h1 : t.val % 2 * 128 + p.val < 256) :
    iblk m c 0 t (ix3 (0 : Fin 1) p q) = m ((c : Thread nD τ).loc main_arg0) (ix3 (⟨t.val / 2, h0⟩ : Fin 2) (⟨t.val % 2 * 128 + p.val, h1⟩ : Fin 256) q) := by
  blk_simp [iblk]
  rw [V_main_arg0]
  blk_ext [index0]

theorem iblk3 (c : Dev nD) (t : Fin cfg0.N) (p : Fin 128) (q : Fin 1024) (h0 : t.val / 2 < 2) (h1 : t.val % 2 * 128 + p.val < 256) :
    iblk m c 3 t (ix3 (0 : Fin 1) p q) = m ((c : Thread nD τ).loc main_arg3) (ix3 (⟨t.val / 2, h0⟩ : Fin 2) (⟨t.val % 2 * 128 + p.val, h1⟩ : Fin 256) q) := by
  blk_simp [iblk]
  rw [V_main_arg3]
  blk_ext [index3]

theorem iblk4 (c : Dev nD) (t : Fin cfg0.N) (p : Fin 128) (q : Fin 1024) (h0 : t.val / 2 < 2) (h1 : t.val % 2 * 128 + p.val < 256) :
    iblk m c 4 t (ix3 (0 : Fin 1) p q) = m ((c : Thread nD τ).loc main_arg4) (ix3 (⟨t.val / 2, h0⟩ : Fin 2) (⟨t.val % 2 * 128 + p.val, h1⟩ : Fin 256) q) := by
  blk_simp [iblk]
  rw [V_main_arg4]
  blk_ext [index4]

theorem iblk1 (c : Dev nD) (t : Fin cfg0.N) (p : Fin 128) (q : Fin 1024) (h0 : t.val / 2 < 2) (h1 : t.val % 1 * 128 + p.val < 128)
    (h : t.val / 1 % 2 = 0) :
    iblk m c 1 t (ix3 (0 : Fin 1) p q) = m ((c : Thread nD τ).loc main_arg1) (ix3 (⟨t.val / 2, h0⟩ : Fin 2) (⟨t.val % 1 * 128 + p.val, h1⟩ : Fin 128) q) := by
  have e := index1 t
  rw [if_pos h] at e
  blk_simp [iblk]
  rw [V_main_arg1]
  blk_ext [e]

theorem iblk2 (c : Dev nD) (t : Fin cfg0.N) (p : Fin 128) (q : Fin 1024) (h0 : t.val / 2 < 2) (h1 : t.val % 1 * 128 + p.val < 128)
    (h : t.val / 1 % 2 ≠ 0) :
    iblk m c 2 t (ix3 (0 : Fin 1) p q) = m ((c : Thread nD τ).loc main_arg2) (ix3 (⟨t.val / 2, h0⟩ : Fin 2) (⟨t.val % 1 * 128 + p.val, h1⟩ : Fin 128) q) := by
  have e := index2 t
  rw [if_neg h] at e
  blk_simp [iblk]
  rw [V_main_arg2]
  blk_ext [e]

theorem grad_block (c : Dev nD) (t : Fin cfg0.N) (p : Fin 128) (q : Fin 1024) (h0 : t.val / 2 < 2) (h1 : t.val % 2 * 128 + p.val < 256) :
    gradB (grid0.coords t) (iblk m c 1 t) (iblk m c 2 t) (ix3 (0 : Fin 1) p q)
      = grad (m ((c : Thread nD τ).loc main_arg1)) (m ((c : Thread nD τ).loc main_arg2)) (ix3 (⟨t.val / 2, h0⟩ : Fin 2) (⟨t.val % 2 * 128 + p.val, h1⟩ : Fin 256) q) := by
  have hp : p.val < 128 := p.isLt
  have hm : t.val % 1 < 1 := Nat.mod_lt _ (by decide)
  have h2 : t.val % 1 * 128 + p.val < 128 := by omega
  have hd : t.val % 2 = t.val / 1 % 2 * 1 + t.val % 1 := by omega
  have e : (⟨(t.val % 2 * 128 + p.val) % 128, Nat.mod_lt _ (by decide)⟩ : Fin 128) = ⟨t.val % 1 * 128 + p.val, h2⟩ :=
    Fin.ext (show (t.val % 2 * 128 + p.val) % 128 = t.val % 1 * 128 + p.val by omega)
  unfold gradB grad
  rw [half t]
  by_cases h : t.val / 1 % 2 = 0
  · rw [if_pos h, iblk1 m c t p q h0 h2 h]
    refine Eq.trans ?_ (if_pos (show t.val % 2 * 128 + p.val < 128 by omega)).symm
    exact congrArg (fun k : Fin 128 => m ((c : Thread nD τ).loc main_arg1) (ix3 (⟨t.val / 2, h0⟩ : Fin 2) k q)) e.symm
  · rw [if_neg h, iblk2 m c t p q h0 h2 h]
    refine Eq.trans ?_ (if_neg (show ¬ t.val % 2 * 128 + p.val < 128 by omega)).symm
    exact congrArg (fun k : Fin 128 => m ((c : Thread nD τ).loc main_arg2) (ix3 (⟨t.val / 2, h0⟩ : Fin 2) k q)) e.symm

theorem final5 (c : Dev nD) : (dats m 0 c).arrAt 5 cfg0.N = grad (m ((c : Thread nD τ).loc main_arg1)) (m ((c : Thread nD τ).loc main_arg2)) := by
  refine (dats m 0 c).arrAt_eq_of_covers 5 _ (by decide +kernel) fun t hf y => ?_
  have hN : t.val < 4 := lt_of_lt_of_eq t.isLt N_0
  have b0 : (y 0).val < 1 := (y 0).isLt
  have b1 : (y 1).val < 128 := (y 1).isLt
  have h0 : t.val / 2 < 2 := by omega
  have h1 : t.val % 2 * 128 + (y 1).val < 256 := by omega
  have e : (win0_5.blk t).view.emb y = ix3 (⟨t.val / 2, h0⟩ : Fin 2) (⟨t.val % 2 * 128 + (y 1).val, h1⟩ : Fin 256) (y 2) := by
    blk_ext [index5]
  blk_simp
  rw [after0_5, e]
  frame_out
  refine (pay7 _ _ _ y).trans ?_
  exact grad_block m c t (y 1) (y 2) h0 h1

theorem final6 (c : Dev nD) : (dats m 0 c).arrAt 6 cfg0.N = delta (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have hN : t.val < 4 := lt_of_lt_of_eq t.isLt N_0
  have b0 : (y 0).val < 1 := (y 0).isLt
  have b1 : (y 1).val < 128 := (y 1).isLt
  have h0 : t.val / 2 < 2 := by omega
  have h1 : t.val % 2 * 128 + (y 1).val < 256 := by omega
  have e : (win0_6.blk t).view.emb y = ix3 (⟨t.val / 2, h0⟩ : Fin 2) (⟨t.val % 2 * 128 + (y 1).val, h1⟩ : Fin 256) (y 2) := by
    blk_ext [index6]
  blk_simp
  rw [after0_6, e]
  frame_out
  refine (pay1 _ _ _ _ _ _ y).trans ?_
  rw [grad_block m c t (y 1) (y 2) h0 h1, iblk0 m c t (y 1) (y 2) h0 h1, iblk3 m c t (y 1) (y 2) h0 h1, iblk4 m c t (y 1) (y 2) h0 h1]; rfl

theorem final7 (c : Dev nD) : (dats m 0 c).arrAt 7 cfg0.N = firsts (m ((c : Thread nD τ).loc main_arg1)) (m ((c : Thread nD τ).loc main_arg2)) (m ((c : Thread nD τ).loc main_arg3)) := by
  refine (dats m 0 c).arrAt_eq_of_covers 7 _ (by decide +kernel) fun t hf y => ?_
  have hN : t.val < 4 := lt_of_lt_of_eq t.isLt N_0
  have b0 : (y 0).val < 1 := (y 0).isLt
  have b1 : (y 1).val < 128 := (y 1).isLt
  have h0 : t.val / 2 < 2 := by omega
  have h1 : t.val % 2 * 128 + (y 1).val < 256 := by omega
  have e : (win0_7.blk t).view.emb y = ix3 (⟨t.val / 2, h0⟩ : Fin 2) (⟨t.val % 2 * 128 + (y 1).val, h1⟩ : Fin 256) (y 2) := by
    blk_ext [index7]
  blk_simp
  rw [after0_7, e]
  frame_out
  refine (pay2 _ _ _ _ y).trans ?_
  rw [grad_block m c t (y 1) (y 2) h0 h1, iblk3 m c t (y 1) (y 2) h0 h1]; rfl

theorem final8 (c : Dev nD) : (dats m 0 c).arrAt 8 cfg0.N = seconds (m ((c : Thread nD τ).loc main_arg1)) (m ((c : Thread nD τ).loc main_arg2)) (m ((c : Thread nD τ).loc main_arg4)) := by
  refine (dats m 0 c).arrAt_eq_of_covers 8 _ (by decide +kernel) fun t hf y => ?_
  have hN : t.val < 4 := lt_of_lt_of_eq t.isLt N_0
  have b0 : (y 0).val < 1 := (y 0).isLt
  have b1 : (y 1).val < 128 := (y 1).isLt
  have h0 : t.val / 2 < 2 := by omega
  have h1 : t.val % 2 * 128 + (y 1).val < 256 := by omega
  have e : (win0_8.blk t).view.emb y = ix3 (⟨t.val / 2, h0⟩ : Fin 2) (⟨t.val % 2 * 128 + (y 1).val, h1⟩ : Fin 256) (y 2) := by
    blk_ext [index8]
  blk_simp
  rw [after0_8, e]
  frame_out
  refine (pay3 _ _ _ _ y).trans ?_
  rw [grad_block m c t (y 1) (y 2) h0 h1, iblk4 m c t (y 1) (y 2) h0 h1]; rfl

end Cert.Kernel18Ideal.Own

namespace Cert.Reference18Ideal.Own

open Cert.Reference18Ideal Cert.Reference18Ideal.Gen

/-- The reference's result 0. -/
theorem grad_eq (a : FVec Ideal S2x128x1024 .f32) (b : FVec Ideal S2x128x1024 .f32) :
    concatenate S2x256x1024 1 [⟨S2x128x1024, a⟩, ⟨S2x128x1024, b⟩] concatenates_S2x128x1024_S2x128x1024_S2x256x1024_d1
      = Cert.Kernel18Ideal.Own.grad a b := by
  funext j
  idx_vars j
  have hb : j1.val < 256 := j1.isLt
  pointwise [Cert.Kernel18Ideal.Own.grad]
  by_cases h : j1.val < 128
  · rw [dif_pos (by omega), if_pos h]
    refine congrArg a (congrArg (fun r : Fin 128 => ix3 j0 r j2) (Fin.ext ?_))
    show j1.val = j1.val % 128
    omega
  · rw [dif_neg (by omega), if_neg h]
    refine congrArg b (congrArg (fun r : Fin 128 => ix3 j0 r j2) (Fin.ext ?_))
    show j1.val - 128 = j1.val % 128
    omega

/-- The reference's result 1. -/
theorem delta_eq (w : FVec Ideal S2x256x1024 .f32) (a : FVec Ideal S2x128x1024 .f32) (b : FVec Ideal S2x128x1024 .f32) (x : FVec Ideal S2x256x1024 .f32) (y : FVec Ideal S2x256x1024 .f32) :
    mulf (broadcastInDim S2x256x1024 ![] bcast_S_S2x256x1024 (constant S_ .f32 0xBA83126F#32)) (addf (Host.divf (Host.divf (addf (mulf (broadcastInDim S2x256x1024 ![] bcast_S_S2x256x1024 (constant S_ .f32 0x3F666666#32)) x) (mulf (broadcastInDim S2x256x1024 ![] bcast_S_S2x256x1024 (constant S_ .f32 0x3DCCCCCD#32)) (concatenate S2x256x1024 1 [⟨S2x128x1024, a⟩, ⟨S2x128x1024, b⟩] concatenates_S2x128x1024_S2x128x1024_S2x256x1024_d1))) (broadcastInDim S2x256x1024 ![] bcast_S_S2x256x1024 (constant S_ .f32 0x3F26BD02#32))) (addf (Host.sqrt (Host.divf (addf (mulf (broadcastInDim S2x256x1024 ![] bcast_S_S2x256x1024 (constant S_ .f32 0x3F7FBE77#32)) y) (mulf (broadcastInDim S2x256x1024 ![] bcast_S_S2x256x1024 (constant S_ .f32 0x3A83126F#32)) (mulf (concatenate S2x256x1024 1 [⟨S2x128x1024, a⟩, ⟨S2x128x1024, b⟩] concatenates_S2x128x1024_S2x128x1024_S2x256x1024_d1) (concatenate S2x256x1024 1 [⟨S2x128x1024, a⟩, ⟨S2x128x1024, b⟩] concatenates_S2x128x1024_S2x128x1024_S2x256x1024_d1)))) (broadcastInDim S2x256x1024 ![] bcast_S_S2x256x1024 (constant S_ .f32 0x3C231ACC#32)))) (broadcastInDim S2x256x1024 ![] bcast_S_S2x256x1024 (constant S_ .f32 0x322BCC77#32)))) (mulf (broadcastInDim S2x256x1024 ![] bcast_S_S2x256x1024 (constant S_ .f32 0x3C23D70A#32)) w))
      = Cert.Kernel18Ideal.Own.delta w a b x y := by
  rw [grad_eq]
  funext j
  idx_vars j
  pointwise [Cert.Kernel18Ideal.Own.delta, Adam.change, Adam.ratio, Adam.first, Adam.second]

/-- The reference's result 2. -/
theorem firsts_eq (a : FVec Ideal S2x128x1024 .f32) (b : FVec Ideal S2x128x1024 .f32) (x : FVec Ideal S2x256x1024 .f32) :
    addf (mulf (broadcastInDim S2x256x1024 ![] bcast_S_S2x256x1024 (constant S_ .f32 0x3F666666#32)) x) (mulf (broadcastInDim S2x256x1024 ![] bcast_S_S2x256x1024 (constant S_ .f32 0x3DCCCCCD#32)) (concatenate S2x256x1024 1 [⟨S2x128x1024, a⟩, ⟨S2x128x1024, b⟩] concatenates_S2x128x1024_S2x128x1024_S2x256x1024_d1))
      = Cert.Kernel18Ideal.Own.firsts a b x := by
  rw [grad_eq]
  funext j
  idx_vars j
  pointwise [Cert.Kernel18Ideal.Own.firsts, Adam.change, Adam.ratio, Adam.first, Adam.second]

/-- The reference's result 3. -/
theorem seconds_eq (a : FVec Ideal S2x128x1024 .f32) (b : FVec Ideal S2x128x1024 .f32) (y : FVec Ideal S2x256x1024 .f32) :
    addf (mulf (broadcastInDim S2x256x1024 ![] bcast_S_S2x256x1024 (constant S_ .f32 0x3F7FBE77#32)) y) (mulf (broadcastInDim S2x256x1024 ![] bcast_S_S2x256x1024 (constant S_ .f32 0x3A83126F#32)) (mulf (concatenate S2x256x1024 1 [⟨S2x128x1024, a⟩, ⟨S2x128x1024, b⟩] concatenates_S2x128x1024_S2x128x1024_S2x256x1024_d1) (concatenate S2x256x1024 1 [⟨S2x128x1024, a⟩, ⟨S2x128x1024, b⟩] concatenates_S2x128x1024_S2x128x1024_S2x256x1024_d1)))
      = Cert.Kernel18Ideal.Own.seconds a b y := by
  rw [grad_eq]
  funext j
  idx_vars j
  pointwise [Cert.Kernel18Ideal.Own.seconds, Adam.change, Adam.ratio, Adam.first, Adam.second]

end Cert.Reference18Ideal.Own

namespace Cert.Proof

/-- The joined update of the attention layer's output weights is the AdamW step of the gradient that the two halves make. -/
theorem value18 (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg)
    (h : ∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) :
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_v24) = v1 c
          ∧ r.2.mem ((c.tc : Thread Cert.Reference18Ideal.nD Cert.Reference18Ideal.τ).loc Cert.Reference18Ideal.main_v5) = v2 c
          ∧ r.2.mem ((c.tc : Thread Cert.Reference18Ideal.nD Cert.Reference18Ideal.τ).loc Cert.Reference18Ideal.main_v11) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)) := by
  refine ⟨fun c => Cert.Kernel18Ideal.Own.grad (m ((c.tc : Thread _ _).loc Cert.Kernel18Ideal.main_arg1)) (m ((c.tc : Thread _ _).loc Cert.Kernel18Ideal.main_arg2)), fun c => Cert.Kernel18Ideal.Own.delta (m ((c.tc : Thread _ _).loc Cert.Kernel18Ideal.main_arg0)) (m ((c.tc : Thread _ _).loc Cert.Kernel18Ideal.main_arg1)) (m ((c.tc : Thread _ _).loc Cert.Kernel18Ideal.main_arg2)) (m ((c.tc : Thread _ _).loc Cert.Kernel18Ideal.main_arg3)) (m ((c.tc : Thread _ _).loc Cert.Kernel18Ideal.main_arg4)), fun c => Cert.Kernel18Ideal.Own.firsts (m ((c.tc : Thread _ _).loc Cert.Kernel18Ideal.main_arg1)) (m ((c.tc : Thread _ _).loc Cert.Kernel18Ideal.main_arg2)) (m ((c.tc : Thread _ _).loc Cert.Kernel18Ideal.main_arg3)), fun c => Cert.Kernel18Ideal.Own.seconds (m ((c.tc : Thread _ _).loc Cert.Kernel18Ideal.main_arg1)) (m ((c.tc : Thread _ _).loc Cert.Kernel18Ideal.main_arg2)) (m ((c.tc : Thread _ _).loc Cert.Kernel18Ideal.main_arg4)), ?_, ?_⟩
  · exact (θ_run Cert.Kernel18Ideal.defs _ _).mono (fun r hr c => ⟨(hr c).1.trans (Cert.Kernel18Ideal.Own.final5 m c), (hr c).2.1.trans (Cert.Kernel18Ideal.Own.final6 m c),
        (hr c).2.2.1.trans (Cert.Kernel18Ideal.Own.final7 m c), (hr c).2.2.2.1.trans (Cert.Kernel18Ideal.Own.final8 m c), (hr c).2.2.2.2⟩)
      (Cert.Kernel18Ideal.Value.run_blocks m g)
  · refine (θ_run Cert.Reference18Ideal.defs _ _).mono (fun r hr c => ⟨(hr c).1.trans ?_, (hr c).2.1.trans ?_, (hr c).2.2.1.trans ?_, (hr c).2.2.2.1.trans ?_, (hr c).2.2.2.2⟩)
      (Cert.Reference18Ideal.Value.run m' g')
    · rw [Cert.Reference18Ideal.Own.grad_eq, (h c).2.1, (h c).2.2.1]
    · rw [Cert.Reference18Ideal.Own.delta_eq, (h c).1, (h c).2.1, (h c).2.2.1, (h c).2.2.2.1, (h c).2.2.2.2]
    · rw [Cert.Reference18Ideal.Own.firsts_eq, (h c).2.1, (h c).2.2.1, (h c).2.2.2.1]
    · rw [Cert.Reference18Ideal.Own.seconds_eq, (h c).2.1, (h c).2.2.1, (h c).2.2.2.2]

end Cert.Proof

end
-- ==== Proof.Value19.lean ====
module

public import proofs.«01_k».proof.Proof.Gen.Kernel19Ideal.Value
public import proofs.«01_k».proof.Proof.Gen.Reference19Ideal.Run
public import proofs.«01_k».proof.Proof.Adam
public import Idealize.ShloMosaic.Lib.Pipeline.ValueKit
public import Idealize.ShloMosaic.Lib.Pipeline.ReadBack
public import Idealize.ShloMosaic.Lib.StableHlo.Run
public import Idealize.ShloMosaic.Lib.Pointwise

@[expose] public section

set_option maxRecDepth 16384

noncomputable section

open Idealize.ShloMosaic Idealize.ShloMosaic.TcCoe Idealize.SL.Sem
open scoped BigOperators

namespace Cert.Kernel19Ideal.Own

open Cert.Kernel19Ideal Cert.Kernel19Ideal.Gen Cert.Kernel19Ideal.Value

variable (m : (ℓ : Loc nD τ sig) → Buf (Elt Ideal) ℓ) (ρ : Dev nD → PrngReg)

/-- The rows of the gradient, from their two halves. -/
def grad (a b : Vec Ideal S2x512x512 .f32) : Vec Ideal S2x1024x512 .f32 :=
  fun i => if (i 1).val < 512 then a (ix3 (i 0) (⟨(i 1).val % 512, Nat.mod_lt _ (by decide)⟩ : Fin 512) (i 2))
    else b (ix3 (i 0) (⟨(i 1).val % 512, Nat.mod_lt _ (by decide)⟩ : Fin 512) (i 2))

/-- The change of the weights. -/
def delta (w : Vec Ideal S2x1024x512 .f32) (a b : Vec Ideal S2x512x512 .f32) (x y : Vec Ideal S2x1024x512 .f32) : Vec Ideal S2x1024x512 .f32 :=
  fun i => Adam.change (w i) (grad a b i) (x i) (y i)

/-- The new first moments. -/
def firsts (a b : Vec Ideal S2x512x512 .f32) (x : Vec Ideal S2x1024x512 .f32) : Vec Ideal S2x1024x512 .f32 :=
  fun i => Adam.first (grad a b i) (x i)

/-- The new second moments. -/
def seconds (a b : Vec Ideal S2x512x512 .f32) (y : Vec Ideal S2x1024x512 .f32) : Vec Ideal S2x1024x512 .f32 :=
  fun i => Adam.second (grad a b i) (y i)

/-- A block of the gradient, from the half that the grid point reads. -/
def gradB (i : grid0.Coords) (a b : Vec Ideal S1x512x512 .f32) : Vec Ideal S1x512x512 .f32 :=
  fun j => if (i 1).val = 0 then a j else b j

theorem pay4 (i : grid0.Coords) (a b : Vec Ideal S1x512x512 .f32) (p : Fin 512) (q : Fin 512) :
    k0_pay4 i a b (ix2 p q) = gradB i a b (ix3 (0 : Fin 1) p q) := by
  have hi : (i 1).val < 2 := (i 1).isLt
  unfold gradB
  by_cases h : (i 1).val = 0
  · rw [if_pos h]
    pointwise [k0_pay4, h]
    try rfl
  · have h1 : (i 1).val = 1 := by omega
    rw [if_neg h]
    pointwise [k0_pay4, h1]
    try rfl

theorem pay5 (i : grid0.Coords) (a b x : Vec Ideal S1x512x512 .f32) (p : Fin 512) (q : Fin 512) :
    k0_pay5 i a b x (ix2 p q) = Adam.first (gradB i a b (ix3 (0 : Fin 1) p q)) (x (ix3 (0 : Fin 1) p q)) := by
  pointwise [k0_pay5, pay4, Adam.first]

theorem pay6 (i : grid0.Coords) (a b y : Vec Ideal S1x512x512 .f32) (p : Fin 512) (q : Fin 512) :
    k0_pay6 i a b y (ix2 p q) = Adam.second (gradB i a b (ix3 (0 : Fin 1) p q)) (y (ix3 (0 : Fin 1) p q)) := by
  pointwise [k0_pay6, pay4, Adam.second]

theorem pay7 (i : grid0.Coords) (a b : Vec Ideal S1x512x512 .f32) (j : S1x512x512.Idx) :
    k0_pay7 i a b j = gradB i a b (ix3 (0 : Fin 1) (j 1) (j 2)) := by
  idx_vars j
  pointwise [k0_pay7, pay4]

theorem pay8 (i : grid0.Coords) (a b x y : Vec Ideal S1x512x512 .f32) (p : Fin 512) (q : Fin 512) :
    k0_pay8 i a b x y (ix2 p q) = Adam.ratio (gradB i a b (ix3 (0 : Fin 1) p q)) (x (ix3 (0 : Fin 1) p q)) (y (ix3 (0 : Fin 1) p q)) := by
  pointwise [k0_pay8, pay5, pay6, Adam.ratio]

theorem pay1 (i : grid0.Coords) (w a b x y : Vec Ideal S1x512x512 .f32) (j : S1x512x512.Idx) :
    k0_pay1 (k0_pay8 i a b x y) w j
      = Adam.change (w (ix3 (0 : Fin 1) (j 1) (j 2))) (gradB i a b (ix3 (0 : Fin 1) (j 1) (j 2))) (x (ix3 (0 : Fin 1) (j 1) (j 2))) (y (ix3 (0 : Fin 1) (j 1) (j 2))) := by
  idx_vars j
  pointwise [k0_pay1, pay8, Adam.change]

theorem pay2 (i : grid0.Coords) (a b x : Vec Ideal S1x512x512 .f32) (j : S1x512x512.Idx) :
    k0_pay2 (k0_pay5 i a b x) j = Adam.first (gradB i a b (ix3 (0 : Fin 1) (j 1) (j 2))) (x (ix3 (0 : Fin 1) (j 1) (j 2))) := by
  idx_vars j
  pointwise [k0_pay2, pay5]

theorem pay3 (i : grid0.Coords) (a b y : Vec Ideal S1x512x512 .f32) (j : S1x512x512.Idx) :
    k0_pay3 (k0_pay6 i a b y) j = Adam.second (gradB i a b (ix3 (0 : Fin 1) (j 1) (j 2))) (y (ix3 (0 : Fin 1) (j 1) (j 2))) := by
  idx_vars j
  pointwise [k0_pay3, pay6]

theorem half : ∀ t : Fin cfg0.N, ((grid0.coords t) 1).val = t.val / 1 % 2 := by decide +kernel
theorem index0 : ∀ t : Fin cfg0.N, win0_0.index t = ![t.val / 2, t.val % 2, 0] := by decide +kernel
theorem index3 : ∀ t : Fin cfg0.N, win0_3.index t = ![t.val / 2, t.val % 2, 0] := by decide +kernel
theorem index4 : ∀ t : Fin cfg0.N, win0_4.index t = ![t.val / 2, t.val % 2, 0] := by decide +kernel
theorem index5 : ∀ t : Fin cfg0.N, win0_5.index t = ![t.val / 2, t.val % 2, 0] := by decide +kernel
theorem index6 : ∀ t : Fin cfg0.N, win0_6.index t = ![t.val / 2, t.val % 2, 0] := by decide +kernel
theorem index7 : ∀ t : Fin cfg0.N, win0_7.index t = ![t.val / 2, t.val % 2, 0] := by decide +kernel
theorem index8 : ∀ t : Fin cfg0.N, win0_8.index t = ![t.val / 2, t.val % 2, 0] := by decide +kernel
theorem index1 : ∀ t : Fin cfg0.N, win0_1.index t = ![t.val / 2, if t.val / 1 % 2 = 0 then t.val % 1 else 0, 0] := by decide +kernel
theorem index2 : ∀ t : Fin cfg0.N, win0_2.index t = ![t.val / 2, if t.val / 1 % 2 = 0 then 0 else t.val % 1, 0] := by decide +kernel

theorem iblk0 (c : Dev nD) (t : Fin cfg0.N) (p : Fin 512) (q : Fin 512) (h0 : t.val / 2 < 2) (h1 : t.val % 2 * 512 + p.val < 1024) :
    iblk m c 0 t (ix3 (0 : Fin 1) p q) = m ((c : Thread nD τ).loc main_arg0) (ix3 (⟨t.val / 2, h0⟩ : Fin 2) (⟨t.val % 2 * 512 + p.val, h1⟩ : Fin 1024) q) := by
  blk_simp [iblk]
  rw [V_main_arg0]
  blk_ext [index0]

theorem iblk3 (c : Dev nD) (t : Fin cfg0.N) (p : Fin 512) (q : Fin 512) (h0 : t.val / 2 < 2) (h1 : t.val % 2 * 512 + p.val < 1024) :
    iblk m c 3 t (ix3 (0 : Fin 1) p q) = m ((c : Thread nD τ).loc main_arg3) (ix3 (⟨t.val / 2, h0⟩ : Fin 2) (⟨t.val % 2 * 512 + p.val, h1⟩ : Fin 1024) q) := by
  blk_simp [iblk]
  rw [V_main_arg3]
  blk_ext [index3]

theorem iblk4 (c : Dev nD) (t : Fin cfg0.N) (p : Fin 512) (q : Fin 512) (h0 : t.val / 2 < 2) (h1 : t.val % 2 * 512 + p.val < 1024) :
    iblk m c 4 t (ix3 (0 : Fin 1) p q) = m ((c : Thread nD τ).loc main_arg4) (ix3 (⟨t.val / 2, h0⟩ : Fin 2) (⟨t.val % 2 * 512 + p.val, h1⟩ : Fin 1024) q) := by
  blk_simp [iblk]
  rw [V_main_arg4]
  blk_ext [index4]

theorem iblk1 (c : Dev nD) (t : Fin cfg0.N) (p : Fin 512) (q : Fin 512) (h0 : t.val / 2 < 2) (h1 : t.val % 1 * 512 + p.val < 512)
    (h : t.val / 1 % 2 = 0) :
    iblk m c 1 t (ix3 (0 : Fin 1) p q) = m ((c : Thread nD τ).loc main_arg1) (ix3 (⟨t.val / 2, h0⟩ : Fin 2) (⟨t.val % 1 * 512 + p.val, h1⟩ : Fin 512) q) := by
  have e := index1 t
  rw [if_pos h] at e
  blk_simp [iblk]
  rw [V_main_arg1]
  blk_ext [e]

theorem iblk2 (c : Dev nD) (t : Fin cfg0.N) (p : Fin 512) (q : Fin 512) (h0 : t.val / 2 < 2) (h1 : t.val % 1 * 512 + p.val < 512)
    (h : t.val / 1 % 2 ≠ 0) :
    iblk m c 2 t (ix3 (0 : Fin 1) p q) = m ((c : Thread nD τ).loc main_arg2) (ix3 (⟨t.val / 2, h0⟩ : Fin 2) (⟨t.val % 1 * 512 + p.val, h1⟩ : Fin 512) q) := by
  have e := index2 t
  rw [if_neg h] at e
  blk_simp [iblk]
  rw [V_main_arg2]
  blk_ext [e]

theorem grad_block (c : Dev nD) (t : Fin cfg0.N) (p : Fin 512) (q : Fin 512) (h0 : t.val / 2 < 2) (h1 : t.val % 2 * 512 + p.val < 1024) :
    gradB (grid0.coords t) (iblk m c 1 t) (iblk m c 2 t) (ix3 (0 : Fin 1) p q)
      = grad (m ((c : Thread nD τ).loc main_arg1)) (m ((c : Thread nD τ).loc main_arg2)) (ix3 (⟨t.val / 2, h0⟩ : Fin 2) (⟨t.val % 2 * 512 + p.val, h1⟩ : Fin 1024) q) := by
  have hp : p.val < 512 := p.isLt
  have hm : t.val % 1 < 1 := Nat.mod_lt _ (by decide)
  have h2 : t.val % 1 * 512 + p.val < 512 := by omega
  have hd : t.val % 2 = t.val / 1 % 2 * 1 + t.val % 1 := by omega
  have e : (⟨(t.val % 2 * 512 + p.val) % 512, Nat.mod_lt _ (by decide)⟩ : Fin 512) = ⟨t.val % 1 * 512 + p.val, h2⟩ :=
    Fin.ext (show (t.val % 2 * 512 + p.val) % 512 = t.val % 1 * 512 + p.val by omega)
  unfold gradB grad
  rw [half t]
  by_cases h : t.val / 1 % 2 = 0
  · rw [if_pos h, iblk1 m c t p q h0 h2 h]
    refine Eq.trans ?_ (if_pos (show t.val % 2 * 512 + p.val < 512 by omega)).symm
    exact congrArg (fun k : Fin 512 => m ((c : Thread nD τ).loc main_arg1) (ix3 (⟨t.val / 2, h0⟩ : Fin 2) k q)) e.symm
  · rw [if_neg h, iblk2 m c t p q h0 h2 h]
    refine Eq.trans ?_ (if_neg (show ¬ t.val % 2 * 512 + p.val < 512 by omega)).symm
    exact congrArg (fun k : Fin 512 => m ((c : Thread nD τ).loc main_arg2) (ix3 (⟨t.val / 2, h0⟩ : Fin 2) k q)) e.symm

theorem final5 (c : Dev nD) : (dats m 0 c).arrAt 5 cfg0.N = grad (m ((c : Thread nD τ).loc main_arg1)) (m ((c : Thread nD τ).loc main_arg2)) := by
  refine (dats m 0 c).arrAt_eq_of_covers 5 _ (by decide +kernel) fun t hf y => ?_
  have hN : t.val < 4 := lt_of_lt_of_eq t.isLt N_0
  have b0 : (y 0).val < 1 := (y 0).isLt
  have b1 : (y 1).val < 512 := (y 1).isLt
  have h0 : t.val / 2 < 2 := by omega
  have h1 : t.val % 2 * 512 + (y 1).val < 1024 := by omega
  have e : (win0_5.blk t).view.emb y = ix3 (⟨t.val / 2, h0⟩ : Fin 2) (⟨t.val % 2 * 512 + (y 1).val, h1⟩ : Fin 1024) (y 2) := by
    blk_ext [index5]
  blk_simp
  rw [after0_5, e]
  frame_out
  refine (pay7 _ _ _ y).trans ?_
  exact grad_block m c t (y 1) (y 2) h0 h1

theorem final6 (c : Dev nD) : (dats m 0 c).arrAt 6 cfg0.N = delta (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have hN : t.val < 4 := lt_of_lt_of_eq t.isLt N_0
  have b0 : (y 0).val < 1 := (y 0).isLt
  have b1 : (y 1).val < 512 := (y 1).isLt
  have h0 : t.val / 2 < 2 := by omega
  have h1 : t.val % 2 * 512 + (y 1).val < 1024 := by omega
  have e : (win0_6.blk t).view.emb y = ix3 (⟨t.val / 2, h0⟩ : Fin 2) (⟨t.val % 2 * 512 + (y 1).val, h1⟩ : Fin 1024) (y 2) := by
    blk_ext [index6]
  blk_simp
  rw [after0_6, e]
  frame_out
  refine (pay1 _ _ _ _ _ _ y).trans ?_
  rw [grad_block m c t (y 1) (y 2) h0 h1, iblk0 m c t (y 1) (y 2) h0 h1, iblk3 m c t (y 1) (y 2) h0 h1, iblk4 m c t (y 1) (y 2) h0 h1]; rfl

theorem final7 (c : Dev nD) : (dats m 0 c).arrAt 7 cfg0.N = firsts (m ((c : Thread nD τ).loc main_arg1)) (m ((c : Thread nD τ).loc main_arg2)) (m ((c : Thread nD τ).loc main_arg3)) := by
  refine (dats m 0 c).arrAt_eq_of_covers 7 _ (by decide +kernel) fun t hf y => ?_
  have hN : t.val < 4 := lt_of_lt_of_eq t.isLt N_0
  have b0 : (y 0).val < 1 := (y 0).isLt
  have b1 : (y 1).val < 512 := (y 1).isLt
  have h0 : t.val / 2 < 2 := by omega
  have h1 : t.val % 2 * 512 + (y 1).val < 1024 := by omega
  have e : (win0_7.blk t).view.emb y = ix3 (⟨t.val / 2, h0⟩ : Fin 2) (⟨t.val % 2 * 512 + (y 1).val, h1⟩ : Fin 1024) (y 2) := by
    blk_ext [index7]
  blk_simp
  rw [after0_7, e]
  frame_out
  refine (pay2 _ _ _ _ y).trans ?_
  rw [grad_block m c t (y 1) (y 2) h0 h1, iblk3 m c t (y 1) (y 2) h0 h1]; rfl

theorem final8 (c : Dev nD) : (dats m 0 c).arrAt 8 cfg0.N = seconds (m ((c : Thread nD τ).loc main_arg1)) (m ((c : Thread nD τ).loc main_arg2)) (m ((c : Thread nD τ).loc main_arg4)) := by
  refine (dats m 0 c).arrAt_eq_of_covers 8 _ (by decide +kernel) fun t hf y => ?_
  have hN : t.val < 4 := lt_of_lt_of_eq t.isLt N_0
  have b0 : (y 0).val < 1 := (y 0).isLt
  have b1 : (y 1).val < 512 := (y 1).isLt
  have h0 : t.val / 2 < 2 := by omega
  have h1 : t.val % 2 * 512 + (y 1).val < 1024 := by omega
  have e : (win0_8.blk t).view.emb y = ix3 (⟨t.val / 2, h0⟩ : Fin 2) (⟨t.val % 2 * 512 + (y 1).val, h1⟩ : Fin 1024) (y 2) := by
    blk_ext [index8]
  blk_simp
  rw [after0_8, e]
  frame_out
  refine (pay3 _ _ _ _ y).trans ?_
  rw [grad_block m c t (y 1) (y 2) h0 h1, iblk4 m c t (y 1) (y 2) h0 h1]; rfl

end Cert.Kernel19Ideal.Own

namespace Cert.Reference19Ideal.Own

open Cert.Reference19Ideal Cert.Reference19Ideal.Gen

/-- The reference's result 0. -/
theorem grad_eq (a : FVec Ideal S2x512x512 .f32) (b : FVec Ideal S2x512x512 .f32) :
    concatenate S2x1024x512 1 [⟨S2x512x512, a⟩, ⟨S2x512x512, b⟩] concatenates_S2x512x512_S2x512x512_S2x1024x512_d1
      = Cert.Kernel19Ideal.Own.grad a b := by
  funext j
  idx_vars j
  have hb : j1.val < 1024 := j1.isLt
  pointwise [Cert.Kernel19Ideal.Own.grad]
  by_cases h : j1.val < 512
  · rw [dif_pos (by omega), if_pos h]
    refine congrArg a (congrArg (fun r : Fin 512 => ix3 j0 r j2) (Fin.ext ?_))
    show j1.val = j1.val % 512
    omega
  · rw [dif_neg (by omega), if_neg h]
    refine congrArg b (congrArg (fun r : Fin 512 => ix3 j0 r j2) (Fin.ext ?_))
    show j1.val - 512 = j1.val % 512
    omega

/-- The reference's result 1. -/
theorem delta_eq (w : FVec Ideal S2x1024x512 .f32) (a : FVec Ideal S2x512x512 .f32) (b : FVec Ideal S2x512x512 .f32) (x : FVec Ideal S2x1024x512 .f32) (y : FVec Ideal S2x1024x512 .f32) :
    mulf (broadcastInDim S2x1024x512 ![] bcast_S_S2x1024x512 (constant S_ .f32 0xBA83126F#32)) (addf (Host.divf (Host.divf (addf (mulf (broadcastInDim S2x1024x512 ![] bcast_S_S2x1024x512 (constant S_ .f32 0x3F666666#32)) x) (mulf (broadcastInDim S2x1024x512 ![] bcast_S_S2x1024x512 (constant S_ .f32 0x3DCCCCCD#32)) (concatenate S2x1024x512 1 [⟨S2x512x512, a⟩, ⟨S2x512x512, b⟩] concatenates_S2x512x512_S2x512x512_S2x1024x512_d1))) (broadcastInDim S2x1024x512 ![] bcast_S_S2x1024x512 (constant S_ .f32 0x3F26BD02#32))) (addf (Host.sqrt (Host.divf (addf (mulf (broadcastInDim S2x1024x512 ![] bcast_S_S2x1024x512 (constant S_ .f32 0x3F7FBE77#32)) y) (mulf (broadcastInDim S2x1024x512 ![] bcast_S_S2x1024x512 (constant S_ .f32 0x3A83126F#32)) (mulf (concatenate S2x1024x512 1 [⟨S2x512x512, a⟩, ⟨S2x512x512, b⟩] concatenates_S2x512x512_S2x512x512_S2x1024x512_d1) (concatenate S2x1024x512 1 [⟨S2x512x512, a⟩, ⟨S2x512x512, b⟩] concatenates_S2x512x512_S2x512x512_S2x1024x512_d1)))) (broadcastInDim S2x1024x512 ![] bcast_S_S2x1024x512 (constant S_ .f32 0x3C231ACC#32)))) (broadcastInDim S2x1024x512 ![] bcast_S_S2x1024x512 (constant S_ .f32 0x322BCC77#32)))) (mulf (broadcastInDim S2x1024x512 ![] bcast_S_S2x1024x512 (constant S_ .f32 0x3C23D70A#32)) w))
      = Cert.Kernel19Ideal.Own.delta w a b x y := by
  rw [grad_eq]
  funext j
  idx_vars j
  pointwise [Cert.Kernel19Ideal.Own.delta, Adam.change, Adam.ratio, Adam.first, Adam.second]

/-- The reference's result 2. -/
theorem firsts_eq (a : FVec Ideal S2x512x512 .f32) (b : FVec Ideal S2x512x512 .f32) (x : FVec Ideal S2x1024x512 .f32) :
    addf (mulf (broadcastInDim S2x1024x512 ![] bcast_S_S2x1024x512 (constant S_ .f32 0x3F666666#32)) x) (mulf (broadcastInDim S2x1024x512 ![] bcast_S_S2x1024x512 (constant S_ .f32 0x3DCCCCCD#32)) (concatenate S2x1024x512 1 [⟨S2x512x512, a⟩, ⟨S2x512x512, b⟩] concatenates_S2x512x512_S2x512x512_S2x1024x512_d1))
      = Cert.Kernel19Ideal.Own.firsts a b x := by
  rw [grad_eq]
  funext j
  idx_vars j
  pointwise [Cert.Kernel19Ideal.Own.firsts, Adam.change, Adam.ratio, Adam.first, Adam.second]

/-- The reference's result 3. -/
theorem seconds_eq (a : FVec Ideal S2x512x512 .f32) (b : FVec Ideal S2x512x512 .f32) (y : FVec Ideal S2x1024x512 .f32) :
    addf (mulf (broadcastInDim S2x1024x512 ![] bcast_S_S2x1024x512 (constant S_ .f32 0x3F7FBE77#32)) y) (mulf (broadcastInDim S2x1024x512 ![] bcast_S_S2x1024x512 (constant S_ .f32 0x3A83126F#32)) (mulf (concatenate S2x1024x512 1 [⟨S2x512x512, a⟩, ⟨S2x512x512, b⟩] concatenates_S2x512x512_S2x512x512_S2x1024x512_d1) (concatenate S2x1024x512 1 [⟨S2x512x512, a⟩, ⟨S2x512x512, b⟩] concatenates_S2x512x512_S2x512x512_S2x1024x512_d1)))
      = Cert.Kernel19Ideal.Own.seconds a b y := by
  rw [grad_eq]
  funext j
  idx_vars j
  pointwise [Cert.Kernel19Ideal.Own.seconds, Adam.change, Adam.ratio, Adam.first, Adam.second]

end Cert.Reference19Ideal.Own

namespace Cert.Proof

/-- The joined update of the state-space layer's output weights is the AdamW step of the gradient that the two halves make. -/
theorem value19 (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg)
    (h : ∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) :
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_v24) = v1 c
          ∧ r.2.mem ((c.tc : Thread Cert.Reference19Ideal.nD Cert.Reference19Ideal.τ).loc Cert.Reference19Ideal.main_v5) = v2 c
          ∧ r.2.mem ((c.tc : Thread Cert.Reference19Ideal.nD Cert.Reference19Ideal.τ).loc Cert.Reference19Ideal.main_v11) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)) := by
  refine ⟨fun c => Cert.Kernel19Ideal.Own.grad (m ((c.tc : Thread _ _).loc Cert.Kernel19Ideal.main_arg1)) (m ((c.tc : Thread _ _).loc Cert.Kernel19Ideal.main_arg2)), fun c => Cert.Kernel19Ideal.Own.delta (m ((c.tc : Thread _ _).loc Cert.Kernel19Ideal.main_arg0)) (m ((c.tc : Thread _ _).loc Cert.Kernel19Ideal.main_arg1)) (m ((c.tc : Thread _ _).loc Cert.Kernel19Ideal.main_arg2)) (m ((c.tc : Thread _ _).loc Cert.Kernel19Ideal.main_arg3)) (m ((c.tc : Thread _ _).loc Cert.Kernel19Ideal.main_arg4)), fun c => Cert.Kernel19Ideal.Own.firsts (m ((c.tc : Thread _ _).loc Cert.Kernel19Ideal.main_arg1)) (m ((c.tc : Thread _ _).loc Cert.Kernel19Ideal.main_arg2)) (m ((c.tc : Thread _ _).loc Cert.Kernel19Ideal.main_arg3)), fun c => Cert.Kernel19Ideal.Own.seconds (m ((c.tc : Thread _ _).loc Cert.Kernel19Ideal.main_arg1)) (m ((c.tc : Thread _ _).loc Cert.Kernel19Ideal.main_arg2)) (m ((c.tc : Thread _ _).loc Cert.Kernel19Ideal.main_arg4)), ?_, ?_⟩
  · exact (θ_run Cert.Kernel19Ideal.defs _ _).mono (fun r hr c => ⟨(hr c).1.trans (Cert.Kernel19Ideal.Own.final5 m c), (hr c).2.1.trans (Cert.Kernel19Ideal.Own.final6 m c),
        (hr c).2.2.1.trans (Cert.Kernel19Ideal.Own.final7 m c), (hr c).2.2.2.1.trans (Cert.Kernel19Ideal.Own.final8 m c), (hr c).2.2.2.2⟩)
      (Cert.Kernel19Ideal.Value.run_blocks m g)
  · refine (θ_run Cert.Reference19Ideal.defs _ _).mono (fun r hr c => ⟨(hr c).1.trans ?_, (hr c).2.1.trans ?_, (hr c).2.2.1.trans ?_, (hr c).2.2.2.1.trans ?_, (hr c).2.2.2.2⟩)
      (Cert.Reference19Ideal.Value.run m' g')
    · rw [Cert.Reference19Ideal.Own.grad_eq, (h c).2.1, (h c).2.2.1]
    · rw [Cert.Reference19Ideal.Own.delta_eq, (h c).1, (h c).2.1, (h c).2.2.1, (h c).2.2.2.1, (h c).2.2.2.2]
    · rw [Cert.Reference19Ideal.Own.firsts_eq, (h c).2.1, (h c).2.2.1, (h c).2.2.2.1]
    · rw [Cert.Reference19Ideal.Own.seconds_eq, (h c).2.1, (h c).2.2.1, (h c).2.2.2.2]

end Cert.Proof

end
-- ==== Proof.Value20.lean ====
module

public import proofs.«01_k».proof.Proof.Gen.Kernel20Ideal.Value
public import proofs.«01_k».proof.Proof.Gen.Reference20Ideal.Run
public import proofs.«01_k».proof.Proof.Adam
public import Idealize.ShloMosaic.Lib.Pipeline.ValueKit
public import Idealize.ShloMosaic.Lib.Pipeline.ReadBack
public import Idealize.ShloMosaic.Lib.StableHlo.Run
public import Idealize.ShloMosaic.Lib.Pointwise

@[expose] public section

set_option maxRecDepth 16384

noncomputable section

open Idealize.ShloMosaic Idealize.ShloMosaic.TcCoe Idealize.SL.Sem
open scoped BigOperators

namespace Cert.Kernel20Ideal.Own

open Cert.Kernel20Ideal Cert.Kernel20Ideal.Gen Cert.Kernel20Ideal.Value

variable (m : (ℓ : Loc nD τ sig) → Buf (Elt Ideal) ℓ) (ρ : Dev nD → PrngReg)

/-- The change of the weights. -/
def delta (w g x y : Vec Ideal S4440x128 .f32) : Vec Ideal S4440x128 .f32 := fun i => Adam.change (w i) (g i) (x i) (y i)

/-- The new first moments. -/
def firsts (g x : Vec Ideal S4440x128 .f32) : Vec Ideal S4440x128 .f32 := fun i => Adam.first (g i) (x i)

/-- The new second moments. -/
def seconds (g y : Vec Ideal S4440x128 .f32) : Vec Ideal S4440x128 .f32 := fun i => Adam.second (g i) (y i)

theorem G_delta (w g x y : Vec Ideal S4440x128 .f32) : G4 (F := Ideal) g x y w = delta w g x y := by
  funext j
  rfl

theorem G_firsts (g x : Vec Ideal S4440x128 .f32) : G5 (F := Ideal) g x = firsts g x := by
  funext j
  rfl

theorem G_seconds (g y : Vec Ideal S4440x128 .f32) : G6 (F := Ideal) g y = seconds g y := by
  funext j
  rfl

end Cert.Kernel20Ideal.Own

namespace Cert.Reference20Ideal.Own

open Cert.Reference20Ideal Cert.Reference20Ideal.Gen

/-- The reference's result 0. -/
theorem delta_eq (w g x y : FVec Ideal S4440x128 .f32) :
    mulf (broadcastInDim S4440x128 ![] bcast_S_S4440x128 (constant S_ .f32 0xBA83126F#32)) (addf (Host.divf (Host.divf (addf (mulf (broadcastInDim S4440x128 ![] bcast_S_S4440x128 (constant S_ .f32 0x3F666666#32)) x) (mulf (broadcastInDim S4440x128 ![] bcast_S_S4440x128 (constant S_ .f32 0x3DCCCCCD#32)) g)) (broadcastInDim S4440x128 ![] bcast_S_S4440x128 (constant S_ .f32 0x3F26BD02#32))) (addf (Host.sqrt (Host.divf (addf (mulf (broadcastInDim S4440x128 ![] bcast_S_S4440x128 (constant S_ .f32 0x3F7FBE77#32)) y) (mulf (broadcastInDim S4440x128 ![] bcast_S_S4440x128 (constant S_ .f32 0x3A83126F#32)) (mulf g g))) (broadcastInDim S4440x128 ![] bcast_S_S4440x128 (constant S_ .f32 0x3C231ACC#32)))) (broadcastInDim S4440x128 ![] bcast_S_S4440x128 (constant S_ .f32 0x322BCC77#32)))) (mulf (broadcastInDim S4440x128 ![] bcast_S_S4440x128 (constant S_ .f32 0x3C23D70A#32)) w))
      = Cert.Kernel20Ideal.Own.delta w g x y := by
  funext j
  idx_vars j
  pointwise [Cert.Kernel20Ideal.Own.delta, Adam.change, Adam.ratio, Adam.first, Adam.second]

/-- The reference's result 1. -/
theorem firsts_eq (g x : FVec Ideal S4440x128 .f32) :
    addf (mulf (broadcastInDim S4440x128 ![] bcast_S_S4440x128 (constant S_ .f32 0x3F666666#32)) x) (mulf (broadcastInDim S4440x128 ![] bcast_S_S4440x128 (constant S_ .f32 0x3DCCCCCD#32)) g)
      = Cert.Kernel20Ideal.Own.firsts g x := by
  funext j
  idx_vars j
  pointwise [Cert.Kernel20Ideal.Own.firsts, Adam.change, Adam.ratio, Adam.first, Adam.second]

/-- The reference's result 2. -/
theorem seconds_eq (g y : FVec Ideal S4440x128 .f32) :
    addf (mulf (broadcastInDim S4440x128 ![] bcast_S_S4440x128 (constant S_ .f32 0x3F7FBE77#32)) y) (mulf (broadcastInDim S4440x128 ![] bcast_S_S4440x128 (constant S_ .f32 0x3A83126F#32)) (mulf g g))
      = Cert.Kernel20Ideal.Own.seconds g y := by
  funext j
  idx_vars j
  pointwise [Cert.Kernel20Ideal.Own.seconds, Adam.change, Adam.ratio, Adam.first, Adam.second]

end Cert.Reference20Ideal.Own

namespace Cert.Proof

/-- The packed update of the small weights is the AdamW step of each. -/
theorem value20 (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg)
    (h : ∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) :
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)) := by
  refine ⟨fun c => Cert.Kernel20Ideal.Own.delta (m ((c.tc : Thread _ _).loc Cert.Kernel20Ideal.main_arg0)) (m ((c.tc : Thread _ _).loc Cert.Kernel20Ideal.main_arg1)) (m ((c.tc : Thread _ _).loc Cert.Kernel20Ideal.main_arg2)) (m ((c.tc : Thread _ _).loc Cert.Kernel20Ideal.main_arg3)), fun c => Cert.Kernel20Ideal.Own.firsts (m ((c.tc : Thread _ _).loc Cert.Kernel20Ideal.main_arg1)) (m ((c.tc : Thread _ _).loc Cert.Kernel20Ideal.main_arg2)), fun c => Cert.Kernel20Ideal.Own.seconds (m ((c.tc : Thread _ _).loc Cert.Kernel20Ideal.main_arg1)) (m ((c.tc : Thread _ _).loc Cert.Kernel20Ideal.main_arg3)), ?_, ?_⟩
  · exact (θ_run Cert.Kernel20Ideal.defs _ _).mono (fun r hr c => ⟨(hr c).1.trans (Cert.Kernel20Ideal.Own.G_delta _ _ _ _), (hr c).2.1.trans (Cert.Kernel20Ideal.Own.G_firsts _ _),
        (hr c).2.2.1.trans (Cert.Kernel20Ideal.Own.G_seconds _ _), (hr c).2.2.2⟩)
      (Cert.Kernel20Ideal.Value.run m g)
  · refine (θ_run Cert.Reference20Ideal.defs _ _).mono (fun r hr c => ⟨(hr c).1.trans ?_, (hr c).2.1.trans ?_, (hr c).2.2.1.trans ?_, (hr c).2.2.2⟩)
      (Cert.Reference20Ideal.Value.run m' g')
    · rw [Cert.Reference20Ideal.Own.delta_eq, (h c).1, (h c).2.1, (h c).2.2.1, (h c).2.2.2]
    · rw [Cert.Reference20Ideal.Own.firsts_eq, (h c).2.1, (h c).2.2.1]
    · rw [Cert.Reference20Ideal.Own.seconds_eq, (h c).2.1, (h c).2.2.2]

end Cert.Proof

end
-- ==== Proof.Value21.lean ====
module

public import proofs.«01_k».proof.Proof.Gen.Kernel21Ideal.Value
public import proofs.«01_k».proof.Proof.Gen.Reference21Ideal.Run
public import proofs.«01_k».proof.Proof.Algebra
public import Idealize.ShloMosaic.Lib.Pipeline.ValueKit
public import Idealize.ShloMosaic.Lib.Pipeline.ReadBack
public import Idealize.ShloMosaic.Lib.StableHlo.Run
public import Idealize.ShloMosaic.Lib.Pointwise

@[expose] public section

set_option maxRecDepth 16384

noncomputable section

open Idealize.ShloMosaic Idealize.ShloMosaic.TcCoe Idealize.SL.Sem
open scoped BigOperators

namespace Cert.Kernel21Ideal.Own

open Cert.Kernel21Ideal Cert.Kernel21Ideal.Gen Cert.Kernel21Ideal.Value

variable (m : (ℓ : Loc nD τ sig) → Buf (Elt Ideal) ℓ) (ρ : Dev nD → PrngReg)

/-- What the result array holds: the device's own half and the seven received ones, added up. -/
def result (g : Vec Ideal S4x4x1024x1408 .bf16) (x : Vec Ideal S7x4x512x1408 .bf16) : Vec Ideal S4x512x1408 .f32 :=
  fun i => g (ix4 (i 0) (0 : Fin 4) (⟨(i 1).val, lt_trans (i 1).isLt (by decide)⟩ : Fin 1024) (i 2))
    + ∑ k : Fin 7, x (ix4 k (i 0) (i 1) (i 2))

theorem pay (a b1 b2 b3 b4 b5 b6 b7 : Vec Ideal S1x1x128x1408 .bf16) (j : S1x128x1408.Idx) :
    k0_pay1 (k0_pay2 a b1 b2 b3 b4 b5 b6) b7 j = a (ix4 (0 : Fin 1) (0 : Fin 1) (j 1) (j 2))
      + b1 (ix4 (0 : Fin 1) (0 : Fin 1) (j 1) (j 2))
      + b2 (ix4 (0 : Fin 1) (0 : Fin 1) (j 1) (j 2))
      + b3 (ix4 (0 : Fin 1) (0 : Fin 1) (j 1) (j 2))
      + b4 (ix4 (0 : Fin 1) (0 : Fin 1) (j 1) (j 2))
      + b5 (ix4 (0 : Fin 1) (0 : Fin 1) (j 1) (j 2))
      + b6 (ix4 (0 : Fin 1) (0 : Fin 1) (j 1) (j 2))
      + b7 (ix4 (0 : Fin 1) (0 : Fin 1) (j 1) (j 2)) := by
  idx_vars j
  pointwise [k0_pay1, k0_pay2]

theorem sum7 (a : Elt Ideal .f32) (f : Fin 7 → Elt Ideal .f32) : a + f 0 + f 1 + f 2 + f 3 + f 4 + f 5 + f 6 = a + ∑ k : Fin 7, f k := by
  have h (a b : Elt Ideal .f32) : a + b = (show EReal from a) + (show EReal from b) := rfl
  rw [Fin.sum_univ_seven]
  simp only [add_assoc]

theorem load1 (x : Vec Ideal S7x1x128x1408 .bf16) (p : Fin 128) (q : Fin 1408) :
    View.ld x r0_1 (ix4 (0 : Fin 1) (0 : Fin 1) p q) = x (ix4 (0 : Fin 7) (0 : Fin 1) p q) := by
  refine congrArg x (funext fun a => Fin.ext ?_)
  match a with
  | ⟨0, _⟩ => rfl
  | ⟨1, _⟩ => rfl
  | ⟨2, _⟩ => show 0 + 1 * p.val = p.val; omega
  | ⟨3, _⟩ => show 0 + 1 * q.val = q.val; omega

theorem load2 (x : Vec Ideal S7x1x128x1408 .bf16) (p : Fin 128) (q : Fin 1408) :
    View.ld x r0_2 (ix4 (0 : Fin 1) (0 : Fin 1) p q) = x (ix4 (1 : Fin 7) (0 : Fin 1) p q) := by
  refine congrArg x (funext fun a => Fin.ext ?_)
  match a with
  | ⟨0, _⟩ => rfl
  | ⟨1, _⟩ => rfl
  | ⟨2, _⟩ => show 0 + 1 * p.val = p.val; omega
  | ⟨3, _⟩ => show 0 + 1 * q.val = q.val; omega

theorem load3 (x : Vec Ideal S7x1x128x1408 .bf16) (p : Fin 128) (q : Fin 1408) :
    View.ld x r0_3 (ix4 (0 : Fin 1) (0 : Fin 1) p q) = x (ix4 (2 : Fin 7) (0 : Fin 1) p q) := by
  refine congrArg x (funext fun a => Fin.ext ?_)
  match a with
  | ⟨0, _⟩ => rfl
  | ⟨1, _⟩ => rfl
  | ⟨2, _⟩ => show 0 + 1 * p.val = p.val; omega
  | ⟨3, _⟩ => show 0 + 1 * q.val = q.val; omega

theorem load4 (x : Vec Ideal S7x1x128x1408 .bf16) (p : Fin 128) (q : Fin 1408) :
    View.ld x r0_4 (ix4 (0 : Fin 1) (0 : Fin 1) p q) = x (ix4 (3 : Fin 7) (0 : Fin 1) p q) := by
  refine congrArg x (funext fun a => Fin.ext ?_)
  match a with
  | ⟨0, _⟩ => rfl
  | ⟨1, _⟩ => rfl
  | ⟨2, _⟩ => show 0 + 1 * p.val = p.val; omega
  | ⟨3, _⟩ => show 0 + 1 * q.val = q.val; omega

theorem load5 (x : Vec Ideal S7x1x128x1408 .bf16) (p : Fin 128) (q : Fin 1408) :
    View.ld x r0_5 (ix4 (0 : Fin 1) (0 : Fin 1) p q) = x (ix4 (4 : Fin 7) (0 : Fin 1) p q) := by
  refine congrArg x (funext fun a => Fin.ext ?_)
  match a with
  | ⟨0, _⟩ => rfl
  | ⟨1, _⟩ => rfl
  | ⟨2, _⟩ => show 0 + 1 * p.val = p.val; omega
  | ⟨3, _⟩ => show 0 + 1 * q.val = q.val; omega

theorem load6 (x : Vec Ideal S7x1x128x1408 .bf16) (p : Fin 128) (q : Fin 1408) :
    View.ld x r0_6 (ix4 (0 : Fin 1) (0 : Fin 1) p q) = x (ix4 (5 : Fin 7) (0 : Fin 1) p q) := by
  refine congrArg x (funext fun a => Fin.ext ?_)
  match a with
  | ⟨0, _⟩ => rfl
  | ⟨1, _⟩ => rfl
  | ⟨2, _⟩ => show 0 + 1 * p.val = p.val; omega
  | ⟨3, _⟩ => show 0 + 1 * q.val = q.val; omega

theorem load7 (x : Vec Ideal S7x1x128x1408 .bf16) (p : Fin 128) (q : Fin 1408) :
    View.ld x r0_7 (ix4 (0 : Fin 1) (0 : Fin 1) p q) = x (ix4 (6 : Fin 7) (0 : Fin 1) p q) := by
  refine congrArg x (funext fun a => Fin.ext ?_)
  match a with
  | ⟨0, _⟩ => rfl
  | ⟨1, _⟩ => rfl
  | ⟨2, _⟩ => show 0 + 1 * p.val = p.val; omega
  | ⟨3, _⟩ => show 0 + 1 * q.val = q.val; omega

theorem index0 : ∀ t : Fin cfg0.N, win0_0.index t = ![t.val / 4, 0, t.val % 4, 0] := by decide +kernel
theorem index1 : ∀ t : Fin cfg0.N, win0_1.index t = ![0, t.val / 4, t.val % 4, 0] := by decide +kernel
theorem index2 : ∀ t : Fin cfg0.N, win0_2.index t = ![t.val / 4, t.val % 4, 0] := by decide +kernel

theorem iblk0 (c : Dev nD) (t : Fin cfg0.N) (p : Fin 128) (q : Fin 1408) (h0 : t.val / 4 < 4) (h1 : t.val % 4 * 128 + p.val < 1024) :
    iblk m c 0 t (ix4 (0 : Fin 1) (0 : Fin 1) p q) = m ((c : Thread nD τ).loc main_arg0) (ix4 (⟨t.val / 4, h0⟩ : Fin 4) (0 : Fin 4) (⟨t.val % 4 * 128 + p.val, h1⟩ : Fin 1024) q) := by
  blk_simp [iblk]
  rw [V_main_arg0]
  blk_ext [index0]

theorem iblk1 (c : Dev nD) (t : Fin cfg0.N) (k : Fin 7) (p : Fin 128) (q : Fin 1408) (h0 : t.val / 4 < 4) (h1 : t.val % 4 * 128 + p.val < 512) :
    iblk m c 1 t (ix4 k (0 : Fin 1) p q) = m ((c : Thread nD τ).loc main_arg1) (ix4 k (⟨t.val / 4, h0⟩ : Fin 4) (⟨t.val % 4 * 128 + p.val, h1⟩ : Fin 512) q) := by
  blk_simp [iblk]
  rw [V_main_arg1]
  blk_ext [index1]

theorem final (c : Dev nD) : (dats m 0 c).arrAt 2 cfg0.N = result (m ((c : Thread nD τ).loc main_arg0)) (m ((c : Thread nD τ).loc main_arg1)) := by
  refine (dats m 0 c).arrAt_eq_of_covers 2 _ (by decide +kernel) fun t hf y => ?_
  have hN : t.val < 16 := lt_of_lt_of_eq t.isLt N_0
  have b0 : (y 0).val < 1 := (y 0).isLt
  have b1 : (y 1).val < 128 := (y 1).isLt
  have b2 : (y 2).val < 1408 := (y 2).isLt
  have h0 : t.val / 4 < 4 := by omega
  have h1 : t.val % 4 * 128 + (y 1).val < 512 := by omega
  have e : (win0_2.blk t).view.emb y = ix3 (⟨t.val / 4, h0⟩ : Fin 4) (⟨t.val % 4 * 128 + (y 1).val, h1⟩ : Fin 512) (y 2) := by
    blk_ext [index2]
  blk_simp
  rw [after0_2, e]
  frame_out
  refine (pay _ _ _ _ _ _ _ _ y).trans ?_
  rw [load1 _ (y 1) (y 2), load2 _ (y 1) (y 2), load3 _ (y 1) (y 2), load4 _ (y 1) (y 2), load5 _ (y 1) (y 2), load6 _ (y 1) (y 2), load7 _ (y 1) (y 2),
    iblk0 m c t (y 1) (y 2) h0 (by omega), iblk1 m c t 0 (y 1) (y 2) h0 h1, iblk1 m c t 1 (y 1) (y 2) h0 h1, iblk1 m c t 2 (y 1) (y 2) h0 h1, iblk1 m c t 3 (y 1) (y 2) h0 h1, iblk1 m c t 4 (y 1) (y 2) h0 h1, iblk1 m c t 5 (y 1) (y 2) h0 h1, iblk1 m c t 6 (y 1) (y 2) h0 h1]
  exact sum7 _ fun k => m ((c : Thread nD τ).loc main_arg1) (ix4 k (⟨t.val / 4, h0⟩ : Fin 4) (⟨t.val % 4 * 128 + (y 1).val, h1⟩ : Fin 512) (y 2))

end Cert.Kernel21Ideal.Own

namespace Cert.Reference21Ideal.Own

open Cert.Reference21Ideal Cert.Reference21Ideal.Gen

/-- What the reference's result holds, entry by entry. -/
theorem result_eq (x : FVec Ideal S4x4x1024x1408 .bf16) (y : FVec Ideal S7x4x512x1408 .bf16) :
    addf (extf (F := Ideal) .f32 (shapeCast _ (extractStridedSlice S4x1x512x1408 ![0, 0, 0, 0] x slices_S4x4x1024x1408_S4x1x512x1408_0_0_0_0) shapeCasts_S4x1x512x1408_S4x512x1408) bitsLt_bf16_f32) (Host.reduceAdd (extf (F := Ideal) .f32 y bitsLt_bf16_f32) (constant S_ .f32 0x00000000#32) reducesTo_S7x4x512x1408_S4x512x1408_d0 h_S_)
      = Cert.Kernel21Ideal.Own.result x y := by
  funext j
  idx_vars j
  pointwise [Cert.Kernel21Ideal.Own.result]

end Cert.Reference21Ideal.Own

namespace Cert.Proof

/-- The device's own half of the gradient of the first feed-forward weights and the seven received ones, added one after the other, are the reference's sum. -/
theorem value21 (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg)
    (h : ∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) :
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)) := by
  refine ⟨fun c => Cert.Kernel21Ideal.Own.result (m ((c.tc : Thread _ _).loc Cert.Kernel21Ideal.main_arg0)) (m ((c.tc : Thread _ _).loc Cert.Kernel21Ideal.main_arg1)), ?_, ?_⟩
  · exact (θ_run Cert.Kernel21Ideal.defs _ _).mono (fun r hr c => ⟨(hr c).1.trans (Cert.Kernel21Ideal.Own.final m c), (hr c).2⟩)
      (Cert.Kernel21Ideal.Value.run_blocks m g)
  · refine (θ_run Cert.Reference21Ideal.defs _ _).mono (fun r hr c => ⟨(hr c).1.trans ?_, (hr c).2⟩) (Cert.Reference21Ideal.Value.run m' g')
    rw [Cert.Reference21Ideal.Own.result_eq, (h c).1, (h c).2]

end Cert.Proof

end
-- ==== Proof.Value22.lean ====
module

public import proofs.«01_k».proof.Proof.Gen.Kernel22Ideal.Value
public import proofs.«01_k».proof.Proof.Gen.Reference22Ideal.Run
public import proofs.«01_k».proof.Proof.Algebra
public import Idealize.ShloMosaic.Lib.Pipeline.ValueKit
public import Idealize.ShloMosaic.Lib.Pipeline.ReadBack
public import Idealize.ShloMosaic.Lib.StableHlo.Run
public import Idealize.ShloMosaic.Lib.Pointwise

@[expose] public section

set_option maxRecDepth 16384

noncomputable section

open Idealize.ShloMosaic Idealize.ShloMosaic.TcCoe Idealize.SL.Sem
open scoped BigOperators

namespace Cert.Kernel22Ideal.Own

open Cert.Kernel22Ideal Cert.Kernel22Ideal.Gen Cert.Kernel22Ideal.Value

variable (m : (ℓ : Loc nD τ sig) → Buf (Elt Ideal) ℓ) (ρ : Dev nD → PrngReg)

/-- What the result array holds: the device's own half and the seven received ones, added up. -/
def result (g : Vec Ideal S4x4x704x1024 .bf16) (x : Vec Ideal S7x4x352x1024 .bf16) : Vec Ideal S4x352x1024 .f32 :=
  fun i => g (ix4 (i 0) (0 : Fin 4) (⟨(i 1).val, lt_trans (i 1).isLt (by decide)⟩ : Fin 704) (i 2))
    + ∑ k : Fin 7, x (ix4 k (i 0) (i 1) (i 2))

theorem pay (a b1 b2 b3 b4 b5 b6 b7 : Vec Ideal S1x1x176x1024 .bf16) (j : S1x176x1024.Idx) :
    k0_pay1 (k0_pay2 a b1 b2 b3 b4 b5 b6) b7 j = a (ix4 (0 : Fin 1) (0 : Fin 1) (j 1) (j 2))
      + b1 (ix4 (0 : Fin 1) (0 : Fin 1) (j 1) (j 2))
      + b2 (ix4 (0 : Fin 1) (0 : Fin 1) (j 1) (j 2))
      + b3 (ix4 (0 : Fin 1) (0 : Fin 1) (j 1) (j 2))
      + b4 (ix4 (0 : Fin 1) (0 : Fin 1) (j 1) (j 2))
      + b5 (ix4 (0 : Fin 1) (0 : Fin 1) (j 1) (j 2))
      + b6 (ix4 (0 : Fin 1) (0 : Fin 1) (j 1) (j 2))
      + b7 (ix4 (0 : Fin 1) (0 : Fin 1) (j 1) (j 2)) := by
  idx_vars j
  pointwise [k0_pay1, k0_pay2]

theorem sum7 (a : Elt Ideal .f32) (f : Fin 7 → Elt Ideal .f32) : a + f 0 + f 1 + f 2 + f 3 + f 4 + f 5 + f 6 = a + ∑ k : Fin 7, f k := by
  have h (a b : Elt Ideal .f32) : a + b = (show EReal from a) + (show EReal from b) := rfl
  rw [Fin.sum_univ_seven]
  simp only [add_assoc]

theorem load1 (x : Vec Ideal S7x1x176x1024 .bf16) (p : Fin 176) (q : Fin 1024) :
    View.ld x r0_1 (ix4 (0 : Fin 1) (0 : Fin 1) p q) = x (ix4 (0 : Fin 7) (0 : Fin 1) p q) := by
  refine congrArg x (funext fun a => Fin.ext ?_)
  match a with
  | ⟨0, _⟩ => rfl
  | ⟨1, _⟩ => rfl
  | ⟨2, _⟩ => show 0 + 1 * p.val = p.val; omega
  | ⟨3, _⟩ => show 0 + 1 * q.val = q.val; omega

theorem load2 (x : Vec Ideal S7x1x176x1024 .bf16) (p : Fin 176) (q : Fin 1024) :
    View.ld x r0_2 (ix4 (0 : Fin 1) (0 : Fin 1) p q) = x (ix4 (1 : Fin 7) (0 : Fin 1) p q) := by
  refine congrArg x (funext fun a => Fin.ext ?_)
  match a with
  | ⟨0, _⟩ => rfl
  | ⟨1, _⟩ => rfl
  | ⟨2, _⟩ => show 0 + 1 * p.val = p.val; omega
  | ⟨3, _⟩ => show 0 + 1 * q.val = q.val; omega

theorem load3 (x : Vec Ideal S7x1x176x1024 .bf16) (p : Fin 176) (q : Fin 1024) :
    View.ld x r0_3 (ix4 (0 : Fin 1) (0 : Fin 1) p q) = x (ix4 (2 : Fin 7) (0 : Fin 1) p q) := by
  refine congrArg x (funext fun a => Fin.ext ?_)
  match a with
  | ⟨0, _⟩ => rfl
  | ⟨1, _⟩ => rfl
  | ⟨2, _⟩ => show 0 + 1 * p.val = p.val; omega
  | ⟨3, _⟩ => show 0 + 1 * q.val = q.val; omega

theorem load4 (x : Vec Ideal S7x1x176x1024 .bf16) (p : Fin 176) (q : Fin 1024) :
    View.ld x r0_4 (ix4 (0 : Fin 1) (0 : Fin 1) p q) = x (ix4 (3 : Fin 7) (0 : Fin 1) p q) := by
  refine congrArg x (funext fun a => Fin.ext ?_)
  match a with
  | ⟨0, _⟩ => rfl
  | ⟨1, _⟩ => rfl
  | ⟨2, _⟩ => show 0 + 1 * p.val = p.val; omega
  | ⟨3, _⟩ => show 0 + 1 * q.val = q.val; omega

theorem load5 (x : Vec Ideal S7x1x176x1024 .bf16) (p : Fin 176) (q : Fin 1024) :
    View.ld x r0_5 (ix4 (0 : Fin 1) (0 : Fin 1) p q) = x (ix4 (4 : Fin 7) (0 : Fin 1) p q) := by
  refine congrArg x (funext fun a => Fin.ext ?_)
  match a with
  | ⟨0, _⟩ => rfl
  | ⟨1, _⟩ => rfl
  | ⟨2, _⟩ => show 0 + 1 * p.val = p.val; omega
  | ⟨3, _⟩ => show 0 + 1 * q.val = q.val; omega

theorem load6 (x : Vec Ideal S7x1x176x1024 .bf16) (p : Fin 176) (q : Fin 1024) :
    View.ld x r0_6 (ix4 (0 : Fin 1) (0 : Fin 1) p q) = x (ix4 (5 : Fin 7) (0 : Fin 1) p q) := by
  refine congrArg x (funext fun a => Fin.ext ?_)
  match a with
  | ⟨0, _⟩ => rfl
  | ⟨1, _⟩ => rfl
  | ⟨2, _⟩ => show 0 + 1 * p.val = p.val; omega
  | ⟨3, _⟩ => show 0 + 1 * q.val = q.val; omega

theorem load7 (x : Vec Ideal S7x1x176x1024 .bf16) (p : Fin 176) (q : Fin 1024) :
    View.ld x r0_7 (ix4 (0 : Fin 1) (0 : Fin 1) p q) = x (ix4 (6 : Fin 7) (0 : Fin 1) p q) := by
  refine congrArg x (funext fun a => Fin.ext ?_)
  match a with
  | ⟨0, _⟩ => rfl
  | ⟨1, _⟩ => rfl
  | ⟨2, _⟩ => show 0 + 1 * p.val = p.val; omega
  | ⟨3, _⟩ => show 0 + 1 * q.val = q.val; omega

theorem index0 : ∀ t : Fin cfg0.N, win0_0.index t = ![t.val / 2, 0, t.val % 2, 0] := by decide +kernel
theorem index1 : ∀ t : Fin cfg0.N, win0_1.index t = ![0, t.val / 2, t.val % 2, 0] := by decide +kernel
theorem index2 : ∀ t : Fin cfg0.N, win0_2.index t = ![t.val / 2, t.val % 2, 0] := by decide +kernel

theorem iblk0 (c : Dev nD) (t : Fin cfg0.N) (p : Fin 176) (q : Fin 1024) (h0 : t.val / 2 < 4) (h1 : t.val % 2 * 176 + p.val < 704) :
    iblk m c 0 t (ix4 (0 : Fin 1) (0 : Fin 1) p q) = m ((c : Thread nD τ).loc main_arg0) (ix4 (⟨t.val / 2, h0⟩ : Fin 4) (0 : Fin 4) (⟨t.val % 2 * 176 + p.val, h1⟩ : Fin 704) q) := by
  blk_simp [iblk]
  rw [V_main_arg0]
  blk_ext [index0]

theorem iblk1 (c : Dev nD) (t : Fin cfg0.N) (k : Fin 7) (p : Fin 176) (q : Fin 1024) (h0 : t.val / 2 < 4) (h1 : t.val % 2 * 176 + p.val < 352) :
    iblk m c 1 t (ix4 k (0 : Fin 1) p q) = m ((c : Thread nD τ).loc main_arg1) (ix4 k (⟨t.val / 2, h0⟩ : Fin 4) (⟨t.val % 2 * 176 + p.val, h1⟩ : Fin 352) q) := by
  blk_simp [iblk]
  rw [V_main_arg1]
  blk_ext [index1]

theorem final (c : Dev nD) : (dats m 0 c).arrAt 2 cfg0.N = result (m ((c : Thread nD τ).loc main_arg0)) (m ((c : Thread nD τ).loc main_arg1)) := by
  refine (dats m 0 c).arrAt_eq_of_covers 2 _ (by decide +kernel) fun t hf y => ?_
  have hN : t.val < 8 := lt_of_lt_of_eq t.isLt N_0
  have b0 : (y 0).val < 1 := (y 0).isLt
  have b1 : (y 1).val < 176 := (y 1).isLt
  have b2 : (y 2).val < 1024 := (y 2).isLt
  have h0 : t.val / 2 < 4 := by omega
  have h1 : t.val % 2 * 176 + (y 1).val < 352 := by omega
  have e : (win0_2.blk t).view.emb y = ix3 (⟨t.val / 2, h0⟩ : Fin 4) (⟨t.val % 2 * 176 + (y 1).val, h1⟩ : Fin 352) (y 2) := by
    blk_ext [index2]
  blk_simp
  rw [after0_2, e]
  frame_out
  refine (pay _ _ _ _ _ _ _ _ y).trans ?_
  rw [load1 _ (y 1) (y 2), load2 _ (y 1) (y 2), load3 _ (y 1) (y 2), load4 _ (y 1) (y 2), load5 _ (y 1) (y 2), load6 _ (y 1) (y 2), load7 _ (y 1) (y 2),
    iblk0 m c t (y 1) (y 2) h0 (by omega), iblk1 m c t 0 (y 1) (y 2) h0 h1, iblk1 m c t 1 (y 1) (y 2) h0 h1, iblk1 m c t 2 (y 1) (y 2) h0 h1, iblk1 m c t 3 (y 1) (y 2) h0 h1, iblk1 m c t 4 (y 1) (y 2) h0 h1, iblk1 m c t 5 (y 1) (y 2) h0 h1, iblk1 m c t 6 (y 1) (y 2) h0 h1]
  exact sum7 _ fun k => m ((c : Thread nD τ).loc main_arg1) (ix4 k (⟨t.val / 2, h0⟩ : Fin 4) (⟨t.val % 2 * 176 + (y 1).val, h1⟩ : Fin 352) (y 2))

end Cert.Kernel22Ideal.Own

namespace Cert.Reference22Ideal.Own

open Cert.Reference22Ideal Cert.Reference22Ideal.Gen

/-- What the reference's result holds, entry by entry. -/
theorem result_eq (x : FVec Ideal S4x4x704x1024 .bf16) (y : FVec Ideal S7x4x352x1024 .bf16) :
    addf (extf (F := Ideal) .f32 (shapeCast _ (extractStridedSlice S4x1x352x1024 ![0, 0, 0, 0] x slices_S4x4x704x1024_S4x1x352x1024_0_0_0_0) shapeCasts_S4x1x352x1024_S4x352x1024) bitsLt_bf16_f32) (Host.reduceAdd (extf (F := Ideal) .f32 y bitsLt_bf16_f32) (constant S_ .f32 0x00000000#32) reducesTo_S7x4x352x1024_S4x352x1024_d0 h_S_)
      = Cert.Kernel22Ideal.Own.result x y := by
  funext j
  idx_vars j
  pointwise [Cert.Kernel22Ideal.Own.result]

end Cert.Reference22Ideal.Own

namespace Cert.Proof

/-- The device's own half of the gradient of the second feed-forward weights and the seven received ones, added one after the other, are the reference's sum. -/
theorem value22 (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg)
    (h : ∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) :
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)) := by
  refine ⟨fun c => Cert.Kernel22Ideal.Own.result (m ((c.tc : Thread _ _).loc Cert.Kernel22Ideal.main_arg0)) (m ((c.tc : Thread _ _).loc Cert.Kernel22Ideal.main_arg1)), ?_, ?_⟩
  · exact (θ_run Cert.Kernel22Ideal.defs _ _).mono (fun r hr c => ⟨(hr c).1.trans (Cert.Kernel22Ideal.Own.final m c), (hr c).2⟩)
      (Cert.Kernel22Ideal.Value.run_blocks m g)
  · refine (θ_run Cert.Reference22Ideal.defs _ _).mono (fun r hr c => ⟨(hr c).1.trans ?_, (hr c).2⟩) (Cert.Reference22Ideal.Value.run m' g')
    rw [Cert.Reference22Ideal.Own.result_eq, (h c).1, (h c).2]

end Cert.Proof

end
-- ==== Proof.Value23.lean ====
module

public import proofs.«01_k».proof.Proof.Gen.Kernel23Ideal.Value
public import proofs.«01_k».proof.Proof.Gen.Reference23Ideal.Run
public import proofs.«01_k».proof.Proof.Algebra
public import Idealize.ShloMosaic.Lib.Pipeline.ValueKit
public import Idealize.ShloMosaic.Lib.Pipeline.ReadBack
public import Idealize.ShloMosaic.Lib.StableHlo.Run
public import Idealize.ShloMosaic.Lib.Pointwise

@[expose] public section

set_option maxRecDepth 16384

noncomputable section

open Idealize.ShloMosaic Idealize.ShloMosaic.TcCoe Idealize.SL.Sem
open scoped BigOperators

namespace Cert.Kernel23Ideal.Own

open Cert.Kernel23Ideal Cert.Kernel23Ideal.Gen Cert.Kernel23Ideal.Value

variable (m : (ℓ : Loc nD τ sig) → Buf (Elt Ideal) ℓ) (ρ : Dev nD → PrngReg)

/-- What the result array holds: the device's own half and the seven received ones, added up. -/
def result (g : Vec Ideal S1x4x1024x772 .bf16) (x : Vec Ideal S7x1x512x772 .bf16) : Vec Ideal S1x512x772 .f32 :=
  fun i => g (ix4 (i 0) (0 : Fin 4) (⟨(i 1).val, lt_trans (i 1).isLt (by decide)⟩ : Fin 1024) (i 2))
    + ∑ k : Fin 7, x (ix4 k (i 0) (i 1) (i 2))

theorem pay (a b1 b2 b3 b4 b5 b6 b7 : Vec Ideal S1x1x256x772 .bf16) (j : S1x256x772.Idx) :
    k0_pay1 (k0_pay2 a b1 b2 b3 b4 b5 b6) b7 j = a (ix4 (0 : Fin 1) (0 : Fin 1) (j 1) (j 2))
      + b1 (ix4 (0 : Fin 1) (0 : Fin 1) (j 1) (j 2))
      + b2 (ix4 (0 : Fin 1) (0 : Fin 1) (j 1) (j 2))
      + b3 (ix4 (0 : Fin 1) (0 : Fin 1) (j 1) (j 2))
      + b4 (ix4 (0 : Fin 1) (0 : Fin 1) (j 1) (j 2))
      + b5 (ix4 (0 : Fin 1) (0 : Fin 1) (j 1) (j 2))
      + b6 (ix4 (0 : Fin 1) (0 : Fin 1) (j 1) (j 2))
      + b7 (ix4 (0 : Fin 1) (0 : Fin 1) (j 1) (j 2)) := by
  idx_vars j
  pointwise [k0_pay1, k0_pay2]

theorem sum7 (a : Elt Ideal .f32) (f : Fin 7 → Elt Ideal .f32) : a + f 0 + f 1 + f 2 + f 3 + f 4 + f 5 + f 6 = a + ∑ k : Fin 7, f k := by
  have h (a b : Elt Ideal .f32) : a + b = (show EReal from a) + (show EReal from b) := rfl
  rw [Fin.sum_univ_seven]
  simp only [add_assoc]

theorem load1 (x : Vec Ideal S7x1x256x772 .bf16) (p : Fin 256) (q : Fin 772) :
    View.ld x r0_1 (ix4 (0 : Fin 1) (0 : Fin 1) p q) = x (ix4 (0 : Fin 7) (0 : Fin 1) p q) := by
  refine congrArg x (funext fun a => Fin.ext ?_)
  match a with
  | ⟨0, _⟩ => rfl
  | ⟨1, _⟩ => rfl
  | ⟨2, _⟩ => show 0 + 1 * p.val = p.val; omega
  | ⟨3, _⟩ => show 0 + 1 * q.val = q.val; omega

theorem load2 (x : Vec Ideal S7x1x256x772 .bf16) (p : Fin 256) (q : Fin 772) :
    View.ld x r0_2 (ix4 (0 : Fin 1) (0 : Fin 1) p q) = x (ix4 (1 : Fin 7) (0 : Fin 1) p q) := by
  refine congrArg x (funext fun a => Fin.ext ?_)
  match a with
  | ⟨0, _⟩ => rfl
  | ⟨1, _⟩ => rfl
  | ⟨2, _⟩ => show 0 + 1 * p.val = p.val; omega
  | ⟨3, _⟩ => show 0 + 1 * q.val = q.val; omega

theorem load3 (x : Vec Ideal S7x1x256x772 .bf16) (p : Fin 256) (q : Fin 772) :
    View.ld x r0_3 (ix4 (0 : Fin 1) (0 : Fin 1) p q) = x (ix4 (2 : Fin 7) (0 : Fin 1) p q) := by
  refine congrArg x (funext fun a => Fin.ext ?_)
  match a with
  | ⟨0, _⟩ => rfl
  | ⟨1, _⟩ => rfl
  | ⟨2, _⟩ => show 0 + 1 * p.val = p.val; omega
  | ⟨3, _⟩ => show 0 + 1 * q.val = q.val; omega

theorem load4 (x : Vec Ideal S7x1x256x772 .bf16) (p : Fin 256) (q : Fin 772) :
    View.ld x r0_4 (ix4 (0 : Fin 1) (0 : Fin 1) p q) = x (ix4 (3 : Fin 7) (0 : Fin 1) p q) := by
  refine congrArg x (funext fun a => Fin.ext ?_)
  match a with
  | ⟨0, _⟩ => rfl
  | ⟨1, _⟩ => rfl
  | ⟨2, _⟩ => show 0 + 1 * p.val = p.val; omega
  | ⟨3, _⟩ => show 0 + 1 * q.val = q.val; omega

theorem load5 (x : Vec Ideal S7x1x256x772 .bf16) (p : Fin 256) (q : Fin 772) :
    View.ld x r0_5 (ix4 (0 : Fin 1) (0 : Fin 1) p q) = x (ix4 (4 : Fin 7) (0 : Fin 1) p q) := by
  refine congrArg x (funext fun a => Fin.ext ?_)
  match a with
  | ⟨0, _⟩ => rfl
  | ⟨1, _⟩ => rfl
  | ⟨2, _⟩ => show 0 + 1 * p.val = p.val; omega
  | ⟨3, _⟩ => show 0 + 1 * q.val = q.val; omega

theorem load6 (x : Vec Ideal S7x1x256x772 .bf16) (p : Fin 256) (q : Fin 772) :
    View.ld x r0_6 (ix4 (0 : Fin 1) (0 : Fin 1) p q) = x (ix4 (5 : Fin 7) (0 : Fin 1) p q) := by
  refine congrArg x (funext fun a => Fin.ext ?_)
  match a with
  | ⟨0, _⟩ => rfl
  | ⟨1, _⟩ => rfl
  | ⟨2, _⟩ => show 0 + 1 * p.val = p.val; omega
  | ⟨3, _⟩ => show 0 + 1 * q.val = q.val; omega

theorem load7 (x : Vec Ideal S7x1x256x772 .bf16) (p : Fin 256) (q : Fin 772) :
    View.ld x r0_7 (ix4 (0 : Fin 1) (0 : Fin 1) p q) = x (ix4 (6 : Fin 7) (0 : Fin 1) p q) := by
  refine congrArg x (funext fun a => Fin.ext ?_)
  match a with
  | ⟨0, _⟩ => rfl
  | ⟨1, _⟩ => rfl
  | ⟨2, _⟩ => show 0 + 1 * p.val = p.val; omega
  | ⟨3, _⟩ => show 0 + 1 * q.val = q.val; omega

theorem index0 : ∀ t : Fin cfg0.N, win0_0.index t = ![t.val / 2, 0, t.val % 2, 0] := by decide +kernel
theorem index1 : ∀ t : Fin cfg0.N, win0_1.index t = ![0, t.val / 2, t.val % 2, 0] := by decide +kernel
theorem index2 : ∀ t : Fin cfg0.N, win0_2.index t = ![t.val / 2, t.val % 2, 0] := by decide +kernel

theorem iblk0 (c : Dev nD) (t : Fin cfg0.N) (p : Fin 256) (q : Fin 772) (h0 : t.val / 2 < 1) (h1 : t.val % 2 * 256 + p.val < 1024) :
    iblk m c 0 t (ix4 (0 : Fin 1) (0 : Fin 1) p q) = m ((c : Thread nD τ).loc main_arg0) (ix4 (⟨t.val / 2, h0⟩ : Fin 1) (0 : Fin 4) (⟨t.val % 2 * 256 + p.val, h1⟩ : Fin 1024) q) := by
  blk_simp [iblk]
  rw [V_main_arg0]
  blk_ext [index0]

theorem iblk1 (c : Dev nD) (t : Fin cfg0.N) (k : Fin 7) (p : Fin 256) (q : Fin 772) (h0 : t.val / 2 < 1) (h1 : t.val % 2 * 256 + p.val < 512) :
    iblk m c 1 t (ix4 k (0 : Fin 1) p q) = m ((c : Thread nD τ).loc main_arg1) (ix4 k (⟨t.val / 2, h0⟩ : Fin 1) (⟨t.val % 2 * 256 + p.val, h1⟩ : Fin 512) q) := by
  blk_simp [iblk]
  rw [V_main_arg1]
  blk_ext [index1]

theorem final (c : Dev nD) : (dats m 0 c).arrAt 2 cfg0.N = result (m ((c : Thread nD τ).loc main_arg0)) (m ((c : Thread nD τ).loc main_arg1)) := by
  refine (dats m 0 c).arrAt_eq_of_covers 2 _ (by decide +kernel) fun t hf y => ?_
  have hN : t.val < 2 := lt_of_lt_of_eq t.isLt N_0
  have b0 : (y 0).val < 1 := (y 0).isLt
  have b1 : (y 1).val < 256 := (y 1).isLt
  have b2 : (y 2).val < 772 := (y 2).isLt
  have h0 : t.val / 2 < 1 := by omega
  have h1 : t.val % 2 * 256 + (y 1).val < 512 := by omega
  have e : (win0_2.blk t).view.emb y = ix3 (⟨t.val / 2, h0⟩ : Fin 1) (⟨t.val % 2 * 256 + (y 1).val, h1⟩ : Fin 512) (y 2) := by
    blk_ext [index2]
  blk_simp
  rw [after0_2, e]
  frame_out
  refine (pay _ _ _ _ _ _ _ _ y).trans ?_
  rw [load1 _ (y 1) (y 2), load2 _ (y 1) (y 2), load3 _ (y 1) (y 2), load4 _ (y 1) (y 2), load5 _ (y 1) (y 2), load6 _ (y 1) (y 2), load7 _ (y 1) (y 2),
    iblk0 m c t (y 1) (y 2) h0 (by omega), iblk1 m c t 0 (y 1) (y 2) h0 h1, iblk1 m c t 1 (y 1) (y 2) h0 h1, iblk1 m c t 2 (y 1) (y 2) h0 h1, iblk1 m c t 3 (y 1) (y 2) h0 h1, iblk1 m c t 4 (y 1) (y 2) h0 h1, iblk1 m c t 5 (y 1) (y 2) h0 h1, iblk1 m c t 6 (y 1) (y 2) h0 h1]
  exact sum7 _ fun k => m ((c : Thread nD τ).loc main_arg1) (ix4 k (⟨t.val / 2, h0⟩ : Fin 1) (⟨t.val % 2 * 256 + (y 1).val, h1⟩ : Fin 512) (y 2))

end Cert.Kernel23Ideal.Own

namespace Cert.Reference23Ideal.Own

open Cert.Reference23Ideal Cert.Reference23Ideal.Gen

/-- What the reference's result holds, entry by entry. -/
theorem result_eq (x : FVec Ideal S1x4x1024x772 .bf16) (y : FVec Ideal S7x1x512x772 .bf16) :
    addf (extf (F := Ideal) .f32 (shapeCast _ (extractStridedSlice S1x1x512x772 ![0, 0, 0, 0] x slices_S1x4x1024x772_S1x1x512x772_0_0_0_0) shapeCasts_S1x1x512x772_S1x512x772) bitsLt_bf16_f32) (Host.reduceAdd (extf (F := Ideal) .f32 y bitsLt_bf16_f32) (constant S_ .f32 0x00000000#32) reducesTo_S7x1x512x772_S1x512x772_d0 h_S_)
      = Cert.Kernel23Ideal.Own.result x y := by
  funext j
  idx_vars j
  obtain rfl : j0 = 0 := Subsingleton.elim _ _
  pointwise [Cert.Kernel23Ideal.Own.result]

end Cert.Reference23Ideal.Own

namespace Cert.Proof

/-- The device's own half of the gradient of a layer's attention weights and the seven received ones, added one after the other, are the reference's sum. -/
theorem value23 (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg)
    (h : ∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) :
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v5) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)) := by
  refine ⟨fun c => Cert.Kernel23Ideal.Own.result (m ((c.tc : Thread _ _).loc Cert.Kernel23Ideal.main_arg0)) (m ((c.tc : Thread _ _).loc Cert.Kernel23Ideal.main_arg1)), ?_, ?_⟩
  · exact (θ_run Cert.Kernel23Ideal.defs _ _).mono (fun r hr c => ⟨(hr c).1.trans (Cert.Kernel23Ideal.Own.final m c), (hr c).2⟩)
      (Cert.Kernel23Ideal.Value.run_blocks m g)
  · refine (θ_run Cert.Reference23Ideal.defs _ _).mono (fun r hr c => ⟨(hr c).1.trans ?_, (hr c).2⟩) (Cert.Reference23Ideal.Value.run m' g')
    rw [Cert.Reference23Ideal.Own.result_eq, (h c).1, (h c).2]

end Cert.Proof

end
-- ==== Proof.Value24.lean ====
module

public import proofs.«01_k».proof.Proof.Gen.Kernel24Ideal.Value
public import proofs.«01_k».proof.Proof.Gen.Reference24Ideal.Run
public import proofs.«01_k».proof.Proof.Algebra
public import Idealize.ShloMosaic.Lib.Pipeline.ValueKit
public import Idealize.ShloMosaic.Lib.Pipeline.ReadBack
public import Idealize.ShloMosaic.Lib.StableHlo.Run
public import Idealize.ShloMosaic.Lib.Pointwise

@[expose] public section

set_option maxRecDepth 16384

noncomputable section

open Idealize.ShloMosaic Idealize.ShloMosaic.TcCoe Idealize.SL.Sem
open scoped BigOperators

namespace Cert.Kernel24Ideal.Own

open Cert.Kernel24Ideal Cert.Kernel24Ideal.Gen Cert.Kernel24Ideal.Value

variable (m : (ℓ : Loc nD τ sig) → Buf (Elt Ideal) ℓ) (ρ : Dev nD → PrngReg)

/-- What the result array holds: the device's own half and the seven received ones, added up. -/
def result (g : Vec Ideal S2x4x256x1024 .bf16) (x : Vec Ideal S7x2x128x1024 .bf16) : Vec Ideal S2x128x1024 .f32 :=
  fun i => g (ix4 (i 0) (0 : Fin 4) (⟨(i 1).val, lt_trans (i 1).isLt (by decide)⟩ : Fin 256) (i 2))
    + ∑ k : Fin 7, x (ix4 k (i 0) (i 1) (i 2))

theorem pay (a b1 b2 b3 b4 b5 b6 b7 : Vec Ideal S1x1x128x1024 .bf16) (j : S1x128x1024.Idx) :
    k0_pay1 (k0_pay2 a b1 b2 b3 b4 b5 b6) b7 j = a (ix4 (0 : Fin 1) (0 : Fin 1) (j 1) (j 2))
      + b1 (ix4 (0 : Fin 1) (0 : Fin 1) (j 1) (j 2))
      + b2 (ix4 (0 : Fin 1) (0 : Fin 1) (j 1) (j 2))
      + b3 (ix4 (0 : Fin 1) (0 : Fin 1) (j 1) (j 2))
      + b4 (ix4 (0 : Fin 1) (0 : Fin 1) (j 1) (j 2))
      + b5 (ix4 (0 : Fin 1) (0 : Fin 1) (j 1) (j 2))
      + b6 (ix4 (0 : Fin 1) (0 : Fin 1) (j 1) (j 2))
      + b7 (ix4 (0 : Fin 1) (0 : Fin 1) (j 1) (j 2)) := by
  idx_vars j
  pointwise [k0_pay1, k0_pay2]

theorem sum7 (a : Elt Ideal .f32) (f : Fin 7 → Elt Ideal .f32) : a + f 0 + f 1 + f 2 + f 3 + f 4 + f 5 + f 6 = a + ∑ k : Fin 7, f k := by
  have h (a b : Elt Ideal .f32) : a + b = (show EReal from a) + (show EReal from b) := rfl
  rw [Fin.sum_univ_seven]
  simp only [add_assoc]

theorem load1 (x : Vec Ideal S7x1x128x1024 .bf16) (p : Fin 128) (q : Fin 1024) :
    View.ld x r0_1 (ix4 (0 : Fin 1) (0 : Fin 1) p q) = x (ix4 (0 : Fin 7) (0 : Fin 1) p q) := by
  refine congrArg x (funext fun a => Fin.ext ?_)
  match a with
  | ⟨0, _⟩ => rfl
  | ⟨1, _⟩ => rfl
  | ⟨2, _⟩ => show 0 + 1 * p.val = p.val; omega
  | ⟨3, _⟩ => show 0 + 1 * q.val = q.val; omega

theorem load2 (x : Vec Ideal S7x1x128x1024 .bf16) (p : Fin 128) (q : Fin 1024) :
    View.ld x r0_2 (ix4 (0 : Fin 1) (0 : Fin 1) p q) = x (ix4 (1 : Fin 7) (0 : Fin 1) p q) := by
  refine congrArg x (funext fun a => Fin.ext ?_)
  match a with
  | ⟨0, _⟩ => rfl
  | ⟨1, _⟩ => rfl
  | ⟨2, _⟩ => show 0 + 1 * p.val = p.val; omega
  | ⟨3, _⟩ => show 0 + 1 * q.val = q.val; omega

theorem load3 (x : Vec Ideal S7x1x128x1024 .bf16) (p : Fin 128) (q : Fin 1024) :
    View.ld x r0_3 (ix4 (0 : Fin 1) (0 : Fin 1) p q) = x (ix4 (2 : Fin 7) (0 : Fin 1) p q) := by
  refine congrArg x (funext fun a => Fin.ext ?_)
  match a with
  | ⟨0, _⟩ => rfl
  | ⟨1, _⟩ => rfl
  | ⟨2, _⟩ => show 0 + 1 * p.val = p.val; omega
  | ⟨3, _⟩ => show 0 + 1 * q.val = q.val; omega

theorem load4 (x : Vec Ideal S7x1x128x1024 .bf16) (p : Fin 128) (q : Fin 1024) :
    View.ld x r0_4 (ix4 (0 : Fin 1) (0 : Fin 1) p q) = x (ix4 (3 : Fin 7) (0 : Fin 1) p q) := by
  refine congrArg x (funext fun a => Fin.ext ?_)
  match a with
  | ⟨0, _⟩ => rfl
  | ⟨1, _⟩ => rfl
  | ⟨2, _⟩ => show 0 + 1 * p.val = p.val; omega
  | ⟨3, _⟩ => show 0 + 1 * q.val = q.val; omega

theorem load5 (x : Vec Ideal S7x1x128x1024 .bf16) (p : Fin 128) (q : Fin 1024) :
    View.ld x r0_5 (ix4 (0 : Fin 1) (0 : Fin 1) p q) = x (ix4 (4 : Fin 7) (0 : Fin 1) p q) := by
  refine congrArg x (funext fun a => Fin.ext ?_)
  match a with
  | ⟨0, _⟩ => rfl
  | ⟨1, _⟩ => rfl
  | ⟨2, _⟩ => show 0 + 1 * p.val = p.val; omega
  | ⟨3, _⟩ => show 0 + 1 * q.val = q.val; omega

theorem load6 (x : Vec Ideal S7x1x128x1024 .bf16) (p : Fin 128) (q : Fin 1024) :
    View.ld x r0_6 (ix4 (0 : Fin 1) (0 : Fin 1) p q) = x (ix4 (5 : Fin 7) (0 : Fin 1) p q) := by
  refine congrArg x (funext fun a => Fin.ext ?_)
  match a with
  | ⟨0, _⟩ => rfl
  | ⟨1, _⟩ => rfl
  | ⟨2, _⟩ => show 0 + 1 * p.val = p.val; omega
  | ⟨3, _⟩ => show 0 + 1 * q.val = q.val; omega

theorem load7 (x : Vec Ideal S7x1x128x1024 .bf16) (p : Fin 128) (q : Fin 1024) :
    View.ld x r0_7 (ix4 (0 : Fin 1) (0 : Fin 1) p q) = x (ix4 (6 : Fin 7) (0 : Fin 1) p q) := by
  refine congrArg x (funext fun a => Fin.ext ?_)
  match a with
  | ⟨0, _⟩ => rfl
  | ⟨1, _⟩ => rfl
  | ⟨2, _⟩ => show 0 + 1 * p.val = p.val; omega
  | ⟨3, _⟩ => show 0 + 1 * q.val = q.val; omega

theorem index0 : ∀ t : Fin cfg0.N, win0_0.index t = ![t.val, 0, 0, 0] := by decide +kernel
theorem index1 : ∀ t : Fin cfg0.N, win0_1.index t = ![0, t.val, 0, 0] := by decide +kernel
theorem index2 : ∀ t : Fin cfg0.N, win0_2.index t = ![t.val, 0, 0] := by decide +kernel

theorem iblk0 (c : Dev nD) (t : Fin cfg0.N) (p : Fin 128) (q : Fin 1024) (h0 : t.val < 2) (h1 : p.val < 256) :
    iblk m c 0 t (ix4 (0 : Fin 1) (0 : Fin 1) p q) = m ((c : Thread nD τ).loc main_arg0) (ix4 (⟨t.val, h0⟩ : Fin 2) (0 : Fin 4) (⟨p.val, h1⟩ : Fin 256) q) := by
  blk_simp [iblk]
  rw [V_main_arg0]
  blk_ext [index0]

theorem iblk1 (c : Dev nD) (t : Fin cfg0.N) (k : Fin 7) (p : Fin 128) (q : Fin 1024) (h0 : t.val < 2) (h1 : p.val < 128) :
    iblk m c 1 t (ix4 k (0 : Fin 1) p q) = m ((c : Thread nD τ).loc main_arg1) (ix4 k (⟨t.val, h0⟩ : Fin 2) (⟨p.val, h1⟩ : Fin 128) q) := by
  blk_simp [iblk]
  rw [V_main_arg1]
  blk_ext [index1]

theorem final (c : Dev nD) : (dats m 0 c).arrAt 2 cfg0.N = result (m ((c : Thread nD τ).loc main_arg0)) (m ((c : Thread nD τ).loc main_arg1)) := by
  refine (dats m 0 c).arrAt_eq_of_covers 2 _ (by decide +kernel) fun t hf y => ?_
  have hN : t.val < 2 := lt_of_lt_of_eq t.isLt N_0
  have b0 : (y 0).val < 1 := (y 0).isLt
  have b1 : (y 1).val < 128 := (y 1).isLt
  have b2 : (y 2).val < 1024 := (y 2).isLt
  have h0 : t.val < 2 := by omega
  have h1 : (y 1).val < 128 := by omega
  have e : (win0_2.blk t).view.emb y = ix3 (⟨t.val, h0⟩ : Fin 2) (⟨(y 1).val, h1⟩ : Fin 128) (y 2) := by
    blk_ext [index2]
  blk_simp
  rw [after0_2, e]
  frame_out
  refine (pay _ _ _ _ _ _ _ _ y).trans ?_
  rw [load1 _ (y 1) (y 2), load2 _ (y 1) (y 2), load3 _ (y 1) (y 2), load4 _ (y 1) (y 2), load5 _ (y 1) (y 2), load6 _ (y 1) (y 2), load7 _ (y 1) (y 2),
    iblk0 m c t (y 1) (y 2) h0 (by omega), iblk1 m c t 0 (y 1) (y 2) h0 h1, iblk1 m c t 1 (y 1) (y 2) h0 h1, iblk1 m c t 2 (y 1) (y 2) h0 h1, iblk1 m c t 3 (y 1) (y 2) h0 h1, iblk1 m c t 4 (y 1) (y 2) h0 h1, iblk1 m c t 5 (y 1) (y 2) h0 h1, iblk1 m c t 6 (y 1) (y 2) h0 h1]
  exact sum7 _ fun k => m ((c : Thread nD τ).loc main_arg1) (ix4 k (⟨t.val, h0⟩ : Fin 2) (⟨(y 1).val, h1⟩ : Fin 128) (y 2))

end Cert.Kernel24Ideal.Own

namespace Cert.Reference24Ideal.Own

open Cert.Reference24Ideal Cert.Reference24Ideal.Gen

/-- What the reference's result holds, entry by entry. -/
theorem result_eq (x : FVec Ideal S2x4x256x1024 .bf16) (y : FVec Ideal S7x2x128x1024 .bf16) :
    addf (extf (F := Ideal) .f32 (shapeCast _ (extractStridedSlice S2x1x128x1024 ![0, 0, 0, 0] x slices_S2x4x256x1024_S2x1x128x1024_0_0_0_0) shapeCasts_S2x1x128x1024_S2x128x1024) bitsLt_bf16_f32) (Host.reduceAdd (extf (F := Ideal) .f32 y bitsLt_bf16_f32) (constant S_ .f32 0x00000000#32) reducesTo_S7x2x128x1024_S2x128x1024_d0 h_S_)
      = Cert.Kernel24Ideal.Own.result x y := by
  funext j
  idx_vars j
  pointwise [Cert.Kernel24Ideal.Own.result]

end Cert.Reference24Ideal.Own

namespace Cert.Proof

/-- The device's own half of the gradient of the attention's output weights and the seven received ones, added one after the other, are the reference's sum. -/
theorem value24 (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg)
    (h : ∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) :
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v5) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)) := by
  refine ⟨fun c => Cert.Kernel24Ideal.Own.result (m ((c.tc : Thread _ _).loc Cert.Kernel24Ideal.main_arg0)) (m ((c.tc : Thread _ _).loc Cert.Kernel24Ideal.main_arg1)), ?_, ?_⟩
  · exact (θ_run Cert.Kernel24Ideal.defs _ _).mono (fun r hr c => ⟨(hr c).1.trans (Cert.Kernel24Ideal.Own.final m c), (hr c).2⟩)
      (Cert.Kernel24Ideal.Value.run_blocks m g)
  · refine (θ_run Cert.Reference24Ideal.defs _ _).mono (fun r hr c => ⟨(hr c).1.trans ?_, (hr c).2⟩) (Cert.Reference24Ideal.Value.run m' g')
    rw [Cert.Reference24Ideal.Own.result_eq, (h c).1, (h c).2]

end Cert.Proof

end
-- ==== Proof.Value25.lean ====
module

public import proofs.«01_k».proof.Proof.Gen.Kernel25Ideal.Value
public import proofs.«01_k».proof.Proof.Gen.Reference25Ideal.Run
public import proofs.«01_k».proof.Proof.Algebra
public import Idealize.ShloMosaic.Lib.Pipeline.ValueKit
public import Idealize.ShloMosaic.Lib.Pipeline.ReadBack
public import Idealize.ShloMosaic.Lib.StableHlo.Run
public import Idealize.ShloMosaic.Lib.Pointwise

@[expose] public section

set_option maxRecDepth 16384

noncomputable section

open Idealize.ShloMosaic Idealize.ShloMosaic.TcCoe Idealize.SL.Sem
open scoped BigOperators

namespace Cert.Kernel25Ideal.Own

open Cert.Kernel25Ideal Cert.Kernel25Ideal.Gen Cert.Kernel25Ideal.Value

variable (m : (ℓ : Loc nD τ sig) → Buf (Elt Ideal) ℓ) (ρ : Dev nD → PrngReg)

/-- What the result array holds: the device's own half and the seven received ones, added up. -/
def result (g : Vec Ideal S2x4x1024x512 .bf16) (x : Vec Ideal S7x2x512x512 .bf16) : Vec Ideal S2x512x512 .f32 :=
  fun i => g (ix4 (i 0) (0 : Fin 4) (⟨(i 1).val, lt_trans (i 1).isLt (by decide)⟩ : Fin 1024) (i 2))
    + ∑ k : Fin 7, x (ix4 k (i 0) (i 1) (i 2))

theorem pay (a b1 b2 b3 b4 b5 b6 b7 : Vec Ideal S1x1x512x512 .bf16) (j : S1x512x512.Idx) :
    k0_pay1 (k0_pay2 a b1 b2 b3 b4 b5 b6) b7 j = a (ix4 (0 : Fin 1) (0 : Fin 1) (j 1) (j 2))
      + b1 (ix4 (0 : Fin 1) (0 : Fin 1) (j 1) (j 2))
      + b2 (ix4 (0 : Fin 1) (0 : Fin 1) (j 1) (j 2))
      + b3 (ix4 (0 : Fin 1) (0 : Fin 1) (j 1) (j 2))
      + b4 (ix4 (0 : Fin 1) (0 : Fin 1) (j 1) (j 2))
      + b5 (ix4 (0 : Fin 1) (0 : Fin 1) (j 1) (j 2))
      + b6 (ix4 (0 : Fin 1) (0 : Fin 1) (j 1) (j 2))
      + b7 (ix4 (0 : Fin 1) (0 : Fin 1) (j 1) (j 2)) := by
  idx_vars j
  pointwise [k0_pay1, k0_pay2]

theorem sum7 (a : Elt Ideal .f32) (f : Fin 7 → Elt Ideal .f32) : a + f 0 + f 1 + f 2 + f 3 + f 4 + f 5 + f 6 = a + ∑ k : Fin 7, f k := by
  have h (a b : Elt Ideal .f32) : a + b = (show EReal from a) + (show EReal from b) := rfl
  rw [Fin.sum_univ_seven]
  simp only [add_assoc]

theorem load1 (x : Vec Ideal S7x1x512x512 .bf16) (p : Fin 512) (q : Fin 512) :
    View.ld x r0_1 (ix4 (0 : Fin 1) (0 : Fin 1) p q) = x (ix4 (0 : Fin 7) (0 : Fin 1) p q) := by
  refine congrArg x (funext fun a => Fin.ext ?_)
  match a with
  | ⟨0, _⟩ => rfl
  | ⟨1, _⟩ => rfl
  | ⟨2, _⟩ => show 0 + 1 * p.val = p.val; omega
  | ⟨3, _⟩ => show 0 + 1 * q.val = q.val; omega

theorem load2 (x : Vec Ideal S7x1x512x512 .bf16) (p : Fin 512) (q : Fin 512) :
    View.ld x r0_2 (ix4 (0 : Fin 1) (0 : Fin 1) p q) = x (ix4 (1 : Fin 7) (0 : Fin 1) p q) := by
  refine congrArg x (funext fun a => Fin.ext ?_)
  match a with
  | ⟨0, _⟩ => rfl
  | ⟨1, _⟩ => rfl
  | ⟨2, _⟩ => show 0 + 1 * p.val = p.val; omega
  | ⟨3, _⟩ => show 0 + 1 * q.val = q.val; omega

theorem load3 (x : Vec Ideal S7x1x512x512 .bf16) (p : Fin 512) (q : Fin 512) :
    View.ld x r0_3 (ix4 (0 : Fin 1) (0 : Fin 1) p q) = x (ix4 (2 : Fin 7) (0 : Fin 1) p q) := by
  refine congrArg x (funext fun a => Fin.ext ?_)
  match a with
  | ⟨0, _⟩ => rfl
  | ⟨1, _⟩ => rfl
  | ⟨2, _⟩ => show 0 + 1 * p.val = p.val; omega
  | ⟨3, _⟩ => show 0 + 1 * q.val = q.val; omega

theorem load4 (x : Vec Ideal S7x1x512x512 .bf16) (p : Fin 512) (q : Fin 512) :
    View.ld x r0_4 (ix4 (0 : Fin 1) (0 : Fin 1) p q) = x (ix4 (3 : Fin 7) (0 : Fin 1) p q) := by
  refine congrArg x (funext fun a => Fin.ext ?_)
  match a with
  | ⟨0, _⟩ => rfl
  | ⟨1, _⟩ => rfl
  | ⟨2, _⟩ => show 0 + 1 * p.val = p.val; omega
  | ⟨3, _⟩ => show 0 + 1 * q.val = q.val; omega

theorem load5 (x : Vec Ideal S7x1x512x512 .bf16) (p : Fin 512) (q : Fin 512) :
    View.ld x r0_5 (ix4 (0 : Fin 1) (0 : Fin 1) p q) = x (ix4 (4 : Fin 7) (0 : Fin 1) p q) := by
  refine congrArg x (funext fun a => Fin.ext ?_)
  match a with
  | ⟨0, _⟩ => rfl
  | ⟨1, _⟩ => rfl
  | ⟨2, _⟩ => show 0 + 1 * p.val = p.val; omega
  | ⟨3, _⟩ => show 0 + 1 * q.val = q.val; omega

theorem load6 (x : Vec Ideal S7x1x512x512 .bf16) (p : Fin 512) (q : Fin 512) :
    View.ld x r0_6 (ix4 (0 : Fin 1) (0 : Fin 1) p q) = x (ix4 (5 : Fin 7) (0 : Fin 1) p q) := by
  refine congrArg x (funext fun a => Fin.ext ?_)
  match a with
  | ⟨0, _⟩ => rfl
  | ⟨1, _⟩ => rfl
  | ⟨2, _⟩ => show 0 + 1 * p.val = p.val; omega
  | ⟨3, _⟩ => show 0 + 1 * q.val = q.val; omega

theorem load7 (x : Vec Ideal S7x1x512x512 .bf16) (p : Fin 512) (q : Fin 512) :
    View.ld x r0_7 (ix4 (0 : Fin 1) (0 : Fin 1) p q) = x (ix4 (6 : Fin 7) (0 : Fin 1) p q) := by
  refine congrArg x (funext fun a => Fin.ext ?_)
  match a with
  | ⟨0, _⟩ => rfl
  | ⟨1, _⟩ => rfl
  | ⟨2, _⟩ => show 0 + 1 * p.val = p.val; omega
  | ⟨3, _⟩ => show 0 + 1 * q.val = q.val; omega

theorem index0 : ∀ t : Fin cfg0.N, win0_0.index t = ![t.val, 0, 0, 0] := by decide +kernel
theorem index1 : ∀ t : Fin cfg0.N, win0_1.index t = ![0, t.val, 0, 0] := by decide +kernel
theorem index2 : ∀ t : Fin cfg0.N, win0_2.index t = ![t.val, 0, 0] := by decide +kernel

theorem iblk0 (c : Dev nD) (t : Fin cfg0.N) (p : Fin 512) (q : Fin 512) (h0 : t.val < 2) (h1 : p.val < 1024) :
    iblk m c 0 t (ix4 (0 : Fin 1) (0 : Fin 1) p q) = m ((c : Thread nD τ).loc main_arg0) (ix4 (⟨t.val, h0⟩ : Fin 2) (0 : Fin 4) (⟨p.val, h1⟩ : Fin 1024) q) := by
  blk_simp [iblk]
  rw [V_main_arg0]
  blk_ext [index0]

theorem iblk1 (c : Dev nD) (t : Fin cfg0.N) (k : Fin 7) (p : Fin 512) (q : Fin 512) (h0 : t.val < 2) (h1 : p.val < 512) :
    iblk m c 1 t (ix4 k (0 : Fin 1) p q) = m ((c : Thread nD τ).loc main_arg1) (ix4 k (⟨t.val, h0⟩ : Fin 2) (⟨p.val, h1⟩ : Fin 512) q) := by
  blk_simp [iblk]
  rw [V_main_arg1]
  blk_ext [index1]

theorem final (c : Dev nD) : (dats m 0 c).arrAt 2 cfg0.N = result (m ((c : Thread nD τ).loc main_arg0)) (m ((c : Thread nD τ).loc main_arg1)) := by
  refine (dats m 0 c).arrAt_eq_of_covers 2 _ (by decide +kernel) fun t hf y => ?_
  have hN : t.val < 2 := lt_of_lt_of_eq t.isLt N_0
  have b0 : (y 0).val < 1 := (y 0).isLt
  have b1 : (y 1).val < 512 := (y 1).isLt
  have b2 : (y 2).val < 512 := (y 2).isLt
  have h0 : t.val < 2 := by omega
  have h1 : (y 1).val < 512 := by omega
  have e : (win0_2.blk t).view.emb y = ix3 (⟨t.val, h0⟩ : Fin 2) (⟨(y 1).val, h1⟩ : Fin 512) (y 2) := by
    blk_ext [index2]
  blk_simp
  rw [after0_2, e]
  frame_out
  refine (pay _ _ _ _ _ _ _ _ y).trans ?_
  rw [load1 _ (y 1) (y 2), load2 _ (y 1) (y 2), load3 _ (y 1) (y 2), load4 _ (y 1) (y 2), load5 _ (y 1) (y 2), load6 _ (y 1) (y 2), load7 _ (y 1) (y 2),
    iblk0 m c t (y 1) (y 2) h0 (by omega), iblk1 m c t 0 (y 1) (y 2) h0 h1, iblk1 m c t 1 (y 1) (y 2) h0 h1, iblk1 m c t 2 (y 1) (y 2) h0 h1, iblk1 m c t 3 (y 1) (y 2) h0 h1, iblk1 m c t 4 (y 1) (y 2) h0 h1, iblk1 m c t 5 (y 1) (y 2) h0 h1, iblk1 m c t 6 (y 1) (y 2) h0 h1]
  exact sum7 _ fun k => m ((c : Thread nD τ).loc main_arg1) (ix4 k (⟨t.val, h0⟩ : Fin 2) (⟨(y 1).val, h1⟩ : Fin 512) (y 2))

end Cert.Kernel25Ideal.Own

namespace Cert.Reference25Ideal.Own

open Cert.Reference25Ideal Cert.Reference25Ideal.Gen

/-- What the reference's result holds, entry by entry. -/
theorem result_eq (x : FVec Ideal S2x4x1024x512 .bf16) (y : FVec Ideal S7x2x512x512 .bf16) :
    addf (extf (F := Ideal) .f32 (shapeCast _ (extractStridedSlice S2x1x512x512 ![0, 0, 0, 0] x slices_S2x4x1024x512_S2x1x512x512_0_0_0_0) shapeCasts_S2x1x512x512_S2x512x512) bitsLt_bf16_f32) (Host.reduceAdd (extf (F := Ideal) .f32 y bitsLt_bf16_f32) (constant S_ .f32 0x00000000#32) reducesTo_S7x2x512x512_S2x512x512_d0 h_S_)
      = Cert.Kernel25Ideal.Own.result x y := by
  funext j
  idx_vars j
  pointwise [Cert.Kernel25Ideal.Own.result]

end Cert.Reference25Ideal.Own

namespace Cert.Proof

/-- The device's own half of the gradient of the recurrence's output weights and the seven received ones, added one after the other, are the reference's sum. -/
theorem value25 (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg)
    (h : ∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) :
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v5) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)) := by
  refine ⟨fun c => Cert.Kernel25Ideal.Own.result (m ((c.tc : Thread _ _).loc Cert.Kernel25Ideal.main_arg0)) (m ((c.tc : Thread _ _).loc Cert.Kernel25Ideal.main_arg1)), ?_, ?_⟩
  · exact (θ_run Cert.Kernel25Ideal.defs _ _).mono (fun r hr c => ⟨(hr c).1.trans (Cert.Kernel25Ideal.Own.final m c), (hr c).2⟩)
      (Cert.Kernel25Ideal.Value.run_blocks m g)
  · refine (θ_run Cert.Reference25Ideal.defs _ _).mono (fun r hr c => ⟨(hr c).1.trans ?_, (hr c).2⟩) (Cert.Reference25Ideal.Value.run m' g')
    rw [Cert.Reference25Ideal.Own.result_eq, (h c).1, (h c).2]

end Cert.Proof

end
-- ==== Proof.Value26.lean ====
module

public import proofs.«01_k».proof.Proof.Gen.Kernel26Ideal.Value
public import proofs.«01_k».proof.Proof.Gen.Reference26Ideal.Run
public import proofs.«01_k».proof.Proof.Algebra
public import Idealize.ShloMosaic.Lib.Pipeline.ValueKit
public import Idealize.ShloMosaic.Lib.Pipeline.ReadBack
public import Idealize.ShloMosaic.Lib.StableHlo.Run
public import Idealize.ShloMosaic.Lib.Pointwise

@[expose] public section

set_option maxRecDepth 16384

noncomputable section

open Idealize.ShloMosaic Idealize.ShloMosaic.TcCoe Idealize.SL.Sem
open scoped BigOperators

namespace Cert.Kernel26Ideal.Own

open Cert.Kernel26Ideal Cert.Kernel26Ideal.Gen Cert.Kernel26Ideal.Value

variable (m : (ℓ : Loc nD τ sig) → Buf (Elt Ideal) ℓ) (ρ : Dev nD → PrngReg)

/-- What the result array holds: the device's own slot and the seven received ones, added up. -/
def result (x : Vec Ideal S4440x128 .f32) (y : Vec Ideal S8x4440x128 .f32) : Vec Ideal S4440x128 .f32 :=
  fun i => x i + ∑ k : Fin 7, y (ix3 k.succ (i 0) (i 1))

theorem pay (a : Vec Ideal S296x128 .f32) (b1 b2 b3 b4 b5 b6 b7 b8 : Vec Ideal S1x296x128 .f32) (j : S296x128.Idx) :
    k0_pay1 a (k0_pay2 a b1 b2 b3 b4 b5 b6 b7) b8 j = a (ix2 (j 0) (j 1))
      + b2 (ix3 (0 : Fin 1) (j 0) (j 1))
      + b3 (ix3 (0 : Fin 1) (j 0) (j 1))
      + b4 (ix3 (0 : Fin 1) (j 0) (j 1))
      + b5 (ix3 (0 : Fin 1) (j 0) (j 1))
      + b6 (ix3 (0 : Fin 1) (j 0) (j 1))
      + b7 (ix3 (0 : Fin 1) (j 0) (j 1))
      + b8 (ix3 (0 : Fin 1) (j 0) (j 1)) := by
  have own (u v : Vec Ideal S296x128 .f32) : Scalar.select 1#1 u v = u := rfl
  have landed (u v : Vec Ideal S296x128 .f32) : Scalar.select 0#1 u v = v := rfl
  idx_vars j
  simp only [k0_pay1, k0_pay2, own, landed]
  pointwise []

theorem sum7 (a : Elt Ideal .f32) (f : Fin 7 → Elt Ideal .f32) : a + f 0 + f 1 + f 2 + f 3 + f 4 + f 5 + f 6 = a + ∑ k : Fin 7, f k := by
  have h (a b : Elt Ideal .f32) : a + b = (show EReal from a) + (show EReal from b) := rfl
  rw [Fin.sum_univ_seven]
  simp only [add_assoc]

theorem load2 (x : Vec Ideal S8x296x128 .f32) (p : Fin 296) (q : Fin 128) :
    View.ld x r0_2 (ix3 (0 : Fin 1) p q) = x (ix3 (1 : Fin 8) p q) := by
  refine congrArg x (funext fun a => Fin.ext ?_)
  match a with
  | ⟨0, _⟩ => rfl
  | ⟨1, _⟩ => show 0 + 1 * p.val = p.val; omega
  | ⟨2, _⟩ => show 0 + 1 * q.val = q.val; omega

theorem load3 (x : Vec Ideal S8x296x128 .f32) (p : Fin 296) (q : Fin 128) :
    View.ld x r0_3 (ix3 (0 : Fin 1) p q) = x (ix3 (2 : Fin 8) p q) := by
  refine congrArg x (funext fun a => Fin.ext ?_)
  match a with
  | ⟨0, _⟩ => rfl
  | ⟨1, _⟩ => show 0 + 1 * p.val = p.val; omega
  | ⟨2, _⟩ => show 0 + 1 * q.val = q.val; omega

theorem load4 (x : Vec Ideal S8x296x128 .f32) (p : Fin 296) (q : Fin 128) :
    View.ld x r0_4 (ix3 (0 : Fin 1) p q) = x (ix3 (3 : Fin 8) p q) := by
  refine congrArg x (funext fun a => Fin.ext ?_)
  match a with
  | ⟨0, _⟩ => rfl
  | ⟨1, _⟩ => show 0 + 1 * p.val = p.val; omega
  | ⟨2, _⟩ => show 0 + 1 * q.val = q.val; omega

theorem load5 (x : Vec Ideal S8x296x128 .f32) (p : Fin 296) (q : Fin 128) :
    View.ld x r0_5 (ix3 (0 : Fin 1) p q) = x (ix3 (4 : Fin 8) p q) := by
  refine congrArg x (funext fun a => Fin.ext ?_)
  match a with
  | ⟨0, _⟩ => rfl
  | ⟨1, _⟩ => show 0 + 1 * p.val = p.val; omega
  | ⟨2, _⟩ => show 0 + 1 * q.val = q.val; omega

theorem load6 (x : Vec Ideal S8x296x128 .f32) (p : Fin 296) (q : Fin 128) :
    View.ld x r0_6 (ix3 (0 : Fin 1) p q) = x (ix3 (5 : Fin 8) p q) := by
  refine congrArg x (funext fun a => Fin.ext ?_)
  match a with
  | ⟨0, _⟩ => rfl
  | ⟨1, _⟩ => show 0 + 1 * p.val = p.val; omega
  | ⟨2, _⟩ => show 0 + 1 * q.val = q.val; omega

theorem load7 (x : Vec Ideal S8x296x128 .f32) (p : Fin 296) (q : Fin 128) :
    View.ld x r0_7 (ix3 (0 : Fin 1) p q) = x (ix3 (6 : Fin 8) p q) := by
  refine congrArg x (funext fun a => Fin.ext ?_)
  match a with
  | ⟨0, _⟩ => rfl
  | ⟨1, _⟩ => show 0 + 1 * p.val = p.val; omega
  | ⟨2, _⟩ => show 0 + 1 * q.val = q.val; omega

theorem load8 (x : Vec Ideal S8x296x128 .f32) (p : Fin 296) (q : Fin 128) :
    View.ld x r0_8 (ix3 (0 : Fin 1) p q) = x (ix3 (7 : Fin 8) p q) := by
  refine congrArg x (funext fun a => Fin.ext ?_)
  match a with
  | ⟨0, _⟩ => rfl
  | ⟨1, _⟩ => show 0 + 1 * p.val = p.val; omega
  | ⟨2, _⟩ => show 0 + 1 * q.val = q.val; omega

theorem index0 : ∀ t : Fin cfg0.N, win0_0.index t = ![t.val, 0] := by decide +kernel
theorem index1 : ∀ t : Fin cfg0.N, win0_1.index t = ![0, t.val, 0] := by decide +kernel
theorem index2 : ∀ t : Fin cfg0.N, win0_2.index t = ![t.val, 0] := by decide +kernel

theorem iblk0 (c : Dev nD) (t : Fin cfg0.N) (p : Fin 296) (q : Fin 128) (h0 : t.val * 296 + p.val < 4440) :
    iblk m c 0 t (ix2 p q) = m ((c : Thread nD τ).loc main_arg0) (ix2 (⟨t.val * 296 + p.val, h0⟩ : Fin 4440) q) := by
  blk_simp [iblk]
  rw [V_main_arg0]
  blk_ext [index0]

theorem iblk1 (c : Dev nD) (t : Fin cfg0.N) (k : Fin 8) (p : Fin 296) (q : Fin 128) (h0 : t.val * 296 + p.val < 4440) :
    iblk m c 1 t (ix3 k p q) = m ((c : Thread nD τ).loc main_arg1) (ix3 k (⟨t.val * 296 + p.val, h0⟩ : Fin 4440) q) := by
  blk_simp [iblk]
  rw [V_main_arg1]
  blk_ext [index1]

theorem final (c : Dev nD) : (dats m 0 c).arrAt 2 cfg0.N = result (m ((c : Thread nD τ).loc main_arg0)) (m ((c : Thread nD τ).loc main_arg1)) := by
  refine (dats m 0 c).arrAt_eq_of_covers 2 _ (by decide +kernel) fun t hf y => ?_
  have hN : t.val < 15 := lt_of_lt_of_eq t.isLt N_0
  have b0 : (y 0).val < 296 := (y 0).isLt
  have b1 : (y 1).val < 128 := (y 1).isLt
  have h0 : t.val * 296 + (y 0).val < 4440 := by omega
  have e : (win0_2.blk t).view.emb y = ix2 (⟨t.val * 296 + (y 0).val, h0⟩ : Fin 4440) (y 1) := by
    blk_ext [index2]
  blk_simp
  rw [after0_2, e]
  frame_out
  refine (pay _ _ _ _ _ _ _ _ _ y).trans ?_
  rw [load2 _ (y 0) (y 1), load3 _ (y 0) (y 1), load4 _ (y 0) (y 1), load5 _ (y 0) (y 1), load6 _ (y 0) (y 1), load7 _ (y 0) (y 1), load8 _ (y 0) (y 1),
    iblk0 m c t (y 0) (y 1) h0, iblk1 m c t 1 (y 0) (y 1) h0, iblk1 m c t 2 (y 0) (y 1) h0, iblk1 m c t 3 (y 0) (y 1) h0, iblk1 m c t 4 (y 0) (y 1) h0, iblk1 m c t 5 (y 0) (y 1) h0, iblk1 m c t 6 (y 0) (y 1) h0, iblk1 m c t 7 (y 0) (y 1) h0]
  exact sum7 _ fun k => m ((c : Thread nD τ).loc main_arg1) (ix3 k.succ (⟨t.val * 296 + (y 0).val, h0⟩ : Fin 4440) (y 1))

end Cert.Kernel26Ideal.Own

namespace Cert.Reference26Ideal.Own

open Cert.Reference26Ideal Cert.Reference26Ideal.Gen

/-- What the reference's result holds, entry by entry. -/
theorem result_eq (x : FVec Ideal S4440x128 .f32) (y : FVec Ideal S8x4440x128 .f32) :
    addf x (Host.reduceAdd (extractStridedSlice S7x4440x128 ![1, 0, 0] y slices_S8x4440x128_S7x4440x128_1_0_0) (constant S_ .f32 0x00000000#32) reducesTo_S7x4440x128_S4440x128_d0 h_S_)
      = Cert.Kernel26Ideal.Own.result x y := by
  funext j
  idx_vars j
  have e (k : Fin 7) (h : 1 + k.val < 8) : (⟨1 + k.val, h⟩ : Fin 8) = k.succ := Fin.ext (by show 1 + k.val = k.val + 1; omega)
  pointwise [Cert.Kernel26Ideal.Own.result]
  try simp only [e]

end Cert.Reference26Ideal.Own

namespace Cert.Proof

/-- The device's own packed partial results and the seven received ones, added one after the other, are the reference's sum. -/
theorem value26 (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg)
    (h : ∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) :
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v2) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)) := by
  refine ⟨fun c => Cert.Kernel26Ideal.Own.result (m ((c.tc : Thread _ _).loc Cert.Kernel26Ideal.main_arg0)) (m ((c.tc : Thread _ _).loc Cert.Kernel26Ideal.main_arg1)), ?_, ?_⟩
  · exact (θ_run Cert.Kernel26Ideal.defs _ _).mono (fun r hr c => ⟨(hr c).1.trans (Cert.Kernel26Ideal.Own.final m c), (hr c).2⟩)
      (Cert.Kernel26Ideal.Value.run_blocks m g)
  · refine (θ_run Cert.Reference26Ideal.defs _ _).mono (fun r hr c => ⟨(hr c).1.trans ?_, (hr c).2⟩) (Cert.Reference26Ideal.Value.run m' g')
    rw [Cert.Reference26Ideal.Own.result_eq, (h c).1, (h c).2]

end Cert.Proof

end
-- ==== Proof.Value27.lean ====
module

public import proofs.«01_k».proof.Proof.Gen.Kernel27Ideal.Value
public import proofs.«01_k».proof.Proof.Gen.Reference27Ideal.Run
public import proofs.«01_k».proof.Proof.Algebra
public import Idealize.ShloMosaic.Lib.Pipeline.ValueKit
public import Idealize.ShloMosaic.Lib.Pipeline.ReadBack
public import Idealize.ShloMosaic.Lib.StableHlo.Run
public import Idealize.ShloMosaic.Lib.Pointwise

@[expose] public section

set_option maxRecDepth 16384

noncomputable section

open Idealize.ShloMosaic Idealize.ShloMosaic.TcCoe Idealize.SL.Sem
open scoped BigOperators

namespace Cert.Kernel27Ideal.Own

open Cert.Kernel27Ideal Cert.Kernel27Ideal.Gen Cert.Kernel27Ideal.Value

variable (m : (ℓ : Loc nD τ sig) → Buf (Elt Ideal) ℓ) (ρ : Dev nD → PrngReg)

/-- The square of a difference. -/
def square (x y : EReal) : EReal := (x - y) * (x - y)

/-- The sum of the squared differences of one row block. -/
def part (x y : Vec Ideal S256x1024 .f32) : EReal := ∑ p : Fin 256, ∑ k : Fin 1024, square (x (ix2 p k)) (y (ix2 p k))

/-- What the result array holds: the sum of the squared differences. -/
def result (x y : Vec Ideal S4096x1024 .f32) : Vec Ideal S1x1 .f32 :=
  fun _ => ∑ l : Fin 4096, ∑ k : Fin 1024, square (x (ix2 l k)) (y (ix2 l k))

theorem pay1 (x y : Vec Ideal S256x1024 .f32) (j : S1x1.Idx) : k0_pay1 x y j = part x y := by
  idx_vars j
  pointwise [k0_pay1, part, square]

theorem pay2 (x y : Vec Ideal S256x1024 .f32) (a : Vec Ideal S1x1 .f32) (j : S1x1.Idx) : k0_pay2 x y a j = a j + part x y := by
  have h : k0_pay2 x y a j = (shapeCast S1x1 a shapeCasts_S1x1_S1x1 : FVec Ideal S1x1 .f32) j + k0_pay1 x y j := rfl
  rw [h, pay1]
  idx_vars j
  pointwise []

theorem acc (c : Dev nD) (t : Fin cfg0.N) (ht : t.val % 16 = 15) (j : S1x1.Idx) :
    (outsAt0 m c t.val t.isLt) j
      = ∑ s : Fin 16, part (iblk m c 0 ⟨16 * (t.val / 16) + s.val, Pipeline.run_point_lt_of_flush t ht s⟩) (iblk m c 1 ⟨16 * (t.val / 16) + s.val, Pipeline.run_point_lt_of_flush t ht s⟩) := by
  rw [Pipeline.eq_sum_fin_of_reset_step_apply_of_flush (fun n h => outsAt0 m c n h) 16 (fun _ => (0 : EReal))
    (fun t _ => part (iblk m c 0 t) (iblk m c 1 t)) ?_ ?_ t ht j, zero_add]
  · intro t h0 j
    have hN : t.val < 16 := lt_of_lt_of_eq t.isLt N_0
    rw [outsAt0_A m c t h0 (by omega)]
    frame_out
    rw [pay1, zero_add]
  · intro t h0 j
    rw [outsAt0_B m c t h0 (by omega)]
    frame_out
    rw [pay2]
    try rw [read_unread_whole]

theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![0, 0] := by decide +kernel

theorem iblk0 (c : Dev nD) (t : Fin cfg0.N) (p : Fin 256) (k : Fin 1024) (h0 : t.val * 256 + p.val < 4096) :
    iblk m c 0 t (ix2 p k) = m ((c : Thread nD τ).loc main_arg0) (ix2 ⟨t.val * 256 + p.val, h0⟩ k) := by
  blk_simp [iblk]
  rw [V_main_arg0]
  blk_ext [index0]

theorem iblk1 (c : Dev nD) (t : Fin cfg0.N) (p : Fin 256) (k : Fin 1024) (h0 : t.val * 256 + p.val < 4096) :
    iblk m c 1 t (ix2 p k) = m ((c : Thread nD τ).loc main_arg1) (ix2 ⟨t.val * 256 + p.val, h0⟩ k) := by
  blk_simp [iblk]
  rw [V_main_arg1]
  blk_ext [index1]

theorem point (c : Dev nD) (t : Fin cfg0.N) (ht : t.val % 16 = 15) (j i : S1x1.Idx) :
    (outsAt0 m c t.val t.isLt) j = result (m ((c : Thread nD τ).loc main_arg0)) (m ((c : Thread nD τ).loc main_arg1)) i := by
  have hN : t.val < 16 := lt_of_lt_of_eq t.isLt N_0
  rw [acc m c t ht]
  refine Fin.sum_mul_add_congr fun s k hl => ?_
  have hs := s.isLt
  have hk := k.isLt
  have e0 : 16 * (t.val / 16) + s.val = s.val := by omega
  refine Finset.sum_congr rfl fun l _ => ?_
  rw [iblk0 m c ⟨16 * (t.val / 16) + s.val, Pipeline.run_point_lt_of_flush t ht s⟩ k l (by dsimp only; omega),
    iblk1 m c ⟨16 * (t.val / 16) + s.val, Pipeline.run_point_lt_of_flush t ht s⟩ k l (by dsimp only; omega)]
  simp only [e0]

theorem final (c : Dev nD) : (dats m 0 c).arrAt 2 cfg0.N = result (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2]
  exact point m c t (by omega) y _

end Cert.Kernel27Ideal.Own

namespace Cert.Reference27Ideal.Own

open Cert.Reference27Ideal Cert.Reference27Ideal.Gen

/-- What the reference's result holds, entry by entry. -/
theorem result_eq (x : FVec Ideal S4096x1024 .f32) (y : FVec Ideal S4096x1024 .f32) :
    shapeCast _ (Host.reduceAdd (mulf (subf x y) (subf x y)) (constant S_ .f32 0x00000000#32) reducesTo_S4096x1024_S_d0_1 h_S_) shapeCasts_S_S1x1
      = Cert.Kernel27Ideal.Own.result x y := by
  funext j
  idx_vars j
  pointwise [Cert.Kernel27Ideal.Own.result, Cert.Kernel27Ideal.Own.square]

end Cert.Reference27Ideal.Own

namespace Cert.Proof

/-- The squared differences summed block by block are the reference's sum over the whole array. -/
theorem value27 (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg)
    (h : ∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) :
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v3) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)) := by
  refine ⟨fun c => Cert.Kernel27Ideal.Own.result (m ((c.tc : Thread _ _).loc Cert.Kernel27Ideal.main_arg0)) (m ((c.tc : Thread _ _).loc Cert.Kernel27Ideal.main_arg1)), ?_, ?_⟩
  · exact (θ_run Cert.Kernel27Ideal.defs _ _).mono (fun r hr c => ⟨(hr c).1.trans (Cert.Kernel27Ideal.Own.final m c), (hr c).2⟩)
      (Cert.Kernel27Ideal.Value.run_blocks m g)
  · refine (θ_run Cert.Reference27Ideal.defs _ _).mono (fun r hr c => ⟨(hr c).1.trans ?_, (hr c).2⟩) (Cert.Reference27Ideal.Value.run m' g')
    rw [Cert.Reference27Ideal.Own.result_eq, (h c).1, (h c).2]

end Cert.Proof

end
-- ==== Proof.Value28.lean ====
module

public import proofs.«01_k».proof.Proof.Gen.Kernel28Ideal.Value
public import proofs.«01_k».proof.Proof.Gen.Reference28Ideal.Run
public import proofs.«01_k».proof.Proof.Algebra
public import Idealize.ShloMosaic.Lib.Pipeline.ValueKit
public import Idealize.ShloMosaic.Lib.Pipeline.ReadBack
public import Idealize.ShloMosaic.Lib.StableHlo.Run
public import Idealize.ShloMosaic.Lib.Pointwise

@[expose] public section

set_option maxRecDepth 16384

noncomputable section

open Idealize.ShloMosaic Idealize.ShloMosaic.TcCoe Idealize.SL.Sem
open scoped BigOperators

namespace Cert.Kernel28Ideal.Own

open Cert.Kernel28Ideal Cert.Kernel28Ideal.Gen Cert.Kernel28Ideal.Value

variable (m : (ℓ : Loc nD τ sig) → Buf (Elt Ideal) ℓ) (ρ : Dev nD → PrngReg)

/-- The mean of a row. -/
def mean (z : Fin 1024 → EReal) : EReal := Ideal.div (∑ k : Fin 1024, z k) (Ideal.ofBits .f32 0x44800000#32)

/-- A row less its mean. -/
def centred (z : Fin 1024 → EReal) (q : Fin 1024) : EReal := z q - mean z

/-- The reciprocal of a row's deviation. -/
def rdev (z : Fin 1024 → EReal) : EReal :=
  Ideal.rsqrt (Ideal.div (∑ k : Fin 1024, centred z k * centred z k) (Ideal.ofBits .f32 0x44800000#32) + Ideal.ofBits .f32 0x3727C5AC#32)

/-- A row of the residual sum, of a block. -/
def rowB (x y : Vec Ideal S256x1024 .f32) (p : Fin 256) (q : Fin 1024) : EReal :=
  Ideal.ofBits .f32 0x3FD744FD#32 * x (ix2 p q) + y (ix2 p q)

/-- A row of the residual sum. -/
def row (x y : Vec Ideal S4096x1024 .f32) (p : Fin 4096) (q : Fin 1024) : EReal :=
  Ideal.ofBits .f32 0x3FD744FD#32 * x (ix2 p q) + y (ix2 p q)

theorem pay1 (x y : Vec Ideal S256x1024 .f32) (p : Fin 256) (q : Fin 1024) :
    k0_pay1 x y (ix2 p q) = centred (rowB x y p) q := by
  pointwise [k0_pay1, centred, mean, rowB, one_mul]

theorem pay2 (x y : Vec Ideal S256x1024 .f32) (j : S256x1.Idx) :
    k0_pay2 x y j = rdev (rowB x y (j 0)) := by
  idx_vars j
  pointwise [k0_pay2, pay1, rdev]

theorem pay3 (x y : Vec Ideal S256x1024 .f32) (j : S256x1024.Idx) :
    k0_pay3 x y j = centred (rowB x y (j 0)) (j 1) * rdev (rowB x y (j 0)) := by
  idx_vars j
  pointwise [k0_pay3, pay1, pay2]

theorem pay4 (x y : Vec Ideal S256x1024 .f32) (g b : Vec Ideal S1x1024 .f32) (j : S256x1024.Idx) :
    k0_pay4 x y g b j = centred (rowB x y (j 0)) (j 1) * rdev (rowB x y (j 0)) * g (ix2 (0 : Fin 1) (j 1)) + b (ix2 (0 : Fin 1) (j 1)) := by
  idx_vars j
  pointwise [k0_pay4, pay3]

theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![t.val, 0] := by decide +kernel
theorem index5 : ∀ t : Fin cfg0.N, win0_5.index t = ![t.val, 0] := by decide +kernel
theorem index6 : ∀ t : Fin cfg0.N, win0_6.index t = ![t.val, 0] := by decide +kernel

theorem iblk0 (c : Dev nD) (t : Fin cfg0.N) (p : Fin 256) (k : Fin 1024) (h0 : t.val * 256 + p.val < 4096) :
    iblk m c 0 t (ix2 p k) = m ((c : Thread nD τ).loc main_arg0) (ix2 ⟨t.val * 256 + p.val, h0⟩ k) := by
  blk_simp [iblk]
  rw [V_main_arg0]
  blk_ext [index0]

theorem iblk1 (c : Dev nD) (t : Fin cfg0.N) (p : Fin 256) (k : Fin 1024) (h0 : t.val * 256 + p.val < 4096) :
    iblk m c 1 t (ix2 p k) = m ((c : Thread nD τ).loc main_arg1) (ix2 ⟨t.val * 256 + p.val, h0⟩ k) := by
  blk_simp [iblk]
  rw [V_main_arg1]
  blk_ext [index1]

theorem iblk2 (c : Dev nD) (t : Fin cfg0.N) (q : Fin 1024) :
    iblk m c 2 t (ix2 (0 : Fin 1) q) = m ((c : Thread nD τ).loc main_arg2) (ix2 (0 : Fin 1) q) := by
  blk_simp [iblk]
  rw [V_main_arg2]
  blk_ext [index2]

theorem iblk3 (c : Dev nD) (t : Fin cfg0.N) (q : Fin 1024) :
    iblk m c 3 t (ix2 (0 : Fin 1) q) = m ((c : Thread nD τ).loc main_arg3) (ix2 (0 : Fin 1) q) := by
  blk_simp [iblk]
  rw [V_main_arg3]
  blk_ext [index3]

theorem row_block (c : Dev nD) (t : Fin cfg0.N) (p : Fin 256) (h0 : t.val * 256 + p.val < 4096) :
    rowB (iblk m c 0 t) (iblk m c 1 t) p = row (m ((c : Thread nD τ).loc main_arg0)) (m ((c : Thread nD τ).loc main_arg1)) ⟨t.val * 256 + p.val, h0⟩ := by
  funext q
  unfold rowB row
  rw [iblk0 m c t p q h0, iblk1 m c t p q h0]

/-- The standardised residual sum. -/
def standard (x y : Vec Ideal S4096x1024 .f32) : Vec Ideal S4096x1024 .f32 :=
  fun i => centred (row x y (i 0)) (i 1) * rdev (row x y (i 0))

/-- Its rows' reciprocal deviations. -/
def rdevs (x y : Vec Ideal S4096x1024 .f32) : Vec Ideal S4096x1 .f32 :=
  fun i => rdev (row x y (i 0))

/-- The layer norm of the residual sum. -/
def normed (x y : Vec Ideal S4096x1024 .f32) (g b : Vec Ideal S1x1024 .f32) : Vec Ideal S4096x1024 .f32 :=
  fun i => centred (row x y (i 0)) (i 1) * rdev (row x y (i 0)) * g (ix2 (0 : Fin 1) (i 1)) + b (ix2 (0 : Fin 1) (i 1))

theorem final4 (c : Dev nD) : (dats m 0 c).arrAt 4 cfg0.N = normed (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have hN : t.val < 16 := lt_of_lt_of_eq t.isLt N_0
  have b0 : (y 0).val < 256 := (y 0).isLt
  have b1 : (y 1).val < 1024 := (y 1).isLt
  have h1 : t.val * 256 + (y 0).val < 4096 := by omega
  have e : (win0_4.blk t).view.emb y = ix2 (⟨t.val * 256 + (y 0).val, h1⟩ : Fin 4096) (y 1) := by
    blk_ext [index4]
  blk_simp
  rw [after0_4, e]
  frame_out
  refine (pay4 _ _ _ _ y).trans ?_
  rw [row_block m c t (y 0) h1]
  exact congrArg₂ (fun g b => _ * _ * g + b) (iblk2 m c t (y 1)) (iblk3 m c t (y 1))

theorem final5 (c : Dev nD) : (dats m 0 c).arrAt 5 cfg0.N = standard (m ((c : Thread nD τ).loc main_arg0)) (m ((c : Thread nD τ).loc main_arg1)) := by
  refine (dats m 0 c).arrAt_eq_of_covers 5 _ (by decide +kernel) fun t hf y => ?_
  have hN : t.val < 16 := lt_of_lt_of_eq t.isLt N_0
  have b0 : (y 0).val < 256 := (y 0).isLt
  have b1 : (y 1).val < 1024 := (y 1).isLt
  have h1 : t.val * 256 + (y 0).val < 4096 := by omega
  have e : (win0_5.blk t).view.emb y = ix2 (⟨t.val * 256 + (y 0).val, h1⟩ : Fin 4096) (y 1) := by
    blk_ext [index5]
  blk_simp
  rw [after0_5, e]
  frame_out
  refine (pay3 _ _ y).trans ?_
  rw [row_block m c t (y 0) h1]
  rfl

theorem final6 (c : Dev nD) : (dats m 0 c).arrAt 6 cfg0.N = rdevs (m ((c : Thread nD τ).loc main_arg0)) (m ((c : Thread nD τ).loc main_arg1)) := by
  refine (dats m 0 c).arrAt_eq_of_covers 6 _ (by decide +kernel) fun t hf y => ?_
  have hN : t.val < 16 := lt_of_lt_of_eq t.isLt N_0
  have b0 : (y 0).val < 256 := (y 0).isLt
  have b1 : (y 1).val < 1 := (y 1).isLt
  have h1 : t.val * 256 + (y 0).val < 4096 := by omega
  have e : (win0_6.blk t).view.emb y = ix2 (⟨t.val * 256 + (y 0).val, h1⟩ : Fin 4096) (y 1) := by
    blk_ext [index6]
  blk_simp
  rw [after0_6, e]
  frame_out
  refine (pay2 _ _ y).trans ?_
  rw [row_block m c t (y 0) h1]
  rfl

end Cert.Kernel28Ideal.Own

namespace Cert.Reference28Ideal.Own

open Cert.Reference28Ideal Cert.Reference28Ideal.Gen

/-- What the reference's results hold, entry by entry. -/
theorem rdevs_eq (x y : FVec Ideal S4096x1024 .f32) :
    Host.rsqrt (addf (Host.divf (broadcastInDim S4096x1 ![0] bcast_S4096_S4096x1_0 (Host.reduceAdd (mulf (subf (addf (mulf (broadcastInDim S4096x1024 ![] bcast_S_S4096x1024 (constant S_ .f32 0x3FD744FD#32)) x) y) (broadcastInDim S4096x1024 ![0, 1] bcast_S4096x1_S4096x1024_0_1 (Host.divf (broadcastInDim S4096x1 ![0] bcast_S4096_S4096x1_0 (Host.reduceAdd (addf (mulf (broadcastInDim S4096x1024 ![] bcast_S_S4096x1024 (constant S_ .f32 0x3FD744FD#32)) x) y) (constant S_ .f32 0x00000000#32) reducesTo_S4096x1024_S4096_d1 h_S_)) (broadcastInDim S4096x1 ![] bcast_S_S4096x1 (constant S_ .f32 0x44800000#32))))) (subf (addf (mulf (broadcastInDim S4096x1024 ![] bcast_S_S4096x1024 (constant S_ .f32 0x3FD744FD#32)) x) y) (broadcastInDim S4096x1024 ![0, 1] bcast_S4096x1_S4096x1024_0_1 (Host.divf (broadcastInDim S4096x1 ![0] bcast_S4096_S4096x1_0 (Host.reduceAdd (addf (mulf (broadcastInDim S4096x1024 ![] bcast_S_S4096x1024 (constant S_ .f32 0x3FD744FD#32)) x) y) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))
      = Cert.Kernel28Ideal.Own.rdevs x y := by
  funext j
  idx_vars j
  pointwise [Cert.Kernel28Ideal.Own.rdevs, Cert.Kernel28Ideal.Own.rdev, Cert.Kernel28Ideal.Own.centred, Cert.Kernel28Ideal.Own.mean, Cert.Kernel28Ideal.Own.row]

theorem standard_eq (x y : FVec Ideal S4096x1024 .f32) :
    mulf (subf (addf (mulf (broadcastInDim S4096x1024 ![] bcast_S_S4096x1024 (constant S_ .f32 0x3FD744FD#32)) x) y) (broadcastInDim S4096x1024 ![0, 1] bcast_S4096x1_S4096x1024_0_1 (Host.divf (broadcastInDim S4096x1 ![0] bcast_S4096_S4096x1_0 (Host.reduceAdd (addf (mulf (broadcastInDim S4096x1024 ![] bcast_S_S4096x1024 (constant S_ .f32 0x3FD744FD#32)) x) y) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (addf (mulf (broadcastInDim S4096x1024 ![] bcast_S_S4096x1024 (constant S_ .f32 0x3FD744FD#32)) x) y) (broadcastInDim S4096x1024 ![0, 1] bcast_S4096x1_S4096x1024_0_1 (Host.divf (broadcastInDim S4096x1 ![0] bcast_S4096_S4096x1_0 (Host.reduceAdd (addf (mulf (broadcastInDim S4096x1024 ![] bcast_S_S4096x1024 (constant S_ .f32 0x3FD744FD#32)) x) y) (constant S_ .f32 0x00000000#32) reducesTo_S4096x1024_S4096_d1 h_S_)) (broadcastInDim S4096x1 ![] bcast_S_S4096x1 (constant S_ .f32 0x44800000#32))))) (subf (addf (mulf (broadcastInDim S4096x1024 ![] bcast_S_S4096x1024 (constant S_ .f32 0x3FD744FD#32)) x) y) (broadcastInDim S4096x1024 ![0, 1] bcast_S4096x1_S4096x1024_0_1 (Host.divf (broadcastInDim S4096x1 ![0] bcast_S4096_S4096x1_0 (Host.reduceAdd (addf (mulf (broadcastInDim S4096x1024 ![] bcast_S_S4096x1024 (constant S_ .f32 0x3FD744FD#32)) x) y) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))))
      = Cert.Kernel28Ideal.Own.standard x y := by
  funext j
  idx_vars j
  pointwise [Cert.Kernel28Ideal.Own.standard, Cert.Kernel28Ideal.Own.rdev, Cert.Kernel28Ideal.Own.centred, Cert.Kernel28Ideal.Own.mean, Cert.Kernel28Ideal.Own.row]

theorem normed_eq (x y : FVec Ideal S4096x1024 .f32) (g b : FVec Ideal S1x1024 .f32) :
    addf (mulf (mulf (subf (addf (mulf (broadcastInDim S4096x1024 ![] bcast_S_S4096x1024 (constant S_ .f32 0x3FD744FD#32)) x) y) (broadcastInDim S4096x1024 ![0, 1] bcast_S4096x1_S4096x1024_0_1 (Host.divf (broadcastInDim S4096x1 ![0] bcast_S4096_S4096x1_0 (Host.reduceAdd (addf (mulf (broadcastInDim S4096x1024 ![] bcast_S_S4096x1024 (constant S_ .f32 0x3FD744FD#32)) x) y) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (addf (mulf (broadcastInDim S4096x1024 ![] bcast_S_S4096x1024 (constant S_ .f32 0x3FD744FD#32)) x) y) (broadcastInDim S4096x1024 ![0, 1] bcast_S4096x1_S4096x1024_0_1 (Host.divf (broadcastInDim S4096x1 ![0] bcast_S4096_S4096x1_0 (Host.reduceAdd (addf (mulf (broadcastInDim S4096x1024 ![] bcast_S_S4096x1024 (constant S_ .f32 0x3FD744FD#32)) x) y) (constant S_ .f32 0x00000000#32) reducesTo_S4096x1024_S4096_d1 h_S_)) (broadcastInDim S4096x1 ![] bcast_S_S4096x1 (constant S_ .f32 0x44800000#32))))) (subf (addf (mulf (broadcastInDim S4096x1024 ![] bcast_S_S4096x1024 (constant S_ .f32 0x3FD744FD#32)) x) y) (broadcastInDim S4096x1024 ![0, 1] bcast_S4096x1_S4096x1024_0_1 (Host.divf (broadcastInDim S4096x1 ![0] bcast_S4096_S4096x1_0 (Host.reduceAdd (addf (mulf (broadcastInDim S4096x1024 ![] bcast_S_S4096x1024 (constant S_ .f32 0x3FD744FD#32)) x) y) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))))) (broadcastInDim S4096x1024 ![0, 1] bcast_S1x1024_S4096x1024_0_1 g)) (broadcastInDim S4096x1024 ![0, 1] bcast_S1x1024_S4096x1024_0_1 b)
      = Cert.Kernel28Ideal.Own.normed x y g b := by
  funext j
  idx_vars j
  pointwise [Cert.Kernel28Ideal.Own.normed, Cert.Kernel28Ideal.Own.rdev, Cert.Kernel28Ideal.Own.centred, Cert.Kernel28Ideal.Own.mean, Cert.Kernel28Ideal.Own.row]

end Cert.Reference28Ideal.Own

namespace Cert.Proof

/-- The layer norm of the residual sum, and what its backward pass reads of it, are the reference's. -/
theorem value28 (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg)
    (h : ∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) :
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v24) = v0 c
          ∧ r.2.mem ((c.tc : Thread Cert.Reference28Ideal.nD Cert.Reference28Ideal.τ).loc Cert.Reference28Ideal.main_v42) = v1 c
          ∧ r.2.mem ((c.tc : Thread Cert.Reference28Ideal.nD Cert.Reference28Ideal.τ).loc Cert.Reference28Ideal.main_v38) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)) := by
  refine ⟨fun c => Cert.Kernel28Ideal.Own.normed (m ((c.tc : Thread _ _).loc Cert.Kernel28Ideal.main_arg0)) (m ((c.tc : Thread _ _).loc Cert.Kernel28Ideal.main_arg1)) (m ((c.tc : Thread _ _).loc Cert.Kernel28Ideal.main_arg2)) (m ((c.tc : Thread _ _).loc Cert.Kernel28Ideal.main_arg3)), fun c => Cert.Kernel28Ideal.Own.standard (m ((c.tc : Thread _ _).loc Cert.Kernel28Ideal.main_arg0)) (m ((c.tc : Thread _ _).loc Cert.Kernel28Ideal.main_arg1)), fun c => Cert.Kernel28Ideal.Own.rdevs (m ((c.tc : Thread _ _).loc Cert.Kernel28Ideal.main_arg0)) (m ((c.tc : Thread _ _).loc Cert.Kernel28Ideal.main_arg1)), ?_, ?_⟩
  · exact (θ_run Cert.Kernel28Ideal.defs _ _).mono (fun r hr c => ⟨(hr c).1.trans (Cert.Kernel28Ideal.Own.final4 m c), (hr c).2.1.trans (Cert.Kernel28Ideal.Own.final5 m c), (hr c).2.2.1.trans (Cert.Kernel28Ideal.Own.final6 m c), (hr c).2.2.2⟩)
      (Cert.Kernel28Ideal.Value.run_blocks m g)
  · refine (θ_run Cert.Reference28Ideal.defs _ _).mono (fun r hr c => ⟨(hr c).1.trans ?_, (hr c).2.1.trans ?_, (hr c).2.2.1.trans ?_, (hr c).2.2.2⟩) (Cert.Reference28Ideal.Value.run m' g')
    · rw [Cert.Reference28Ideal.Own.normed_eq, (h c).1, (h c).2.1, (h c).2.2.1, (h c).2.2.2]
    · rw [Cert.Reference28Ideal.Own.standard_eq, (h c).1, (h c).2.1]
    · rw [Cert.Reference28Ideal.Own.rdevs_eq, (h c).1, (h c).2.1]

end Cert.Proof

end
-- ==== Proof.Value29.lean ====
module

public import proofs.«01_k».proof.Proof.Gen.Kernel29Ideal.Value
public import proofs.«01_k».proof.Proof.Gen.Reference29Ideal.Run
public import proofs.«01_k».proof.Proof.Algebra
public import Idealize.ShloMosaic.Lib.Pipeline.ValueKit
public import Idealize.ShloMosaic.Lib.Pipeline.ReadBack
public import Idealize.ShloMosaic.Lib.StableHlo.Run
public import Idealize.ShloMosaic.Lib.Pointwise

@[expose] public section

set_option maxRecDepth 16384

noncomputable section

open Idealize.ShloMosaic Idealize.ShloMosaic.TcCoe Idealize.SL.Sem
open scoped BigOperators

namespace Cert.Kernel29Ideal.Own

open Cert.Kernel29Ideal Cert.Kernel29Ideal.Gen Cert.Kernel29Ideal.Value

variable (m : (ℓ : Loc nD τ sig) → Buf (Elt Ideal) ℓ) (ρ : Dev nD → PrngReg)

/-- The logistic function. -/
def logistic (g : EReal) : EReal :=
  Ideal.div (Ideal.ofBits .f32 0x3F800000#32) (Ideal.ofBits .f32 0x3F800000#32 + Ideal.exp (-g))

/-- What the result array holds: the left half times the logistic function of the right half. -/
def result (x : Vec Ideal S4096x2048 .f32) : Vec Ideal S4096x1024 .f32 :=
  fun i => x (ix2 (i 0) (⟨0 + (i 1).val, lt_of_eq_of_lt (Nat.zero_add _) (lt_trans (i 1).isLt (by decide))⟩ : Fin 2048))
    * logistic (x (ix2 (i 0) (⟨1024 + (i 1).val, Nat.add_lt_add_left (show (i 1).val < 1024 from (i 1).isLt) 1024⟩ : Fin 2048)))

theorem pay (x y : Vec Ideal S256x1024 .f32) (j : S256x1024.Idx) :
    k0_pay1 x y j = x (ix2 (j 0) (j 1)) * logistic (y (ix2 (j 0) (j 1))) := by
  idx_vars j
  pointwise [k0_pay1, logistic]
  rw [zero_sub]

theorem load0 (x : Vec Ideal S256x2048 .f32) (p : Fin 256) (q : Fin 1024) (h : 0 + q.val < 2048) :
    View.ld x r0_0 (ix2 p q) = x (ix2 p (⟨0 + q.val, h⟩ : Fin 2048)) := by
  refine congrArg x (funext fun a => Fin.ext ?_)
  match a with
  | ⟨0, _⟩ => show 0 + 1 * p.val = p.val; omega
  | ⟨1, _⟩ => show 0 + 1 * q.val = 0 + q.val; omega

theorem load1 (x : Vec Ideal S256x2048 .f32) (p : Fin 256) (q : Fin 1024) (h : 1024 + q.val < 2048) :
    View.ld x r0_1 (ix2 p q) = x (ix2 p (⟨1024 + q.val, h⟩ : Fin 2048)) := by
  refine congrArg x (funext fun a => Fin.ext ?_)
  match a with
  | ⟨0, _⟩ => show 0 + 1 * p.val = p.val; omega
  | ⟨1, _⟩ => show 1024 + 1 * q.val = 1024 + q.val; omega

theorem index0 : ∀ t : Fin cfg0.N, win0_0.index t = ![t.val, 0] := by decide +kernel
theorem index1 : ∀ t : Fin cfg0.N, win0_1.index t = ![t.val, 0] := by decide +kernel

theorem iblk0 (c : Dev nD) (t : Fin cfg0.N) (p : Fin 256) (q : Fin 2048) (h0 : t.val * 256 + p.val < 4096) :
    iblk m c 0 t (ix2 p q) = m ((c : Thread nD τ).loc main_arg0) (ix2 (⟨t.val * 256 + p.val, h0⟩ : Fin 4096) q) := by
  blk_simp [iblk]
  rw [V_main_arg0]
  blk_ext [index0]

theorem final (c : Dev nD) : (dats m 0 c).arrAt 1 cfg0.N = result (m ((c : Thread nD τ).loc main_arg0)) := by
  refine (dats m 0 c).arrAt_eq_of_covers 1 _ (by decide +kernel) fun t hf y => ?_
  have hN : t.val < 16 := lt_of_lt_of_eq t.isLt N_0
  have b0 : (y 0).val < 256 := (y 0).isLt
  have b1 : (y 1).val < 1024 := (y 1).isLt
  have h0 : t.val * 256 + (y 0).val < 4096 := by omega
  have e : (win0_1.blk t).view.emb y = ix2 (⟨t.val * 256 + (y 0).val, h0⟩ : Fin 4096) (y 1) := by
    blk_ext [index1]
  blk_simp
  rw [after0_1, e]
  frame_out
  refine (pay _ _ y).trans ?_
  rw [load0 _ (y 0) (y 1) (by omega), load1 _ (y 0) (y 1) (by omega), iblk0 m c t (y 0) _ h0, iblk0 m c t (y 0) _ h0]
  rfl

end Cert.Kernel29Ideal.Own

namespace Cert.Reference29Ideal.Own

open Cert.Reference29Ideal Cert.Reference29Ideal.Gen

/-- What the reference's result holds, entry by entry. -/
theorem result_eq (x : FVec Ideal S4096x2048 .f32) :
    mulf (extractStridedSlice S4096x1024 ![0, 0] x slices_S4096x2048_S4096x1024_0_0) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] x slices_S4096x2048_S4096x1024_0_1024)))))
      = Cert.Kernel29Ideal.Own.result x := by
  funext j
  idx_vars j
  pointwise [Cert.Kernel29Ideal.Own.result, Cert.Kernel29Ideal.Own.logistic]

end Cert.Reference29Ideal.Own

namespace Cert.Proof

/-- The gated product of the kernel's row blocks is the reference's. -/
theorem value29 (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg)
    (h : ∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)) :
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v8) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)) := by
  refine ⟨fun c => Cert.Kernel29Ideal.Own.result (m ((c.tc : Thread _ _).loc Cert.Kernel29Ideal.main_arg0)), ?_, ?_⟩
  · exact (θ_run Cert.Kernel29Ideal.defs _ _).mono (fun r hr c => ⟨(hr c).1.trans (Cert.Kernel29Ideal.Own.final m c), (hr c).2⟩)
      (Cert.Kernel29Ideal.Value.run_blocks m g)
  · refine (θ_run Cert.Reference29Ideal.defs _ _).mono (fun r hr c => ⟨(hr c).1.trans ?_, (hr c).2⟩) (Cert.Reference29Ideal.Value.run m' g')
    rw [Cert.Reference29Ideal.Own.result_eq, (h c)]

end Cert.Proof

end
-- ==== Proof.Value30.lean ====
module

public import proofs.«01_k».proof.Proof.Gen.Kernel30Ideal.Value
public import proofs.«01_k».proof.Proof.Gen.Reference30Ideal.Run
public import proofs.«01_k».proof.Proof.Algebra
public import Idealize.ShloMosaic.Lib.Pipeline.ValueKit
public import Idealize.ShloMosaic.Lib.Pipeline.ReadBack
public import Idealize.ShloMosaic.Lib.StableHlo.Run
public import Idealize.ShloMosaic.Lib.Pointwise

@[expose] public section

set_option maxRecDepth 16384

noncomputable section

open Idealize.ShloMosaic Idealize.ShloMosaic.TcCoe Idealize.SL.Sem
open scoped BigOperators

namespace Cert.Kernel30Ideal.Own

open Cert.Kernel30Ideal Cert.Kernel30Ideal.Gen Cert.Kernel30Ideal.Value

variable (m : (ℓ : Loc nD τ sig) → Buf (Elt Ideal) ℓ) (ρ : Dev nD → PrngReg)

/-- The logistic function. -/
def logistic (g : EReal) : EReal :=
  Ideal.div (Ideal.ofBits .f32 0x3F800000#32) (Ideal.ofBits .f32 0x3F800000#32 + Ideal.exp (-g))

/-- The derivatives of a gated product: on the left in the value, on the right in the gate. -/
def derivs (d : Fin 1024 → EReal) (z : Fin 2048 → EReal) (q : Fin 2048) : EReal :=
  if h : q.val < 1024 then d ⟨q.val, h⟩ * logistic (z ⟨1024 + q.val, Nat.add_lt_add_left h 1024⟩)
  else d ⟨q.val - 1024, Nat.sub_lt_left_of_lt_add (Nat.le_of_not_lt h) q.isLt⟩ * z ⟨q.val - 1024, lt_of_le_of_lt (Nat.sub_le _ _) q.isLt⟩ * logistic (z q)
    * (Ideal.ofBits .f32 0x3F800000#32 - logistic (z q))

/-- What the result array holds. -/
def result (x : Vec Ideal S4096x1024 .f32) (y : Vec Ideal S4096x2048 .f32) : Vec Ideal S4096x2048 .bf16 :=
  fun i => derivs (fun q => x (ix2 (i 0) q)) (fun q => y (ix2 (i 0) q)) (i 1)

/-- What a block is left at. -/
def block (x : Vec Ideal S256x1024 .f32) (y : Vec Ideal S256x2048 .f32) : Vec Ideal S256x2048 .bf16 :=
  fun i => derivs (fun q => x (ix2 (i 0) q)) (fun q => y (ix2 (i 0) q)) (i 1)

theorem pay2 (g d : Vec Ideal S256x1024 .f32) (p : Fin 256) (q : Fin 1024) :
    k0_pay2 g d (ix2 p q) = d (ix2 p q) * logistic (g (ix2 p q)) := by
  pointwise [k0_pay2, k0_pay1, logistic]
  rw [zero_sub]

theorem pay3 (g d v : Vec Ideal S256x1024 .f32) (p : Fin 256) (q : Fin 1024) :
    k0_pay3 g d v (ix2 p q) = d (ix2 p q) * v (ix2 p q) * logistic (g (ix2 p q)) * (Ideal.ofBits .f32 0x3F800000#32 - logistic (g (ix2 p q))) := by
  pointwise [k0_pay3, k0_pay1, logistic]
  rw [zero_sub]

theorem emb0 (p : Fin 256) (q : Fin 1024) (h : 1024 + q.val < 2048) :
    r0_0.emb (ix2 p q) = ix2 p (⟨1024 + q.val, h⟩ : Fin 2048) := by
  refine funext fun a => Fin.ext ?_
  match a with
  | ⟨0, _⟩ => show 0 + 1 * p.val = p.val; omega
  | ⟨1, _⟩ => show 1024 + 1 * q.val = 1024 + q.val; omega

theorem emb2 (p : Fin 256) (q : Fin 1024) (h : 0 + q.val < 2048) :
    r0_2.emb (ix2 p q) = ix2 p (⟨0 + q.val, h⟩ : Fin 2048) := by
  refine funext fun a => Fin.ext ?_
  match a with
  | ⟨0, _⟩ => show 0 + 1 * p.val = p.val; omega
  | ⟨1, _⟩ => show 0 + 1 * q.val = 0 + q.val; omega

theorem load0 (x : Vec Ideal S256x2048 .f32) (p : Fin 256) (q : Fin 1024) (h : 1024 + q.val < 2048) :
    View.ld x r0_0 (ix2 p q) = x (ix2 p (⟨1024 + q.val, h⟩ : Fin 2048)) := congrArg x (emb0 p q h)

theorem load2 (x : Vec Ideal S256x2048 .f32) (p : Fin 256) (q : Fin 1024) (h : 0 + q.val < 2048) :
    View.ld x r0_2 (ix2 p q) = x (ix2 p (⟨0 + q.val, h⟩ : Fin 2048)) := congrArg x (emb2 p q h)

theorem right (x : Vec Ideal S256x1024 .f32) (y : Vec Ideal S256x2048 .f32) (i : S256x1024.Idx) :
    k0_pay3 (View.ld y r0_0) (View.ld x r0_1) (View.ld y r0_2) i = block x y (r0_0.emb i) := by
  have hi : (i 1).val < 1024 := (i 1).isLt
  obtain ⟨p, q, rfl⟩ : ∃ (p : Fin 256) (q : Fin 1024), i = ix2 p q := ⟨i 0, i 1, by funext a; match a with | ⟨0, _⟩ => rfl | ⟨1, _⟩ => rfl⟩
  have hq := q.isLt
  rw [pay3, View.ld_unit_lit _ _ (by decide), load0 y p q (by omega), load2 y p q (by omega), emb0 p q (by omega)]
  have e1 (h : 0 + q.val < 2048) : (⟨0 + q.val, h⟩ : Fin 2048) = ⟨1024 + q.val - 1024, by omega⟩ := Fin.ext (by show 0 + q.val = 1024 + q.val - 1024; omega)
  have e2 (h : 1024 + q.val - 1024 < 1024) : (⟨1024 + q.val - 1024, h⟩ : Fin 1024) = q := Fin.ext (by show 1024 + q.val - 1024 = q.val; omega)
  show _ = derivs (fun q => x (ix2 p q)) (fun q => y (ix2 p q)) (⟨1024 + q.val, by omega⟩ : Fin 2048)
  unfold derivs
  rw [dif_neg (by show ¬ 1024 + q.val < 1024; omega)]
  simp only [e1, e2]

theorem left (x : Vec Ideal S256x1024 .f32) (y : Vec Ideal S256x2048 .f32) (i : S256x1024.Idx) :
    k0_pay2 (View.ld y r0_0) (View.ld x r0_1) i = block x y (r0_2.emb i) := by
  obtain ⟨p, q, rfl⟩ : ∃ (p : Fin 256) (q : Fin 1024), i = ix2 p q := ⟨i 0, i 1, by funext a; match a with | ⟨0, _⟩ => rfl | ⟨1, _⟩ => rfl⟩
  have hq := q.isLt
  rw [pay2, View.ld_unit_lit _ _ (by decide), load0 y p q (by omega), emb2 p q (by omega)]
  have e1 (h : 0 + q.val < 1024) : (⟨0 + q.val, h⟩ : Fin 1024) = q := Fin.ext (Nat.zero_add _)
  have e2 (h : 1024 + (0 + q.val) < 2048) : (⟨1024 + (0 + q.val), h⟩ : Fin 2048) = ⟨1024 + q.val, by omega⟩ := Fin.ext (by show 1024 + (0 + q.val) = 1024 + q.val; omega)
  show _ = derivs (fun q => x (ix2 p q)) (fun q => y (ix2 p q)) (⟨0 + q.val, by omega⟩ : Fin 2048)
  unfold derivs
  rw [dif_pos (by show 0 + q.val < 1024; omega)]
  simp only [e1, e2]

theorem out2 (x : Vec Ideal S256x1024 .f32) (y : Vec Ideal S256x2048 .f32) (j : S256x2048.Idx) : out0_2 x y j = block x y j := by
  unfold out0_2
  refine View.canon_apply_of_pieces (block x y) _ ?_ j (cover0_2 _ _ j)
  intro pc hpc
  rcases List.mem_cons.mp hpc with rfl | hpc
  · exact fun i => right x y i
  rcases List.mem_cons.mp hpc with rfl | hpc
  · exact fun i => left x y i
  nomatch hpc

theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![t.val, 0] := by decide +kernel

theorem iblk0 (c : Dev nD) (t : Fin cfg0.N) (p : Fin 256) (q : Fin 1024) (h0 : t.val * 256 + p.val < 4096) :
    iblk m c 0 t (ix2 p q) = m ((c : Thread nD τ).loc main_arg0) (ix2 (⟨t.val * 256 + p.val, h0⟩ : Fin 4096) q) := by
  blk_simp [iblk]
  rw [V_main_arg0]
  blk_ext [index0]

theorem iblk1 (c : Dev nD) (t : Fin cfg0.N) (p : Fin 256) (q : Fin 2048) (h0 : t.val * 256 + p.val < 4096) :
    iblk m c 1 t (ix2 p q) = m ((c : Thread nD τ).loc main_arg1) (ix2 (⟨t.val * 256 + p.val, h0⟩ : Fin 4096) q) := by
  blk_simp [iblk]
  rw [V_main_arg1]
  blk_ext [index1]

theorem final (c : Dev nD) : (dats m 0 c).arrAt 2 cfg0.N = result (m ((c : Thread nD τ).loc main_arg0)) (m ((c : Thread nD τ).loc main_arg1)) := by
  refine (dats m 0 c).arrAt_eq_of_covers 2 _ (by decide +kernel) fun t hf y => ?_
  have hN : t.val < 16 := lt_of_lt_of_eq t.isLt N_0
  have b0 : (y 0).val < 256 := (y 0).isLt
  have b1 : (y 1).val < 2048 := (y 1).isLt
  have h0 : t.val * 256 + (y 0).val < 4096 := by omega
  have e : (win0_2.blk t).view.emb y = ix2 (⟨t.val * 256 + (y 0).val, h0⟩ : Fin 4096) (y 1) := by
    blk_ext [index2]
  blk_simp
  rw [after0_2, e]
  refine (out2 _ _ y).trans ?_
  exact congrArg₂ (fun d z => derivs d z (y 1)) (funext fun q => iblk0 m c t (y 0) q h0) (funext fun q => iblk1 m c t (y 0) q h0)

end Cert.Kernel30Ideal.Own

namespace Cert.Reference30Ideal.Own

open Cert.Reference30Ideal Cert.Reference30Ideal.Gen

/-- What the reference's result holds, entry by entry. -/
theorem result_eq (x : FVec Ideal S4096x1024 .f32) (y : FVec Ideal S4096x2048 .f32) :
    truncf (F := Ideal) .bf16 (concatenate S4096x2048 1 [⟨S4096x1024, (mulf x (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] y slices_S4096x2048_S4096x1024_0_1024))))))⟩, ⟨S4096x1024, (mulf (mulf (extractStridedSlice S4096x1024 ![0, 0] y slices_S4096x2048_S4096x1024_0_0) x) (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] y slices_S4096x2048_S4096x1024_0_1024))))) (subf (broadcastInDim S4096x1024 ![] bcast_S_S4096x1024 (constant S_ .f32 0x3F800000#32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] y slices_S4096x2048_S4096x1024_0_1024))))))))⟩] concatenates_S4096x1024_S4096x1024_S4096x2048_d1) bitsLt_bf16_f32
      = Cert.Kernel30Ideal.Own.result x y := by
  funext j
  idx_vars j
  pointwise [Cert.Kernel30Ideal.Own.result, Cert.Kernel30Ideal.Own.derivs, Cert.Kernel30Ideal.Own.logistic]
  split
  · rfl
  · next h =>
    have e (h' : 1024 + (j1.val - 1024) < 2048) : (⟨1024 + (j1.val - 1024), h'⟩ : Fin 2048) = j1 := Fin.ext (by show 1024 + (j1.val - 1024) = j1.val; omega)
    simp only [e]
    rw [mul_comm (y _) (x _)]
    simp only [mul_assoc]

end Cert.Reference30Ideal.Own

namespace Cert.Proof

/-- The derivatives of the gated product, of the kernel's row blocks, are the reference's. -/
theorem value30 (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg)
    (h : ∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) :
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v16) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)) := by
  refine ⟨fun c => Cert.Kernel30Ideal.Own.result (m ((c.tc : Thread _ _).loc Cert.Kernel30Ideal.main_arg0)) (m ((c.tc : Thread _ _).loc Cert.Kernel30Ideal.main_arg1)), ?_, ?_⟩
  · exact (θ_run Cert.Kernel30Ideal.defs _ _).mono (fun r hr c => ⟨(hr c).1.trans (Cert.Kernel30Ideal.Own.final m c), (hr c).2⟩)
      (Cert.Kernel30Ideal.Value.run_blocks m g)
  · refine (θ_run Cert.Reference30Ideal.defs _ _).mono (fun r hr c => ⟨(hr c).1.trans ?_, (hr c).2⟩) (Cert.Reference30Ideal.Value.run m' g')
    rw [Cert.Reference30Ideal.Own.result_eq, (h c).1, (h c).2]

end Cert.Proof

end
-- ==== Proof.Value31.lean ====
module

public import proofs.«01_k».proof.Proof.Gen.Kernel31Ideal.Value
public import proofs.«01_k».proof.Proof.Gen.Reference31Ideal.Run
public import proofs.«01_k».proof.Proof.Value5
public import Idealize.ShloMosaic.Lib.Pipeline.ValueKit
public import Idealize.ShloMosaic.Lib.Pipeline.ReadBack
public import Idealize.ShloMosaic.Lib.StableHlo.Run
public import Idealize.ShloMosaic.Lib.Pointwise

@[expose] public section

set_option maxRecDepth 16384

noncomputable section

open Idealize.ShloMosaic Idealize.ShloMosaic.TcCoe Idealize.SL.Sem
open scoped BigOperators

namespace Cert.Kernel31Ideal.Own

open Cert.Kernel31Ideal Cert.Kernel31Ideal.Gen Cert.Kernel31Ideal.Value

variable (m : (ℓ : Loc nD τ sig) → Buf (Elt Ideal) ℓ) (ρ : Dev nD → PrngReg)

open Cert.Kernel5Ideal.Own (mean centred spread rdev hat shortB)

/-- The row `r` of a matrix. -/
def row (z : Vec Ideal S4096x1024 .f32) (r : Fin 4096) (q : Fin 1024) : EReal := z (ix2 r q)

/-- The gradient of the layer norm's result. -/
def dy (e d : Vec Ideal S4096x1024 .f32) (r : Fin 4096) (q : Fin 1024) : EReal :=
  Ideal.ofBits .f32 0x3FD744FD#32 * e (ix2 r q) + d (ix2 r q)

/-- The gradient of the layer norm's result, of a block. -/
def dyB (e d : Vec Ideal S256x1024 .f32) (p : Fin 256) (q : Fin 1024) : EReal :=
  Ideal.ofBits .f32 0x3FD744FD#32 * e (ix2 p q) + d (ix2 p q)

/-- A block's part of the gradient of the scale. -/
def part6 (e d x : Vec Ideal S256x1024 .f32) (j : S1x1024.Idx) : EReal := ∑ p : Fin 256, dyB e d p (j 1) * x (ix2 p (j 1))

/-- A block's part of the gradient of the shift. -/
def part7 (e d : Vec Ideal S256x1024 .f32) (j : S1x1024.Idx) : EReal := ∑ p : Fin 256, dyB e d p (j 1)

theorem pay1 (b a : Vec Ideal S1x1024 .f32) (j : S1x1024.Idx) : k0_pay1 b a j = a j + b j := by
  idx_vars j
  pointwise [k0_pay1]

theorem pay2 (b a : Vec Ideal S1x1024 .f32) (j : S1x1024.Idx) : k0_pay2 b a j = a j + b j := by
  idx_vars j
  pointwise [k0_pay2]

theorem pay3 (e d : Vec Ideal S256x1024 .f32) (p : Fin 256) (q : Fin 1024) : k0_pay3 e d (ix2 p q) = dyB e d p q := by
  pointwise [k0_pay3, dyB, one_mul]

theorem pay5 (e d x : Vec Ideal S256x1024 .f32) (g : Vec Ideal S1x1024 .f32) (r : Vec Ideal S256x1 .f32) (j : S256x1024.Idx) :
    k0_pay5 e d x g r j = shortB (fun k => x (ix2 (j 0) k)) (r (ix2 (j 0) (0 : Fin 1))) (fun k => dyB e d (j 0) k * g (ix2 (0 : Fin 1) k)) (j 1) := by
  idx_vars j
  pointwise [k0_pay5, k0_pay4, pay3, shortB, mean]

theorem pay6 (e d x : Vec Ideal S256x1024 .f32) (j : S1x1024.Idx) : k0_pay6 e d x j = part6 e d x j := by
  idx_vars j
  pointwise [k0_pay6, k0_pay4, pay3, part6]

theorem pay7 (e d : Vec Ideal S256x1024 .f32) (j : S1x1024.Idx) : k0_pay7 e d j = part7 e d j := by
  idx_vars j
  pointwise [k0_pay7, pay3, part7]

theorem out5 (c : Dev nD) (t : Fin cfg0.N) :
    (outsAt0 m c t.val t.isLt).1 = k0_pay5 (iblk m c 0 t) (iblk m c 1 t) (iblk m c 2 t) (iblk m c 4 t) (iblk m c 3 t) := by
  have hN : t.val < 16 := lt_of_lt_of_eq t.isLt N_0
  by_cases h0 : t.val % 16 = 0
  · rw [outsAt0_A m c t h0 (by omega)]
    frame_out
  · rw [outsAt0_B m c t h0 (by omega)]
    frame_out

theorem acc6 (c : Dev nD) (t : Fin cfg0.N) (ht : t.val % 16 = 15) (j : S1x1024.Idx) :
    (outsAt0 m c t.val t.isLt).2.1 j = ∑ s : Fin 16, part6 (iblk m c 0 ⟨16 * (t.val / 16) + s.val, Pipeline.run_point_lt_of_flush t ht s⟩) (iblk m c 1 ⟨16 * (t.val / 16) + s.val, Pipeline.run_point_lt_of_flush t ht s⟩) (iblk m c 2 ⟨16 * (t.val / 16) + s.val, Pipeline.run_point_lt_of_flush t ht s⟩) j := by
  rw [Pipeline.eq_sum_fin_of_reset_step_apply_of_flush (fun n h => (outsAt0 m c n h).2.1) 16 (fun _ => (0 : EReal))
    (fun t j => part6 (iblk m c 0 t) (iblk m c 1 t) (iblk m c 2 t) j) ?_ ?_ t ht j, zero_add]
  · intro t h0 j
    have hN : t.val < 16 := lt_of_lt_of_eq t.isLt N_0
    rw [outsAt0_A m c t h0 (by omega)]
    frame_out
    rw [pay6, zero_add]
  · intro t h0 j
    rw [outsAt0_B m c t h0 (by omega)]
    frame_out
    rw [pay1, pay6]
    try rw [read_unread_whole]

theorem acc7 (c : Dev nD) (t : Fin cfg0.N) (ht : t.val % 16 = 15) (j : S1x1024.Idx) :
    (outsAt0 m c t.val t.isLt).2.2 j = ∑ s : Fin 16, part7 (iblk m c 0 ⟨16 * (t.val / 16) + s.val, Pipeline.run_point_lt_of_flush t ht s⟩) (iblk m c 1 ⟨16 * (t.val / 16) + s.val, Pipeline.run_point_lt_of_flush t ht s⟩) j := by
  rw [Pipeline.eq_sum_fin_of_reset_step_apply_of_flush (fun n h => (outsAt0 m c n h).2.2) 16 (fun _ => (0 : EReal))
    (fun t j => part7 (iblk m c 0 t) (iblk m c 1 t) j) ?_ ?_ t ht j, zero_add]
  · intro t h0 j
    have hN : t.val < 16 := lt_of_lt_of_eq t.isLt N_0
    rw [outsAt0_A m c t h0 (by omega)]
    frame_out
    rw [pay7, zero_add]
  · intro t h0 j
    rw [outsAt0_B m c t h0 (by omega)]
    frame_out
    rw [pay2, pay7]
    try rw [read_unread_whole]

theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![t.val, 0] := by decide +kernel
theorem index3 : ∀ t : Fin cfg0.N, win0_3.index t = ![t.val, 0] := by decide +kernel
theorem index4 : ∀ t : Fin cfg0.N, win0_4.index t = ![0, 0] := by decide +kernel
theorem index5 : ∀ t : Fin cfg0.N, win0_5.index t = ![t.val, 0] := by decide +kernel
theorem index6 : ∀ t : Fin cfg0.N, win0_6.index t = ![0, 0] := by decide +kernel
theorem index7 : ∀ t : Fin cfg0.N, win0_7.index t = ![0, 0] := by decide +kernel

/-- The rows' means, as the host computes them. -/
def hmean (z : FVec Ideal S4096x1024 .f32) : FVec Ideal S4096x1 .f32 :=
  Host.divf (broadcastInDim S4096x1 ![0] bcast_S4096_S4096x1_0 (Host.reduceAdd z (constant S_ .f32 0x00000000#32) reducesTo_S4096x1024_S4096_d1 h_S_))
    (broadcastInDim S4096x1 ![] bcast_S_S4096x1 (constant S_ .f32 0x44800000#32))

/-- The rows less their means, as the host computes them. -/
def hcentred (z : FVec Ideal S4096x1024 .f32) : FVec Ideal S4096x1024 .f32 :=
  subf z (broadcastInDim S4096x1024 ![0, 1] bcast_S4096x1_S4096x1024_0_1 (hmean z))

/-- The rows' reciprocal deviations, as the host computes them. -/
def hrdev (z : FVec Ideal S4096x1024 .f32) : FVec Ideal S4096x1 .f32 :=
  Host.rsqrt (addf (hmean (mulf (hcentred z) (hcentred z))) (broadcastInDim S4096x1 ![] bcast_S_S4096x1 (constant S_ .f32 0x3727C5AC#32)))

theorem hmean_apply (z : FVec Ideal S4096x1024 .f32) (r : Fin 4096) (q : Fin 1) : hmean z (ix2 r q) = mean (row z r) := by
  pointwise [hmean, mean, row]

theorem hcentred_apply (z : FVec Ideal S4096x1024 .f32) (r : Fin 4096) (q : Fin 1024) : hcentred z (ix2 r q) = centred (row z r) q := by
  pointwise [hcentred, centred, row, hmean_apply]

theorem hrdev_apply (z : FVec Ideal S4096x1024 .f32) (r : Fin 4096) (q : Fin 1) : hrdev z (ix2 r q) = rdev (row z r) := by
  pointwise [hrdev, hmean_apply, rdev, spread, mean, row, hcentred_apply]

theorem V13 (c : Dev nD) (r : Fin 4096) (q : Fin 1) :
    (V m c main_v13 : FVec Ideal S4096x1 .f32) (ix2 r q) = rdev (row (m ((c : Thread nD τ).loc main_arg2)) r) := by
  have h : V m c main_v13 = hrdev (m ((c : Thread nD τ).loc main_arg2)) := by
    unfold_abbrev_sides
    after_results
    try rfl
  rw [h]
  exact hrdev_apply _ r q

theorem V17 (c : Dev nD) (r : Fin 4096) (q : Fin 1024) :
    (V m c main_v17 : FVec Ideal S4096x1024 .f32) (ix2 r q) = hat (row (m ((c : Thread nD τ).loc main_arg2)) r) q := by
  have h : V m c main_v17 = mulf (hcentred (m ((c : Thread nD τ).loc main_arg2)))
      (broadcastInDim S4096x1024 ![0, 1] bcast_S4096x1_S4096x1024_0_1 (hrdev (m ((c : Thread nD τ).loc main_arg2)))) := by
    unfold_abbrev_sides
    after_results
    try rfl
  rw [h]
  pointwise [hat, hcentred_apply, hrdev_apply]

theorem iblk0 (c : Dev nD) (t : Fin cfg0.N) (p : Fin 256) (k : Fin 1024) (h0 : t.val * 256 + p.val < 4096) :
    iblk m c 0 t (ix2 p k) = m ((c : Thread nD τ).loc main_arg0) (ix2 ⟨t.val * 256 + p.val, h0⟩ k) := by
  blk_simp [iblk]
  rw [V_main_arg0]
  blk_ext [index0]

theorem iblk1 (c : Dev nD) (t : Fin cfg0.N) (p : Fin 256) (k : Fin 1024) (h0 : t.val * 256 + p.val < 4096) :
    iblk m c 1 t (ix2 p k) = m ((c : Thread nD τ).loc main_arg1) (ix2 ⟨t.val * 256 + p.val, h0⟩ k) := by
  blk_simp [iblk]
  rw [V_main_arg1]
  blk_ext [index1]

theorem iblk2 (c : Dev nD) (t : Fin cfg0.N) (p : Fin 256) (q : Fin 1024) (h0 : t.val * 256 + p.val < 4096) :
    iblk m c 2 t (ix2 p q) = hat (row (m ((c : Thread nD τ).loc main_arg2)) ⟨t.val * 256 + p.val, h0⟩) q := by
  refine Eq.trans ?_ (V17 m c ⟨t.val * 256 + p.val, h0⟩ q)
  blk_simp [iblk]
  blk_ext [index2]

theorem iblk3 (c : Dev nD) (t : Fin cfg0.N) (p : Fin 256) (h0 : t.val * 256 + p.val < 4096) :
    iblk m c 3 t (ix2 p (0 : Fin 1)) = rdev (row (m ((c : Thread nD τ).loc main_arg2)) ⟨t.val * 256 + p.val, h0⟩) := by
  refine Eq.trans ?_ (V13 m c ⟨t.val * 256 + p.val, h0⟩ 0)
  blk_simp [iblk]
  blk_ext [index3]

theorem iblk4 (c : Dev nD) (t : Fin cfg0.N) (q : Fin 1024) :
    iblk m c 4 t (ix2 (0 : Fin 1) q) = m ((c : Thread nD τ).loc main_arg3) (ix2 (0 : Fin 1) q) := by
  blk_simp [iblk]
  rw [V_main_arg3]
  blk_ext [index4]

theorem dyB_eq (c : Dev nD) (t : Fin cfg0.N) (p : Fin 256) (q : Fin 1024) (h0 : t.val * 256 + p.val < 4096) :
    dyB (iblk m c 0 t) (iblk m c 1 t) p q = dy (m ((c : Thread nD τ).loc main_arg0)) (m ((c : Thread nD τ).loc main_arg1)) ⟨t.val * 256 + p.val, h0⟩ q := by
  unfold dyB dy
  rw [iblk0 m c t p q h0, iblk1 m c t p q h0]

/-- The gradient of the layer norm's argument, in its short form. -/
def dx (e d z : Vec Ideal S4096x1024 .f32) (g : Vec Ideal S1x1024 .f32) : Vec Ideal S4096x1024 .f32 :=
  fun i => shortB (hat (row z (i 0))) (rdev (row z (i 0))) (fun k => dy e d (i 0) k * g (ix2 (0 : Fin 1) k)) (i 1)

/-- The gradient of the layer norm's scale. -/
def dg (e d z : Vec Ideal S4096x1024 .f32) : Vec Ideal S1x1024 .f32 :=
  fun i => ∑ r : Fin 4096, dy e d r (i 1) * hat (row z r) (i 1)

/-- The gradient of the layer norm's shift. -/
def db (e d : Vec Ideal S4096x1024 .f32) : Vec Ideal S1x1024 .f32 :=
  fun i => ∑ r : Fin 4096, dy e d r (i 1)

theorem final5 (c : Dev nD) : (dats m 0 c).arrAt 5 cfg0.N = dx (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have hN : t.val < 16 := lt_of_lt_of_eq t.isLt N_0
  have b0 : (y 0).val < 256 := (y 0).isLt
  have b1 : (y 1).val < 1024 := (y 1).isLt
  have h1 : t.val * 256 + (y 0).val < 4096 := by omega
  have e : (win0_5.blk t).view.emb y = ix2 (⟨t.val * 256 + (y 0).val, h1⟩ : Fin 4096) (y 1) := by
    blk_ext [index5]
  blk_simp
  rw [after0_5, e]
  show (outsAt0 m c t.val t.isLt).1 y = _
  rw [out5 m c t]
  refine (pay5 _ _ _ _ _ y).trans ?_
  unfold dx
  rw [iblk3 m c t (y 0) h1]
  refine congrArg₂ (fun x s => shortB x _ s (y 1)) (funext fun k => iblk2 m c t (y 0) k h1) (funext fun k => ?_)
  rw [dyB_eq m c t (y 0) k h1, iblk4 m c t k]
  rfl

theorem last6 (c : Dev nD) (t : Fin cfg0.N) (ht : t.val % 16 = 15) (y : S1x1024.Idx) :
    (outsAt0 m c t.val t.isLt).2.1 y = dg (m ((c : Thread nD τ).loc main_arg0)) (m ((c : Thread nD τ).loc main_arg1)) (m ((c : Thread nD τ).loc main_arg2)) y := by
  have hN : t.val < 16 := lt_of_lt_of_eq t.isLt N_0
  rw [acc6 m c t ht]
  refine Fin.sum_mul_add_congr fun s p hl => ?_
  have hs := s.isLt
  have hp := p.isLt
  have e0 : 16 * (t.val / 16) + s.val = s.val := by omega
  rw [dyB_eq m c ⟨16 * (t.val / 16) + s.val, Pipeline.run_point_lt_of_flush t ht s⟩ p (y 1) (by dsimp only; omega), iblk2 m c ⟨16 * (t.val / 16) + s.val, Pipeline.run_point_lt_of_flush t ht s⟩ p (y 1) (by dsimp only; omega)]
  simp only [e0]

theorem final6 (c : Dev nD) : (dats m 0 c).arrAt 6 cfg0.N = dg (m ((c : Thread nD τ).loc main_arg0)) (m ((c : Thread nD τ).loc main_arg1)) (m ((c : Thread nD τ).loc main_arg2)) := by
  refine (dats m 0 c).arrAt_eq_of_covers 6 _ (by decide +kernel) fun t hf y => ?_
  have ht := (flush0_6 t).mp hf
  have b0 : (y 0).val < 1 := (y 0).isLt
  have b1 : (y 1).val < 1024 := (y 1).isLt
  have e : (win0_6.blk t).view.emb y = y := by
    have hy : y = ix2 (y 0) (y 1) := eq_ix2 y
    rw [hy]
    blk_ext [index6]
  blk_simp
  rw [after0_6, e]
  exact last6 m c t ht y

theorem last7 (c : Dev nD) (t : Fin cfg0.N) (ht : t.val % 16 = 15) (y : S1x1024.Idx) :
    (outsAt0 m c t.val t.isLt).2.2 y = db (m ((c : Thread nD τ).loc main_arg0)) (m ((c : Thread nD τ).loc main_arg1)) y := by
  have hN : t.val < 16 := lt_of_lt_of_eq t.isLt N_0
  rw [acc7 m c t ht]
  refine Fin.sum_mul_add_congr fun s p hl => ?_
  have hs := s.isLt
  have hp := p.isLt
  have e0 : 16 * (t.val / 16) + s.val = s.val := by omega
  rw [dyB_eq m c ⟨16 * (t.val / 16) + s.val, Pipeline.run_point_lt_of_flush t ht s⟩ p (y 1) (by dsimp only; omega)]
  simp only [e0]

theorem final7 (c : Dev nD) : (dats m 0 c).arrAt 7 cfg0.N = db (m ((c : Thread nD τ).loc main_arg0)) (m ((c : Thread nD τ).loc main_arg1)) := by
  refine (dats m 0 c).arrAt_eq_of_covers 7 _ (by decide +kernel) fun t hf y => ?_
  have ht := (flush0_7 t).mp hf
  have b0 : (y 0).val < 1 := (y 0).isLt
  have b1 : (y 1).val < 1024 := (y 1).isLt
  have e : (win0_7.blk t).view.emb y = y := by
    have hy : y = ix2 (y 0) (y 1) := eq_ix2 y
    rw [hy]
    blk_ext [index7]
  blk_simp
  rw [after0_7, e]
  exact last7 m c t ht y

end Cert.Kernel31Ideal.Own

namespace Cert.Reference31Ideal.Own

open Cert.Reference31Ideal Cert.Reference31Ideal.Gen Cert.Reals
open Cert.Kernel5Ideal.Own (mean centred spread rdev hat shortB)
open Cert.Reference5Ideal.Own (coef long long_eq ofBits_alpha)
open Cert.Kernel31Ideal.Own (row dy)

/-- The gradient of the layer norm's result, as the reference computes it. -/
def rdy (e d : FVec Ideal S4096x1024 .f32) : FVec Ideal S4096x1024 .f32 :=
  addf (mulf (broadcastInDim S4096x1024 ![] bcast_S_S4096x1024 (constant S_ .f32 0x3FD744FD#32)) e) d

def rmean (z : FVec Ideal S4096x1024 .f32) : FVec Ideal S4096x1 .f32 :=
  Host.divf (broadcastInDim S4096x1 ![0] bcast_S4096_S4096x1_0 (Host.reduceAdd z (constant S_ .f32 0x00000000#32) reducesTo_S4096x1024_S4096_d1 h_S_))
    (broadcastInDim S4096x1 ![] bcast_S_S4096x1 (constant S_ .f32 0x44800000#32))

def rcentred (z : FVec Ideal S4096x1024 .f32) : FVec Ideal S4096x1024 .f32 :=
  subf z (broadcastInDim S4096x1024 ![0, 1] bcast_S4096x1_S4096x1024_0_1 (rmean z))

def rspread (z : FVec Ideal S4096x1024 .f32) : FVec Ideal S4096x1 .f32 :=
  addf (rmean (mulf (rcentred z) (rcentred z))) (broadcastInDim S4096x1 ![] bcast_S_S4096x1 (constant S_ .f32 0x3727C5AC#32))

/-- The gradient of the standardised rows. -/
def rt (y : FVec Ideal S4096x1024 .f32) (g : FVec Ideal S1x1024 .f32) : FVec Ideal S4096x1024 .f32 :=
  mulf y (broadcastInDim S4096x1024 ![0, 1] bcast_S1x1024_S4096x1024_0_1 g)

/-- Its part that is not through the deviation. -/
def rdirect (z t : FVec Ideal S4096x1024 .f32) : FVec Ideal S4096x1024 .f32 :=
  mulf t (broadcastInDim S4096x1024 ![0, 1] bcast_S4096x1_S4096x1024_0_1 (Host.rsqrt (rspread z)))

/-- The part through the deviation. -/
def rthrough (z t : FVec Ideal S4096x1024 .f32) : FVec Ideal S4096x1024 .f32 :=
  mulf (broadcastInDim S4096x1024 ![0] bcast_S4096_S4096x1024_0 (Host.reduceAdd (Host.divf (mulf (shapeCast _ (Host.reduceAdd (mulf (rcentred z) t)
      (constant S_ .f32 0x00000000#32) reducesTo_S4096x1024_S4096_d1 h_S_) shapeCasts_S4096_S4096x1)
      (mulf (broadcastInDim S4096x1 ![] bcast_S_S4096x1 (constant S_ .f32 0xBF000000#32)) (Host.divf (Host.rsqrt (rspread z)) (rspread z))))
      (broadcastInDim S4096x1 ![] bcast_S_S4096x1 (constant S_ .f32 0x44800000#32))) (constant S_ .f32 0x00000000#32) reducesTo_S4096x1_S4096_d1 h_S_))
    (mulf (broadcastInDim S4096x1024 ![] bcast_S_S4096x1024 (constant S_ .f32 0x40000000#32)) (rcentred z))

/-- The gradient of the layer norm's argument. -/
def rdx (z t : FVec Ideal S4096x1024 .f32) : FVec Ideal S4096x1024 .f32 :=
  addf (addf (rdirect z t) (rthrough z t)) (broadcastInDim S4096x1024 ![0] bcast_S4096_S4096x1024_0 (Host.reduceAdd (Host.divf (addf
    (shapeCast _ (Host.reduceAdd (Host.negf (rdirect z t)) (constant S_ .f32 0x00000000#32) reducesTo_S4096x1024_S4096_d1 h_S_) shapeCasts_S4096_S4096x1)
    (shapeCast _ (Host.reduceAdd (Host.negf (rthrough z t)) (constant S_ .f32 0x00000000#32) reducesTo_S4096x1024_S4096_d1 h_S_) shapeCasts_S4096_S4096x1))
    (broadcastInDim S4096x1 ![] bcast_S_S4096x1 (constant S_ .f32 0x44800000#32))) (constant S_ .f32 0x00000000#32) reducesTo_S4096x1_S4096_d1 h_S_))

theorem v61_eq (m : (ℓ : Loc nD τ sig) → Buf (Elt Ideal) ℓ) (c : Dev nD) :
    Value.res_main_v61 m c = rdx (m ((c.tc : Thread nD τ).loc main_arg2)) (rt (rdy (m ((c.tc : Thread nD τ).loc main_arg0)) (m ((c.tc : Thread nD τ).loc main_arg1)))
      (m ((c.tc : Thread nD τ).loc main_arg3))) := rfl

theorem rdy_apply (e d : FVec Ideal S4096x1024 .f32) (r : Fin 4096) (q : Fin 1024) : rdy e d (ix2 r q) = dy e d r q := by
  pointwise [rdy, dy]

theorem rmean_apply (z : FVec Ideal S4096x1024 .f32) (r : Fin 4096) (q : Fin 1) : rmean z (ix2 r q) = mean (row z r) := by
  pointwise [rmean, mean, row]

theorem rcentred_apply (z : FVec Ideal S4096x1024 .f32) (r : Fin 4096) (q : Fin 1024) : rcentred z (ix2 r q) = centred (row z r) q := by
  pointwise [rcentred, centred, row, rmean_apply]

theorem rspread_apply (z : FVec Ideal S4096x1024 .f32) (r : Fin 4096) (q : Fin 1) : rspread z (ix2 r q) = spread (row z r) := by
  pointwise [rspread, rmean_apply, spread, mean, row, rcentred_apply]

theorem rdirect_apply (z t : FVec Ideal S4096x1024 .f32) (r : Fin 4096) (q : Fin 1024) : rdirect z t (ix2 r q) = row t r q * rdev (row z r) := by
  pointwise [rdirect, rspread_apply, rdev, row]

theorem rthrough_apply (z t : FVec Ideal S4096x1024 .f32) (r : Fin 4096) (q : Fin 1024) :
    rthrough z t (ix2 r q) = coef (row z r) (row t r) * (Ideal.ofBits .f32 0x40000000#32 * centred (row z r) q) := by
  pointwise [rthrough, rspread_apply, rdev, row, rcentred_apply, coef]
  rw [Fin.sum_univ_one]

theorem rdx_apply (z t : FVec Ideal S4096x1024 .f32) (r : Fin 4096) (q : Fin 1024) : rdx z t (ix2 r q) = long (row z r) (row t r) q := by
  pointwise [rdx, rdirect_apply, rthrough_apply, long]
  rw [Fin.sum_univ_one]

/-- What the reference's first result holds, at real entries. -/
theorem dx_eq (e d z : FVec Ideal S4096x1024 .f32) (g : FVec Ideal S1x1024 .f32)
    (he : ∀ i, IsReal (e i)) (hd : ∀ i, IsReal (d i)) (hz : ∀ i, IsReal (z i)) (hg : ∀ i, IsReal (g i)) :
    rdx z (rt (rdy e d) g) = Cert.Kernel31Ideal.Own.dx e d z g := by
  funext j
  idx_vars j
  have ht : row (rt (rdy e d) g) j0 = fun k => dy e d j0 k * g (ix2 (0 : Fin 1) k) := by
    funext k
    pointwise [row, rt, rdy_apply]
  have hy : ∀ k, IsReal (dy e d j0 k * g (ix2 (0 : Fin 1) k)) := fun k =>
    ((ofBits_alpha.mul (he _)).add (hd _)).mul (hg _)
  choose t ht' using hy
  choose z' hz' using hz
  have hzr : row z j0 = fun k => ((z' (ix2 j0 k) : ℝ) : EReal) := funext fun k => hz' _
  have e1 : (fun k => dy e d j0 k * g (ix2 (0 : Fin 1) k)) = fun k => (t k : EReal) := funext ht'
  rw [rdx_apply, ht]
  show _ = shortB (hat (row z j0)) (rdev (row z j0)) (fun k => dy e d j0 k * g (ix2 (0 : Fin 1) k)) j1
  rw [e1, hzr]
  exact long_eq _ _ _

theorem dg_eq (e d z : FVec Ideal S4096x1024 .f32) :
    shapeCast S1x1024 (Host.reduceAdd (mulf (mulf (rcentred z) (broadcastInDim S4096x1024 ![0, 1] bcast_S4096x1_S4096x1024_0_1 (Host.rsqrt (rspread z)))) (rdy e d))
      (constant S_ .f32 0x00000000#32) reducesTo_S4096x1024_S1024_d0 h_S_) shapeCasts_S1024_S1x1024 = Cert.Kernel31Ideal.Own.dg e d z := by
  funext j
  idx_vars j
  pointwise [Cert.Kernel31Ideal.Own.dg, rcentred_apply, rspread_apply, rdy_apply, hat, rdev]
  exact Finset.sum_congr rfl fun k _ => mul_comm _ _

theorem db_eq (e d : FVec Ideal S4096x1024 .f32) :
    shapeCast S1x1024 (Host.reduceAdd (rdy e d) (constant S_ .f32 0x00000000#32) reducesTo_S4096x1024_S1024_d0 h_S_) shapeCasts_S1024_S1x1024
      = Cert.Kernel31Ideal.Own.db e d := by
  funext j
  idx_vars j
  pointwise [Cert.Kernel31Ideal.Own.db, rdy_apply]

end Cert.Reference31Ideal.Own

namespace Cert.Proof

/-- The gradients of a layer norm's argument, scale and shift are the reference's, at real entries. -/
theorem value31 (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg)
    (real : ∀ c : Dev Cert.Kernel31Ideal.nD,
      (∀ i, Cert.Reals.IsReal (m ((c.tc : Thread Cert.Kernel31Ideal.nD Cert.Kernel31Ideal.τ).loc Cert.Kernel31Ideal.main_arg0) i))
      ∧ (∀ i, Cert.Reals.IsReal (m ((c.tc : Thread Cert.Kernel31Ideal.nD Cert.Kernel31Ideal.τ).loc Cert.Kernel31Ideal.main_arg1) i))
      ∧ (∀ i, Cert.Reals.IsReal (m ((c.tc : Thread Cert.Kernel31Ideal.nD Cert.Kernel31Ideal.τ).loc Cert.Kernel31Ideal.main_arg2) i))
      ∧ (∀ i, Cert.Reals.IsReal (m ((c.tc : Thread Cert.Kernel31Ideal.nD Cert.Kernel31Ideal.τ).loc Cert.Kernel31Ideal.main_arg3) i)))
    (h : ∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) :
    ∃ (v0 : (c : Dev Cert.Kernel31Ideal.nD) → Buf (Elt Ideal) ((c.tc : Thread Cert.Kernel31Ideal.nD Cert.Kernel31Ideal.τ).loc Cert.Kernel31Ideal.main_v18_0)) (v1 : (c : Dev Cert.Kernel31Ideal.nD) → Buf (Elt Ideal) ((c.tc : Thread Cert.Kernel31Ideal.nD Cert.Kernel31Ideal.τ).loc Cert.Kernel31Ideal.main_v18_1)) (v2 : (c : Dev Cert.Kernel31Ideal.nD) → Buf (Elt Ideal) ((c.tc : Thread Cert.Kernel31Ideal.nD Cert.Kernel31Ideal.τ).loc Cert.Kernel31Ideal.main_v18_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v18_0) = v0 c
          ∧ r.2.mem ((c.tc : Thread Cert.Kernel31Ideal.nD Cert.Kernel31Ideal.τ).loc Cert.Kernel31Ideal.main_v18_1) = v1 c
          ∧ r.2.mem ((c.tc : Thread Cert.Kernel31Ideal.nD Cert.Kernel31Ideal.τ).loc Cert.Kernel31Ideal.main_v18_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v61) = v0 c
          ∧ r.2.mem ((c.tc : Thread Cert.Reference31Ideal.nD Cert.Reference31Ideal.τ).loc Cert.Reference31Ideal.main_v35) = v1 c
          ∧ r.2.mem ((c.tc : Thread Cert.Reference31Ideal.nD Cert.Reference31Ideal.τ).loc Cert.Reference31Ideal.main_v32) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3)) := by
  refine ⟨fun c => Cert.Kernel31Ideal.Own.dx (m ((c.tc : Thread _ _).loc Cert.Kernel31Ideal.main_arg0)) (m ((c.tc : Thread _ _).loc Cert.Kernel31Ideal.main_arg1)) (m ((c.tc : Thread _ _).loc Cert.Kernel31Ideal.main_arg2)) (m ((c.tc : Thread _ _).loc Cert.Kernel31Ideal.main_arg3)), fun c => Cert.Kernel31Ideal.Own.dg (m ((c.tc : Thread _ _).loc Cert.Kernel31Ideal.main_arg0)) (m ((c.tc : Thread _ _).loc Cert.Kernel31Ideal.main_arg1)) (m ((c.tc : Thread _ _).loc Cert.Kernel31Ideal.main_arg2)), fun c => Cert.Kernel31Ideal.Own.db (m ((c.tc : Thread _ _).loc Cert.Kernel31Ideal.main_arg0)) (m ((c.tc : Thread _ _).loc Cert.Kernel31Ideal.main_arg1)), ?_, ?_⟩
  · exact (θ_run Cert.Kernel31Ideal.defs _ _).mono (fun r hr c => ⟨(hr c).1.trans (Cert.Kernel31Ideal.Own.final5 m c), (hr c).2.1.trans (Cert.Kernel31Ideal.Own.final6 m c), (hr c).2.2.1.trans (Cert.Kernel31Ideal.Own.final7 m c), (hr c).2.2.2⟩)
      (Cert.Kernel31Ideal.Value.run_blocks m g)
  · refine (θ_run Cert.Reference31Ideal.defs _ _).mono (fun r hr c => ⟨(hr c).1.trans ?_, (hr c).2.1.trans ?_, (hr c).2.2.1.trans ?_, (hr c).2.2.2⟩) (Cert.Reference31Ideal.Value.run m' g')
    · rw [Cert.Reference31Ideal.Own.v61_eq, (h c).1, (h c).2.1, (h c).2.2.1, (h c).2.2.2]
      exact Cert.Reference31Ideal.Own.dx_eq _ _ _ _ (real c).1 (real c).2.1 (real c).2.2.1 (real c).2.2.2
    · rw [(h c).1, (h c).2.1, (h c).2.2.1]
      exact Cert.Reference31Ideal.Own.dg_eq _ _ _
    · rw [(h c).1, (h c).2.1]
      exact Cert.Reference31Ideal.Own.db_eq _ _

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.Gen.Kernel7Ideal.Value
public import proofs.«01_k».proof.Proof.Gen.Reference7Ideal.Run
public import proofs.«01_k».proof.Proof.Gen.ReferenceIdeal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel8Ideal.Value
public import proofs.«01_k».proof.Proof.Gen.Reference8Ideal.Run
public import proofs.«01_k».proof.Proof.Gen.Kernel9Ideal.Value
public import proofs.«01_k».proof.Proof.Gen.Reference9Ideal.Run
public import proofs.«01_k».proof.Proof.Gen.Kernel10Ideal.Value
public import proofs.«01_k».proof.Proof.Gen.Reference10Ideal.Run
public import proofs.«01_k».proof.Proof.Gen.Kernel11Ideal.Value
public import proofs.«01_k».proof.Proof.Gen.Reference11Ideal.Run
public import proofs.«01_k».proof.Proof.Gen.Kernel12Ideal.Value
public import proofs.«01_k».proof.Proof.Gen.Reference12Ideal.Run
public import proofs.«01_k».proof.Proof.Gen.Kernel13Ideal.Value
public import proofs.«01_k».proof.Proof.Gen.Reference13Ideal.Run
public import proofs.«01_k».proof.Proof.Gen.Kernel14Ideal.Value
public import proofs.«01_k».proof.Proof.Gen.Reference14Ideal.Run
public import proofs.«01_k».proof.Proof.Gen.Pre_finite2
public import proofs.«01_k».proof.Proof.Gen.Pre_finite5
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Reference24Ideal
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Reference25Ideal
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Reference26Ideal
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Reference27Ideal
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Reference28Ideal
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Reference29Ideal
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Reference30Ideal
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Reference31Ideal
public import proofs.«01_k».proof.Proof.Gen.Pre_finite31
public import proofs.«01_k».proof.Proof.KernelLaunch
public import proofs.«01_k».proof.Proof.KernelIdealLaunch
public import proofs.«01_k».proof.Proof.References
public import proofs.«01_k».proof.Proof.Value2
public import proofs.«01_k».proof.Proof.Value3
public import proofs.«01_k».proof.Proof.Value4
public import proofs.«01_k».proof.Proof.Value5
public import proofs.«01_k».proof.Proof.Value6
public import proofs.«01_k».proof.Proof.Value7
public import proofs.«01_k».proof.Proof.Value8
public import proofs.«01_k».proof.Proof.Value9
public import proofs.«01_k».proof.Proof.Value10
public import proofs.«01_k».proof.Proof.Value11
public import proofs.«01_k».proof.Proof.Value12
public import proofs.«01_k».proof.Proof.Value13
public import proofs.«01_k».proof.Proof.Value14
public import proofs.«01_k».proof.Proof.Value15
public import proofs.«01_k».proof.Proof.Value16
public import proofs.«01_k».proof.Proof.Value17
public import proofs.«01_k».proof.Proof.Value18
public import proofs.«01_k».proof.Proof.Value19
public import proofs.«01_k».proof.Proof.Value20
public import proofs.«01_k».proof.Proof.Value21
public import proofs.«01_k».proof.Proof.Value22
public import proofs.«01_k».proof.Proof.Value23
public import proofs.«01_k».proof.Proof.Value24
public import proofs.«01_k».proof.Proof.Value25
public import proofs.«01_k».proof.Proof.Value26
public import proofs.«01_k».proof.Proof.Value27
public import proofs.«01_k».proof.Proof.Value28
public import proofs.«01_k».proof.Proof.Value29
public import proofs.«01_k».proof.Proof.Value30
public import proofs.«01_k».proof.Proof.Value31
public import Idealize.ShloMosaic.Adequacy
public import Idealize.ShloMosaic.Lib.Quiescent
public import Idealize.ShloMosaic.Init

@[expose] public section

/-! # The claims

The attention backward kernel's frames are from KernelLaunch and KernelIdealLaunch, the other kernels' are generated,
the references' are References'. An entry whose absolute value is below infinity is a real number. -/

noncomputable section

namespace Cert.Proof

open Idealize.ShloMosaic Idealize.SL.Sem

/-- Every claim of the statement. -/
theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Kernel17.Gen.facts,
    Cert.Kernel17Ideal.Gen.facts,
    Cert.Reference17Ideal.Gen.facts,
    Cert.Kernel18.Gen.facts,
    Cert.Kernel18Ideal.Gen.facts,
    Cert.Reference18Ideal.Gen.facts,
    Cert.Kernel19.Gen.facts,
    Cert.Kernel19Ideal.Gen.facts,
    Cert.Reference19Ideal.Gen.facts,
    Cert.Kernel20.Gen.facts,
    Cert.Kernel20Ideal.Gen.facts,
    Cert.Reference20Ideal.Gen.facts,
    Cert.Kernel21.Gen.facts,
    Cert.Kernel21Ideal.Gen.facts,
    Cert.Reference21Ideal.Gen.facts,
    Cert.Kernel22.Gen.facts,
    Cert.Kernel22Ideal.Gen.facts,
    Cert.Reference22Ideal.Gen.facts,
    Cert.Kernel23.Gen.facts,
    Cert.Kernel23Ideal.Gen.facts,
    Cert.Reference23Ideal.Gen.facts,
    Cert.Kernel24.Gen.facts,
    Cert.Kernel24Ideal.Gen.facts,
    Cert.Reference24Ideal.Gen.facts,
    Cert.Kernel25.Gen.facts,
    Cert.Kernel25Ideal.Gen.facts,
    Cert.Reference25Ideal.Gen.facts,
    Cert.Kernel26.Gen.facts,
    Cert.Kernel26Ideal.Gen.facts,
    Cert.Reference26Ideal.Gen.facts,
    Cert.Kernel27.Gen.facts,
    Cert.Kernel27Ideal.Gen.facts,
    Cert.Reference27Ideal.Gen.facts,
    Cert.Kernel28.Gen.facts,
    Cert.Kernel28Ideal.Gen.facts,
    Cert.Reference28Ideal.Gen.facts,
    Cert.Kernel29.Gen.facts,
    Cert.Kernel29Ideal.Gen.facts,
    Cert.Reference29Ideal.Gen.facts,
    Cert.Kernel30.Gen.facts,
    Cert.Kernel30Ideal.Gen.facts,
    Cert.Reference30Ideal.Gen.facts,
    Cert.Kernel31.Gen.facts,
    Cert.Kernel31Ideal.Gen.facts,
    Cert.Reference31Ideal.Gen.facts,
    Cert.Pre_finite2.Gen.facts,
    Cert.Pre_finite5.Gen.facts,
    Cert.Pre_finite31.Gen.facts,
    fun m ρ _ => Cert.Kernel.Own.frame m ρ,
    fun m ρ _ => Cert.KernelIdeal.Own.frame m ρ,
    frame_reference,
    fun m ρ _ => Cert.Kernel2.Gen.frame m ρ,
    fun m ρ _ => Cert.Kernel2Ideal.Gen.frame m ρ,
    fun m ρ _ => Cert.Kernel2Ideal.Gen.frame m ρ,
    frame_reference2,
    fun m ρ _ => frame_reference2 m ρ trivial,
    fun m ρ _ => Cert.Kernel3.Gen.frame m ρ,
    fun m ρ _ => Cert.Kernel3Ideal.Gen.frame m ρ,
    frame_reference3,
    fun m ρ _ => Cert.Kernel4.Gen.frame m ρ,
    fun m ρ _ => Cert.Kernel4Ideal.Gen.frame m ρ,
    frame_reference4,
    fun m ρ _ => Cert.Kernel5.Gen.frame m ρ,
    fun m ρ _ => Cert.Kernel5Ideal.Gen.frame m ρ,
    fun m ρ _ => Cert.Kernel5Ideal.Gen.frame m ρ,
    frame_reference5,
    fun m ρ _ => frame_reference5 m ρ trivial,
    fun m ρ _ => Cert.Kernel6.Gen.frame m ρ,
    fun m ρ _ => Cert.Kernel6Ideal.Gen.frame m ρ,
    frame_reference6,
    fun m ρ _ => Cert.Kernel7.Gen.frame m ρ,
    fun m ρ _ => Cert.Kernel7Ideal.Gen.frame m ρ,
    frame_reference7,
    fun m ρ _ => Cert.Kernel8.Gen.frame m ρ,
    fun m ρ _ => Cert.Kernel8Ideal.Gen.frame m ρ,
    frame_reference8,
    fun m ρ _ => Cert.Kernel9.Gen.frame m ρ,
    fun m ρ _ => Cert.Kernel9Ideal.Gen.frame m ρ,
    frame_reference9,
    fun m ρ _ => Cert.Kernel10.Gen.frame m ρ,
    fun m ρ _ => Cert.Kernel10Ideal.Gen.frame m ρ,
    frame_reference10,
    fun m ρ _ => Cert.Kernel11.Gen.frame m ρ,
    fun m ρ _ => Cert.Kernel11Ideal.Gen.frame m ρ,
    frame_reference11,
    fun m ρ _ => Cert.Kernel12.Gen.frame m ρ,
    fun m ρ _ => Cert.Kernel12Ideal.Gen.frame m ρ,
    frame_reference12,
    fun m ρ _ => Cert.Kernel13.Gen.frame m ρ,
    fun m ρ _ => Cert.Kernel13Ideal.Gen.frame m ρ,
    frame_reference13,
    fun m ρ _ => Cert.Kernel14.Gen.frame m ρ,
    fun m ρ _ => Cert.Kernel14Ideal.Gen.frame m ρ,
    frame_reference14,
    fun m ρ _ => Cert.Kernel15.Gen.frame m ρ,
    fun m ρ _ => Cert.Kernel15Ideal.Gen.frame m ρ,
    frame_reference15,
    fun m ρ _ => Cert.Kernel16.Gen.frame m ρ,
    fun m ρ _ => Cert.Kernel16Ideal.Gen.frame m ρ,
    frame_reference16,
    fun m ρ _ => Cert.Kernel17.Gen.frame m ρ,
    fun m ρ _ => Cert.Kernel17Ideal.Gen.frame m ρ,
    frame_reference17,
    fun m ρ _ => Cert.Kernel18.Gen.frame m ρ,
    fun m ρ _ => Cert.Kernel18Ideal.Gen.frame m ρ,
    frame_reference18,
    fun m ρ _ => Cert.Kernel19.Gen.frame m ρ,
    fun m ρ _ => Cert.Kernel19Ideal.Gen.frame m ρ,
    frame_reference19,
    fun m ρ _ => Cert.Kernel20.Gen.frame m ρ,
    fun m ρ _ => Cert.Kernel20Ideal.Gen.frame m ρ,
    frame_reference20,
    fun m ρ _ => Cert.Kernel21.Gen.frame m ρ,
    fun m ρ _ => Cert.Kernel21Ideal.Gen.frame m ρ,
    frame_reference21,
    fun m ρ _ => Cert.Kernel22.Gen.frame m ρ,
    fun m ρ _ => Cert.Kernel22Ideal.Gen.frame m ρ,
    frame_reference22,
    fun m ρ _ => Cert.Kernel23.Gen.frame m ρ,
    fun m ρ _ => Cert.Kernel23Ideal.Gen.frame m ρ,
    frame_reference23,
    fun m ρ _ => Cert.Kernel24.Gen.frame m ρ,
    fun m ρ _ => Cert.Kernel24Ideal.Gen.frame m ρ,
    frame_reference24,
    fun m ρ _ => Cert.Kernel25.Gen.frame m ρ,
    fun m ρ _ => Cert.Kernel25Ideal.Gen.frame m ρ,
    frame_reference25,
    fun m ρ _ => Cert.Kernel26.Gen.frame m ρ,
    fun m ρ _ => Cert.Kernel26Ideal.Gen.frame m ρ,
    frame_reference26,
    fun m ρ _ => Cert.Kernel27.Gen.frame m ρ,
    fun m ρ _ => Cert.Kernel27Ideal.Gen.frame m ρ,
    frame_reference27,
    fun m ρ _ => Cert.Kernel28.Gen.frame m ρ,
    fun m ρ _ => Cert.Kernel28Ideal.Gen.frame m ρ,
    frame_reference28,
    fun m ρ _ => Cert.Kernel29.Gen.frame m ρ,
    fun m ρ _ => Cert.Kernel29Ideal.Gen.frame m ρ,
    frame_reference29,
    fun m ρ _ => Cert.Kernel30.Gen.frame m ρ,
    fun m ρ _ => Cert.Kernel30Ideal.Gen.frame m ρ,
    frame_reference30,
    fun m ρ _ => Cert.Kernel31.Gen.frame m ρ,
    fun m ρ _ => Cert.Kernel31Ideal.Gen.frame m ρ,
    fun m ρ _ => Cert.Kernel31Ideal.Gen.frame m ρ,
    frame_reference31,
    fun m ρ _ => frame_reference31 m ρ trivial,
    IdealRules.named_const.statement Cert.KernelIdeal.κ "mask" .f32 0xF149F2CA#32 ⊥ rfl,
    trivial,
    fun m g m' g' hp h => value2 m g m' g' (fun c => ⟨fun i => Cert.Reals.of_small (congrFun (hp c).1 i),
      fun i => Cert.Reals.of_small (congrFun (hp c).2.1 i),
      fun i => Cert.Reals.of_small (congrFun (hp c).2.2 i)⟩) h,
    trivial,
    fun m g m' g' _ h => value3 m g m' g' h,
    trivial,
    fun m g m' g' _ h => value4 m g m' g' h,
    trivial,
    fun m g m' g' hp h => value5 m g m' g' (fun c => ⟨fun i => Cert.Reals.of_small (congrFun (hp c).1 i),
      fun i => Cert.Reals.of_small (congrFun (hp c).2.1 i),
      fun i => Cert.Reals.of_small (congrFun (hp c).2.2.1 i),
      fun i => Cert.Reals.of_small (congrFun (hp c).2.2.2.1 i),
      fun i => Cert.Reals.of_small (congrFun (hp c).2.2.2.2 i)⟩) h,
    trivial,
    fun m g m' g' _ h => value6 m g m' g' h,
    trivial,
    fun m g m' g' _ h => value7 m g m' g' h,
    trivial,
    fun m g m' g' _ h => value8 m g m' g' h,
    trivial,
    fun m g m' g' _ h => value9 m g m' g' h,
    trivial,
    fun m g m' g' _ h => value10 m g m' g' h,
    trivial,
    fun m g m' g' _ h => value11 m g m' g' h,
    trivial,
    fun m g m' g' _ h => value12 m g m' g' h,
    trivial,
    fun m g m' g' _ h => value13 m g m' g' h,
    trivial,
    fun m g m' g' _ h => value14 m g m' g' h,
    trivial,
    fun m g m' g' _ h => value15 m g m' g' h,
    trivial,
    fun m g m' g' _ h => value16 m g m' g' h,
    trivial,
    fun m g m' g' _ h => value17 m g m' g' h,
    trivial,
    fun m g m' g' _ h => value18 m g m' g' h,
    trivial,
    fun m g m' g' _ h => value19 m g m' g' h,
    trivial,
    fun m g m' g' _ h => value20 m g m' g' h,
    trivial,
    fun m g m' g' _ h => value21 m g m' g' h,
    trivial,
    fun m g m' g' _ h => value22 m g m' g' h,
    trivial,
    fun m g m' g' _ h => value23 m g m' g' h,
    trivial,
    fun m g m' g' _ h => value24 m g m' g' h,
    trivial,
    fun m g m' g' _ h => value25 m g m' g' h,
    trivial,
    fun m g m' g' _ h => value26 m g m' g' h,
    trivial,
    fun m g m' g' _ h => value27 m g m' g' h,
    trivial,
    fun m g m' g' _ h => value28 m g m' g' h,
    trivial,
    fun m g m' g' _ h => value29 m g m' g' h,
    trivial,
    fun m g m' g' _ h => value30 m g m' g' h,
    trivial,
    fun m g m' g' hp h => value31 m g m' g' (fun c => ⟨fun i => Cert.Reals.of_small (congrFun (hp c).1 i),
      fun i => Cert.Reals.of_small (congrFun (hp c).2.1 i),
      fun i => Cert.Reals.of_small (congrFun (hp c).2.2.1 i),
      fun i => Cert.Reals.of_small (congrFun (hp c).2.2.2 i)⟩) h⟩

end Cert.Proof

end
